-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v166_0)) (v1 : (c : Dev Cert.KernelIdeal.nD) → Buf (Elt Ideal) ((c.tc : Thread Cert.KernelIdeal.nD Cert.KernelIdeal.τ).loc Cert.KernelIdeal.main_v166_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166_0) = v0 c
          ∧ r.2.mem ((c.tc : Thread Cert.KernelIdeal.nD Cert.KernelIdeal.τ).loc Cert.KernelIdeal.main_v166_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v18) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v17) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v64) = v0 c
          ∧ r.2.mem ((c.tc : Thread Cert.Reference10Ideal.nD Cert.Reference10Ideal.τ).loc Cert.Reference10Ideal.main_v47) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_v18) = v2 c
          ∧ r.2.mem ((c.tc : Thread Cert.Reference11Ideal.nD Cert.Reference11Ideal.τ).loc Cert.Reference11Ideal.main_v19) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v21) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v39) = v1 c
          ∧ r.2.mem ((c.tc : Thread Cert.Reference17Ideal.nD Cert.Reference17Ideal.τ).loc Cert.Reference17Ideal.main_v17) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_v15) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v37) = v0 c
          ∧ r.2.mem ((c.tc : Thread Cert.Reference21Ideal.nD Cert.Reference21Ideal.τ).loc Cert.Reference21Ideal.main_v21) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v22) = v0 c
          ∧ r.2.mem ((c.tc : Thread Cert.Reference23Ideal.nD Cert.Reference23Ideal.τ).loc Cert.Reference23Ideal.main_v7) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S4096x512 : Shape := ⟨2, ![4096, 512]⟩
abbrev S4096x8 : Shape := ⟨2, ![4096, 8]⟩
abbrev S4096x1024 : Shape := ⟨2, ![4096, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v4 : IVec S_ 1) (main_v9 : IVec S_ 1) (main_v14 : IVec S_ 1) (main_v15 : FVec F S4096x8 .f32) (main_v16 : FVec F S4096x8 .f32) : IVec S_ 1 :=
  let main_v17 : IVec S4096x8 1 := cmpf .olt main_v15 main_v16
  let main_c_5 : IVec S_ 1 := constantI S_ 1 1#1
  let main_v18 : IVec S_ 1 := (fun x v => Host.reduce IntOp.andi x v reducesTo_S4096x8_S_d0_1 h_S_) main_v17 main_c_5
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v4 main_v9
  let main_v24 : IVec S_ 1 := andi main_v23 main_v14
  let main_v25 : IVec S_ 1 := andi main_v24 main_v18
  let main_v26 : IVec S_ 1 := andi main_v25 main_v22
  main_v26

def fn {F : FTy → Type} [FloatOps F] (main_arg0 : FVec F S4096x512 .bf16) (main_arg1 : FVec F S4096x512 .bf16) (main_arg2 : FVec F S4096x512 .bf16) (main_arg3 : FVec F S4096x8 .f32) (main_arg4 : FVec F S4096x1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : FVec F S4096x512 .f32 := (extf .f32 · bitsLt_bf16_f32) main_arg2
  let main_v11 : FVec F S4096x512 .f32 := Host.absf main_v10
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_c_3 : IVec S_ 1 := constantI S_ 1 1#1
  let main_v14 : IVec S_ 1 := (fun x v => Host.reduce IntOp.andi x v reducesTo_S4096x512_S_d0_1 h_S_) main_v13 main_c_3
  let main_v15 : FVec F S4096x8 .f32 := Host.absf main_arg3
  let main_cst_4 : FVec F S_ .f32 := constant S_ .f32 0x7F800000#32
  let main_v16 : FVec F S4096x8 .f32 := broadcastInDim S4096x8 ![] bcast_S_S4096x8 main_cst_4
  fn_part1 (F := F) main_arg4 main_v4 main_v9 main_v14 main_v15 main_v16
-- ==== Kernel.lean ====
abbrev S4096x512 : Shape := ⟨2, ![4096, 512]⟩
abbrev S4096x8 : Shape := ⟨2, ![4096, 8]⟩
abbrev S4096x1024 : Shape := ⟨2, ![4096, 1024]⟩
abbrev S1x1x1x128 : Shape := ⟨4, ![1, 1, 1, 128]⟩
abbrev S1x1x2x1 : Shape := ⟨4, ![1, 1, 2, 1]⟩
abbrev S_ : Shape := ⟨0, ![]⟩
abbrev S1x1x2x128 : Shape := ⟨4, ![1, 1, 2, 128]⟩
abbrev S4096x4x2x1 : Shape := ⟨4, ![4096, 4, 2, 1]⟩
abbrev S4096x4x2x128 : Shape := ⟨4, ![4096, 4, 2, 128]⟩
abbrev S4096x4x1x128 : Shape := ⟨4, ![4096, 4, 1, 128]⟩
abbrev S4096x8x64 : Shape := ⟨3, ![4096, 8, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4096x8x1 : Shape := ⟨3, ![4096, 8, 1]⟩
abbrev S256x256 : Shape := ⟨2, ![256, 256]⟩
abbrev S256x128 : Shape := ⟨2, ![256, 128]⟩
abbrev S4096x256 : Shape := ⟨2, ![4096, 256]⟩
abbrev S1x128 : Shape := ⟨2, ![1, 128]⟩
abbrev S256 : Shape := ⟨1, ![256]⟩
abbrev S256x1 : Shape := ⟨2, ![256, 1]⟩
abbrev S256x512 : Shape := ⟨2, ![256, 512]⟩
abbrev S512x128 : Shape := ⟨2, ![512, 128]⟩

abbrev nBuf : Space → Nat
  | .hbm => 233
  | .vmem => 20
  | .smem => 0
  | _ => 0

abbrev hbmTy0_0 (i : Nat) : BufTy := match i % 128 with
  | 0 => ⟨S4096x512, .bf16⟩
  | 1 => ⟨S4096x512, .bf16⟩
  | 2 => ⟨S4096x512, .bf16⟩
  | 3 => ⟨S4096x8, .f32⟩
  | 4 => ⟨S4096x1024, .f32⟩
  | 5 => ⟨S1x1x1x128, .i32⟩
  | 6 => ⟨S1x1x2x1, .i32⟩
  | 7 => ⟨S_, .i32⟩
  | 8 => ⟨S1x1x2x1, .i32⟩
  | 9 => ⟨S1x1x2x1, .i32⟩
  | 10 => ⟨S_, .i32⟩
  | 11 => ⟨S1x1x2x1, .i32⟩
  | 12 => ⟨S1x1x2x1, .i32⟩
  | 13 => ⟨S1x1x2x128, .i32⟩
  | 14 => ⟨S1x1x2x128, .i32⟩
  | 15 => ⟨S1x1x2x128, .i1⟩
  | 16 => ⟨S_, .i32⟩
  | 17 => ⟨S1x1x2x1, .i32⟩
  | 18 => ⟨S1x1x2x1, .i32⟩
  | 19 => ⟨S1x1x2x128, .i32⟩
  | 20 => ⟨S1x1x2x128, .i32⟩
  | 21 => ⟨S1x1x2x128, .i1⟩
  | 22 => ⟨S1x1x2x128, .i1⟩
  | 23 => ⟨S1x1x2x128, .i1⟩
  | 24 => ⟨S4096x4x2x1, .f32⟩
  | 25 => ⟨S4096x4x2x1, .bf16⟩
  | 26 => ⟨S4096x4x2x1, .f32⟩
  | 27 => ⟨S4096x4x2x1, .f32⟩
  | 28 => ⟨S4096x4x2x1, .bf16⟩
  | 29 => ⟨S4096x4x2x1, .f32⟩
  | 30 => ⟨S4096x4x2x1, .f32⟩
  | 31 => ⟨S4096x4x2x1, .bf16⟩
  | 32 => ⟨S4096x4x2x1, .f32⟩
  | 33 => ⟨S_, .i32⟩
  | 34 => ⟨S1x1x2x1, .i32⟩
  | 35 => ⟨S1x1x2x1, .i32⟩
  | 36 => ⟨S1x1x2x128, .i32⟩
  | 37 => ⟨S1x1x2x128, .i32⟩
  | 38 => ⟨S1x1x2x128, .i1⟩
  | 39 => ⟨S_, .i32⟩
  | 40 => ⟨S1x1x2x1, .i32⟩
  | 41 => ⟨S1x1x2x1, .i32⟩
  | 42 => ⟨S1x1x2x128, .i32⟩
  | 43 => ⟨S1x1x2x128, .i32⟩
  | 44 => ⟨S1x1x2x128, .i1⟩
  | 45 => ⟨S1x1x2x128, .i1⟩
  | 46 => ⟨S_, .f32⟩
  | 47 => ⟨S_, .f32⟩
  | 48 => ⟨S1x1x2x128, .f32⟩
  | 49 => ⟨S1x1x2x128, .f32⟩
  | 50 => ⟨S1x1x2x128, .f32⟩
  | 51 => ⟨S1x1x2x128, .i32⟩
  | 52 => ⟨S1x1x2x128, .i32⟩
  | 53 => ⟨S1x1x2x128, .i1⟩
  | 54 => ⟨S_, .i32⟩
  | 55 => ⟨S1x1x2x1, .i32⟩
  | 56 => ⟨S1x1x2x1, .i32⟩
  | 57 => ⟨S1x1x2x128, .i32⟩
  | 58 => ⟨S1x1x2x128, .i32⟩
  | 59 => ⟨S1x1x2x128, .i1⟩
  | 60 => ⟨S_, .i32⟩
  | 61 => ⟨S1x1x2x1, .i32⟩
  | 62 => ⟨S1x1x2x1, .i32⟩
  | 63 => ⟨S1x1x2x128, .i32⟩
  | 64 => ⟨S1x1x2x128, .i32⟩
  | 65 => ⟨S1x1x2x128, .i1⟩
  | 66 => ⟨S1x1x2x128, .f32⟩
  | 67 => ⟨S4096x4x2x128, .i1⟩
  | 68 => ⟨S4096x4x2x128, .f32⟩
  | 69 => ⟨S4096x4x2x128, .f32⟩
  | 70 => ⟨S4096x4x2x128, .f32⟩
  | 71 => ⟨S4096x4x2x128, .i1⟩
  | 72 => ⟨S4096x4x2x128, .f32⟩
  | 73 => ⟨S4096x4x2x128, .f32⟩
  | 74 => ⟨S4096x4x2x128, .i1⟩
  | 75 => ⟨S4096x4x2x128, .f32⟩
  | 76 => ⟨S4096x4x2x128, .f32⟩
  | 77 => ⟨S4096x4x1x128, .bf16⟩
  | 78 => ⟨S4096x4x1x128, .f32⟩
  | 79 => ⟨S_, .f32⟩
  | 80 => ⟨S4096x4x1x128, .f32⟩
  | 81 => ⟨S4096x4x1x128, .f32⟩
  | 82 => ⟨S4096x4x2x128, .i1⟩
  | 83 => ⟨S4096x4x2x128, .f32⟩
  | 84 => ⟨S4096x4x2x128, .f32⟩
  | 85 => ⟨S4096x4x2x128, .bf16⟩
  | 86 => ⟨S4096x1024, .bf16⟩
  | 87 => ⟨S1x1x2x128, .i32⟩
  | 88 => ⟨S1x1x2x128, .i32⟩
  | 89 => ⟨S1x1x2x128, .i1⟩
  | 90 => ⟨S_, .i32⟩
  | 91 => ⟨S1x1x2x1, .i32⟩
  | 92 => ⟨S1x1x2x1, .i32⟩
  | 93 => ⟨S1x1x2x128, .i32⟩
  | 94 => ⟨S1x1x2x128, .i32⟩
  | 95 => ⟨S1x1x2x128, .i1⟩
  | 96 => ⟨S1x1x2x128, .i1⟩
  | 97 => ⟨S_, .i32⟩
  | 98 => ⟨S1x1x2x1, .i32⟩
  | 99 => ⟨S1x1x2x1, .i32⟩
  | 100 => ⟨S1x1x2x128, .i32⟩
  | 101 => ⟨S1x1x2x128, .i32⟩
  | 102 => ⟨S1x1x2x128, .i1⟩
  | 103 => ⟨S_, .i32⟩
  | 104 => ⟨S1x1x2x1, .i32⟩
  | 105 => ⟨S1x1x2x1, .i32⟩
  | 106 => ⟨S1x1x2x128, .i32⟩
  | 107 => ⟨S1x1x2x128, .i32⟩
  | 108 => ⟨S1x1x2x128, .i1⟩
  | 109 => ⟨S1x1x2x128, .i1⟩
  | 110 => ⟨S1x1x2x128, .i1⟩
  | 111 => ⟨S_, .f32⟩
  | 112 => ⟨S_, .f32⟩
  | 113 => ⟨S1x1x2x128, .f32⟩
  | 114 => ⟨S1x1x2x128, .f32⟩
  | 115 => ⟨S1x1x2x128, .f32⟩
  | 116 => ⟨S_, .i32⟩
  | 117 => ⟨S1x1x2x1, .i32⟩
  | 118 => ⟨S1x1x2x1, .i32⟩
  | 119 => ⟨S4096x4x2x1, .f32⟩
  | 120 => ⟨S4096x4x2x1, .f32⟩
  | 121 => ⟨S4096x4x2x1, .f32⟩
  | 122 => ⟨S1x1x2x128, .i32⟩
  | 123 => ⟨S1x1x2x128, .i32⟩
  | 124 => ⟨S1x1x2x128, .i1⟩
  | 125 => ⟨S_, .i32⟩
  | 126 => ⟨S1x1x2x1, .i32⟩
  | 127 => ⟨S1x1x2x1, .i32⟩
  | _ => ⟨S4096x512, .bf16⟩

abbrev hbmTy0_1 (i : Nat) : BufTy := match i % 128 with
  | 0 => ⟨S1x1x2x128, .i32⟩
  | 1 => ⟨S1x1x2x128, .i32⟩
  | 2 => ⟨S1x1x2x128, .i1⟩
  | 3 => ⟨S_, .i32⟩
  | 4 => ⟨S1x1x2x1, .i32⟩
  | 5 => ⟨S1x1x2x1, .i32⟩
  | 6 => ⟨S1x1x2x128, .i32⟩
  | 7 => ⟨S1x1x2x128, .i32⟩
  | 8 => ⟨S1x1x2x128, .i1⟩
  | 9 => ⟨S1x1x2x128, .f32⟩
  | 10 => ⟨S4096x4x2x128, .i1⟩
  | 11 => ⟨S4096x4x2x128, .f32⟩
  | 12 => ⟨S4096x4x2x128, .f32⟩
  | 13 => ⟨S4096x4x2x128, .f32⟩
  | 14 => ⟨S4096x4x2x128, .i1⟩
  | 15 => ⟨S4096x4x2x128, .f32⟩
  | 16 => ⟨S4096x4x2x128, .f32⟩
  | 17 => ⟨S4096x4x2x128, .i1⟩
  | 18 => ⟨S4096x4x2x128, .f32⟩
  | 19 => ⟨S4096x4x2x128, .f32⟩
  | 20 => ⟨S4096x4x1x128, .bf16⟩
  | 21 => ⟨S4096x4x1x128, .f32⟩
  | 22 => ⟨S4096x4x2x128, .i1⟩
  | 23 => ⟨S4096x4x2x128, .f32⟩
  | 24 => ⟨S4096x4x2x128, .f32⟩
  | 25 => ⟨S4096x4x2x128, .bf16⟩
  | 26 => ⟨S4096x1024, .bf16⟩
  | 27 => ⟨S1x1x2x128, .i32⟩
  | 28 => ⟨S1x1x2x128, .i32⟩
  | 29 => ⟨S1x1x2x128, .i1⟩
  | 30 => ⟨S_, .i32⟩
  | 31 => ⟨S1x1x2x1, .i32⟩
  | 32 => ⟨S1x1x2x1, .i32⟩
  | 33 => ⟨S1x1x2x128, .i32⟩
  | 34 => ⟨S1x1x2x128, .i32⟩
  | 35 => ⟨S1x1x2x128, .i1⟩
  | 36 => ⟨S1x1x2x128, .i1⟩
  | 37 => ⟨S_, .f32⟩
  | 38 => ⟨S_, .f32⟩
  | 39 => ⟨S1x1x2x128, .f32⟩
  | 40 => ⟨S1x1x2x128, .f32⟩
  | 41 => ⟨S1x1x2x128, .f32⟩
  | 42 => ⟨S4096x4x1x128, .bf16⟩
  | 43 => ⟨S4096x4x1x128, .f32⟩
  | 44 => ⟨S1x1x2x128, .f32⟩
  | 45 => ⟨S4096x4x2x128, .i1⟩
  | 46 => ⟨S4096x4x2x128, .f32⟩
  | 47 => ⟨S4096x4x2x128, .f32⟩
  | 48 => ⟨S4096x4x2x128, .f32⟩
  | 49 => ⟨S4096x4x2x128, .bf16⟩
  | 50 => ⟨S4096x1024, .bf16⟩
  | 51 => ⟨S4096x512, .f32⟩
  | 52 => ⟨S4096x8x64, .f32⟩
  | 53 => ⟨S4096x512, .f32⟩
  | 54 => ⟨S4096x8x64, .f32⟩
  | 55 => ⟨S4096x512, .f32⟩
  | 56 => ⟨S4096x8x64, .f32⟩
  | 57 => ⟨S8x4096x4096, .f32⟩
  | 58 => ⟨S_, .f32⟩
  | 59 => ⟨S8x4096x4096, .f32⟩
  | 60 => ⟨S8x4096x4096, .f32⟩
  | 61 => ⟨S8x4096, .f32⟩
  | 62 => ⟨S8x4096x1, .f32⟩
  | 63 => ⟨S8x4096x4096, .f32⟩
  | 64 => ⟨S8x4096x4096, .f32⟩
  | 65 => ⟨S8x4096, .f32⟩
  | 66 => ⟨S8x1x4096, .f32⟩
  | 67 => ⟨S8x4096x4096, .f32⟩
  | 68 => ⟨S8x4096x4096, .f32⟩
  | 69 => ⟨S4096, .i32⟩
  | 70 => ⟨S1x4096, .i32⟩
  | 71 => ⟨S4096, .i32⟩
  | 72 => ⟨S4096x1, .i32⟩
  | 73 => ⟨S4096x4096, .i32⟩
  | 74 => ⟨S4096x4096, .i32⟩
  | 75 => ⟨S4096x4096, .i1⟩
  | 76 => ⟨S_, .f32⟩
  | 77 => ⟨S_, .f32⟩
  | 78 => ⟨S8x4096x4096, .i1⟩
  | 79 => ⟨S8x4096x4096, .f32⟩
  | 80 => ⟨S8x4096x4096, .f32⟩
  | 81 => ⟨S_, .f32⟩
  | 82 => ⟨S8x4096, .f32⟩
  | 83 => ⟨S8x4096x1, .f32⟩
  | 84 => ⟨S8x4096x4096, .f32⟩
  | 85 => ⟨S8x4096x4096, .f32⟩
  | 86 => ⟨S8x4096x4096, .f32⟩
  | 87 => ⟨S_, .f32⟩
  | 88 => ⟨S8x4096, .f32⟩
  | 89 => ⟨S8x4096x1, .f32⟩
  | 90 => ⟨S8x4096x4096, .f32⟩
  | 91 => ⟨S8x4096x4096, .f32⟩
  | 92 => ⟨S8x64x4096, .f32⟩
  | 93 => ⟨S4096x8x64, .f32⟩
  | 94 => ⟨S8x4096, .f32⟩
  | 95 => ⟨S8x4096, .f32⟩
  | 96 => ⟨S4096x512, .f32⟩
  | 97 => ⟨S4096x8, .f32⟩
  | 98 => ⟨S4096x8x1, .f32⟩
  | 99 => ⟨S4096x8x64, .f32⟩
  | 100 => ⟨S4096x512, .f32⟩
  | 101 => ⟨S4096x512, .bf16⟩
  | 102 => ⟨S4096x512, .f32⟩
  | 103 => ⟨S4096x1024, .bf16⟩
  | 104 => ⟨S4096x1024, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | .local _ .vmem, ⟨12, _⟩ => ⟨S256x128, .bf16⟩
  | .local _ .vmem, ⟨13, _⟩ => ⟨S256x128, .bf16⟩
  | .local _ .vmem, ⟨14, _⟩ => ⟨S256x128, .f32⟩
  | .local _ .vmem, ⟨15, _⟩ => ⟨S256x128, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_v50 : Ref sig .tc := ⟨.hbm, 70, rfl⟩
abbrev main_call2_v0 : Ref sig .tc := ⟨.hbm, 71, rfl⟩
abbrev main_call2_v1 : Ref sig .tc := ⟨.hbm, 72, rfl⟩
abbrev main_v51 : Ref sig .tc := ⟨.hbm, 73, rfl⟩
abbrev main_call3_v0 : Ref sig .tc := ⟨.hbm, 74, rfl⟩
abbrev main_call3_v1 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_call4_v0 : Ref sig .tc := ⟨.hbm, 82, rfl⟩
abbrev main_call4_v1 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_8 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_9 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_10 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_cst_12 : Ref sig .tc := ⟨.hbm, 112, rfl⟩
abbrev main_call5_v0 : Ref sig .tc := ⟨.hbm, 113, rfl⟩
abbrev main_call5_v1 : Ref sig .tc := ⟨.hbm, 114, rfl⟩
abbrev main_v81 : Ref sig .tc := ⟨.hbm, 115, rfl⟩
abbrev main_c_13 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_14 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_15 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_v100 : Ref sig .tc := ⟨.hbm, 141, rfl⟩
abbrev main_call7_v0 : Ref sig .tc := ⟨.hbm, 142, rfl⟩
abbrev main_call7_v1 : Ref sig .tc := ⟨.hbm, 143, rfl⟩
abbrev main_v101 : Ref sig .tc := ⟨.hbm, 144, rfl⟩
abbrev main_call8_v0 : Ref sig .tc := ⟨.hbm, 145, rfl⟩
abbrev main_call8_v1 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_call9_v0 : Ref sig .tc := ⟨.hbm, 150, rfl⟩
abbrev main_call9_v1 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_16 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_17 : Ref sig .tc := ⟨.hbm, 165, rfl⟩
abbrev main_cst_18 : Ref sig .tc := ⟨.hbm, 166, rfl⟩
abbrev main_call10_v0 : Ref sig .tc := ⟨.hbm, 167, rfl⟩
abbrev main_call10_v1 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_call11_v0 : Ref sig .tc := ⟨.hbm, 172, rfl⟩
abbrev main_call11_v1 : Ref sig .tc := ⟨.hbm, 173, rfl⟩
abbrev main_call11_v2 : Ref sig .tc := ⟨.hbm, 174, rfl⟩
abbrev main_call11_v3 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_19 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_20 : Ref sig .tc := ⟨.hbm, 204, rfl⟩
abbrev main_call12_v0 : Ref sig .tc := ⟨.hbm, 205, rfl⟩
abbrev main_call12_v1 : Ref sig .tc := ⟨.hbm, 206, rfl⟩
abbrev main_call12_v2 : Ref sig .tc := ⟨.hbm, 207, rfl⟩
abbrev main_v147 : Ref sig .tc := ⟨.hbm, 208, rfl⟩
abbrev main_cst_21 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_22 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166_0 : Ref sig .tc := ⟨.hbm, 229, rfl⟩
abbrev main_v166_1 : Ref sig .tc := ⟨.hbm, 230, rfl⟩
abbrev main_v166_2 : Ref sig .tc := ⟨.hbm, 231, rfl⟩
abbrev main_v166_3 : Ref sig .tc := ⟨.hbm, 232, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_41 : BitVec 32 := 0#32
  let arg1 : BitVec 32 := BitVec.ofNat 32 (i 1).val
  let c1_i32_39 : BitVec 32 := 1#32
  let v187 : BitVec 32 := Scalar.shrui arg1 c1_i32_39
  let v194 : BitVec 32 := Scalar.subi v187 c0_i32_41
  let c1_i32_42 : BitVec 32 := 1#32
  let v196 : BitVec 32 := Scalar.divsi v194 c1_i32_42
  let v197 : BitVec 32 := Scalar.muli v196 c1_i32_42
  let v198 : BitVec 32 := Scalar.addi c0_i32_41 v197
  let c1_i32_43 : BitVec 32 := 1#32
  ⟨c0_i32_41, v198, c1_i32_43⟩
def k0_mult1 (i : grid0.Coords) (k0_t1 : Fin (k0_t1_loop i).trips) : BitVec 32 :=
  let c0_i32_41 : BitVec 32 := 0#32
  let c1_i32_43 : BitVec 32 := 1#32
  let arg12 : BitVec 32 := Scf.iv c0_i32_41 c1_i32_43 k0_t1
  let c512_i32_66 : BitVec 32 := 512#32
  let v258 : BitVec 32 := Scalar.muli arg12 c512_i32_66
  v258
def k0_off1 (i : grid0.Coords) (k0_t1 : Fin (k0_t1_loop i).trips) : Fin 2 → Nat :=
  let c0_i32_41 : BitVec 32 := 0#32
  let c1_i32_43 : BitVec 32 := 1#32
  let arg12 : BitVec 32 := Scf.iv c0_i32_41 c1_i32_43 k0_t1
  let c512_i32_66 : BitVec 32 := 512#32
  let v258 : BitVec 32 := Scalar.muli arg12 c512_i32_66
  let v259 : BitVec 32 := v258
  let v260 : Index := Scalar.indexCast v259
  let c0_67 : Index := 0#32
  ![v260.toNat, 0]
def k0_off2 (i : grid0.Coords) (k0_t1 : Fin (k0_t1_loop i).trips) : Fin 2 → Nat :=
  let c0_i32_41 : BitVec 32 := 0#32
  let c1_i32_43 : BitVec 32 := 1#32
  let arg12 : BitVec 32 := Scf.iv c0_i32_41 c1_i32_43 k0_t1
  let c512_i32_66 : BitVec 32 := 512#32
  let v258 : BitVec 32 := Scalar.muli arg12 c512_i32_66
  let v259 : BitVec 32 := v258
  let v273 : Index := Scalar.indexCast v259
  let c128_72 : Index := 128#32
  ![v273.toNat, 128]
@[reducible] def k0_t2_loop (i : grid0.Coords) : Scf.Loop 32 :=
  let c0_i32_41 : BitVec 32 := 0#32
  let arg1 : BitVec 32 := BitVec.ofNat 32 (i 1).val
  let c1_i32_39 : BitVec 32 := 1#32
  let v187 : BitVec 32 := Scalar.shrui arg1 c1_i32_39
  let v194 : BitVec 32 := Scalar.subi v187 c0_i32_41
  let c1_i32_42 : BitVec 32 := 1#32
  let v196 : BitVec 32 := Scalar.divsi v194 c1_i32_42
  let v197 : BitVec 32 := Scalar.muli v196 c1_i32_42
  let v198 : BitVec 32 := Scalar.addi c0_i32_41 v197
  let v195 : BitVec 32 := Scalar.addi c0_i32_41 v194
  let c1_i32_44 : BitVec 32 := 1#32
  ⟨v198, v195, c1_i32_44⟩
def k0_mult2 (i : grid0.Coords) (k0_t2 : Fin (k0_t2_loop i).trips) : BitVec 32 :=
  let c0_i32_41 : BitVec 32 := 0#32
  let arg1 : BitVec 32 := BitVec.ofNat 32 (i 1).val
  let c1_i32_39 : BitVec 32 := 1#32
  let v187 : BitVec 32 := Scalar.shrui arg1 c1_i32_39
  let v194 : BitVec 32 := Scalar.subi v187 c0_i32_41
  let c1_i32_42 : BitVec 32 := 1#32
  let v196 : BitVec 32 := Scalar.divsi v194 c1_i32_42
  let v197 : BitVec 32 := Scalar.muli v196 c1_i32_42
  let v198 : BitVec 32 := Scalar.addi c0_i32_41 v197
  let c1_i32_44 : BitVec 32 := 1#32
  let arg12 : BitVec 32 := Scf.iv v198 c1_i32_44 k0_t2
  let c512_i32_66 : BitVec 32 := 512#32
  let v258 : BitVec 32 := Scalar.muli arg12 c512_i32_66
  v258
def k0_off3 (i : grid0.Coords) (k0_t2 : Fin (k0_t2_loop i).trips) : Fin 2 → Nat :=
  let c0_i32_41 : BitVec 32 := 0#32
  let arg1 : BitVec 32 := BitVec.ofNat 32 (i 1).val
  let c1_i32_39 : BitVec 32 := 1#32
  let v187 : BitVec 32 := Scalar.shrui arg1 c1_i32_39
  let v194 : BitVec 32 := Scalar.subi v187 c0_i32_41
  let c1_i32_42 : BitVec 32 := 1#32
  let v196 : BitVec 32 := Scalar.divsi v194 c1_i32_42
  let v197 : BitVec 32 := Scalar.muli v196 c1_i32_42
  let v198 : BitVec 32 := Scalar.addi c0_i32_41 v197
  let c1_i32_44 : BitVec 32 := 1#32
  let arg12 : BitVec 32 := Scf.iv v198 c1_i32_44 k0_t2
  let c512_i32_66 : BitVec 32 := 512#32
  let v258 : BitVec 32 := Scalar.muli arg12 c512_i32_66
  let v259 : BitVec 32 := v258
  let v260 : Index := Scalar.indexCast v259
  let c0_67 : Index := 0#32
  ![v260.toNat, 0]
def k0_off4 (i : grid0.Coords) (k0_t2 : Fin (k0_t2_loop i).trips) : Fin 2 → Nat :=
  let c0_i32_41 : BitVec 32 := 0#32
  let arg1 : BitVec 32 := BitVec.ofNat 32 (i 1).val
  let c1_i32_39 : BitVec 32 := 1#32
  let v187 : BitVec 32 := Scalar.shrui arg1 c1_i32_39
  let v194 : BitVec 32 := Scalar.subi v187 c0_i32_41
  let c1_i32_42 : BitVec 32 := 1#32
  let v196 : BitVec 32 := Scalar.divsi v194 c1_i32_42
  let v197 : BitVec 32 := Scalar.muli v196 c1_i32_42
  let v198 : BitVec 32 := Scalar.addi c0_i32_41 v197
  let c1_i32_44 : BitVec 32 := 1#32
  let arg12 : BitVec 32 := Scf.iv v198 c1_i32_44 k0_t2
  let c512_i32_66 : BitVec 32 := 512#32
  let v258 : BitVec 32 := Scalar.muli arg12 c512_i32_66
  let v259 : BitVec 32 := v258
  let v273 : Index := Scalar.indexCast v259
  let c128_72 : Index := 128#32
  ![v273.toNat, 128]
def k0_mult3 (i : grid0.Coords) : BitVec 32 :=
  let arg1 : BitVec 32 := BitVec.ofNat 32 (i 1).val
  let c1_i32_39 : BitVec 32 := 1#32
  let v187 : BitVec 32 := Scalar.shrui arg1 c1_i32_39
  let c0_i32_45 : BitVec 32 := 0#32
  let v201 : BitVec 32 := Scalar.addi v187 c0_i32_45
  let c512_i32_47 : BitVec 32 := 512#32
  let v207 : BitVec 32 := Scalar.muli v201 c512_i32_47
  v207
def k0_off5 (i : grid0.Coords) : Fin 2 → Nat :=
  let arg1 : BitVec 32 := BitVec.ofNat 32 (i 1).val
  let c1_i32_39 : BitVec 32 := 1#32
  let v187 : BitVec 32 := Scalar.shrui arg1 c1_i32_39
  let c0_i32_45 : BitVec 32 := 0#32
  let v201 : BitVec 32 := Scalar.addi v187 c0_i32_45
  let c512_i32_47 : BitVec 32 := 512#32
  let v207 : BitVec 32 := Scalar.muli v201 c512_i32_47
  let v208 : BitVec 32 := v207
  let v209 : Index := Scalar.indexCast v208
  let c0_48 : Index := 0#32
  ![v209.toNat, 0]
def k0_off6 (i : grid0.Coords) : Fin 2 → Nat :=
  let arg1 : BitVec 32 := BitVec.ofNat 32 (i 1).val
  let c1_i32_39 : BitVec 32 := 1#32
  let v187 : BitVec 32 := Scalar.shrui arg1 c1_i32_39
  let c0_i32_45 : BitVec 32 := 0#32
  let v201 : BitVec 32 := Scalar.addi v187 c0_i32_45
  let c512_i32_47 : BitVec 32 := 512#32
  let v207 : BitVec 32 := Scalar.muli v201 c512_i32_47
  let v208 : BitVec 32 := v207
  let v224 : Index := Scalar.indexCast v208
  let c128_54 : Index := 128#32
  ![v224.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4096x512 : Shape := ⟨2, ![4096, 512]⟩
abbrev S4096x8 : Shape := ⟨2, ![4096, 8]⟩
abbrev S4096x1024 : Shape := ⟨2, ![4096, 1024]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩
abbrev S4096x8x1 : Shape := ⟨3, ![4096, 8, 1]⟩

abbrev nBuf : Space → Nat
  | .hbm => 125
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x8, .f32⟩
  | .hbm, ⟨4, _⟩ => ⟨S4096x1024, .f32⟩
  | .hbm, ⟨5, _⟩ => ⟨S4096x512, .f32⟩
  | .hbm, ⟨6, _⟩ => ⟨S4096x8x64, .f32⟩
  | .hbm, ⟨7, _⟩ => ⟨S4096x512, .f32⟩
  | .hbm, ⟨8, _⟩ => ⟨S4096x8x64, .f32⟩
  | .hbm, ⟨9, _⟩ => ⟨S4096x512, .f32⟩
  | .hbm, ⟨10, _⟩ => ⟨S4096x8x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096, .f32⟩
  | .hbm, ⟨16, _⟩ => ⟨S8x4096x1, .f32⟩
  | .hbm, ⟨17, _⟩ => ⟨S8x4096x4096, .f32⟩
  | .hbm, ⟨18, _⟩ => ⟨S8x4096x4096, .f32⟩
  | .hbm, ⟨19, _⟩ => ⟨S8x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S1x4096, .i32⟩
  | .hbm, ⟨25, _⟩ => ⟨S4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .i1⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S_, .f32⟩
  | .hbm, ⟨46, _⟩ => ⟨S8x4096, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .i1⟩
  | .hbm, ⟨51, _⟩ => ⟨S_, .f32⟩
  | .hbm, ⟨52, _⟩ => ⟨S8x4096, .f32⟩
  | .hbm, ⟨53, _⟩ => ⟨S8x4096, .i1⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8x4096, .f32⟩
  | .hbm, ⟨60, _⟩ => ⟨S8x4096, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x64x4096, .f32⟩
  | .hbm, ⟨76, _⟩ => ⟨S4096x8x64, .f32⟩
  | .hbm, ⟨77, _⟩ => ⟨S4096x512, .f32⟩
  | .hbm, ⟨78, _⟩ => ⟨S4096x8x64, .f32⟩
  | .hbm, ⟨79, _⟩ => ⟨S8x64x4096, .f32⟩
  | .hbm, ⟨80, _⟩ => ⟨S8x4096x4096, .f32⟩
  | .hbm, ⟨81, _⟩ => ⟨S8x64x4096, .f32⟩
  | .hbm, ⟨82, _⟩ => ⟨S4096x8x64, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x1, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096, .f32⟩
  | .hbm, ⟨103, _⟩ => ⟨S8x1x4096, .f32⟩
  | .hbm, ⟨104, _⟩ => ⟨S_, .f32⟩
  | .hbm, ⟨105, _⟩ => ⟨S8x4096, .f32⟩
  | .hbm, ⟨106, _⟩ => ⟨S4096x8, .f32⟩
  | .hbm, ⟨107, _⟩ => ⟨S_, .f32⟩
  | .hbm, ⟨108, _⟩ => ⟨S8x4096, .f32⟩
  | .hbm, ⟨109, _⟩ => ⟨S8x4096x1, .f32⟩
  | .hbm, ⟨110, _⟩ => ⟨S_, .f32⟩
  | .hbm, ⟨111, _⟩ => ⟨S8x4096, .f32⟩
  | .hbm, ⟨112, _⟩ => ⟨S4096x8, .f32⟩
  | .hbm, ⟨113, _⟩ => ⟨S_, .f32⟩
  | .hbm, ⟨114, _⟩ => ⟨S8x4096x4096, .f32⟩
  | .hbm, ⟨115, _⟩ => ⟨S8x4096x4096, .f32⟩
  | .hbm, ⟨116, _⟩ => ⟨S8x4096x64, .f32⟩
  | .hbm, ⟨117, _⟩ => ⟨S4096x8x64, .f32⟩
  | .hbm, ⟨118, _⟩ => ⟨S8x4096x64, .f32⟩
  | .hbm, ⟨119, _⟩ => ⟨S4096x8x64, .f32⟩
  | .hbm, ⟨120, _⟩ => ⟨S4096x8x1, .f32⟩
  | .hbm, ⟨121, _⟩ => ⟨S4096x8x64, .f32⟩
  | .hbm, ⟨122, _⟩ => ⟨S4096x512, .f32⟩
  | .hbm, ⟨123, _⟩ => ⟨S4096x512, .bf16⟩
  | .hbm, ⟨124, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_v24_1 : Ref sig .tc := ⟨.hbm, 32, rfl⟩
abbrev main_call0_v2 : Ref sig .tc := ⟨.hbm, 33, rfl⟩
abbrev main_v24_0 : Ref sig .tc := ⟨.hbm, 34, rfl⟩
abbrev main_call0_cst : Ref sig .tc := ⟨.hbm, 35, rfl⟩
abbrev main_v24_2 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S4096x4096, .bf16⟩
  | .hbm, ⟨5, _⟩ => ⟨S4096x1024, .bf16⟩
  | .hbm, ⟨6, _⟩ => ⟨S4096x4096, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S4096x4096, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .i1⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x1024, .f32⟩
  | .hbm, ⟨61, _⟩ => ⟨S4096x1024, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x1024, .bf16⟩
  | .hbm, ⟨68, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S8x512x1024 : Shape := ⟨3, ![8, 512, 1024]⟩
abbrev S2x512x1024 : Shape := ⟨3, ![2, 512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S8x512x1024, .f32⟩
  | .hbm, ⟨10, _⟩ => ⟨S8x512x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S8x1024x512 : Shape := ⟨3, ![8, 1024, 512]⟩
abbrev S2048x256 : Shape := ⟨2, ![2048, 256]⟩
abbrev S2048x4096 : Shape := ⟨2, ![2048, 4096]⟩
abbrev S8x256x512 : Shape := ⟨3, ![8, 256, 512]⟩
abbrev S256x4096 : Shape := ⟨2, ![256, 4096]⟩
abbrev S256x512 : Shape := ⟨2, ![256, 512]⟩
abbrev S1x256x512 : Shape := ⟨3, ![1, 256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x256, .bf16⟩
  | .local _ .vmem, ⟨1, _⟩ => ⟨S2048x256, .bf16⟩
  | .local _ .vmem, ⟨2, _⟩ => ⟨S2048x4096, .bf16⟩
  | .local _ .vmem, ⟨3, _⟩ => ⟨S2048x4096, .bf16⟩
  | .local _ .vmem, ⟨4, _⟩ => ⟨S8x256x512, .bf16⟩
  | .local _ .vmem, ⟨5, _⟩ => ⟨S8x256x512, .bf16⟩
  | .local _ .vmem, ⟨6, _⟩ => ⟨S256x4096, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S4096x4096, .bf16⟩
  | .hbm, ⟨5, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x4096, .f32⟩
  | .hbm, ⟨19, _⟩ => ⟨S4096x4096, .f32⟩
  | .hbm, ⟨20, _⟩ => ⟨S4096x1024, .bf16⟩
  | .hbm, ⟨21, _⟩ => ⟨S4096x4096, .bf16⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel7.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S4096x1024, .bf16⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S1024x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel9.lean ====
abbrev S4096x1024 : Shape := ⟨2, ![4096, 1024]⟩
abbrev S8x128x1024 : Shape := ⟨3, ![8, 128, 1024]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .bf16⟩
  | .local _ .vmem, ⟨0, _⟩ => ⟨S4096x1024, .bf16⟩
  | .local _ .vmem, ⟨1, _⟩ => ⟨S4096x1024, .bf16⟩
  | .local _ .vmem, ⟨2, _⟩ => ⟨S8x128x1024, .bf16⟩
  | .local _ .vmem, ⟨3, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x1024 : Shape := ⟨2, ![4096, 1024]⟩
abbrev S4096x512 : Shape := ⟨2, ![4096, 512]⟩
abbrev S4096x128 : Shape := ⟨2, ![4096, 128]⟩
abbrev S2688x1024 : Shape := ⟨2, ![2688, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2688x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2688x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x1024 : Shape := ⟨2, ![4096, 1024]⟩
abbrev S4096x512 : Shape := ⟨2, ![4096, 512]⟩
abbrev S4096x128 : Shape := ⟨2, ![4096, 128]⟩
abbrev S2688x1024 : Shape := ⟨2, ![2688, 1024]⟩
abbrev S1x1024 : Shape := ⟨2, ![1, 1024]⟩
abbrev S1024x1024 : Shape := ⟨2, ![1024, 1024]⟩
abbrev S512x1024 : Shape := ⟨2, ![512, 1024]⟩
abbrev S128x1024 : Shape := ⟨2, ![128, 1024]⟩
abbrev S_ : Shape := ⟨0, ![]⟩
abbrev S4096 : Shape := ⟨1, ![4096]⟩
abbrev S4096x1 : Shape := ⟨2, ![4096, 1]⟩
abbrev S1024x512 : Shape := ⟨2, ![1024, 512]⟩
abbrev S1024x128 : Shape := ⟨2, ![1024, 128]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2688x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S2688x1024, .f32⟩
  | .hbm, ⟨10, _⟩ => ⟨S1024x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S128x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x1024, .f32⟩
  | .hbm, ⟨35, _⟩ => ⟨S4096x1024, .f32⟩
  | .hbm, ⟨36, _⟩ => ⟨S1024x512, .f32⟩
  | .hbm, ⟨37, _⟩ => ⟨S4096x512, .f32⟩
  | .hbm, ⟨38, _⟩ => ⟨S1024x512, .f32⟩
  | .hbm, ⟨39, _⟩ => ⟨S4096x512, .f32⟩
  | .hbm, ⟨40, _⟩ => ⟨S1024x512, .f32⟩
  | .hbm, ⟨41, _⟩ => ⟨S4096x512, .f32⟩
  | .hbm, ⟨42, _⟩ => ⟨S1024x128, .f32⟩
  | .hbm, ⟨43, _⟩ => ⟨S4096x128, .f32⟩
  | .hbm, ⟨44, _⟩ => ⟨S4096x1024, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x128, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S2688x1024 : Shape := ⟨2, ![2688, 1024]⟩
abbrev S4096x1536 : Shape := ⟨2, ![4096, 1536]⟩
abbrev S4096x128 : Shape := ⟨2, ![4096, 128]⟩
abbrev S512x1024 : Shape := ⟨2, ![512, 1024]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128x1024 : Shape := ⟨2, ![128, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2688x1024, .bf16⟩
  | .hbm, ⟨3, _⟩ => ⟨S4096x1024, .bf16⟩
  | .hbm, ⟨4, _⟩ => ⟨S4096x1024, .f32⟩
  | .hbm, ⟨5, _⟩ => ⟨S4096x1536, .bf16⟩
  | .hbm, ⟨6, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2688x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .bf16⟩
  | .local _ .vmem, ⟨9, _⟩ => ⟨S512x1536, .bf16⟩
  | .local _ .vmem, ⟨10, _⟩ => ⟨S512x128, .f32⟩
  | .local _ .vmem, ⟨11, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2688x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1024 : Shape := ⟨2, ![4096, 1024]⟩
abbrev S1x1024 : Shape := ⟨2, ![1, 1024]⟩
abbrev S2688x1024 : Shape := ⟨2, ![2688, 1024]⟩
abbrev S_ : Shape := ⟨0, ![]⟩
abbrev S4096 : Shape := ⟨1, ![4096]⟩
abbrev S4096x1 : Shape := ⟨2, ![4096, 1]⟩
abbrev S1024x2688 : Shape := ⟨2, ![1024, 2688]⟩
abbrev S4096x2688 : Shape := ⟨2, ![4096, 2688]⟩
abbrev S4096x1536 : Shape := ⟨2, ![4096, 1536]⟩
abbrev S4096x128 : Shape := ⟨2, ![4096, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2688x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S2688x1024, .f32⟩
  | .hbm, ⟨19, _⟩ => ⟨S1024x2688, .f32⟩
  | .hbm, ⟨20, _⟩ => ⟨S4096x2688, .f32⟩
  | .hbm, ⟨21, _⟩ => ⟨S4096x1024, .bf16⟩
  | .hbm, ⟨22, _⟩ => ⟨S4096x1024, .f32⟩
  | .hbm, ⟨23, _⟩ => ⟨S4096x1536, .f32⟩
  | .hbm, ⟨24, _⟩ => ⟨S4096x1536, .bf16⟩
  | .hbm, ⟨25, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S4096x1024 : Shape := ⟨2, ![4096, 1024]⟩
abbrev S4096x512 : Shape := ⟨2, ![4096, 512]⟩
abbrev S4096x128 : Shape := ⟨2, ![4096, 128]⟩
abbrev S2688x1024 : Shape := ⟨2, ![2688, 1024]⟩
abbrev S1024x1024 : Shape := ⟨2, ![1024, 1024]⟩
abbrev S1024x512 : Shape := ⟨2, ![1024, 512]⟩
abbrev S1024x128 : Shape := ⟨2, ![1024, 128]⟩
abbrev S512x1024 : Shape := ⟨2, ![512, 1024]⟩
abbrev S128x1024 : Shape := ⟨2, ![128, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S4096x1024, .bf16⟩
  | .hbm, ⟨6, _⟩ => ⟨S2688x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .bf16⟩
  | .local _ .vmem, ⟨9, _⟩ => ⟨S1024x128, .bf16⟩
  | .local _ .vmem, ⟨10, _⟩ => ⟨S1024x1024, .bf16⟩
  | .local _ .vmem, ⟨11, _⟩ => ⟨S1024x1024, .bf16⟩
  | .local _ .vmem, ⟨12, _⟩ => ⟨S2688x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2688x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4096x1024 : Shape := ⟨2, ![4096, 1024]⟩
abbrev S4096x512 : Shape := ⟨2, ![4096, 512]⟩
abbrev S4096x128 : Shape := ⟨2, ![4096, 128]⟩
abbrev S4096x2688 : Shape := ⟨2, ![4096, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S4096x1024, .bf16⟩
  | .hbm, ⟨6, _⟩ => ⟨S4096x2688, .bf16⟩
  | .hbm, ⟨7, _⟩ => ⟨S4096x2688, .f32⟩
  | .hbm, ⟨8, _⟩ => ⟨S_, .f32⟩
  | .hbm, ⟨9, _⟩ => ⟨S1024x2688, .f32⟩
  | .hbm, ⟨10, _⟩ => ⟨S4096x1024, .f32⟩
  | .hbm, ⟨11, _⟩ => ⟨S4096x2688, .f32⟩
  | .hbm, ⟨12, _⟩ => ⟨S2688x1024, .f32⟩
  | .hbm, ⟨13, _⟩ => ⟨S1024x2688, .f32⟩
  | .hbm, ⟨14, _⟩ => ⟨S2688x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .bf16⟩
  | .hbm, ⟨3, _⟩ => ⟨S4096x1024, .bf16⟩
  | .hbm, ⟨4, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S4096x1024 : Shape := ⟨2, ![4096, 1024]⟩
abbrev S1x1024 : Shape := ⟨2, ![1, 1024]⟩
abbrev S1024x512 : Shape := ⟨2, ![1024, 512]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x512, .f32⟩
  | .hbm, ⟨20, _⟩ => ⟨S4096x512, .f32⟩
  | .hbm, ⟨21, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel15.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel16.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x512 : Shape := ⟨2, ![4096, 512]⟩
abbrev S1024x512 : Shape := ⟨2, ![1024, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S4096x1024 : Shape := ⟨2, ![4096, 1024]⟩
abbrev S1x1024 : Shape := ⟨2, ![1, 1024]⟩
abbrev S512x1024 : Shape := ⟨2, ![512, 1024]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S512x1024, .bf16⟩
  | .hbm, ⟨4, _⟩ => ⟨S4096x1024, .bf16⟩
  | .hbm, ⟨5, _⟩ => ⟨S4096x512, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4096x1024 : Shape := ⟨2, ![4096, 1024]⟩
abbrev S1x1024 : Shape := ⟨2, ![1, 1024]⟩
abbrev S512x1024 : Shape := ⟨2, ![512, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S4096x512 : Shape := ⟨2, ![4096, 512]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S512x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x512, .f32⟩
  | .hbm, ⟨48, _⟩ => ⟨S512x1024, .f32⟩
  | .hbm, ⟨49, _⟩ => ⟨S4096x1024, .f32⟩
  | .hbm, ⟨50, _⟩ => ⟨S4096x512, .f32⟩
  | .hbm, ⟨51, _⟩ => ⟨S4096x1024, .bf16⟩
  | .hbm, ⟨52, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel18.lean ====
abbrev S4096x1024 : Shape := ⟨2, ![4096, 1024]⟩
abbrev S4096x512 : Shape := ⟨2, ![4096, 512]⟩
abbrev S8x128x512 : Shape := ⟨3, ![8, 128, 512]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S8x128x512, .bf16⟩
  | .local _ .vmem, ⟨0, _⟩ => ⟨S4096x1024, .bf16⟩
  | .local _ .vmem, ⟨1, _⟩ => ⟨S4096x512, .bf16⟩
  | .local _ .vmem, ⟨2, _⟩ => ⟨S8x128x512, .bf16⟩
  | .local _ .vmem, ⟨3, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference18Ideal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩
abbrev S8x128x512 : Shape := ⟨3, ![8, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S8x128x512, .f32⟩
  | .hbm, ⟨10, _⟩ => ⟨S8x128x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S4096x512 : Shape := ⟨2, ![4096, 512]⟩
abbrev S4096x1024 : Shape := ⟨2, ![4096, 1024]⟩
abbrev S8x512x128 : Shape := ⟨3, ![8, 512, 128]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S8x512x128, .bf16⟩
  | .local _ .vmem, ⟨0, _⟩ => ⟨S4096x512, .bf16⟩
  | .local _ .vmem, ⟨1, _⟩ => ⟨S4096x1024, .bf16⟩
  | .local _ .vmem, ⟨2, _⟩ => ⟨S8x512x128, .bf16⟩
  | .local _ .vmem, ⟨3, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference19Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel20.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .bf16⟩
  | .hbm, ⟨4, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference20Ideal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S1024x1024, .f32⟩
  | .hbm, ⟨20, _⟩ => ⟨S256x1024, .f32⟩
  | .hbm, ⟨21, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel21.lean ====
abbrev S256x1024 : Shape := ⟨2, ![256, 1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S1x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel22.lean ====
abbrev S256x1024 : Shape := ⟨2, ![256, 1024]⟩
abbrev S256x512 : Shape := ⟨2, ![256, 512]⟩
abbrev S8x128x512 : Shape := ⟨3, ![8, 128, 512]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S8x128x512, .bf16⟩
  | .local _ .vmem, ⟨0, _⟩ => ⟨S256x1024, .bf16⟩
  | .local _ .vmem, ⟨1, _⟩ => ⟨S256x512, .bf16⟩
  | .local _ .vmem, ⟨2, _⟩ => ⟨S8x128x512, .bf16⟩
  | .local _ .vmem, ⟨3, _⟩ => ⟨S1024x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference22Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩
abbrev S8x128x512 : Shape := ⟨3, ![8, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S256x512, .f32⟩
  | .hbm, ⟨7, _⟩ => ⟨S512x1024, .f32⟩
  | .hbm, ⟨8, _⟩ => ⟨S1024x512, .f32⟩
  | .hbm, ⟨9, _⟩ => ⟨S8x128x512, .f32⟩
  | .hbm, ⟨10, _⟩ => ⟨S8x128x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S4096x1024 : Shape := ⟨2, ![4096, 1024]⟩
abbrev S_ : Shape := ⟨0, ![]⟩
abbrev S1024 : Shape := ⟨1, ![1024]⟩
abbrev S1x1024 : Shape := ⟨2, ![1, 1024]⟩
abbrev S4096 : Shape := ⟨1, ![4096]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1024, .f32⟩
  | .hbm, ⟨35, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_cst_8 : Ref sig .tc := ⟨.hbm, 28, rfl⟩
abbrev main_v17 : Ref sig .tc := ⟨.hbm, 29, rfl⟩
abbrev main_v18 : Ref sig .tc := ⟨.hbm, 30, rfl⟩
abbrev main_cst_9 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel24.lean ====
abbrev S4096x512 : Shape := ⟨2, ![4096, 512]⟩
abbrev S256x1024 : Shape := ⟨2, ![256, 1024]⟩
abbrev S512x512 : Shape := ⟨2, ![512, 512]⟩
abbrev S256x128 : Shape := ⟨2, ![256, 128]⟩
abbrev S512x128 : Shape := ⟨2, ![512, 128]⟩
abbrev S256x512 : Shape := ⟨2, ![256, 512]⟩
abbrev S512 : Shape := ⟨1, ![512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S4096x512 : Shape := ⟨2, ![4096, 512]⟩
abbrev S256x1024 : Shape := ⟨2, ![256, 1024]⟩
abbrev S256x512 : Shape := ⟨2, ![256, 512]⟩
abbrev S4096x4x128 : Shape := ⟨3, ![4096, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S256x1024, .f32⟩
  | .hbm, ⟨4, _⟩ => ⟨S256x512, .f32⟩
  | .hbm, ⟨5, _⟩ => ⟨S256x512, .f32⟩
  | .hbm, ⟨6, _⟩ => ⟨S4096x4x128, .f32⟩
  | .hbm, ⟨7, _⟩ => ⟨S256x4x128, .f32⟩
  | .hbm, ⟨8, _⟩ => ⟨S256x4x128, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x128x4096, .f32⟩
  | .hbm, ⟨28, _⟩ => ⟨S4096x4x128, .f32⟩
  | .hbm, ⟨29, _⟩ => ⟨S4096x512, .f32⟩
  | .hbm, ⟨30, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Dq.Payload.lean ====
/- What the body's vector expressions hold at an index, over the extended reals. -/
module

public import proofs.«01_k».proof.Proof.Gen.KernelIdeal.Skeleton
public import Idealize.ShloMosaic.Lib.Pointwise

@[expose] public section

set_option maxRecDepth 16384

noncomputable section

open Idealize.ShloMosaic

namespace Cert.Dq

open Cert.KernelIdeal Cert.KernelIdeal.Gen

abbrev Mat (m n : ℕ) := Fin m → Fin n → EReal

/-- The score of row `r` of `a` against row `s` of `k`: their inner product. -/
def score {m n : ℕ} (a : Mat m 128) (k : Mat n 128) (r : Fin m) (s : Fin n) : EReal := ∑ j, a r j * k s j

/-- A value laid into three lanes from lane `p` as its parts: what a first rounding keeps, what a second one keeps of the
remainder, and the rest. -/
def put3 (p : ℕ) (a base : EReal) (l : ℕ) : EReal :=
  if l = p then a else if l = p + 1 then a - a else if l = p + 2 then a - a - (a - a) else base

/-- The sum over the first 64 lanes. -/
def lowSum (f : Fin 128 → EReal) : EReal := ∑ x : Fin 128, if x.val < 64 then f x else 0

/-- The sum over the last 64 lanes. -/
def highSum (f : Fin 128 → EReal) : EReal := ∑ x : Fin 128, if x.val < 64 then 0 else f x

theorem lane_eq (l : Fin 128) (n : ℕ) (hn : n < 128) :
    IntOp.cmpi .eq (BitVec.ofNat 32 l.val) (BitVec.ofNat 32 n) = if l.val = n then 1#1 else 0#1 := by
  have h : (BitVec.ofNat 32 l.val = BitVec.ofNat 32 n) ↔ l.val = n := by
    constructor
    · intro h; have := congrArg BitVec.toNat h; simp at this; omega
    · intro h; rw [h]
  by_cases hl : l.val = n
  · simp [IntOp.cmpi, hl]
  · simp only [IntOp.cmpi, beq_eq_false_iff_ne.mpr (mt h.mp hl), if_neg hl]; rfl

theorem lane_not_high (l : Fin 128) :
    IntOp.xori (IntOp.andi (IntOp.cmpi .sge (BitVec.ofNat 32 l.val) 64#32) (IntOp.cmpi .slt (BitVec.ofNat 32 l.val) 128#32)) 1#1
      = if l.val < 64 then 1#1 else 0#1 := by
  revert l; decide +kernel

theorem lane_not_low (l : Fin 128) :
    IntOp.xori (IntOp.andi (IntOp.cmpi .sge (BitVec.ofNat 32 l.val) 0#32) (IntOp.cmpi .slt (BitVec.ofNat 32 l.val) 64#32)) 1#1
      = if l.val < 64 then 0#1 else 1#1 := by
  revert l; decide +kernel

theorem lane_low (l : Fin 128) : IntOp.cmpi .slt (BitVec.ofNat 32 l.val) 64#32 = if l.val < 64 then 1#1 else 0#1 := by
  revert l; decide +kernel

theorem select_ite {α : Type} (p : Prop) [Decidable p] (a b : α) : Scalar.select (if p then 1#1 else 0#1) a b = if p then a else b := by
  by_cases h : p <;> simp [Scalar.select, h]

theorem select_ite' {α : Type} (p : Prop) [Decidable p] (a b : α) : Scalar.select (if p then 0#1 else 1#1) a b = if p then b else a := by
  by_cases h : p <;> simp [Scalar.select, h]

/-- A vector as a function of its two coordinates. -/
abbrev mat {m n : ℕ} {φ : FTy} (x : FVec Ideal ⟨2, ![m, n]⟩ φ) : Mat m n := fun r l => x (ix2 r l)

theorem pay24_apply (a d : FVec Ideal S256x128 .bf16) (acc : FVec Ideal S256x128 .f32) (k v : FVec Ideal S512x128 .bf16)
    (r : Fin 256) (l : Fin 128) :
    k0_pay24 (F := Ideal) a d acc k v (ix2 r l)
      = acc (ix2 r l) + ∑ s, Ideal.exp (score (mat a) (mat k) r s) * score (mat d) (mat v) r s * k (ix2 s l) := by
  pointwise [k0_pay24, k0_pay21]
  rfl

theorem pay25_apply (a d : FVec Ideal S256x128 .bf16) (acc : FVec Ideal S256x128 .f32) (k v : FVec Ideal S512x128 .bf16)
    (r : Fin 256) (l : Fin 128) :
    k0_pay25 (F := Ideal) a d acc k v (ix2 r l)
      = acc (ix2 r l) + ∑ s, Ideal.exp (score (mat a) (mat k) r s) * score (mat d) (mat v) r s * k (ix2 s l) := by
  pointwise [k0_pay25, k0_pay20, k0_pay22]
  rfl

/-- The last tile's mask: column `s` of tile `i / 2` is not after row `r` of block `i`. -/
theorem pay28_apply (i : Fin 16) (r : Fin 256) (s : Fin 512) :
    k0_pay28 (BitVec.ofNat 32 i.val) (ix2 r s) = if 512 * (i.val / 2) + s.val ≤ 256 * i.val + r.val then 1#1 else 0#1 := by
  have hi := i.isLt
  have hr := r.isLt
  have hs := s.isLt
  pointwise [k0_pay28]
  have hd : (Scalar.addi (Scalar.shrui (BitVec.ofNat 32 i.val) 1#32) 0#32 : BitVec 32) = BitVec.ofNat 32 (i.val / 2) := by
    clear hr hs; revert i; decide
  rw [hd]
  have ha : (IntOp.addi (BitVec.ofNat 32 s.val) (Scalar.muli (BitVec.ofNat 32 (i.val / 2)) 512#32)) = BitVec.ofNat 32 (512 * (i.val / 2) + s.val) := by
    apply BitVec.eq_of_toNat_eq
    simp only [IntOp.addi, Scalar.muli, IntOp.muli, BitVec.toNat_add, BitVec.toNat_mul, BitVec.toNat_ofNat]; omega
  have hb : (IntOp.addi (BitVec.ofNat 32 r.val) (Scalar.muli (BitVec.ofNat 32 i.val) 256#32)) = BitVec.ofNat 32 (256 * i.val + r.val) := by
    apply BitVec.eq_of_toNat_eq
    simp only [IntOp.addi, Scalar.muli, IntOp.muli, BitVec.toNat_add, BitVec.toNat_mul, BitVec.toNat_ofNat]; omega
  rw [ha, hb]
  have h : (BitVec.ofNat 32 (512 * (i.val / 2) + s.val)).sle (BitVec.ofNat 32 (256 * i.val + r.val))
      = decide (512 * (i.val / 2) + s.val ≤ 256 * i.val + r.val) := by
    rw [BitVec.sle, BitVec.toInt_eq_toNat_of_lt (by simp only [BitVec.toNat_ofNat]; omega), BitVec.toInt_eq_toNat_of_lt (by simp only [BitVec.toNat_ofNat]; omega)]
    simp only [BitVec.toNat_ofNat]
    rw [Nat.mod_eq_of_lt (by omega), Nat.mod_eq_of_lt (by omega)]
    simp only [Int.ofNat_le]
  by_cases hc : 512 * (i.val / 2) + s.val ≤ 256 * i.val + r.val
  · simp only [IntOp.cmpi, h, hc, decide_true, if_true]; rfl
  · simp only [IntOp.cmpi, h, hc, decide_false, if_false]; rfl

theorem pay30_apply (n : BitVec 32) (a d : FVec Ideal S256x128 .bf16) (k v : FVec Ideal S512x128 .bf16) (r : Fin 256) (s : Fin 512) :
    k0_pay30 (F := Ideal) n a d k v (ix2 r s)
      = (if k0_pay28 n (ix2 r s) = 1#1 then Ideal.exp (score (mat a) (mat k) r s) else 0) * score (mat d) (mat v) r s := by
  unfold k0_pay30
  generalize k0_pay28 n = w
  pointwise [k0_pay29, k0_pay21, Scalar.select]
  rfl

theorem pay1_apply (acc : FVec Ideal S256x128 .f32) (k : FVec Ideal S512x128 .bf16) (w : FVec Ideal S256x512 .bf16) (r : Fin 256) (l : Fin 128) :
    k0_pay1 (F := Ideal) acc k w (ix2 r l) = acc (ix2 r l) + ∑ s, w (ix2 r s) * k (ix2 s l) := by
  pointwise [k0_pay1]

theorem pay2_apply (a d : FVec Ideal S256x128 .bf16) (acc : FVec Ideal S256x128 .f32) (mask : IVec S256x512 1)
    (k v : FVec Ideal S512x128 .bf16) (r : Fin 256) (l : Fin 128) :
    k0_pay2 (F := Ideal) a d acc mask k v (ix2 r l)
      = acc (ix2 r l) + ∑ s, (if mask (ix2 r s) = 1#1 then Ideal.exp (score (mat a) (mat k) r s) else 0)
          * score (mat d) (mat v) r s * k (ix2 s l) := by
  pointwise [k0_pay2, Scalar.select]
  rfl

theorem pay4_apply (a d : FVec Ideal S256x128 .bf16) (acc0 acc1 : FVec Ideal S256x128 .f32) (mask : IVec S256x512 1)
    (k0 : FVec Ideal S512x128 .bf16) (w : FVec Ideal S256x512 .bf16) (k v : FVec Ideal S512x128 .bf16) (r : Fin 256) (l : Fin 128) :
    k0_pay4 (F := Ideal) (iota .tc S1x128 32 [1] iota_S1x128_d1_w32) a d acc0 acc1 mask k0 w k v (ix2 r l)
      = (if l.val < 64 then k0_pay1 (F := Ideal) acc0 k0 w (ix2 r l) else k0_pay2 (F := Ideal) a d acc1 mask k v (ix2 r l))
        * Ideal.ofBits .f32 0x3E000000#32 := by
  unfold k0_pay4
  generalize k0_pay1 (F := Ideal) acc0 k0 w = x
  generalize k0_pay2 (F := Ideal) a d acc1 mask k v = y
  pointwise [k0_pay3]
  simp only [lane_low, select_ite]

theorem pay5_apply (a d : FVec Ideal S256x128 .bf16) (acc0 acc1 : FVec Ideal S256x128 .f32) (mask : IVec S256x512 1)
    (k0 : FVec Ideal S512x128 .bf16) (w : FVec Ideal S256x512 .bf16) (k v : FVec Ideal S512x128 .bf16) (r : Fin 256) (l : Fin 128) :
    k0_pay5 (F := Ideal) (iota .tc S1x128 32 [1] iota_S1x128_d1_w32) a d acc0 acc1 mask k0 w k v (ix2 r l)
      = if l.val < 64 then k0_pay1 (F := Ideal) acc0 k0 w (ix2 r 64) else k0_pay2 (F := Ideal) a d acc1 mask k v (ix2 r 0) := by
  unfold k0_pay5
  generalize k0_pay1 (F := Ideal) acc0 k0 w = x
  generalize k0_pay2 (F := Ideal) a d acc1 mask k v = y
  pointwise [k0_pay3]
  simp only [lane_low, select_ite]

/-- The even head's `do'`: the data in lanes 0-63, minus the row's inner product of `d` and `o` from lane 64. -/
theorem pay15_apply (d o : FVec Ideal S256x128 .f32) (r : Fin 256) (l : Fin 128) :
    k0_pay15 (F := Ideal) (k0_pay9 d o) (k0_pay11 d o) k0_pay12 (k0_pay13 d o) k0_pay14 (ix2 r l)
      = put3 64 (0 - lowSum fun x => d (ix2 r x) * o (ix2 r x)) (if l.val < 64 then d (ix2 r l) else 0) l.val := by
  pointwise [k0_pay15, k0_pay9, k0_pay11, k0_pay12, k0_pay13, k0_pay14, k0_pay8, k0_pay10, k0_pay7, k0_pay6]
  simp only [lane_eq _ _ (show 64 < 128 by decide), lane_eq _ _ (show 65 < 128 by decide), lane_eq _ _ (show 66 < 128 by decide),
    lane_not_high, select_ite, put3, lowSum, Nat.reduceAdd]

/-- The odd head's `do'`: the data in lanes 64-127, minus the row's inner product of `d` and `o` from lane 0. -/
theorem pay17_apply (d o : FVec Ideal S256x128 .f32) (r : Fin 256) (l : Fin 128) :
    k0_pay17 (F := Ideal) (iota .tc S1x128 32 [1] iota_S1x128_d1_w32) d (k0_pay6 d o) (ix2 r l)
      = put3 0 (0 - highSum fun x => d (ix2 r x) * o (ix2 r x)) (if l.val < 64 then 0 else d (ix2 r l)) l.val := by
  pointwise [k0_pay17, k0_pay6]
  simp only [lane_eq _ _ (show 0 < 128 by decide), lane_eq _ _ (show 1 < 128 by decide), lane_eq _ _ (show 2 < 128 by decide),
    lane_not_low, select_ite, select_ite', put3, highSum, Nat.zero_add]

theorem pay16_apply (e : FVec Ideal S256x1 .f32) (q : FVec Ideal S256x128 .bf16) (r : Fin 256) (l : Fin 128) :
    k0_pay16 (F := Ideal) (iota .tc S1x128 32 [1] iota_S1x128_d1_w32) e q (ix2 r l) = put3 70 (0 - e (ix2 r 0)) (q (ix2 r l)) l.val := by
  pointwise [k0_pay16]
  simp only [lane_eq _ _ (show 70 < 128 by decide), lane_eq _ _ (show 71 < 128 by decide), lane_eq _ _ (show 72 < 128 by decide), select_ite, put3, Nat.reduceAdd, Nat.zero_add]

theorem pay18_apply (e : FVec Ideal S256x1 .f32) (q : FVec Ideal S256x128 .bf16) (r : Fin 256) (l : Fin 128) :
    k0_pay18 (F := Ideal) (iota .tc S1x128 32 [1] iota_S1x128_d1_w32) e q (ix2 r l) = put3 6 (0 - e (ix2 r 0)) (q (ix2 r l)) l.val := by
  pointwise [k0_pay18]
  simp only [lane_eq _ _ (show 6 < 128 by decide), lane_eq _ _ (show 7 < 128 by decide), lane_eq _ _ (show 8 < 128 by decide), select_ite, put3, Nat.reduceAdd, Nat.zero_add]

end Cert.Dq

end
-- ==== Proof.Dq.Loop.lean ====
/- The kernel's loop over the tiles before the last: what it has added up. -/
module

public import proofs.«01_k».proof.Proof.Gen.KernelIdeal.Loops
public import proofs.«01_k».proof.Proof.Dq.Payload

@[expose] public section

set_option maxRecDepth 16384

noncomputable section

open Idealize.ShloMosaic Idealize.ShloMosaic.TcCoe Idealize.ShloMosaic.Tactic

namespace Cert.Dq

open Cert.KernelIdeal Cert.KernelIdeal.Gen

theorem trips1 (i : grid0.Coords) : (k0_t1_loop i).trips = (i 1).val / 2 := by
  show (fun n : Fin 16 => Scf.trips (0#32) (Scalar.addi 0#32 (Scalar.muli (Scalar.divsi (Scalar.subi (Scalar.shrui (BitVec.ofNat 32 n.val) 1#32) 0#32) 1#32) 1#32)) 1#32) (i 1) = _
  generalize (i 1 : Fin 16) = n
  revert n; decide +kernel

theorem trips2 (i : grid0.Coords) : (k0_t2_loop i).trips = 0 := by
  show (fun n : Fin 16 => Scf.trips (Scalar.addi 0#32 (Scalar.muli (Scalar.divsi (Scalar.subi (Scalar.shrui (BitVec.ofNat 32 n.val) 1#32) 0#32) 1#32) 1#32))
    (Scalar.addi 0#32 (Scalar.subi (Scalar.shrui (BitVec.ofNat 32 n.val) 1#32) 0#32)) 1#32) (i 1) = _
  generalize (i 1 : Fin 16) = n
  revert n; decide +kernel

theorem word_off (k : ℕ) (hk : k < 8) : (Scalar.indexCast (Scalar.muli (Scf.iv 0#32 1#32 k) 512#32) : Index).toNat = 512 * k := by
  have h : ∀ k : Fin 8, (Scalar.indexCast (Scalar.muli (Scf.iv 0#32 1#32 k.val) 512#32) : Index).toNat = 512 * k.val := by decide +kernel
  exact h ⟨k, hk⟩

theorem trip_lt (i : grid0.Coords) (k : Fin (k0_t1_loop i).trips) : k.val < 8 := by
  have h := lt_of_lt_of_eq k.isLt (trips1 i)
  have h1 : (i 1).val < 16 := (i 1).isLt
  omega

theorem off1_eq (i : grid0.Coords) (k : Fin (k0_t1_loop i).trips) : k0_off1 i k = ![512 * k.val, 0] := by
  unfold k0_off1; dsimp only; rw [word_off _ (trip_lt i k)]

theorem off2_eq (i : grid0.Coords) (k : Fin (k0_t1_loop i).trips) : k0_off2 i k = ![512 * k.val, 128] := by
  unfold k0_off2; dsimp only; rw [word_off _ (trip_lt i k)]

theorem word_last (n : Fin 16) :
    (Scalar.indexCast (Scalar.muli (Scalar.addi (Scalar.shrui (BitVec.ofNat 32 n.val) 1#32) 0#32) 512#32) : Index).toNat = 512 * (n.val / 2) := by
  revert n; decide +kernel

theorem off5_eq (i : grid0.Coords) : k0_off5 i = ![512 * ((i 1).val / 2), 0] := by
  unfold k0_off5; dsimp only; rw [word_last (i 1)]

theorem off6_eq (i : grid0.Coords) : k0_off6 i = ![512 * ((i 1).val / 2), 128] := by
  unfold k0_off6; dsimp only; rw [word_last (i 1)]

/-- An operand's entry at row `n` and column `c`, nothing outside it. -/
def cell (x : FVec Ideal S4096x256 .bf16) (n c : ℕ) : EReal := if h : n < 4096 ∧ c < 256 then x (ix2 ⟨n, h.1⟩ ⟨c, h.2⟩) else 0

/-- The rows of one head: 128 columns from column `c`. -/
def rows (x : FVec Ideal S4096x256 .bf16) (c : ℕ) (n : ℕ) (l : Fin 128) : EReal := cell x n (c + l.val)

theorem ld_tile (x : FVec Ideal S4096x256 .bf16) {off : Fin 2 → ℕ} (inb : ∀ a, off a + S512x128.size a ≤ S4096x256.size a)
    {o c : ℕ} (h : off = ![o, c]) (s : Fin 512) (l : Fin 128) :
    View.ld (Val := Elt Ideal) (e' := .bf16) x (Rect.unit (s := S4096x256) off S512x128.size inb) (ix2 s l) = rows x c (o + s.val) l := by
  subst h
  have h0 : o + 512 ≤ 4096 := inb 0
  have h1 : c + 128 ≤ 256 := inb 1
  have hs := s.isLt
  have hl := l.isLt
  unfold rows cell
  rw [dif_pos ⟨by omega, by omega⟩]
  pointwise []

/-- The 512 rows of one head from row `o`, as a vector. -/
def tile (x : FVec Ideal S4096x256 .bf16) (o c : ℕ) : FVec Ideal S512x128 .bf16 := fun j => rows x c (o + (j 0).val) (j 1)

theorem tile_apply (x : FVec Ideal S4096x256 .bf16) (o c : ℕ) (s : Fin 512) (l : Fin 128) : tile x o c (ix2 s l) = rows x c (o + s.val) l := rfl

theorem ld_eq_tile (x : FVec Ideal S4096x256 .bf16) {off : Fin 2 → ℕ} (inb : ∀ a, off a + S512x128.size a ≤ S4096x256.size a)
    {o c : ℕ} (h : off = ![o, c]) :
    View.ld (Val := Elt Ideal) (e' := .bf16) x (Rect.unit (s := S4096x256) off S512x128.size inb) = tile x o c := by
  funext j
  idx_vars j
  exact ld_tile x inb h _ _

/-- What key row `n` adds to lane `l` of row `r`: its weight, times the weight's gradient, times the key. -/
def term {m : ℕ} (a d : Mat m 128) (K V : ℕ → Fin 128 → EReal) (r : Fin m) (l : Fin 128) (n : ℕ) : EReal :=
  Ideal.exp (∑ j, a r j * K n j) * (∑ j, d r j * V n j) * K n l

variable (c : Dev nD) (i : grid0.Coords) (arg2 : Memref sig .tc .vmem S256x256 .bf16) (h2 : arg2.IsWhole)
  (arg3 : Memref sig .tc .vmem S256x128 .f32) (h3 : arg3.IsWhole)
  (arg4 : Memref sig .tc .vmem S256x128 .f32) (h4 : arg4.IsWhole)
  (arg5 : Memref sig .tc .vmem S256x128 .f32) (h5 : arg5.IsWhole)
  (arg6 : Memref sig .tc .vmem S4096x256 .bf16) (h6 : arg6.IsWhole)
  (arg7 : Memref sig .tc .vmem S4096x256 .bf16) (h7 : arg7.IsWhole)
  (arg8 : Memref sig .tc .vmem S256x128 .bf16) (h8 : arg8.IsWhole)
  (arg9 : Memref sig .tc .vmem S256x128 .f32) (h9 : arg9.IsWhole)
  (arg10 : Memref sig .tc .vmem S256x256 .bf16) (h10 : arg10.IsWhole)
  (arg11 : Memref sig .tc .vmem S256x256 .bf16) (h11 : arg11.IsWhole)
  (x0 : FVec Ideal S256x256 .bf16) (x1 : FVec Ideal S256x128 .f32) (x2 : FVec Ideal S256x128 .f32) (x3 : FVec Ideal S256x128 .f32) (x4 : FVec Ideal S4096x256 .bf16) (x5 : FVec Ideal S4096x256 .bf16)

variable (arg1 : BitVec 32) (v180 : FVec Ideal S256x128 .bf16) (v181 : FVec Ideal S256x128 .bf16) (v183 : FVec Ideal S256x128 .bf16) (v185 : FVec Ideal S256x128 .bf16)

theorem trip_loads (k : Fin (k0_t1_loop i).trips) (acc : FVec Ideal S256x128 .f32 × FVec Ideal S256x128 .f32) :
    tripR_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) k acc
      = (k0_pay24 (F := Ideal) v180 v183 acc.1 (View.ld (Val := Elt Ideal) (e' := .bf16) x4 (Rect.unit (s := S4096x256) (k0_off1 i k) S512x128.size (k0_off1_inb i k))) (View.ld (Val := Elt Ideal) (e' := .bf16) x5 (Rect.unit (s := S4096x256) (k0_off1 i k) S512x128.size (k0_off1_inb i k))),
         k0_pay25 (F := Ideal) v181 v185 acc.2 (View.ld (Val := Elt Ideal) (e' := .bf16) x4 (Rect.unit (s := S4096x256) (k0_off2 i k) S512x128.size (k0_off2_inb i k))) (View.ld (Val := Elt Ideal) (e' := .bf16) x5 (Rect.unit (s := S4096x256) (k0_off2 i k) S512x128.size (k0_off2_inb i k)))) := by
  unfold tripR_k0_t1 trip_k0_t1
  dsimp only
  sl_unfold_words
  simp only [View.readAt_eq_ld, h6.read_unread, h7.read_unread]

theorem trip_eq (k : Fin (k0_t1_loop i).trips) (acc : FVec Ideal S256x128 .f32 × FVec Ideal S256x128 .f32) :
    tripR_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) k acc
      = (k0_pay24 (F := Ideal) v180 v183 acc.1 (tile x4 (512 * k.val) 0) (tile x5 (512 * k.val) 0),
         k0_pay25 (F := Ideal) v181 v185 acc.2 (tile x4 (512 * k.val) 128) (tile x5 (512 * k.val) 128)) := by
  rw [trip_loads, ld_eq_tile x4 _ (off1_eq i k), ld_eq_tile x5 _ (off1_eq i k), ld_eq_tile x4 _ (off2_eq i k), ld_eq_tile x5 _ (off2_eq i k)]

theorem trip1_apply (k : Fin (k0_t1_loop i).trips) (acc : FVec Ideal S256x128 .f32 × FVec Ideal S256x128 .f32) (r : Fin 256) (l : Fin 128) :
    (tripR_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) k acc).1 (ix2 r l)
      = acc.1 (ix2 r l) + ∑ s : Fin 512, term (mat v180) (mat v183) (rows x4 0) (rows x5 0) r l (512 * k.val + s.val) := by
  rw [trip_eq]
  dsimp only
  rw [pay24_apply]
  simp only [score, mat, tile_apply, term]

theorem trip2_apply (k : Fin (k0_t1_loop i).trips) (acc : FVec Ideal S256x128 .f32 × FVec Ideal S256x128 .f32) (r : Fin 256) (l : Fin 128) :
    (tripR_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) k acc).2 (ix2 r l)
      = acc.2 (ix2 r l) + ∑ s : Fin 512, term (mat v181) (mat v185) (rows x4 128) (rows x5 128) r l (512 * k.val + s.val) := by
  rw [trip_eq]
  dsimp only
  rw [pay25_apply]
  simp only [score, mat, tile_apply, term]

theorem pay23_apply (r : Fin 256) (l : Fin 128) : k0_pay23 (F := Ideal) (ix2 r l) = 0 := by pointwise [k0_pay23]

theorem state_apply (k : ℕ) (hk : k ≤ (k0_t1_loop i).trips) (r : Fin 256) (l : Fin 128) :
    (st_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) (k0_pay23, k0_pay23) k).1 (ix2 r l)
        = ∑ n ∈ Finset.range (512 * k), term (mat v180) (mat v183) (rows x4 0) (rows x5 0) r l n
    ∧ (st_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) (k0_pay23, k0_pay23) k).2 (ix2 r l)
        = ∑ n ∈ Finset.range (512 * k), term (mat v181) (mat v185) (rows x4 128) (rows x5 128) r l n := by
  induction k with
  | zero => rw [st_k0_t1_zero]; simp only [pay23_apply, Nat.mul_zero, Finset.range_zero, Finset.sum_empty, and_self]
  | succ k ih =>
    have ih := ih (by omega)
    rw [st_k0_t1_succ (F := Ideal) Variants.none c none i arg2 h2 arg3 h3 arg4 h4 arg5 h5 arg6 h6 arg7 h7 arg8 h8 arg9 h9 arg10 h10 arg11 h11 arg1 v180 v181 v183 v185 (h6.unread x4) (h7.unread x5) (k0_pay23, k0_pay23) ⟨k, by omega⟩,
      trip1_apply, trip2_apply, ih.1, ih.2]
    simp only [Nat.mul_succ, Finset.sum_range_add, Finset.sum_range (n := 512), and_self]

/-- The loop's sums of both heads: every key row of the tiles before the last. -/
theorem loop_apply (r : Fin 256) (l : Fin 128) :
    (st_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) (k0_pay23, k0_pay23) (k0_t1_loop i).trips).1 (ix2 r l)
        = ∑ n ∈ Finset.range (512 * ((i 1).val / 2)), term (mat v180) (mat v183) (rows x4 0) (rows x5 0) r l n
    ∧ (st_k0_t1 (F := Ideal) Variants.none c none i arg2 h2 arg3 h3 arg4 h4 arg5 h5 arg6 h6 arg7 h7 arg8 h8 arg9 h9 arg10 h10 arg11 h11 arg1 v180 v181 v183 v185 (h6.unread x4) (h7.unread x5) (k0_pay23, k0_pay23) (k0_t1_loop i).trips).2 (ix2 r l)
        = ∑ n ∈ Finset.range (512 * ((i 1).val / 2)), term (mat v181) (mat v185) (rows x4 128) (rows x5 128) r l n := by
  have h := state_apply c i arg2 h2 arg3 h3 arg4 h4 arg5 h5 arg6 h6 arg7 h7 arg8 h8 arg9 h9 arg10 h10 arg11 h11 x4 x5 arg1 v180 v181 v183 v185 (k0_t1_loop i).trips le_rfl r l
  rw [trips1 i] at h
  rw [trips1 i]
  exact h

end Cert.Dq
-- ==== Proof.Dq.Open.lean ====
/- What the body leaves in its outputs' blocks. -/
module

public import proofs.«01_k».proof.Proof.Gen.KernelIdeal.Value
public import proofs.«01_k».proof.Proof.Dq.Loop

@[expose] public section

set_option maxRecDepth 16384

noncomputable section

open Idealize.ShloMosaic Idealize.ShloMosaic.TcCoe Idealize.ShloMosaic.Tactic

namespace Cert.Dq

open Cert.KernelIdeal Cert.KernelIdeal.Gen

/-- The even head's queries: minus the row's log-sum in the spare lanes 70-72. -/
def q0 (x0 : FVec Ideal S256x256 .bf16) (x1 : FVec Ideal S256x128 .f32) : FVec Ideal S256x128 .bf16 :=
  k0_pay16 (F := Ideal) (iota .tc S1x128 32 [1] iota_S1x128_d1_w32)
    (View.ld (Val := Elt Ideal) (e' := .f32) x1 (Rect.unit (s := S256x128) ![0, 0] S256x1.size inb_S256x128_S256x1_0_0))
    (View.ld (Val := Elt Ideal) (e' := .bf16) x0 (Rect.unit (s := S256x256) ![0, 0] S256x128.size inb_S256x256_S256x128_0_0))

/-- The odd head's queries: minus the row's log-sum in the spare lanes 6-8. -/
def q1 (x0 : FVec Ideal S256x256 .bf16) (x1 : FVec Ideal S256x128 .f32) : FVec Ideal S256x128 .bf16 :=
  k0_pay18 (F := Ideal) (iota .tc S1x128 32 [1] iota_S1x128_d1_w32)
    (View.ld (Val := Elt Ideal) (e' := .f32) x1 (Rect.unit (s := S256x128) ![0, 64] S256x1.size inb_S256x128_S256x1_0_64))
    (View.ld (Val := Elt Ideal) (e' := .bf16) x0 (Rect.unit (s := S256x256) ![0, 128] S256x128.size inb_S256x256_S256x128_0_128))

/-- The even head's gradients of its outputs, with the row's inner product of gradient and output. -/
def d0 (x2 x3 : FVec Ideal S256x128 .f32) : FVec Ideal S256x128 .bf16 :=
  k0_pay15 (F := Ideal) (k0_pay9 x3 x2) (k0_pay11 x3 x2) k0_pay12 (k0_pay13 x3 x2) k0_pay14

/-- The odd head's gradients of its outputs, with the row's inner product of gradient and output. -/
def d1 (x2 x3 : FVec Ideal S256x128 .f32) : FVec Ideal S256x128 .bf16 :=
  k0_pay17 (F := Ideal) (iota .tc S1x128 32 [1] iota_S1x128_d1_w32) x3 (k0_pay6 x3 x2)

section
variable (v : View sig .tc .vmem S256x256 .bf16)
  (w0 : (Rect.unit (s := S256x256) ![0, 0] S256x128.size inb_S256x256_S256x128_0_0).shape.Idx → Elt Ideal .bf16)
  (w1 : (Rect.unit (s := S256x256) ![0, 128] S256x128.size inb_S256x256_S256x128_0_128).shape.Idx → Elt Ideal .bf16)

theorem cov_right : v.readCov [⟨Rect.unit (s := S256x256) ![0, 128] S256x128.size inb_S256x256_S256x128_0_128, w1⟩,
      ⟨Rect.unit (s := S256x256) ![0, 0] S256x128.size inb_S256x256_S256x128_0_0, w0⟩]
    (Rect.unit (s := S256x256) ![0, 128] S256x128.size inb_S256x256_S256x128_0_128).toLoadRect = w1 :=
  View.readCov_cons_toLoadRect v _ w1 _

theorem cov_left : v.readCov [⟨Rect.unit (s := S256x256) ![0, 128] S256x128.size inb_S256x256_S256x128_0_128, w1⟩,
      ⟨Rect.unit (s := S256x256) ![0, 0] S256x128.size inb_S256x256_S256x128_0_0, w0⟩]
    (Rect.unit (s := S256x256) ![0, 0] S256x128.size inb_S256x256_S256x128_0_0).toLoadRect = w0 := by
  have hd : Disjoint (Rect.unit (s := S256x256) ![0, 128] S256x128.size inb_S256x256_S256x128_0_128).set
      (Rect.unit (s := S256x256) ![0, 0] S256x128.size inb_S256x256_S256x128_0_0).set :=
    Rect.unit_disjoint 1 (Or.inr (show 0 + 128 ≤ 128 from le_rfl))
  exact (View.readCov_cons_of_disjoint v ⟨Rect.unit (s := S256x256) ![0, 128] S256x128.size inb_S256x256_S256x128_0_128, w1⟩ _
    (Rect.unit (s := S256x256) ![0, 0] S256x128.size inb_S256x256_S256x128_0_0).toLoadRect hd).trans (View.readCov_cons_toLoadRect v _ w0 _)
end

variable (c : Dev nD) (i : grid0.Coords) (arg2 : Memref sig .tc .vmem S256x256 .bf16) (h2 : arg2.IsWhole)
  (arg3 : Memref sig .tc .vmem S256x128 .f32) (h3 : arg3.IsWhole)
  (arg4 : Memref sig .tc .vmem S256x128 .f32) (h4 : arg4.IsWhole)
  (arg5 : Memref sig .tc .vmem S256x128 .f32) (h5 : arg5.IsWhole)
  (arg6 : Memref sig .tc .vmem S4096x256 .bf16) (h6 : arg6.IsWhole)
  (arg7 : Memref sig .tc .vmem S4096x256 .bf16) (h7 : arg7.IsWhole)
  (arg8 : Memref sig .tc .vmem S256x128 .bf16) (h8 : arg8.IsWhole)
  (arg9 : Memref sig .tc .vmem S256x128 .f32) (h9 : arg9.IsWhole)
  (arg10 : Memref sig .tc .vmem S256x256 .bf16) (h10 : arg10.IsWhole)
  (arg11 : Memref sig .tc .vmem S256x256 .bf16) (h11 : arg11.IsWhole)
  (x0 : FVec Ideal S256x256 .bf16) (x1 : FVec Ideal S256x128 .f32) (x2 : FVec Ideal S256x128 .f32) (x3 : FVec Ideal S256x128 .f32) (x4 : FVec Ideal S4096x256 .bf16) (x5 : FVec Ideal S4096x256 .bf16)

/-- The pieces the body stores in the scratch of the queries. -/
def pieces10 : List (View.Piece (Elt Ideal) S256x256 .bf16) :=
  [⟨Rect.unit (s := S256x256) ![0, 128] S256x128.size inb_S256x256_S256x128_0_128, k0_pay18 (F := Ideal) (iota .tc S1x128 32 [1] iota_S1x128_d1_w32) (View.readAt (Elt Ideal) arg3.view (Rect.unit (s := S256x128) ![0, 64] S256x1.size inb_S256x128_S256x1_0_64).toLoadRect (h3.unread x1)) (View.readAt (Elt Ideal) arg2.view (Rect.unit (s := S256x256) ![0, 128] S256x128.size inb_S256x256_S256x128_0_128).toLoadRect (h2.unread x0))⟩,
      ⟨Rect.unit (s := S256x256) ![0, 0] S256x128.size inb_S256x256_S256x128_0_0, k0_pay16 (F := Ideal) (iota .tc S1x128 32 [1] iota_S1x128_d1_w32) (View.readAt (Elt Ideal) arg3.view (Rect.unit (s := S256x128) ![0, 0] S256x1.size inb_S256x128_S256x1_0_0).toLoadRect (h3.unread x1)) (View.readAt (Elt Ideal) arg2.view (Rect.unit (s := S256x256) ![0, 0] S256x128.size inb_S256x256_S256x128_0_0).toLoadRect (h2.unread x0))⟩]

/-- The pieces the body stores in the scratch of the gradients. -/
def pieces11 : List (View.Piece (Elt Ideal) S256x256 .bf16) :=
  [⟨Rect.unit (s := S256x256) ![0, 128] S256x128.size inb_S256x256_S256x128_0_128, k0_pay17 (F := Ideal) (iota .tc S1x128 32 [1] iota_S1x128_d1_w32) (View.readAt (Elt Ideal) arg5.view (Rect.unit (s := S256x128) ![0, 0] S256x128.size inb_S256x128_S256x128_0_0).toLoadRect (h5.unread x3)) (k0_pay6 (View.readAt (Elt Ideal) arg5.view (Rect.unit (s := S256x128) ![0, 0] S256x128.size inb_S256x128_S256x128_0_0).toLoadRect (h5.unread x3)) (View.readAt (Elt Ideal) arg4.view (Rect.unit (s := S256x128) ![0, 0] S256x128.size inb_S256x128_S256x128_0_0).toLoadRect (h4.unread x2)))⟩,
      ⟨Rect.unit (s := S256x256) ![0, 0] S256x128.size inb_S256x256_S256x128_0_0, k0_pay15 (F := Ideal) (k0_pay9 (View.readAt (Elt Ideal) arg5.view (Rect.unit (s := S256x128) ![0, 0] S256x128.size inb_S256x128_S256x128_0_0).toLoadRect (h5.unread x3)) (View.readAt (Elt Ideal) arg4.view (Rect.unit (s := S256x128) ![0, 0] S256x128.size inb_S256x128_S256x128_0_0).toLoadRect (h4.unread x2))) (k0_pay11 (View.readAt (Elt Ideal) arg5.view (Rect.unit (s := S256x128) ![0, 0] S256x128.size inb_S256x128_S256x128_0_0).toLoadRect (h5.unread x3)) (View.readAt (Elt Ideal) arg4.view (Rect.unit (s := S256x128) ![0, 0] S256x128.size inb_S256x128_S256x128_0_0).toLoadRect (h4.unread x2))) k0_pay12 (k0_pay13 (View.readAt (Elt Ideal) arg5.view (Rect.unit (s := S256x128) ![0, 0] S256x128.size inb_S256x128_S256x128_0_0).toLoadRect (h5.unread x3)) (View.readAt (Elt Ideal) arg4.view (Rect.unit (s := S256x128) ![0, 0] S256x128.size inb_S256x128_S256x128_0_0).toLoadRect (h4.unread x2))) k0_pay14⟩]

theorem left10 : arg10.view.readCov (pieces10 arg2 h2 arg3 h3 x0 x1) (Rect.unit (s := S256x256) ![0, 0] S256x128.size inb_S256x256_S256x128_0_0).toLoadRect = q0 x0 x1 := by
  unfold pieces10 q0
  rw [cov_left]
  simp only [View.readAt_eq_ld, h2.read_unread, h3.read_unread]

theorem right10 : arg10.view.readCov (pieces10 arg2 h2 arg3 h3 x0 x1) (Rect.unit (s := S256x256) ![0, 128] S256x128.size inb_S256x256_S256x128_0_128).toLoadRect = q1 x0 x1 := by
  unfold pieces10 q1
  rw [cov_right]
  simp only [View.readAt_eq_ld, h2.read_unread, h3.read_unread]

theorem left11 : arg11.view.readCov (pieces11 arg4 h4 arg5 h5 x2 x3) (Rect.unit (s := S256x256) ![0, 0] S256x128.size inb_S256x256_S256x128_0_0).toLoadRect = d0 x2 x3 := by
  have hz : (![0, 0] : Fin 2 → Nat) = fun _ => 0 := funext fun a => by fin_cases a <;> rfl
  unfold pieces11 d0
  rw [cov_left]
  rw [View.readAt_eq_ld, View.readAt_eq_ld, h4.read_unread, h5.read_unread, View.ld_unit_zero (S := S256x128) hz, View.ld_unit_zero (S := S256x128) hz]

theorem right11 : arg11.view.readCov (pieces11 arg4 h4 arg5 h5 x2 x3) (Rect.unit (s := S256x256) ![0, 128] S256x128.size inb_S256x256_S256x128_0_128).toLoadRect = d1 x2 x3 := by
  have hz : (![0, 0] : Fin 2 → Nat) = fun _ => 0 := funext fun a => by fin_cases a <;> rfl
  unfold pieces11 d1
  rw [cov_right]
  rw [View.readAt_eq_ld, View.readAt_eq_ld, h4.read_unread, h5.read_unread, View.ld_unit_zero (S := S256x128) hz, View.ld_unit_zero (S := S256x128) hz]

theorem pay19_eq (x : FVec Ideal S256x128 .bf16) : k0_pay19 (F := Ideal) x = x := by unfold k0_pay19; rw [shapeCast_self]
theorem pay20_eq (x : FVec Ideal S256x128 .bf16) : k0_pay20 (F := Ideal) x = x := by unfold k0_pay20; rw [shapeCast_self]
theorem pay22_eq (x : FVec Ideal S256x128 .bf16) : k0_pay22 (F := Ideal) x = x := by unfold k0_pay22; rw [shapeCast_self]
theorem pay29_eq (x : FVec Ideal S512x128 .bf16) : k0_pay29 (F := Ideal) x = x := by unfold k0_pay29; rw [shapeCast_self]

theorem out6_raw (Q0 Q1 D0 D1 : FVec Ideal S256x128 .bf16)
    (hQ0 : arg10.view.readCov (pieces10 arg2 h2 arg3 h3 x0 x1) (Rect.unit (s := S256x256) ![0, 0] S256x128.size inb_S256x256_S256x128_0_0).toLoadRect = Q0)
    (hQ1 : arg10.view.readCov (pieces10 arg2 h2 arg3 h3 x0 x1) (Rect.unit (s := S256x256) ![0, 128] S256x128.size inb_S256x256_S256x128_0_128).toLoadRect = Q1)
    (hD0 : arg11.view.readCov (pieces11 arg4 h4 arg5 h5 x2 x3) (Rect.unit (s := S256x256) ![0, 0] S256x128.size inb_S256x256_S256x128_0_0).toLoadRect = D0)
    (hD1 : arg11.view.readCov (pieces11 arg4 h4 arg5 h5 x2 x3) (Rect.unit (s := S256x256) ![0, 128] S256x128.size inb_S256x256_S256x128_0_128).toLoadRect = D1) : out0_A_6 (F := Ideal) c i arg2 h2 arg3 h3 arg4 h4 arg5 h5 arg6 h6 arg7 h7 arg8 h8 arg9 h9 arg10 h10 arg11 h11 x0 x1 x2 x3 x4 x5
    = k0_pay4 (F := Ideal) (iota .tc S1x128 32 [1] iota_S1x128_d1_w32) (k0_pay20 Q1) (k0_pay22 D1)
        (st_k0_t2 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (st_k0_t1 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (k0_pay23, k0_pay23) (k0_t1_loop i).trips) (k0_t2_loop i).trips).1
        (st_k0_t2 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (st_k0_t1 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (k0_pay23, k0_pay23) (k0_t1_loop i).trips) (k0_t2_loop i).trips).2
        (k0_pay28 (BitVec.ofNat 32 (i 1).val)) (k0_pay29 (View.readAt (Elt Ideal) arg6.view (Rect.unit (s := S4096x256) (k0_off5 i) S512x128.size (k0_off5_inb i)).toLoadRect (h6.unread x4)))
        (k0_pay30 (F := Ideal) (BitVec.ofNat 32 (i 1).val) (k0_pay19 (F := Ideal) Q0) D0 (View.readAt (Elt Ideal) arg6.view (Rect.unit (s := S4096x256) (k0_off5 i) S512x128.size (k0_off5_inb i)).toLoadRect (h6.unread x4)) (View.readAt (Elt Ideal) arg7.view (Rect.unit (s := S4096x256) (k0_off5 i) S512x128.size (k0_off5_inb i)).toLoadRect (h7.unread x5)))
        (View.readAt (Elt Ideal) arg6.view (Rect.unit (s := S4096x256) (k0_off6 i) S512x128.size (k0_off6_inb i)).toLoadRect (h6.unread x4)) (View.readAt (Elt Ideal) arg7.view (Rect.unit (s := S4096x256) (k0_off6 i) S512x128.size (k0_off6_inb i)).toLoadRect (h7.unread x5)) := by
  have hz : (![0, 0] : Fin 2 → Nat) = fun _ => 0 := funext fun a => by fin_cases a <;> rfl
  subst hQ0 hQ1 hD0 hD1
  unfold out0_A_6
  rw [View.read_writes_eq_canon _ _ _ (cover0_A_6 (F := Ideal) c i arg2 h2 arg3 h3 arg4 h4 arg5 h5 arg6 h6 arg7 h7 arg8 h8 arg9 h9 arg10 h10 arg11 h11 x0 x1 x2 x3 x4 x5)]
  unfold kernelRun0_A
  dsimp only
  rw [View.canon_unit_zero hz]
  rfl

theorem out6_eq : out0_A_6 (F := Ideal) c i arg2 h2 arg3 h3 arg4 h4 arg5 h5 arg6 h6 arg7 h7 arg8 h8 arg9 h9 arg10 h10 arg11 h11 x0 x1 x2 x3 x4 x5
    = k0_pay4 (F := Ideal) (iota .tc S1x128 32 [1] iota_S1x128_d1_w32) (q1 x0 x1) (d1 x2 x3)
        (st_k0_t1 (F := Ideal) Variants.none c none i arg2 h2 arg3 h3 arg4 h4 arg5 h5 arg6 h6 arg7 h7 arg8 h8 arg9 h9 arg10 h10 arg11 h11 (BitVec.ofNat 32 (i 1).val) (q0 x0 x1) (q1 x0 x1) (d0 x2 x3) (d1 x2 x3) (h6.unread x4) (h7.unread x5) (k0_pay23, k0_pay23) (k0_t1_loop i).trips).1
        (st_k0_t1 (F := Ideal) Variants.none c none i arg2 h2 arg3 h3 arg4 h4 arg5 h5 arg6 h6 arg7 h7 arg8 h8 arg9 h9 arg10 h10 arg11 h11 (BitVec.ofNat 32 (i 1).val) (q0 x0 x1) (q1 x0 x1) (d0 x2 x3) (d1 x2 x3) (h6.unread x4) (h7.unread x5) (k0_pay23, k0_pay23) (k0_t1_loop i).trips).2
        (k0_pay28 (BitVec.ofNat 32 (i 1).val)) (tile x4 (512 * ((i 1).val / 2)) 0) (k0_pay30 (F := Ideal) (BitVec.ofNat 32 (i 1).val) (q0 x0 x1) (d0 x2 x3) (tile x4 (512 * ((i 1).val / 2)) 0) (tile x5 (512 * ((i 1).val / 2)) 0))
        (tile x4 (512 * ((i 1).val / 2)) 128) (tile x5 (512 * ((i 1).val / 2)) 128) := by
  rw [out6_raw c i arg2 h2 arg3 h3 arg4 h4 arg5 h5 arg6 h6 arg7 h7 arg8 h8 arg9 h9 arg10 h10 arg11 h11 x0 x1 x2 x3 x4 x5 _ _ _ _ (left10 arg2 h2 arg3 h3 arg10 x0 x1) (right10 arg2 h2 arg3 h3 arg10 x0 x1) (left11 arg4 h4 arg5 h5 arg11 x2 x3) (right11 arg4 h4 arg5 h5 arg11 x2 x3),
    pay19_eq, pay20_eq, pay22_eq, pay29_eq, trips2 i, st_k0_t2_zero]
  simp only [View.readAt_eq_ld]
  rw [h6.read_unread, h7.read_unread, ld_eq_tile x4 _ (off5_eq i), ld_eq_tile x5 _ (off5_eq i), ld_eq_tile x4 _ (off6_eq i), ld_eq_tile x5 _ (off6_eq i)]

theorem out7_raw (Q0 Q1 D0 D1 : FVec Ideal S256x128 .bf16)
    (hQ0 : arg10.view.readCov (pieces10 arg2 h2 arg3 h3 x0 x1) (Rect.unit (s := S256x256) ![0, 0] S256x128.size inb_S256x256_S256x128_0_0).toLoadRect = Q0)
    (hQ1 : arg10.view.readCov (pieces10 arg2 h2 arg3 h3 x0 x1) (Rect.unit (s := S256x256) ![0, 128] S256x128.size inb_S256x256_S256x128_0_128).toLoadRect = Q1)
    (hD0 : arg11.view.readCov (pieces11 arg4 h4 arg5 h5 x2 x3) (Rect.unit (s := S256x256) ![0, 0] S256x128.size inb_S256x256_S256x128_0_0).toLoadRect = D0)
    (hD1 : arg11.view.readCov (pieces11 arg4 h4 arg5 h5 x2 x3) (Rect.unit (s := S256x256) ![0, 128] S256x128.size inb_S256x256_S256x128_0_128).toLoadRect = D1) : out0_A_7 (F := Ideal) c i arg2 h2 arg3 h3 arg4 h4 arg5 h5 arg6 h6 arg7 h7 arg8 h8 arg9 h9 arg10 h10 arg11 h11 x0 x1 x2 x3 x4 x5
    = k0_pay5 (F := Ideal) (iota .tc S1x128 32 [1] iota_S1x128_d1_w32) (k0_pay20 Q1) (k0_pay22 D1)
        (st_k0_t2 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (st_k0_t1 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (k0_pay23, k0_pay23) (k0_t1_loop i).trips) (k0_t2_loop i).trips).1
        (st_k0_t2 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (st_k0_t1 (F := Ideal) Variants.none c none i arg2 h2 arg3 h3 arg4 h4 arg5 h5 arg6 h6 arg7 h7 arg8 h8 arg9 h9 arg10 h10 arg11 h11 (BitVec.ofNat 32 (i 1).val) (k0_pay19 (F := Ideal) Q0) Q1 D0 D1 (h6.unread x4) (h7.unread x5) (k0_pay23, k0_pay23) (k0_t1_loop i).trips) (k0_t2_loop i).trips).2
        (k0_pay28 (BitVec.ofNat 32 (i 1).val)) (k0_pay29 (View.readAt (Elt Ideal) arg6.view (Rect.unit (s := S4096x256) (k0_off5 i) S512x128.size (k0_off5_inb i)).toLoadRect (h6.unread x4)))
        (k0_pay30 (F := Ideal) (BitVec.ofNat 32 (i 1).val) (k0_pay19 (F := Ideal) Q0) D0 (View.readAt (Elt Ideal) arg6.view (Rect.unit (s := S4096x256) (k0_off5 i) S512x128.size (k0_off5_inb i)).toLoadRect (h6.unread x4)) (View.readAt (Elt Ideal) arg7.view (Rect.unit (s := S4096x256) (k0_off5 i) S512x128.size (k0_off5_inb i)).toLoadRect (h7.unread x5)))
        (View.readAt (Elt Ideal) arg6.view (Rect.unit (s := S4096x256) (k0_off6 i) S512x128.size (k0_off6_inb i)).toLoadRect (h6.unread x4)) (View.readAt (Elt Ideal) arg7.view (Rect.unit (s := S4096x256) (k0_off6 i) S512x128.size (k0_off6_inb i)).toLoadRect (h7.unread x5)) := by
  have hz : (![0, 0] : Fin 2 → Nat) = fun _ => 0 := funext fun a => by fin_cases a <;> rfl
  subst hQ0 hQ1 hD0 hD1
  unfold out0_A_7
  rw [View.read_writes_eq_canon _ _ _ (cover0_A_7 (F := Ideal) c i arg2 h2 arg3 h3 arg4 h4 arg5 h5 arg6 h6 arg7 h7 arg8 h8 arg9 h9 arg10 h10 arg11 h11 x0 x1 x2 x3 x4 x5)]
  unfold kernelRun0_A
  dsimp only
  rw [View.canon_unit_zero hz]
  rfl

theorem out7_eq : out0_A_7 (F := Ideal) c i arg2 h2 arg3 h3 arg4 h4 arg5 h5 arg6 h6 arg7 h7 arg8 h8 arg9 h9 arg10 h10 arg11 h11 x0 x1 x2 x3 x4 x5
    = k0_pay5 (F := Ideal) (iota .tc S1x128 32 [1] iota_S1x128_d1_w32) (q1 x0 x1) (d1 x2 x3)
        (st_k0_t1 (F := Ideal) Variants.none c none i arg2 h2 arg3 h3 arg4 h4 arg5 h5 arg6 h6 arg7 h7 arg8 h8 arg9 h9 arg10 h10 arg11 h11 (BitVec.ofNat 32 (i 1).val) (q0 x0 x1) (q1 x0 x1) (d0 x2 x3) (d1 x2 x3) (h6.unread x4) (h7.unread x5) (k0_pay23, k0_pay23) (k0_t1_loop i).trips).1
        (st_k0_t1 (F := Ideal) Variants.none c none i arg2 h2 arg3 h3 arg4 h4 arg5 h5 arg6 h6 arg7 h7 arg8 h8 arg9 h9 arg10 h10 arg11 h11 (BitVec.ofNat 32 (i 1).val) (q0 x0 x1) (q1 x0 x1) (d0 x2 x3) (d1 x2 x3) (h6.unread x4) (h7.unread x5) (k0_pay23, k0_pay23) (k0_t1_loop i).trips).2
        (k0_pay28 (BitVec.ofNat 32 (i 1).val)) (tile x4 (512 * ((i 1).val / 2)) 0) (k0_pay30 (F := Ideal) (BitVec.ofNat 32 (i 1).val) (q0 x0 x1) (d0 x2 x3) (tile x4 (512 * ((i 1).val / 2)) 0) (tile x5 (512 * ((i 1).val / 2)) 0))
        (tile x4 (512 * ((i 1).val / 2)) 128) (tile x5 (512 * ((i 1).val / 2)) 128) := by
  rw [out7_raw c i arg2 h2 arg3 h3 arg4 h4 arg5 h5 arg6 h6 arg7 h7 arg8 h8 arg9 h9 arg10 h10 arg11 h11 x0 x1 x2 x3 x4 x5 _ _ _ _ (left10 arg2 h2 arg3 h3 arg10 x0 x1) (right10 arg2 h2 arg3 h3 arg10 x0 x1) (left11 arg4 h4 arg5 h5 arg11 x2 x3) (right11 arg4 h4 arg5 h5 arg11 x2 x3),
    pay19_eq, pay20_eq, pay22_eq, pay29_eq, trips2 i, st_k0_t2_zero]
  simp only [View.readAt_eq_ld]
  rw [h6.read_unread, h7.read_unread, ld_eq_tile x4 _ (off5_eq i), ld_eq_tile x5 _ (off5_eq i), ld_eq_tile x4 _ (off6_eq i), ld_eq_tile x5 _ (off6_eq i)]

end Cert.Dq
-- ==== Proof.Dq.Block.lean ====
/- What the body leaves in its outputs' blocks, entry by entry. -/
module

public import proofs.«01_k».proof.Proof.Dq.Open

@[expose] public section

set_option maxRecDepth 16384

noncomputable section

open Idealize.ShloMosaic Idealize.ShloMosaic.TcCoe Idealize.ShloMosaic.Tactic

namespace Cert.Dq

open Cert.KernelIdeal Cert.KernelIdeal.Gen

/-- The key rows up to `T` added up. -/
def total {m : ℕ} (a d : Mat m 128) (K V : ℕ → Fin 128 → EReal) (T : ℕ) (r : Fin m) (l : Fin 128) : EReal :=
  ∑ n ∈ Finset.range 4096, if n ≤ T then term a d K V r l n else 0

/-- The loop's tiles are before the bound throughout and the tiles after the last one beyond it. -/
theorem total_eq (a d : Mat 256 128) (K V : ℕ → Fin 128 → EReal) (i : ℕ) (hi : i < 16) (r : Fin 256) (l : Fin 128) :
    (∑ n ∈ Finset.range (512 * (i / 2)), term a d K V r l n)
      + (∑ s : Fin 512, (if 512 * (i / 2) + s.val ≤ 256 * i + r.val then Ideal.exp (∑ j, a r j * K (512 * (i / 2) + s.val) j) else 0)
          * (∑ j, d r j * V (512 * (i / 2) + s.val) j) * K (512 * (i / 2) + s.val) l)
      = total a d K V (256 * i + r.val) r l := by
  have hr := r.isLt
  have e1 : (∑ n ∈ Finset.range (512 * (i / 2)), term a d K V r l n)
      = ∑ n ∈ Finset.range (512 * (i / 2)), if n ≤ 256 * i + r.val then term a d K V r l n else 0 := by
    refine Finset.sum_congr rfl fun n hn => ?_
    have := Finset.mem_range.1 hn
    rw [if_pos (by omega)]
  have e2 : (∑ s : Fin 512, (if 512 * (i / 2) + s.val ≤ 256 * i + r.val then Ideal.exp (∑ j, a r j * K (512 * (i / 2) + s.val) j) else 0)
          * (∑ j, d r j * V (512 * (i / 2) + s.val) j) * K (512 * (i / 2) + s.val) l)
      = ∑ n ∈ Finset.range 512, if 512 * (i / 2) + n ≤ 256 * i + r.val then term a d K V r l (512 * (i / 2) + n) else 0 := by
    rw [Finset.sum_range]
    refine Finset.sum_congr rfl fun s _ => ?_
    unfold term
    split_ifs
    · rfl
    · rw [zero_mul, zero_mul]
  rw [e1, e2, ← Finset.sum_range_add (fun n => if n ≤ 256 * i + r.val then term a d K V r l n else 0)]
  unfold total
  refine Finset.sum_subset (Finset.range_subset_range.2 (by omega)) fun n _ hn => ?_
  rw [if_neg]
  have := mt Finset.mem_range.2 hn
  omega

theorem mask_iff (i : grid0.Coords) (r : Fin 256) (s : Fin 512) :
    (k0_pay28 (BitVec.ofNat 32 (i 1).val) (ix2 r s) = 1#1) ↔ 512 * ((i 1).val / 2) + s.val ≤ 256 * (i 1).val + r.val := by
  rw [pay28_apply (i 1)]
  split_ifs with h <;> simp [h]

variable (c : Dev nD) (i : grid0.Coords) (arg2 : Memref sig .tc .vmem S256x256 .bf16) (h2 : arg2.IsWhole)
  (arg3 : Memref sig .tc .vmem S256x128 .f32) (h3 : arg3.IsWhole)
  (arg4 : Memref sig .tc .vmem S256x128 .f32) (h4 : arg4.IsWhole)
  (arg5 : Memref sig .tc .vmem S256x128 .f32) (h5 : arg5.IsWhole)
  (arg6 : Memref sig .tc .vmem S4096x256 .bf16) (h6 : arg6.IsWhole)
  (arg7 : Memref sig .tc .vmem S4096x256 .bf16) (h7 : arg7.IsWhole)
  (arg8 : Memref sig .tc .vmem S256x128 .bf16) (h8 : arg8.IsWhole)
  (arg9 : Memref sig .tc .vmem S256x128 .f32) (h9 : arg9.IsWhole)
  (arg10 : Memref sig .tc .vmem S256x256 .bf16) (h10 : arg10.IsWhole)
  (arg11 : Memref sig .tc .vmem S256x256 .bf16) (h11 : arg11.IsWhole)
  (x0 : FVec Ideal S256x256 .bf16) (x1 : FVec Ideal S256x128 .f32) (x2 : FVec Ideal S256x128 .f32) (x3 : FVec Ideal S256x128 .f32) (x4 : FVec Ideal S4096x256 .bf16) (x5 : FVec Ideal S4096x256 .bf16)

theorem out6_apply (r : Fin 256) (l : Fin 128) : out0_A_6 (F := Ideal) c i arg2 h2 arg3 h3 arg4 h4 arg5 h5 arg6 h6 arg7 h7 arg8 h8 arg9 h9 arg10 h10 arg11 h11 x0 x1 x2 x3 x4 x5 (ix2 r l)
    = (if l.val < 64 then total (mat (q0 x0 x1)) (mat (d0 x2 x3)) (rows x4 0) (rows x5 0) (256 * (i 1).val + r.val) r l
        else total (mat (q1 x0 x1)) (mat (d1 x2 x3)) (rows x4 128) (rows x5 128) (256 * (i 1).val + r.val) r l)
      * Ideal.ofBits .f32 0x3E000000#32 := by
  have hi : (i 1).val < 16 := (i 1).isLt
  have hl := loop_apply c i arg2 h2 arg3 h3 arg4 h4 arg5 h5 arg6 h6 arg7 h7 arg8 h8 arg9 h9 arg10 h10 arg11 h11 x4 x5 (BitVec.ofNat 32 (i 1).val) (q0 x0 x1) (q1 x0 x1) (d0 x2 x3) (d1 x2 x3) r l
  rw [out6_eq, pay4_apply, pay1_apply, pay2_apply, hl.1, hl.2, ← total_eq _ _ _ _ _ hi, ← total_eq _ _ _ _ _ hi]
  simp only [pay30_apply, mask_iff i, score, tile_apply]

theorem out7_apply (r : Fin 256) (l : Fin 128) : out0_A_7 (F := Ideal) c i arg2 h2 arg3 h3 arg4 h4 arg5 h5 arg6 h6 arg7 h7 arg8 h8 arg9 h9 arg10 h10 arg11 h11 x0 x1 x2 x3 x4 x5 (ix2 r l)
    = if l.val < 64 then total (mat (q0 x0 x1)) (mat (d0 x2 x3)) (rows x4 0) (rows x5 0) (256 * (i 1).val + r.val) r 64
        else total (mat (q1 x0 x1)) (mat (d1 x2 x3)) (rows x4 128) (rows x5 128) (256 * (i 1).val + r.val) r 0 := by
  have hi : (i 1).val < 16 := (i 1).isLt
  have h1 := loop_apply c i arg2 h2 arg3 h3 arg4 h4 arg5 h5 arg6 h6 arg7 h7 arg8 h8 arg9 h9 arg10 h10 arg11 h11 x4 x5 (BitVec.ofNat 32 (i 1).val) (q0 x0 x1) (q1 x0 x1) (d0 x2 x3) (d1 x2 x3) r 64
  have h2 := loop_apply c i arg2 h2 arg3 h3 arg4 h4 arg5 h5 arg6 h6 arg7 h7 arg8 h8 arg9 h9 arg10 h10 arg11 h11 x4 x5 (BitVec.ofNat 32 (i 1).val) (q0 x0 x1) (q1 x0 x1) (d0 x2 x3) (d1 x2 x3) r 0
  rw [out7_eq, pay5_apply, pay1_apply, pay2_apply, h1.1, h2.2, ← total_eq _ _ _ _ _ hi, ← total_eq _ _ _ _ _ hi]
  simp only [pay30_apply, mask_iff i, score, tile_apply]

end Cert.Dq
-- ==== Proof.Dq.Rows.lean ====
module

public import proofs.«01_k».proof.Proof.Gen.KernelIdeal.Value
public import proofs.«01_k».proof.Proof.Dq.Payload

@[expose] public section

set_option maxRecDepth 16384

noncomputable section

open Idealize.ShloMosaic Idealize.ShloMosaic.TcCoe Idealize.ShloMosaic.Tactic Idealize.ShloMosaic.StableHlo

namespace Cert.Dq

open Cert.KernelIdeal Cert.KernelIdeal.Gen

/-! ### Which lanes of a head's row hold what

A head's row has 128 lanes: the half of the head's own parity holds its 64 data lanes, and the other half the spare lanes. -/

theorem lane_data (h : Fin 2) (j : Fin 128) : ~~~(IntOp.andi (IntOp.cmpi CmpIPredicate.sge (BitVec.ofNat 32 j.val) (IntOp.subi (64#32) (IntOp.muli (64#32) (BitVec.ofNat 32 h.val)))) (IntOp.cmpi CmpIPredicate.slt (BitVec.ofNat 32 j.val) (IntOp.addi (IntOp.subi (64#32) (IntOp.muli (64#32) (BitVec.ofNat 32 h.val))) 64#32)))
    = if j.val / 64 = h.val then 1#1 else 0#1 := by
  revert h j; decide +kernel

theorem lane_s0 (h : Fin 2) (j : Fin 128) : IntOp.cmpi CmpIPredicate.eq (BitVec.ofNat 32 j.val) (IntOp.subi (64#32) (IntOp.muli (64#32) (BitVec.ofNat 32 h.val)))
    = if j.val / 64 ≠ h.val ∧ j.val % 64 = 0 then 1#1 else 0#1 := by
  revert h j; decide +kernel

theorem lane_s1 (h : Fin 2) (j : Fin 128) : IntOp.cmpi CmpIPredicate.eq (BitVec.ofNat 32 j.val) (IntOp.addi (IntOp.subi (64#32) (IntOp.muli (64#32) (BitVec.ofNat 32 h.val))) 1#32)
    = if j.val / 64 ≠ h.val ∧ j.val % 64 = 1 then 1#1 else 0#1 := by
  revert h j; decide +kernel

theorem lane_s2 (h : Fin 2) (j : Fin 128) : IntOp.cmpi CmpIPredicate.eq (BitVec.ofNat 32 j.val) (IntOp.addi (IntOp.subi (64#32) (IntOp.muli (64#32) (BitVec.ofNat 32 h.val))) 2#32)
    = if j.val / 64 ≠ h.val ∧ j.val % 64 = 2 then 1#1 else 0#1 := by
  revert h j; decide +kernel

theorem lane_s3 (h : Fin 2) (j : Fin 128) : IntOp.cmpi CmpIPredicate.eq (BitVec.ofNat 32 j.val) (IntOp.addi (IntOp.subi (64#32) (IntOp.muli (64#32) (BitVec.ofNat 32 h.val))) 3#32)
    = if j.val / 64 ≠ h.val ∧ j.val % 64 = 3 then 1#1 else 0#1 := by
  revert h j; decide +kernel

theorem lane_s4 (h : Fin 2) (j : Fin 128) : IntOp.cmpi CmpIPredicate.eq (BitVec.ofNat 32 j.val) (IntOp.addi (IntOp.addi (IntOp.subi (64#32) (IntOp.muli (64#32) (BitVec.ofNat 32 h.val))) 3#32) 1#32)
    = if j.val / 64 ≠ h.val ∧ j.val % 64 = 4 then 1#1 else 0#1 := by
  revert h j; decide +kernel

theorem lane_s5 (h : Fin 2) (j : Fin 128) : IntOp.cmpi CmpIPredicate.eq (BitVec.ofNat 32 j.val) (IntOp.addi (IntOp.addi (IntOp.subi (64#32) (IntOp.muli (64#32) (BitVec.ofNat 32 h.val))) 3#32) 2#32)
    = if j.val / 64 ≠ h.val ∧ j.val % 64 = 5 then 1#1 else 0#1 := by
  revert h j; decide +kernel

theorem lane_r03 (h : Fin 2) (j : Fin 128) : IntOp.andi (IntOp.cmpi CmpIPredicate.sge (BitVec.ofNat 32 j.val) (IntOp.subi (64#32) (IntOp.muli (64#32) (BitVec.ofNat 32 h.val)))) (IntOp.cmpi CmpIPredicate.slt (BitVec.ofNat 32 j.val) (IntOp.addi (IntOp.subi (64#32) (IntOp.muli (64#32) (BitVec.ofNat 32 h.val))) 3#32))
    = if j.val / 64 ≠ h.val ∧ j.val % 64 < 3 then 1#1 else 0#1 := by
  revert h j; decide +kernel

theorem lane_r36 (h : Fin 2) (j : Fin 128) : IntOp.andi (IntOp.cmpi CmpIPredicate.sge (BitVec.ofNat 32 j.val) (IntOp.addi (IntOp.subi (64#32) (IntOp.muli (64#32) (BitVec.ofNat 32 h.val))) 3#32)) (IntOp.cmpi CmpIPredicate.slt (BitVec.ofNat 32 j.val) (IntOp.addi (IntOp.addi (IntOp.subi (64#32) (IntOp.muli (64#32) (BitVec.ofNat 32 h.val))) 3#32) 3#32))
    = if j.val / 64 ≠ h.val ∧ 3 ≤ j.val % 64 ∧ j.val % 64 < 6 then 1#1 else 0#1 := by
  revert h j; decide +kernel

theorem lane_r69 (h : Fin 2) (j : Fin 128) : IntOp.andi (IntOp.cmpi CmpIPredicate.sge (BitVec.ofNat 32 j.val) (IntOp.addi (IntOp.subi (64#32) (IntOp.muli (64#32) (BitVec.ofNat 32 h.val))) 6#32)) (IntOp.cmpi CmpIPredicate.slt (BitVec.ofNat 32 j.val) (IntOp.addi (IntOp.addi (IntOp.subi (64#32) (IntOp.muli (64#32) (BitVec.ofNat 32 h.val))) 6#32) 3#32))
    = if j.val / 64 ≠ h.val ∧ 6 ≤ j.val % 64 ∧ j.val % 64 < 9 then 1#1 else 0#1 := by
  revert h j; decide +kernel

theorem select_if {α : Type} (p : Prop) [Decidable p] (a b : α) : Scalar.select (if p then 1#1 else 0#1) a b = if p then a else b := by
  by_cases h : p <;> simp [Scalar.select, h]

theorem ori_if (p q : Prop) [Decidable p] [Decidable q] :
    IntOp.ori (if p then 1#1 else 0#1) (if q then 1#1 else 0#1) = if p ∨ q then 1#1 else 0#1 := by
  by_cases h : p <;> by_cases h' : q <;> simp [h, h', IntOp.ori]

/-- The spare lanes of a query row: the running sum `c`, and ones against the keys' sums. -/
def spareQ (c : ℝ) (i : ℕ) : ℝ := if i = 0 then c else if 3 ≤ i ∧ i < 6 then 1 else 0

/-- The spare lanes of a key row: ones against the query's sum, minus the running sum `c`, ones against the log-sum. -/
def spareK (c : ℝ) (i : ℕ) : ℝ := if i < 3 then 1 else if i = 3 then -c else if 6 ≤ i ∧ i < 9 then 1 else 0

/-- The spare lanes of a value row: ones against the row's inner product. -/
def spareV (i : ℕ) : ℝ := if i < 3 then 1 else 0

variable (m : (ℓ : Loc nD τ sig) → Buf (Elt Ideal) ℓ) (c : Dev nD)

theorem qa_apply (t : Fin 4096) (p : Fin 4) (h : Fin 2) (j : Fin 128) (s : ℝ) (hp : p.val * 2 + h.val < 8)
    (hs : (m (c, Proc.tc.devRef main_arg3) : FVec Ideal S4096x8 .f32) (ix2 t ⟨p.val * 2 + h.val, hp⟩) = (s : EReal))
    (hh : 256 * p.val + 128 * h.val + j.val < 1024) (hl : p.val * 128 + j.val < 512) :
    (V m c main_v59 : FVec Ideal S4096x1024 .bf16) (ix2 t ⟨256 * p.val + 128 * h.val + j.val, hh⟩)
      = if j.val / 64 = h.val then mat (m := 4096) (n := 512) (φ := .bf16) (m (c, Proc.tc.devRef main_arg0)) t ⟨p.val * 128 + j.val, hl⟩ * Ideal.ofBits .f32 0x3E000000#32 else (spareQ s (j.val % 64) : EReal) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  pointwise [id]
  rw [hs]
  have h0 : (s : EReal) - s = 0 := by rw [← EReal.coe_sub, sub_self, EReal.coe_zero]
  have h1 : (0 : EReal) - 0 = 0 := by simp
  simp only [lane_data, lane_s0, lane_s1, lane_s2, lane_r36, select_if, h0, h1]
  by_cases hd : j.val / 64 = h.val
  · simp only [hd, if_true]
  · simp only [hd, if_false, not_false_eq_true, true_and, ne_eq, spareQ]
    split_ifs <;> first | rfl | (exfalso; omega)

theorem ka_apply (t : Fin 4096) (p : Fin 4) (h : Fin 2) (j : Fin 128) (s : ℝ) (hp : p.val * 2 + h.val < 8)
    (hs : (m (c, Proc.tc.devRef main_arg3) : FVec Ideal S4096x8 .f32) (ix2 t ⟨p.val * 2 + h.val, hp⟩) = (s : EReal))
    (hh : 256 * p.val + 128 * h.val + j.val < 1024) (hl : p.val * 128 + j.val < 512) :
    (V m c main_v107 : FVec Ideal S4096x1024 .bf16) (ix2 t ⟨256 * p.val + 128 * h.val + j.val, hh⟩)
      = if j.val / 64 = h.val then mat (m := 4096) (n := 512) (φ := .bf16) (m (c, Proc.tc.devRef main_arg1)) t ⟨p.val * 128 + j.val, hl⟩ else (spareK s (j.val % 64) : EReal) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  pointwise [id]
  rw [hs]
  have h0 : (s : EReal) - s = 0 := by rw [← EReal.coe_sub, sub_self, EReal.coe_zero]
  have h1 : (0 : EReal) - 0 = 0 := by simp
  have h2 : -(0 : EReal) = 0 := by simp
  simp only [lane_data, lane_s3, lane_s4, lane_s5, lane_r03, lane_r69, ori_if, select_if, h0, h1, h2]
  by_cases hd : j.val / 64 = h.val
  · simp only [hd, if_true]
  · simp only [hd, if_false, not_false_eq_true, true_and, ne_eq, spareK]
    split_ifs <;> first | rfl | (exfalso; omega)

theorem va_apply (t : Fin 4096) (p : Fin 4) (h : Fin 2) (j : Fin 128)
    (hh : 256 * p.val + 128 * h.val + j.val < 1024) (hl : p.val * 128 + j.val < 512) :
    (V m c main_v122 : FVec Ideal S4096x1024 .bf16) (ix2 t ⟨256 * p.val + 128 * h.val + j.val, hh⟩)
      = if j.val / 64 = h.val then mat (m := 4096) (n := 512) (φ := .bf16) (m (c, Proc.tc.devRef main_arg2)) t ⟨p.val * 128 + j.val, hl⟩ else (spareV (j.val % 64) : EReal) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  pointwise [id]
  simp only [lane_data, lane_r03, select_if]
  by_cases hd : j.val / 64 = h.val
  · simp only [hd, if_true]
  · simp only [hd, if_false, not_false_eq_true, true_and, ne_eq, spareV]
    split_ifs <;> rfl

end Cert.Dq
-- ==== Proof.Dq.Soft.lean ====
/- The forgetting attention of one head and its gradient, over the reals, and how its lines read over the extended reals.

One head has queries, keys, values and output gradients of 4096 rows by 64 lanes, and the running sums of its log forget gates. -/
module

public import Idealize.ShloMosaic.Lib.Pointwise
public import Idealize.ShloMosaic.Lib.WordCmp

@[expose] public section

set_option maxRecDepth 16384

noncomputable section

open Idealize.ShloMosaic

namespace Cert.Dq

/-- Rows by lanes. -/
abbrev Rows (α : Type) := Fin 4096 → Fin 64 → α

/-- Lane `x` of head `h`, as a column of an array of eight heads of 64 lanes. -/
abbrev col (h : Fin 8) (x : Fin 64) : Fin 512 := ⟨h.val * 64 + x.val, by omega⟩

/-- Head `h` of an array of eight heads. -/
def head {φ : FTy} (a : FVec Ideal ⟨2, ![4096, 512]⟩ φ) (h : Fin 8) : Rows EReal := fun t x => a (ix2 t (col h x))

/-- Head `h` of the attention's half of the output gradients: the last 512 of 1024 columns. -/
def grads (a : FVec Ideal ⟨2, ![4096, 1024]⟩ .f32) (h : Fin 8) : Rows EReal :=
  fun t x => a (ix2 t ⟨512 + (h.val * 64 + x.val), by omega⟩)

/-- The running sums of head `h`. -/
def sums (a : FVec Ideal ⟨2, ![4096, 8]⟩ .f32) (h : Fin 8) : Fin 4096 → EReal := fun t => a (ix2 t h)

/-! ### Over the reals -/

section
variable (q k v g : Rows ℝ) (c : Fin 4096 → ℝ)

/-- The logit of row `t` against row `s`. -/
def logit (t s : Fin 4096) : ℝ := (∑ x, q t x * k s x) * (1 / 8) + c t - c s

/-- The exponential of the logit, nothing for the rows after `t`. -/
def wt (t s : Fin 4096) : ℝ := if s ≤ t then Real.exp (logit q k c t s) else 0

/-- The row's sum of exponentials. -/
def norm (t : Fin 4096) : ℝ := ∑ s, wt q k c t s

/-- The probability row `t` gives row `s`. -/
def prob (t s : Fin 4096) : ℝ := wt q k c t s / norm q k c t

/-- The attention's output. -/
def out (t : Fin 4096) (x : Fin 64) : ℝ := ∑ s, v s x * prob q k c t s

/-- The gradient of the probability: output gradient by value row. -/
def gprob (t s : Fin 4096) : ℝ := ∑ x, g t x * v s x

/-- The gradient of the logit of row `t` against row `s`. -/
def slope (t s : Fin 4096) : ℝ := prob q k c t s * (gprob v g t s - ∑ x, g t x * out q k v c t x)

/-- The gradient of the queries. -/
def dq (t : Fin 4096) (x : Fin 64) : ℝ := (∑ s, slope q k v g c t s * k s x) * (1 / 8)

/-- The gradient of the running sums where they are added. -/
def dsum (t : Fin 4096) : ℝ := ∑ s, slope q k v g c t s

theorem wt_nonneg (t s : Fin 4096) : 0 ≤ wt q k c t s := by
  unfold wt; split_ifs
  · exact (Real.exp_pos _).le
  · exact le_rfl

theorem norm_pos (t : Fin 4096) : 0 < norm q k c t := by
  unfold norm
  refine lt_of_lt_of_le ?_ (Finset.single_le_sum (f := fun s => wt q k c t s) (fun s _ => wt_nonneg q k c t s) (Finset.mem_univ t))
  simp only [wt, le_refl, if_true]
  exact Real.exp_pos _

/-- The inner product of a row's output gradient and output is the mean of the probabilities' gradients. -/
theorem inner_out (t : Fin 4096) : ∑ x, g t x * out q k v c t x = ∑ s, gprob v g t s * prob q k c t s := by
  simp only [out, gprob, Finset.mul_sum, Finset.sum_mul]
  rw [Finset.sum_comm]
  refine Finset.sum_congr rfl fun s _ => Finset.sum_congr rfl fun x _ => by ring

theorem prob_eq_exp (t s : Fin 4096) (h : s ≤ t) : Real.exp (logit q k c t s - Real.log (norm q k c t)) = prob q k c t s := by
  rw [Real.exp_sub, Real.exp_log (norm_pos q k c t), prob, wt, if_pos h]

theorem prob_eq_zero (t s : Fin 4096) (h : ¬ s ≤ t) : prob q k c t s = 0 := by
  rw [prob, wt, if_neg h, zero_div]

/-- The slope as the quotient rule writes it, from weights scaled by any `a`. -/
theorem slope_quotient (a : ℝ) (ha : a ≠ 0) (t s : Fin 4096) :
    (gprob v g t s * (1 / (a * norm q k c t))
      + -∑ r, gprob v g t r * (1 * (1 / (a * norm q k c t * (a * norm q k c t)))) * (a * wt q k c t r)) * (a * wt q k c t s)
      = slope q k v g c t s := by
  have hn := (norm_pos q k c t).ne'
  rw [slope, inner_out]
  have h1 : ∑ r, gprob v g t r * (1 * (1 / (a * norm q k c t * (a * norm q k c t)))) * (a * wt q k c t r)
      = (∑ r, gprob v g t r * prob q k c t r) * (1 / (a * norm q k c t)) := by
    rw [Finset.sum_mul]
    refine Finset.sum_congr rfl fun r _ => ?_
    rw [prob]; field_simp
  rw [h1, prob]
  field_simp
  ring
end

/-! ### Over the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem eighth : Ideal.ofBits .f32 0x3E000000#32 = ((1 / 8 : ℝ) : EReal) := by
  simp [Ideal.ofBits, Ideal.ieee, -EReal.coe_mul]; norm_num

theorem minusInf : Ideal.ofBits .f32 0xFF800000#32 = ⊥ := by simp [Ideal.ofBits, Ideal.ieee]

theorem select_one {α : Type} (a b : α) : Scalar.select 1#1 a b = a := by simp [Scalar.select]

theorem sle_rows (s t : Fin 4096) :
    IntOp.cmpi CmpIPredicate.sle (BitVec.ofNat 32 s.val) (BitVec.ofNat 32 t.val) = if s ≤ t then 1#1 else 0#1 := by
  rw [WordCmp.cmpi_sle_ofNat (by have := s.isLt; omega) (by have := t.isLt; omega)]
  by_cases h : s ≤ t
  · rw [if_pos h, decide_eq_true (by exact h)]; rfl
  · rw [if_neg h, decide_eq_false (by exact h)]; rfl

section
variable (q k : Rows EReal) (c : Fin 4096 → EReal)

/-- The masked logit of row `t` against row `s`. -/
def eLogit (t s : Fin 4096) : EReal :=
  Scalar.select (IntOp.cmpi CmpIPredicate.sle (BitVec.ofNat 32 s.val) (BitVec.ofNat 32 t.val))
    ((∑ x : Fin 64, q t x * k s x) * Ideal.ofBits .f32 0x3E000000#32 + c t - c s) (Ideal.ofBits .f32 0xFF800000#32)

/-- The largest masked logit of a row. -/
def eMax (t : Fin 4096) : EReal := Finset.fold max (Ideal.ofBits .f32 0xFF800000#32) (eLogit q k c t) Finset.univ

/-- The weight of row `s` for row `t`. -/
def eWeight (t s : Fin 4096) : EReal := Ideal.exp (eLogit q k c t s - eMax q k c t)
end

section
variable {q k v g : Rows EReal} {c : Fin 4096 → EReal} {Q K V G : Rows ℝ} {C : Fin 4096 → ℝ}

theorem inner_coe (hg : ∀ t x, g t x = (G t x : EReal)) (hv : ∀ t x, v t x = (V t x : EReal)) (t s : Fin 4096) :
    ∑ x, g t x * v s x = ((∑ x, G t x * V s x : ℝ) : EReal) := by
  rw [coe_sum]
  exact Finset.sum_congr rfl fun x _ => by rw [hg, hv, EReal.coe_mul]

variable (hq : ∀ t x, q t x = (Q t x : EReal)) (hk : ∀ t x, k t x = (K t x : EReal)) (hc : ∀ t, c t = (C t : EReal))
include hq hk hc

theorem eLogit_coe (t s : Fin 4096) : eLogit q k c t s = if s ≤ t then ((logit Q K C t s : ℝ) : EReal) else ⊥ := by
  rw [eLogit, sle_rows, inner_coe hq hk, eighth, minusInf, hc, hc]
  by_cases h : s ≤ t
  · rw [if_pos h, if_pos h]
    simp only [select_one, logit, EReal.coe_sub, EReal.coe_add, EReal.coe_mul]
  · rw [if_neg h, if_neg h]; rfl

/-- A row's maximum is a number: its own logit is one, and none is positive infinity. -/
theorem eMax_coe (t : Fin 4096) : ∃ M : ℝ, eMax q k c t = (M : EReal) := by
  have hbot : eMax q k c t ≠ ⊥ := by
    refine ne_of_gt (lt_of_lt_of_le (EReal.bot_lt_coe (logit Q K C t t)) ?_)
    refine (Finset.le_fold_max _).2 (Or.inr ⟨t, Finset.mem_univ t, ?_⟩)
    rw [eLogit_coe hq hk hc, if_pos le_rfl]
  have htop : eMax q k c t ≠ ⊤ := by
    refine ne_of_lt ((Finset.fold_max_lt _).2 ⟨by rw [minusInf]; exact bot_lt_top, fun s _ => ?_⟩)
    rw [eLogit_coe hq hk hc]
    split_ifs
    · exact EReal.coe_lt_top _
    · exact bot_lt_top
  exact ⟨_, (EReal.coe_toReal htop hbot).symm⟩

theorem eWeight_coe (t : Fin 4096) : ∃ M : ℝ, eMax q k c t = (M : EReal)
    ∧ ∀ s, eWeight q k c t s = ((Real.exp (-M) * wt Q K C t s : ℝ) : EReal) := by
  obtain ⟨M, hM⟩ := eMax_coe hq hk hc t
  refine ⟨M, hM, fun s => ?_⟩
  rw [eWeight, hM, eLogit_coe hq hk hc, wt]
  by_cases h : s ≤ t
  · rw [if_pos h, if_pos h, ← EReal.coe_sub, Ideal.exp_coe, ← Real.exp_add]
    congr 2; ring
  · rw [if_neg h, if_neg h, mul_zero, EReal.bot_sub, Ideal.exp_bot, EReal.coe_zero]

theorem sum_eWeight {t : Fin 4096} {M : ℝ} (h : ∀ s, eWeight q k c t s = ((Real.exp (-M) * wt Q K C t s : ℝ) : EReal)) :
    ∑ s, eWeight q k c t s = ((Real.exp (-M) * norm Q K C t : ℝ) : EReal) := by
  simp only [h]
  rw [← coe_sum, norm, Finset.mul_sum]

/-- The attention's output over the extended reals is the real one. -/
theorem out_coe (hv : ∀ t x, v t x = (V t x : EReal)) (t : Fin 4096) (x : Fin 64) :
    ∑ s, v s x * Ideal.div (eWeight q k c t s) (∑ s, eWeight q k c t s) = ((out Q K V C t x : ℝ) : EReal) := by
  obtain ⟨M, _, h⟩ := eWeight_coe hq hk hc t
  have hn := (norm_pos Q K C t).ne'
  have he := (Real.exp_pos (-M)).ne'
  rw [sum_eWeight hq hk hc h, out, coe_sum]
  refine Finset.sum_congr rfl fun s _ => ?_
  rw [Ideal.div_coe (mul_ne_zero he hn), h, hv, ← EReal.coe_mul, ← EReal.coe_mul, prob]
  congr 1; field_simp

/-- The row's log-sum over the extended reals is the real one. -/
theorem lse_coe (t : Fin 4096) :
    eMax q k c t + Ideal.log (∑ s, eWeight q k c t s) = ((Real.log (norm Q K C t) : ℝ) : EReal) := by
  obtain ⟨M, hM, h⟩ := eWeight_coe hq hk hc t
  have hn := norm_pos Q K C t
  rw [sum_eWeight hq hk hc h, hM, Ideal.log_coe, if_neg (not_le.2 (mul_pos (Real.exp_pos _) hn)), ← EReal.coe_add,
    Real.log_mul (Real.exp_pos _).ne' hn.ne', Real.log_exp]
  congr 1; ring

/-- The logit's gradient over the extended reals, as the quotient rule writes it. -/
theorem slope_coe (hv : ∀ t x, v t x = (V t x : EReal)) (hg : ∀ t x, g t x = (G t x : EReal)) (t s : Fin 4096) :
    Scalar.select (IntOp.cmpi CmpIPredicate.sle (BitVec.ofNat 32 s.val) (BitVec.ofNat 32 t.val))
      ((Ideal.div (∑ x, g t x * v s x) (∑ s, eWeight q k c t s)
        + -∑ r, (∑ x, g t x * v r x) * Ideal.div 1 ((∑ s, eWeight q k c t s) * ∑ s, eWeight q k c t s) * eWeight q k c t r)
        * eWeight q k c t s) 0
      = ((slope Q K V G C t s : ℝ) : EReal) := by
  obtain ⟨M, _, h⟩ := eWeight_coe hq hk hc t
  have hn := (norm_pos Q K C t).ne'
  have he := (Real.exp_pos (-M)).ne'
  rw [sle_rows]
  by_cases hs : s ≤ t
  · rw [if_pos hs]
    rw [select_one, sum_eWeight hq hk hc h, ← EReal.coe_mul, Ideal.div_coe (mul_ne_zero he hn), Ideal.div_coe (mul_ne_zero (mul_ne_zero he hn) (mul_ne_zero he hn)),
      ← EReal.coe_one]
    simp only [inner_coe hg hv, h, ← EReal.coe_mul]
    rw [← coe_sum, ← EReal.coe_neg, ← EReal.coe_add, ← EReal.coe_mul]
    exact congrArg _ (slope_quotient Q K V G C (Real.exp (-M)) he t s)
  · rw [if_neg hs, slope, prob_eq_zero Q K C t s hs, zero_mul]; rfl
end

end Cert.Dq
-- ==== Proof.Dq.Head.lean ====
/- One head of the kernel over the reals: the rows with their spare lanes, and what the sum over the key rows comes to. -/
module

public import proofs.«01_k».proof.Proof.Dq.Block
public import proofs.«01_k».proof.Proof.Dq.Rows
public import proofs.«01_k».proof.Proof.Dq.Soft

@[expose] public section

set_option maxRecDepth 16384

noncomputable section

open Idealize.ShloMosaic

namespace Cert.Dq

/-- A head's row of 128 lanes: its data in the half of its own parity, the spare lanes in the other half. -/
def lanes (h : Fin 2) (f : Fin 64 → ℝ) (g : ℕ → ℝ) (j : Fin 128) : ℝ :=
  if j.val / 64 = h.val then f ⟨j.val % 64, Nat.mod_lt _ (by decide)⟩ else g (j.val % 64)

theorem sum_halves (f : Fin 128 → ℝ) :
    ∑ j, f j = (∑ x : Fin 64, f ⟨x.val, by omega⟩) + ∑ x : Fin 64, f ⟨64 + x.val, by omega⟩ := by
  rw [show (∑ j, f j) = ∑ j : Fin (64 + 64), f j from rfl, Fin.sum_univ_add]
  rfl

theorem sum_spare (g : ℕ → ℝ) (hg : ∀ i, 9 ≤ i → g i = 0) : ∑ x : Fin 64, g x.val = ∑ i ∈ Finset.range 9, g i := by
  rw [← Finset.sum_range g]
  refine (Finset.sum_subset (Finset.range_subset_range.2 (by decide)) fun i _ hi => hg i ?_).symm
  have := mt Finset.mem_range.2 hi; omega

/-- The inner product of two rows: of their data, and of their spare lanes. -/
theorem sum_lanes (h : Fin 2) (f f' : Fin 64 → ℝ) (g g' : ℕ → ℝ) (hg : ∀ i, 9 ≤ i → g i * g' i = 0) :
    ∑ j, lanes h f g j * lanes h f' g' j = (∑ x, f x * f' x) + ∑ i ∈ Finset.range 9, g i * g' i := by
  rw [sum_halves, ← sum_spare (fun i => g i * g' i) hg]
  have hlo : ∀ x : Fin 64, x.val / 64 = 0 ∧ x.val % 64 = x.val := fun x => by omega
  have hhi : ∀ x : Fin 64, (64 + x.val) / 64 = 1 ∧ (64 + x.val) % 64 = x.val := fun x => by omega
  match h with
  | ⟨0, _⟩ => simp [lanes, hlo, hhi]
  | ⟨1, _⟩ => simp [lanes, hlo, hhi, add_comm]

/-- The spare lanes of a query row, with minus the row's log-sum `e`. -/
def spareQ' (c e : ℝ) (i : ℕ) : ℝ := if i = 6 then -e else spareQ c i

/-- The spare lanes of a row of output gradients: minus its inner product `δ` with the output. -/
def spareD (δ : ℝ) (i : ℕ) : ℝ := if i = 0 then -δ else 0

theorem spare_scores (c e c' : ℝ) : ∑ i ∈ Finset.range 9, spareQ' c e i * spareK c' i = c - c' - e := by
  simp only [Finset.sum_range_succ, Finset.sum_range_zero, spareQ', spareQ, spareK]
  norm_num
  ring

theorem spare_grads (δ : ℝ) : ∑ i ∈ Finset.range 9, spareD δ i * spareV i = -δ := by
  simp only [Finset.sum_range_succ, Finset.sum_range_zero, spareD, spareV]
  norm_num

/-- A row of queries by a row of keys. -/
theorem score_lanes (h : Fin 2) (q k : Fin 64 → ℝ) (c e c' : ℝ) :
    ∑ j, lanes h q (spareQ' c e) j * lanes h k (spareK c') j = (∑ x, q x * k x) + (c - c' - e) := by
  rw [sum_lanes, spare_scores]
  intro i hi
  have h1 : spareQ' c e i = 0 := by simp only [spareQ', spareQ]; split_ifs <;> first | rfl | (exfalso; omega)
  rw [h1, zero_mul]

/-- A row of output gradients by a row of values. -/
theorem grad_lanes (h : Fin 2) (g v : Fin 64 → ℝ) (δ : ℝ) :
    ∑ j, lanes h g (spareD δ) j * lanes h v spareV j = (∑ x, g x * v x) - δ := by
  rw [sum_lanes, spare_grads, sub_eq_add_neg]
  intro i hi
  have h1 : spareD δ i = 0 := by simp only [spareD]; split_ifs <;> first | rfl | (exfalso; omega)
  rw [h1, zero_mul]

/-- The sum over the key rows, from the rows of one head: the logits' gradients by the key rows. -/
theorem total_head {n : ℕ} (h : Fin 2) (Q K V G : Rows ℝ) (C : Fin 4096 → ℝ) (t : Fin 4096) (r : Fin n)
    (a d : Mat n 128) (kk vv : ℕ → Fin 128 → EReal)
    (ha : ∀ j, a r j = (lanes h (fun x => Q t x * (1 / 8)) (spareQ' (C t) (Real.log (norm Q K C t))) j : EReal))
    (hd : ∀ j, d r j = (lanes h (G t) (spareD (∑ x, G t x * out Q K V C t x)) j : EReal))
    (hk : ∀ s : Fin 4096, ∀ j, kk s.val j = (lanes h (K s) (spareK (C s)) j : EReal))
    (hv : ∀ s : Fin 4096, ∀ j, vv s.val j = (lanes h (V s) spareV j : EReal)) (l : Fin 128) :
    total a d kk vv t.val r l = ((∑ s, slope Q K V G C t s * lanes h (K s) (spareK (C s)) l : ℝ) : EReal) := by
  rw [total, Finset.sum_range, coe_sum]
  refine Finset.sum_congr rfl fun s _ => ?_
  by_cases hs : s ≤ t
  · rw [if_pos (show s.val ≤ t.val from hs), term]
    simp only [ha, hd, hk, hv, ← EReal.coe_mul]
    rw [← coe_sum, ← coe_sum, score_lanes, grad_lanes, Ideal.exp_coe, ← EReal.coe_mul, ← EReal.coe_mul]
    congr 1
    rw [slope, gprob, ← prob_eq_exp Q K C t s hs, logit]
    congr 2
    · congr 1
      rw [Finset.sum_mul, ← sub_eq_zero]
      rw [show (∑ x, Q t x * (1 / 8) * K s x) = ∑ x, Q t x * K s x * (1 / 8) from Finset.sum_congr rfl fun x _ => by ring]
      ring
  · rw [if_neg (show ¬ s.val ≤ t.val from hs), slope, prob_eq_zero Q K C t s hs, zero_mul, zero_mul, EReal.coe_zero]

end Cert.Dq
-- ==== Proof.Dq.Point.lean ====
/- The rows of one grid point over the reals, and what the point leaves in its outputs' blocks. -/
module

public import proofs.«01_k».proof.Proof.Dq.Head

@[expose] public section

set_option maxRecDepth 16384

noncomputable section

open Idealize.ShloMosaic Idealize.ShloMosaic.TcCoe Idealize.ShloMosaic.Tactic

namespace Cert.Dq

open Cert.KernelIdeal Cert.KernelIdeal.Gen

theorem put3_real (p : ℕ) (a b : ℝ) (l : ℕ) :
    put3 p (a : EReal) (b : EReal) l = ((if l = p then a else if l = p + 1 ∨ l = p + 2 then 0 else b : ℝ) : EReal) := by
  unfold put3
  simp only [← EReal.coe_sub, sub_self]
  split_ifs <;> first | rfl | (exfalso; omega)

theorem lowSum_real (f : Fin 128 → EReal) (g : Fin 64 → ℝ) (h : ∀ x : Fin 64, f ⟨x.val, by omega⟩ = g x) :
    lowSum f = ((∑ x, g x : ℝ) : EReal) := by
  have e : ∀ x : Fin 128, (if x.val < 64 then f x else 0) = ((if hx : x.val < 64 then g ⟨x.val, hx⟩ else 0 : ℝ) : EReal) := fun x => by
    split_ifs with hx
    · exact h ⟨x.val, hx⟩
    · rfl
  rw [lowSum, Finset.sum_congr rfl fun x _ => e x, ← coe_sum, sum_halves]
  have hhi : ∀ x : Fin 64, ¬ 64 + x.val < 64 := fun x => by omega
  simp [hhi]

theorem highSum_real (f : Fin 128 → EReal) (g : Fin 64 → ℝ) (h : ∀ x : Fin 64, f ⟨64 + x.val, by omega⟩ = g x) :
    highSum f = ((∑ x, g x : ℝ) : EReal) := by
  have e : ∀ x : Fin 128, (if x.val < 64 then 0 else f x) = ((if hx : x.val < 64 then 0 else g ⟨x.val - 64, by omega⟩ : ℝ) : EReal) := fun x => by
    split_ifs with hx
    · rfl
    · rw [← h ⟨x.val - 64, by omega⟩]
      exact congrArg f (Fin.ext (show x.val = 64 + (x.val - 64) by omega))
  rw [highSum, Finset.sum_congr rfl fun x _ => e x, ← coe_sum, sum_halves]
  have hhi : ∀ x : Fin 64, ¬ 64 + x.val < 64 := fun x => by omega
  simp [hhi]

theorem ld_col0 (x : FVec Ideal S256x128 .f32) (r : Fin 256) :
    View.ld (Val := Elt Ideal) (e' := .f32) x (Rect.unit (s := S256x128) ![0, 0] S256x1.size inb_S256x128_S256x1_0_0) (ix2 r 0) = x (ix2 r 0) := by
  pointwise []

theorem ld_col64 (x : FVec Ideal S256x128 .f32) (r : Fin 256) :
    View.ld (Val := Elt Ideal) (e' := .f32) x (Rect.unit (s := S256x128) ![0, 64] S256x1.size inb_S256x128_S256x1_0_64) (ix2 r 0) = x (ix2 r 64) := by
  pointwise []

theorem ld_half0 (x : FVec Ideal S256x256 .bf16) (r : Fin 256) (j : Fin 128) :
    View.ld (Val := Elt Ideal) (e' := .bf16) x (Rect.unit (s := S256x256) ![0, 0] S256x128.size inb_S256x256_S256x128_0_0) (ix2 r j) = x (ix2 r ⟨j.val, by omega⟩) := by
  pointwise []

theorem ld_half1 (x : FVec Ideal S256x256 .bf16) (r : Fin 256) (j : Fin 128) :
    View.ld (Val := Elt Ideal) (e' := .bf16) x (Rect.unit (s := S256x256) ![0, 128] S256x128.size inb_S256x256_S256x128_0_128) (ix2 r j) = x (ix2 r ⟨128 + j.val, by omega⟩) := by
  pointwise []

variable (x0 : FVec Ideal S256x256 .bf16) (x1 x2 x3 : FVec Ideal S256x128 .f32) (x4 x5 : FVec Ideal S4096x256 .bf16) (r : Fin 256)

/-- The even head's query row with minus its log-sum. -/
theorem q0_coe (f : Fin 64 → ℝ) (s e : ℝ) (hx0 : ∀ j : Fin 128, x0 (ix2 r ⟨j.val, by omega⟩) = (lanes 0 f (spareQ s) j : EReal))
    (hx1 : x1 (ix2 r 0) = (e : EReal)) (j : Fin 128) : mat (q0 x0 x1) r j = (lanes 0 f (spareQ' s e) j : EReal) := by
  show q0 x0 x1 (ix2 r j) = _
  unfold q0
  rw [pay16_apply, ld_col0, ld_half0, hx0, hx1, ← EReal.coe_zero, ← EReal.coe_sub, put3_real]
  refine congrArg Real.toEReal ?_
  have hj := j.isLt
  simp only [lanes, spareQ', spareQ, Fin.val_zero]
  split_ifs <;> first | rfl | (exfalso; omega) | simp

/-- The odd head's query row with minus its log-sum. -/
theorem q1_coe (f : Fin 64 → ℝ) (s e : ℝ) (hx0 : ∀ j : Fin 128, x0 (ix2 r ⟨128 + j.val, by omega⟩) = (lanes 1 f (spareQ s) j : EReal))
    (hx1 : x1 (ix2 r 64) = (e : EReal)) (j : Fin 128) : mat (q1 x0 x1) r j = (lanes 1 f (spareQ' s e) j : EReal) := by
  show q1 x0 x1 (ix2 r j) = _
  unfold q1
  rw [pay18_apply, ld_col64, ld_half1, hx0, hx1, ← EReal.coe_zero, ← EReal.coe_sub, put3_real]
  refine congrArg Real.toEReal ?_
  have hj := j.isLt
  simp only [lanes, spareQ', spareQ, Fin.val_one]
  split_ifs <;> first | rfl | (exfalso; omega) | simp

/-- The even head's row of output gradients with minus its inner product with the output. -/
theorem d0_coe (g o : Fin 64 → ℝ) (h3 : ∀ x : Fin 64, x3 (ix2 r ⟨x.val, by omega⟩) = (g x : EReal))
    (h2 : ∀ x : Fin 64, x2 (ix2 r ⟨x.val, by omega⟩) = (o x : EReal)) (j : Fin 128) :
    mat (d0 x2 x3) r j = (lanes 0 g (spareD (∑ x, g x * o x)) j : EReal) := by
  show d0 x2 x3 (ix2 r j) = _
  unfold d0
  have hb : (if j.val < 64 then x3 (ix2 r j) else 0) = ((if h : j.val < 64 then g ⟨j.val, h⟩ else 0 : ℝ) : EReal) := by
    split_ifs with h
    · exact h3 ⟨j.val, h⟩
    · rfl
  rw [pay15_apply, lowSum_real _ (fun x => g x * o x) fun x => by rw [h3, h2, EReal.coe_mul], hb, ← EReal.coe_zero, ← EReal.coe_sub, put3_real]
  refine congrArg Real.toEReal ?_
  have hj := j.isLt
  have hm : ∀ h : j.val < 64, (⟨j.val, h⟩ : Fin 64) = ⟨j.val % 64, Nat.mod_lt _ (by decide)⟩ := fun h => Fin.ext (show j.val = j.val % 64 by omega)
  simp only [lanes, spareD, Fin.val_zero]
  split_ifs <;> first | rfl | (exfalso; omega) | (rw [hm]) | simp

/-- The odd head's row of output gradients with minus its inner product with the output. -/
theorem d1_coe (g o : Fin 64 → ℝ) (h3 : ∀ x : Fin 64, x3 (ix2 r ⟨64 + x.val, by omega⟩) = (g x : EReal))
    (h2 : ∀ x : Fin 64, x2 (ix2 r ⟨64 + x.val, by omega⟩) = (o x : EReal)) (j : Fin 128) :
    mat (d1 x2 x3) r j = (lanes 1 g (spareD (∑ x, g x * o x)) j : EReal) := by
  show d1 x2 x3 (ix2 r j) = _
  unfold d1
  have hj := j.isLt
  have hb : (if j.val < 64 then 0 else x3 (ix2 r j)) = ((if j.val < 64 then 0 else g ⟨j.val % 64, Nat.mod_lt _ (by decide)⟩ : ℝ) : EReal) := by
    split_ifs with h
    · rfl
    · rw [← h3 ⟨j.val % 64, Nat.mod_lt _ (by decide)⟩]
      exact congrArg (mat x3 r) (Fin.ext (show j.val = 64 + j.val % 64 by omega))
  rw [pay17_apply, highSum_real _ (fun x => g x * o x) fun x => by rw [h3, h2, EReal.coe_mul], hb, ← EReal.coe_zero, ← EReal.coe_sub, put3_real]
  refine congrArg Real.toEReal ?_
  simp only [lanes, spareD, Fin.val_one]
  split_ifs <;> first | rfl | (exfalso; omega) | simp

theorem rows0_coe (x : FVec Ideal S4096x256 .bf16) (s : Fin 4096) (j : Fin 128) : rows x 0 s.val j = x (ix2 s ⟨j.val, by omega⟩) := by
  have hj := j.isLt
  unfold rows cell
  rw [dif_pos ⟨s.isLt, by omega⟩]
  exact congrArg (mat x s) (Fin.ext (show 0 + j.val = j.val by omega))

theorem rows1_coe (x : FVec Ideal S4096x256 .bf16) (s : Fin 4096) (j : Fin 128) : rows x 128 s.val j = x (ix2 s ⟨128 + j.val, by omega⟩) := by
  have hj := j.isLt
  unfold rows cell
  rw [dif_pos ⟨s.isLt, by omega⟩]

/-- The blocks of a grid point hold the two heads of a pair, rows `256 * i` on of the queries, all rows of the keys and values. -/
structure Point (T : Fin 4096) (Q K V G : Fin 2 → Rows ℝ) (C : Fin 2 → Fin 4096 → ℝ) : Prop where
  q : ∀ (h : Fin 2) (j : Fin 128), x0 (ix2 r ⟨128 * h.val + j.val, by omega⟩) = (lanes h (fun x => Q h T x * (1 / 8)) (spareQ (C h T)) j : EReal)
  e : ∀ (h : Fin 2) (x : Fin 64), x1 (ix2 r ⟨64 * h.val + x.val, by omega⟩) = ((Real.log (norm (Q h) (K h) (C h) T) : ℝ) : EReal)
  o : ∀ (h : Fin 2) (x : Fin 64), x2 (ix2 r ⟨64 * h.val + x.val, by omega⟩) = ((out (Q h) (K h) (V h) (C h) T x : ℝ) : EReal)
  g : ∀ (h : Fin 2) (x : Fin 64), x3 (ix2 r ⟨64 * h.val + x.val, by omega⟩) = (G h T x : EReal)
  k : ∀ (h : Fin 2) (s : Fin 4096) (j : Fin 128), x4 (ix2 s ⟨128 * h.val + j.val, by omega⟩) = (lanes h (K h s) (spareK (C h s)) j : EReal)
  v : ∀ (h : Fin 2) (s : Fin 4096) (j : Fin 128), x5 (ix2 s ⟨128 * h.val + j.val, by omega⟩) = (lanes h (V h s) spareV j : EReal)

section
variable {x0 x1 x2 x3 x4 x5 r} {T : Fin 4096} {Q K V G : Fin 2 → Rows ℝ} {C : Fin 2 → Fin 4096 → ℝ} (P : Point x0 x1 x2 x3 x4 x5 r T Q K V G C)
include P

theorem total0_coe (l : Fin 128) : total (mat (q0 x0 x1)) (mat (d0 x2 x3)) (rows x4 0) (rows x5 0) T.val r l
    = ((∑ s, slope (Q 0) (K 0) (V 0) (G 0) (C 0) T s * lanes 0 (K 0 s) (spareK (C 0 s)) l : ℝ) : EReal) := by
  refine total_head 0 (Q 0) (K 0) (V 0) (G 0) (C 0) T r _ _ _ _ (q0_coe x0 x1 r _ _ _ (fun j => ?_) ?_) (d0_coe x2 x3 r _ _ (fun x => ?_) fun x => ?_) (fun s j => ?_) (fun s j => ?_) l
  · rw [← P.q 0 j]; exact congrArg (mat x0 r) (Fin.ext (show j.val = 128 * 0 + j.val by omega))
  · exact P.e 0 0
  · rw [← P.g 0 x]; exact congrArg (mat x3 r) (Fin.ext (show x.val = 64 * 0 + x.val by omega))
  · rw [← P.o 0 x]; exact congrArg (mat x2 r) (Fin.ext (show x.val = 64 * 0 + x.val by omega))
  · rw [rows0_coe, ← P.k 0 s j]; exact congrArg (mat x4 s) (Fin.ext (show j.val = 128 * 0 + j.val by omega))
  · rw [rows0_coe, ← P.v 0 s j]; exact congrArg (mat x5 s) (Fin.ext (show j.val = 128 * 0 + j.val by omega))

theorem total1_coe (l : Fin 128) : total (mat (q1 x0 x1)) (mat (d1 x2 x3)) (rows x4 128) (rows x5 128) T.val r l
    = ((∑ s, slope (Q 1) (K 1) (V 1) (G 1) (C 1) T s * lanes 1 (K 1 s) (spareK (C 1 s)) l : ℝ) : EReal) := by
  refine total_head 1 (Q 1) (K 1) (V 1) (G 1) (C 1) T r _ _ _ _ (q1_coe x0 x1 r _ _ _ (fun j => ?_) ?_) (d1_coe x2 x3 r _ _ (fun x => ?_) fun x => ?_) (fun s j => ?_) (fun s j => ?_) l
  · exact P.q 1 j
  · exact P.e 1 0
  · exact P.g 1 x
  · exact P.o 1 x
  · rw [rows1_coe]; exact P.k 1 s j
  · rw [rows1_coe]; exact P.v 1 s j
end

end Cert.Dq
-- ==== Proof.Dq.Fetch.lean ====
/- The blocks the kernel reads at a grid point, as entries of the whole arrays. -/
module

public import proofs.«01_k».proof.Proof.Gen.KernelIdeal.Value
public import proofs.«01_k».proof.Proof.Dq.Payload

@[expose] public section

set_option maxRecDepth 16384

noncomputable section

open Idealize.ShloMosaic Idealize.ShloMosaic.TcCoe Idealize.ShloMosaic.Tactic

namespace Cert.Dq

open Cert.KernelIdeal Cert.KernelIdeal.Gen

theorem pair_lt (t : Fin cfg0.N) : (grid0.coords t 0).val < 4 := (grid0.coords t 0).isLt

theorem block_lt (t : Fin cfg0.N) : (grid0.coords t 1).val < 16 := (grid0.coords t 1).isLt

theorem index0 : ∀ t : Fin cfg0.N, win0_0.index t 0 = (grid0.coords t 1).val ∧ win0_0.index t 1 = (grid0.coords t 0).val :=
  (by decide +kernel : ∀ t : Fin grid0.N, win0_0.index t 0 = (grid0.coords t 1).val ∧ win0_0.index t 1 = (grid0.coords t 0).val)

theorem index1 : ∀ t : Fin cfg0.N, win0_1.index t 0 = (grid0.coords t 1).val ∧ win0_1.index t 1 = (grid0.coords t 0).val :=
  (by decide +kernel : ∀ t : Fin grid0.N, win0_1.index t 0 = (grid0.coords t 1).val ∧ win0_1.index t 1 = (grid0.coords t 0).val)

theorem index2 : ∀ t : Fin cfg0.N, win0_2.index t 0 = (grid0.coords t 1).val ∧ win0_2.index t 1 = (grid0.coords t 0).val :=
  (by decide +kernel : ∀ t : Fin grid0.N, win0_2.index t 0 = (grid0.coords t 1).val ∧ win0_2.index t 1 = (grid0.coords t 0).val)

theorem index3 : ∀ t : Fin cfg0.N, win0_3.index t 0 = (grid0.coords t 1).val ∧ win0_3.index t 1 = 4 + (grid0.coords t 0).val :=
  (by decide +kernel : ∀ t : Fin grid0.N, win0_3.index t 0 = (grid0.coords t 1).val ∧ win0_3.index t 1 = 4 + (grid0.coords t 0).val)

theorem index4 : ∀ t : Fin cfg0.N, win0_4.index t 0 = 0 ∧ win0_4.index t 1 = (grid0.coords t 0).val :=
  (by decide +kernel : ∀ t : Fin grid0.N, win0_4.index t 0 = 0 ∧ win0_4.index t 1 = (grid0.coords t 0).val)

theorem index5 : ∀ t : Fin cfg0.N, win0_5.index t 0 = 0 ∧ win0_5.index t 1 = (grid0.coords t 0).val :=
  (by decide +kernel : ∀ t : Fin grid0.N, win0_5.index t 0 = 0 ∧ win0_5.index t 1 = (grid0.coords t 0).val)

theorem index6 : ∀ t : Fin cfg0.N, win0_6.index t 0 = (grid0.coords t 1).val ∧ win0_6.index t 1 = (grid0.coords t 0).val :=
  (by decide +kernel : ∀ t : Fin grid0.N, win0_6.index t 0 = (grid0.coords t 1).val ∧ win0_6.index t 1 = (grid0.coords t 0).val)

theorem index7 : ∀ t : Fin cfg0.N, win0_7.index t 0 = (grid0.coords t 1).val ∧ win0_7.index t 1 = (grid0.coords t 0).val :=
  (by decide +kernel : ∀ t : Fin grid0.N, win0_7.index t 0 = (grid0.coords t 1).val ∧ win0_7.index t 1 = (grid0.coords t 0).val)

variable (m : (ℓ : Loc nD τ sig) → Buf (Elt Ideal) ℓ) (c : Dev nD) (t : Fin cfg0.N)

theorem read0 (y : FVec Ideal S4096x1024 .bf16) (r : Fin 256) (j : Fin 256) (hr : 256 * (grid0.coords t 1).val + r.val < 4096) (hj : 256 * (grid0.coords t 0).val + j.val < 1024) :
    (((cfg0.win 0).blk t).view.read (Elt Ideal) y : FVec Ideal S256x256 .bf16) (ix2 r j) = y (ix2 ⟨256 * (grid0.coords t 1).val + r.val, hr⟩ ⟨256 * (grid0.coords t 0).val + j.val, hj⟩) := by
  rw [View.read_apply]
  show y _ = y _
  have hi := index0 t
  refine congrArg y (funext fun a => Fin.ext ?_)
  match a with
  | ⟨0, _⟩ => show win0_0.index t 0 * 256 + 1 * r.val = 256 * (grid0.coords t 1).val + r.val; rw [hi.1]; omega
  | ⟨1, _⟩ => show win0_0.index t 1 * 256 + 1 * j.val = 256 * (grid0.coords t 0).val + j.val; rw [hi.2]; omega

theorem block0 (r : Fin 256) (j : Fin 256) (hr : 256 * (grid0.coords t 1).val + r.val < 4096) (hj : 256 * (grid0.coords t 0).val + j.val < 1024) :
    (iblk m c 0 t : FVec Ideal S256x256 .bf16) (ix2 r j) = (V m c main_v59 : FVec Ideal S4096x1024 .bf16) (ix2 ⟨256 * (grid0.coords t 1).val + r.val, hr⟩ ⟨256 * (grid0.coords t 0).val + j.val, hj⟩) :=
  read0 t (V m c main_v59) r j hr hj

theorem read1 (y : FVec Ideal S4096x512 .f32) (r : Fin 256) (j : Fin 128) (hr : 256 * (grid0.coords t 1).val + r.val < 4096) (hj : 128 * (grid0.coords t 0).val + j.val < 512) :
    (((cfg0.win 1).blk t).view.read (Elt Ideal) y : FVec Ideal S256x128 .f32) (ix2 r j) = y (ix2 ⟨256 * (grid0.coords t 1).val + r.val, hr⟩ ⟨128 * (grid0.coords t 0).val + j.val, hj⟩) := by
  rw [View.read_apply]
  show y _ = y _
  have hi := index1 t
  refine congrArg y (funext fun a => Fin.ext ?_)
  match a with
  | ⟨0, _⟩ => show win0_1.index t 0 * 256 + 1 * r.val = 256 * (grid0.coords t 1).val + r.val; rw [hi.1]; omega
  | ⟨1, _⟩ => show win0_1.index t 1 * 128 + 1 * j.val = 128 * (grid0.coords t 0).val + j.val; rw [hi.2]; omega

theorem block1 (r : Fin 256) (j : Fin 128) (hr : 256 * (grid0.coords t 1).val + r.val < 4096) (hj : 128 * (grid0.coords t 0).val + j.val < 512) :
    (iblk m c 1 t : FVec Ideal S256x128 .f32) (ix2 r j) = (V m c main_v165 : FVec Ideal S4096x512 .f32) (ix2 ⟨256 * (grid0.coords t 1).val + r.val, hr⟩ ⟨128 * (grid0.coords t 0).val + j.val, hj⟩) :=
  read1 t (V m c main_v165) r j hr hj

theorem read2 (y : FVec Ideal S4096x512 .f32) (r : Fin 256) (j : Fin 128) (hr : 256 * (grid0.coords t 1).val + r.val < 4096) (hj : 128 * (grid0.coords t 0).val + j.val < 512) :
    (((cfg0.win 2).blk t).view.read (Elt Ideal) y : FVec Ideal S256x128 .f32) (ix2 r j) = y (ix2 ⟨256 * (grid0.coords t 1).val + r.val, hr⟩ ⟨128 * (grid0.coords t 0).val + j.val, hj⟩) := by
  rw [View.read_apply]
  show y _ = y _
  have hi := index2 t
  refine congrArg y (funext fun a => Fin.ext ?_)
  match a with
  | ⟨0, _⟩ => show win0_2.index t 0 * 256 + 1 * r.val = 256 * (grid0.coords t 1).val + r.val; rw [hi.1]; omega
  | ⟨1, _⟩ => show win0_2.index t 1 * 128 + 1 * j.val = 128 * (grid0.coords t 0).val + j.val; rw [hi.2]; omega

theorem block2 (r : Fin 256) (j : Fin 128) (hr : 256 * (grid0.coords t 1).val + r.val < 4096) (hj : 128 * (grid0.coords t 0).val + j.val < 512) :
    (iblk m c 2 t : FVec Ideal S256x128 .f32) (ix2 r j) = (V m c main_v161 : FVec Ideal S4096x512 .f32) (ix2 ⟨256 * (grid0.coords t 1).val + r.val, hr⟩ ⟨128 * (grid0.coords t 0).val + j.val, hj⟩) :=
  read2 t (V m c main_v161) r j hr hj

theorem read3 (y : FVec Ideal S4096x1024 .f32) (r : Fin 256) (j : Fin 128) (hr : 256 * (grid0.coords t 1).val + r.val < 4096) (hj : 512 + 128 * (grid0.coords t 0).val + j.val < 1024) :
    (((cfg0.win 3).blk t).view.read (Elt Ideal) y : FVec Ideal S256x128 .f32) (ix2 r j) = y (ix2 ⟨256 * (grid0.coords t 1).val + r.val, hr⟩ ⟨512 + 128 * (grid0.coords t 0).val + j.val, hj⟩) := by
  rw [View.read_apply]
  show y _ = y _
  have hi := index3 t
  refine congrArg y (funext fun a => Fin.ext ?_)
  match a with
  | ⟨0, _⟩ => show win0_3.index t 0 * 256 + 1 * r.val = 256 * (grid0.coords t 1).val + r.val; rw [hi.1]; omega
  | ⟨1, _⟩ => show win0_3.index t 1 * 128 + 1 * j.val = 512 + 128 * (grid0.coords t 0).val + j.val; rw [hi.2]; omega

theorem block3 (r : Fin 256) (j : Fin 128) (hr : 256 * (grid0.coords t 1).val + r.val < 4096) (hj : 512 + 128 * (grid0.coords t 0).val + j.val < 1024) :
    (iblk m c 3 t : FVec Ideal S256x128 .f32) (ix2 r j) = (V m c main_arg4 : FVec Ideal S4096x1024 .f32) (ix2 ⟨256 * (grid0.coords t 1).val + r.val, hr⟩ ⟨512 + 128 * (grid0.coords t 0).val + j.val, hj⟩) :=
  read3 t (V m c main_arg4) r j hr hj

theorem read4 (y : FVec Ideal S4096x1024 .bf16) (r : Fin 4096) (j : Fin 256) (hj : 256 * (grid0.coords t 0).val + j.val < 1024) :
    (((cfg0.win 4).blk t).view.read (Elt Ideal) y : FVec Ideal S4096x256 .bf16) (ix2 r j) = y (ix2 r ⟨256 * (grid0.coords t 0).val + j.val, hj⟩) := by
  rw [View.read_apply]
  show y _ = y _
  have hi := index4 t
  refine congrArg y (funext fun a => Fin.ext ?_)
  match a with
  | ⟨0, _⟩ => show win0_4.index t 0 * 4096 + 1 * r.val = r.val; rw [hi.1]; omega
  | ⟨1, _⟩ => show win0_4.index t 1 * 256 + 1 * j.val = 256 * (grid0.coords t 0).val + j.val; rw [hi.2]; omega

theorem block4 (r : Fin 4096) (j : Fin 256) (hj : 256 * (grid0.coords t 0).val + j.val < 1024) :
    (iblk m c 4 t : FVec Ideal S4096x256 .bf16) (ix2 r j) = (V m c main_v107 : FVec Ideal S4096x1024 .bf16) (ix2 r ⟨256 * (grid0.coords t 0).val + j.val, hj⟩) :=
  read4 t (V m c main_v107) r j hj

theorem read5 (y : FVec Ideal S4096x1024 .bf16) (r : Fin 4096) (j : Fin 256) (hj : 256 * (grid0.coords t 0).val + j.val < 1024) :
    (((cfg0.win 5).blk t).view.read (Elt Ideal) y : FVec Ideal S4096x256 .bf16) (ix2 r j) = y (ix2 r ⟨256 * (grid0.coords t 0).val + j.val, hj⟩) := by
  rw [View.read_apply]
  show y _ = y _
  have hi := index5 t
  refine congrArg y (funext fun a => Fin.ext ?_)
  match a with
  | ⟨0, _⟩ => show win0_5.index t 0 * 4096 + 1 * r.val = r.val; rw [hi.1]; omega
  | ⟨1, _⟩ => show win0_5.index t 1 * 256 + 1 * j.val = 256 * (grid0.coords t 0).val + j.val; rw [hi.2]; omega

theorem block5 (r : Fin 4096) (j : Fin 256) (hj : 256 * (grid0.coords t 0).val + j.val < 1024) :
    (iblk m c 5 t : FVec Ideal S4096x256 .bf16) (ix2 r j) = (V m c main_v122 : FVec Ideal S4096x1024 .bf16) (ix2 r ⟨256 * (grid0.coords t 0).val + j.val, hj⟩) :=
  read5 t (V m c main_v122) r j hj

end Cert.Dq
-- ==== Proof.Dq.Saved.lean ====
module

public import proofs.«01_k».proof.Proof.Gen.KernelIdeal.Value
public import proofs.«01_k».proof.Proof.Dq.Payload
public import proofs.«01_k».proof.Proof.Dq.Soft

@[expose] public section

set_option maxRecDepth 16384

noncomputable section

open Idealize.ShloMosaic Idealize.ShloMosaic.TcCoe Idealize.ShloMosaic.Tactic Idealize.ShloMosaic.StableHlo

namespace Cert.Dq

open Cert.KernelIdeal Cert.KernelIdeal.Gen

variable (m : (ℓ : Loc nD τ sig) → Buf (Elt Ideal) ℓ) (c : Dev nD)

theorem o_apply (t : Fin 4096) (h : Fin 8) (x : Fin 64) (hx : 64 * h.val + x.val < 512) :
    (V m c main_v161 : FVec Ideal S4096x512 .f32) (ix2 t ⟨64 * h.val + x.val, hx⟩)
      = ∑ s, head (φ := .bf16) (m (c, Proc.tc.devRef main_arg2)) h s x
          * Ideal.div (eWeight (head (φ := .bf16) (m (c, Proc.tc.devRef main_arg0)) h) (head (φ := .bf16) (m (c, Proc.tc.devRef main_arg1)) h) (sums (m (c, Proc.tc.devRef main_arg3)) h) t s) (∑ s, eWeight (head (φ := .bf16) (m (c, Proc.tc.devRef main_arg0)) h) (head (φ := .bf16) (m (c, Proc.tc.devRef main_arg1)) h) (sums (m (c, Proc.tc.devRef main_arg3)) h) t s) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  pointwise [id]
  rfl

theorem max_apply (t : Fin 4096) (h : Fin 8) :
    (V m c main_v148 : FVec Ideal S8x4096 .f32) (ix2 h t) = eMax (head (φ := .bf16) (m (c, Proc.tc.devRef main_arg0)) h) (head (φ := .bf16) (m (c, Proc.tc.devRef main_arg1)) h) (sums (m (c, Proc.tc.devRef main_arg3)) h) t := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  pointwise [id]
  rfl

theorem weight_apply (t : Fin 4096) (h : Fin 8) :
    (V m c main_v153 : FVec Ideal S8x4096 .f32) (ix2 h t) = ∑ s, eWeight (head (φ := .bf16) (m (c, Proc.tc.devRef main_arg0)) h) (head (φ := .bf16) (m (c, Proc.tc.devRef main_arg1)) h) (sums (m (c, Proc.tc.devRef main_arg3)) h) t s := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  pointwise [id]
  rfl

/-- The log-sum array from the rows' maxima `a` and sums `b`. -/
def lseOf (a b : FVec Ideal S8x4096 .f32) : FVec Ideal S4096x512 .f32 :=
  shapeCast S4096x512 (broadcastInDim S4096x8x64 ![0, 1, 2] bcast_S4096x8x1_S4096x8x64_0_1_2
    (broadcastInDim S4096x8x1 ![0, 1] bcast_S4096x8_S4096x8x1_0_1
      (transpose S4096x8 [1, 0] (addf a (Host.log b)) transposes_S8x4096_S4096x8_1_0))) shapeCasts_S4096x8x64_S4096x512

theorem lseOf_apply (a b : FVec Ideal S8x4096 .f32) (t : Fin 4096) (h : Fin 8) (x : Fin 64) (hx : 64 * h.val + x.val < 512) :
    lseOf a b (ix2 t ⟨64 * h.val + x.val, hx⟩) = a (ix2 h t) + Ideal.log (b (ix2 h t)) := by
  pointwise [lseOf]

theorem lse_eq : (V m c main_v165 : FVec Ideal S4096x512 .f32) = lseOf (V m c main_v148) (V m c main_v153) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp
  rfl

theorem lse_apply (t : Fin 4096) (h : Fin 8) (x : Fin 64) (hx : 64 * h.val + x.val < 512) :
    (V m c main_v165 : FVec Ideal S4096x512 .f32) (ix2 t ⟨64 * h.val + x.val, hx⟩)
      = eMax (head (φ := .bf16) (m (c, Proc.tc.devRef main_arg0)) h) (head (φ := .bf16) (m (c, Proc.tc.devRef main_arg1)) h) (sums (m (c, Proc.tc.devRef main_arg3)) h) t + Ideal.log (∑ s, eWeight (head (φ := .bf16) (m (c, Proc.tc.devRef main_arg0)) h) (head (φ := .bf16) (m (c, Proc.tc.devRef main_arg1)) h) (sums (m (c, Proc.tc.devRef main_arg3)) h) t s) := by
  rw [lse_eq, lseOf_apply, max_apply, weight_apply]

theorem dcat_eq : V m c main_arg4 = m (c, Proc.tc.devRef main_arg4) := by
  unfold V
  simp only [hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append, TRef.nullary, TRef.ternary, TRef.unary,
    TRef.toBuf, TRef.ofBuf, cast_eq]
  after_results_simp

end Cert.Dq
-- ==== Proof.Dq.Operands.lean ====
/- The kernel's operands, computed by the host, over the reals. -/
module

public import proofs.«01_k».proof.Proof.Dq.Head
public import proofs.«01_k».proof.Proof.Dq.Saved

@[expose] public section

set_option maxRecDepth 16384

noncomputable section

open Idealize.ShloMosaic Idealize.ShloMosaic.TcCoe

namespace Cert.Dq

open Cert.KernelIdeal Cert.KernelIdeal.Gen

/-- Head `h` of pair `p`. -/
abbrev hd (p : Fin 4) (h : Fin 2) : Fin 8 := ⟨p.val * 2 + h.val, by omega⟩

/-- The arguments are the given real arrays, head by head. -/
structure Args (m : (ℓ : Loc nD τ sig) → Buf (Elt Ideal) ℓ) (c : Dev nD) (Q K V G : Fin 8 → Rows ℝ) (C : Fin 8 → Fin 4096 → ℝ) : Prop where
  q : ∀ h t x, head (φ := .bf16) (m (c, Proc.tc.devRef main_arg0)) h t x = (Q h t x : EReal)
  k : ∀ h t x, head (φ := .bf16) (m (c, Proc.tc.devRef main_arg1)) h t x = (K h t x : EReal)
  v : ∀ h t x, head (φ := .bf16) (m (c, Proc.tc.devRef main_arg2)) h t x = (V h t x : EReal)
  cs : ∀ h t, sums (m (c, Proc.tc.devRef main_arg3)) h t = (C h t : EReal)
  g : ∀ h t x, grads (m (c, Proc.tc.devRef main_arg4)) h t x = (G h t x : EReal)

variable {m : (ℓ : Loc nD τ sig) → Buf (Elt Ideal) ℓ} {c : Dev nD} {Q K V G : Fin 8 → Rows ℝ} {C : Fin 8 → Fin 4096 → ℝ}
  (A : Args m c Q K V G C)
include A

theorem qa_coe (t : Fin 4096) (p : Fin 4) (h : Fin 2) (j : Fin 128) (hh : 256 * p.val + 128 * h.val + j.val < 1024) :
    (Cert.KernelIdeal.Gen.V m c main_v59 : FVec Ideal S4096x1024 .bf16) (ix2 t ⟨256 * p.val + 128 * h.val + j.val, hh⟩)
      = (lanes h (fun x => Q (hd p h) t x * (1 / 8)) (spareQ (C (hd p h) t)) j : EReal) := by
  rw [qa_apply m c t p h j (C (hd p h) t) (hd p h).isLt (A.cs (hd p h) t) hh (by omega), lanes]
  split_ifs with hj
  · rw [eighth, EReal.coe_mul, ← A.q (hd p h) t]
    refine congrArg (· * _) (congrArg (mat (m := 4096) (n := 512) (φ := .bf16) (m (c, Proc.tc.devRef main_arg0)) t) (Fin.ext ?_))
    show p.val * 128 + j.val = (p.val * 2 + h.val) * 64 + j.val % 64
    omega
  · rfl

theorem ka_coe (t : Fin 4096) (p : Fin 4) (h : Fin 2) (j : Fin 128) (hh : 256 * p.val + 128 * h.val + j.val < 1024) :
    (Cert.KernelIdeal.Gen.V m c main_v107 : FVec Ideal S4096x1024 .bf16) (ix2 t ⟨256 * p.val + 128 * h.val + j.val, hh⟩)
      = (lanes h (K (hd p h) t) (spareK (C (hd p h) t)) j : EReal) := by
  rw [ka_apply m c t p h j (C (hd p h) t) (hd p h).isLt (A.cs (hd p h) t) hh (by omega), lanes]
  split_ifs with hj
  · rw [← A.k (hd p h) t]
    refine congrArg (mat (m := 4096) (n := 512) (φ := .bf16) (m (c, Proc.tc.devRef main_arg1)) t) (Fin.ext ?_)
    show p.val * 128 + j.val = (p.val * 2 + h.val) * 64 + j.val % 64
    omega
  · rfl

theorem va_coe (t : Fin 4096) (p : Fin 4) (h : Fin 2) (j : Fin 128) (hh : 256 * p.val + 128 * h.val + j.val < 1024) :
    (Cert.KernelIdeal.Gen.V m c main_v122 : FVec Ideal S4096x1024 .bf16) (ix2 t ⟨256 * p.val + 128 * h.val + j.val, hh⟩)
      = (lanes h (V (hd p h) t) spareV j : EReal) := by
  rw [va_apply m c t p h j hh (by omega), lanes]
  split_ifs with hj
  · rw [← A.v (hd p h) t]
    refine congrArg (mat (m := 4096) (n := 512) (φ := .bf16) (m (c, Proc.tc.devRef main_arg2)) t) (Fin.ext ?_)
    show p.val * 128 + j.val = (p.val * 2 + h.val) * 64 + j.val % 64
    omega
  · rfl

theorem o_coe (t : Fin 4096) (h : Fin 8) (x : Fin 64) (hx : 64 * h.val + x.val < 512) :
    (Cert.KernelIdeal.Gen.V m c main_v161 : FVec Ideal S4096x512 .f32) (ix2 t ⟨64 * h.val + x.val, hx⟩)
      = ((out (Q h) (K h) (V h) (C h) t x : ℝ) : EReal) := by
  rw [o_apply, out_coe (A.q h) (A.k h) (A.cs h) (A.v h)]

theorem lse_coe' (t : Fin 4096) (h : Fin 8) (x : Fin 64) (hx : 64 * h.val + x.val < 512) :
    (Cert.KernelIdeal.Gen.V m c main_v165 : FVec Ideal S4096x512 .f32) (ix2 t ⟨64 * h.val + x.val, hx⟩)
      = ((Real.log (norm (Q h) (K h) (C h) t) : ℝ) : EReal) := by
  rw [lse_apply, lse_coe (A.q h) (A.k h) (A.cs h)]

theorem dcat_coe (t : Fin 4096) (h : Fin 8) (x : Fin 64) (hx : 512 + (h.val * 64 + x.val) < 1024) :
    (Cert.KernelIdeal.Gen.V m c main_arg4 : FVec Ideal S4096x1024 .f32) (ix2 t ⟨512 + (h.val * 64 + x.val), hx⟩) = ((G h t x : ℝ) : EReal) := by
  rw [dcat_eq]; exact A.g h t x

end Cert.Dq
-- ==== Proof.Dq.Result.lean ====
/- The kernel's arrays over the reals: the gradients of the queries and their row sums. -/
module

public import proofs.«01_k».proof.Proof.Dq.Point
public import proofs.«01_k».proof.Proof.Dq.Fetch
public import proofs.«01_k».proof.Proof.Dq.Operands

@[expose] public section

set_option maxRecDepth 16384

noncomputable section

open Idealize.ShloMosaic Idealize.ShloMosaic.TcCoe Idealize.ShloMosaic.Tactic

namespace Cert.Dq

open Cert.KernelIdeal Cert.KernelIdeal.Gen Cert.KernelIdeal.Value

/-- The same entry, its column written another way. -/
theorem at_col {φ : FTy} {n k : ℕ} (y : FVec Ideal ⟨2, ![n, k]⟩ φ) (t : Fin n) (a b : Fin k) (h : a.val = b.val) : y (ix2 t a) = y (ix2 t b) := by
  rw [Fin.ext h]

/-- The row of the arrays that row `r` of a grid point's blocks is. -/
abbrev rowAt (t : Fin cfg0.N) (r : Fin 256) : Fin 4096 := ⟨256 * (grid0.coords t 1).val + r.val, by have := block_lt t; omega⟩

/-- The pair of heads of a grid point. -/
abbrev pairAt (t : Fin cfg0.N) : Fin 4 := ⟨(grid0.coords t 0).val, pair_lt t⟩

section
variable {m : (ℓ : Loc nD τ sig) → Buf (Elt Ideal) ℓ} {c : Dev nD} {Q K V G : Fin 8 → Rows ℝ} {C : Fin 8 → Fin 4096 → ℝ}
  (A : Args m c Q K V G C)
include A

theorem point (t : Fin cfg0.N) (r : Fin 256) :
    Point (iblk m c 0 t) (iblk m c 1 t) (iblk m c 2 t) (iblk m c 3 t) (iblk m c 4 t) (iblk m c 5 t) r (rowAt t r)
      (fun h => Q (hd (pairAt t) h)) (fun h => K (hd (pairAt t) h)) (fun h => V (hd (pairAt t) h)) (fun h => G (hd (pairAt t) h))
      (fun h => C (hd (pairAt t) h)) where
  q h j := by
    have := pair_lt t; have := h.isLt; have := j.isLt
    rw [block0 m c t r _ (rowAt t r).isLt (by show _ + (128 * h.val + j.val) < 1024; omega)]
    exact (at_col _ _ _ ⟨256 * (pairAt t).val + 128 * h.val + j.val, by show 256 * (grid0.coords t 0).val + _ + _ < 1024; omega⟩ (Nat.add_assoc _ _ _).symm).trans (qa_coe A _ _ h j _)
  e h x := by
    have := pair_lt t; have := h.isLt; have := x.isLt
    rw [block1 m c t r _ (rowAt t r).isLt (by show _ + (64 * h.val + x.val) < 512; omega)]
    exact (at_col _ _ _ ⟨64 * (hd (pairAt t) h).val + x.val, by show 64 * ((grid0.coords t 0).val * 2 + h.val) + _ < 512; omega⟩ (by show 128 * (grid0.coords t 0).val + (64 * h.val + x.val) = 64 * ((grid0.coords t 0).val * 2 + h.val) + x.val; omega)).trans (lse_coe' A _ _ x _)
  o h x := by
    have := pair_lt t; have := h.isLt; have := x.isLt
    rw [block2 m c t r _ (rowAt t r).isLt (by show _ + (64 * h.val + x.val) < 512; omega)]
    exact (at_col _ _ _ ⟨64 * (hd (pairAt t) h).val + x.val, by show 64 * ((grid0.coords t 0).val * 2 + h.val) + _ < 512; omega⟩ (by show 128 * (grid0.coords t 0).val + (64 * h.val + x.val) = 64 * ((grid0.coords t 0).val * 2 + h.val) + x.val; omega)).trans (o_coe A _ _ x _)
  g h x := by
    have := pair_lt t; have := h.isLt; have := x.isLt
    rw [block3 m c t r _ (rowAt t r).isLt (by show _ + (64 * h.val + x.val) < 1024; omega)]
    exact (at_col _ _ _ ⟨512 + ((hd (pairAt t) h).val * 64 + x.val), by show 512 + (((grid0.coords t 0).val * 2 + h.val) * 64 + _) < 1024; omega⟩ (by show 512 + 128 * (grid0.coords t 0).val + (64 * h.val + x.val) = 512 + (((grid0.coords t 0).val * 2 + h.val) * 64 + x.val); omega)).trans (dcat_coe A _ _ x _)
  k h s j := by
    have := pair_lt t; have := h.isLt; have := j.isLt
    rw [block4 m c t s _ (by show _ + (128 * h.val + j.val) < 1024; omega)]
    exact (at_col _ _ _ ⟨256 * (pairAt t).val + 128 * h.val + j.val, by show 256 * (grid0.coords t 0).val + _ + _ < 1024; omega⟩ (Nat.add_assoc _ _ _).symm).trans (ka_coe A _ _ h j _)
  v h s j := by
    have := pair_lt t; have := h.isLt; have := j.isLt
    rw [block5 m c t s _ (by show _ + (128 * h.val + j.val) < 1024; omega)]
    exact (at_col _ _ _ ⟨256 * (pairAt t).val + 128 * h.val + j.val, by show 256 * (grid0.coords t 0).val + _ + _ < 1024; omega⟩ (Nat.add_assoc _ _ _).symm).trans (va_coe A _ _ h j _)
end

section
variable (c : Dev nD) (i : grid0.Coords) (arg2 : Memref sig .tc .vmem S256x256 .bf16) (h2 : arg2.IsWhole)
  (arg3 : Memref sig .tc .vmem S256x128 .f32) (h3 : arg3.IsWhole)
  (arg4 : Memref sig .tc .vmem S256x128 .f32) (h4 : arg4.IsWhole)
  (arg5 : Memref sig .tc .vmem S256x128 .f32) (h5 : arg5.IsWhole)
  (arg6 : Memref sig .tc .vmem S4096x256 .bf16) (h6 : arg6.IsWhole)
  (arg7 : Memref sig .tc .vmem S4096x256 .bf16) (h7 : arg7.IsWhole)
  (arg8 : Memref sig .tc .vmem S256x128 .bf16) (h8 : arg8.IsWhole)
  (arg9 : Memref sig .tc .vmem S256x128 .f32) (h9 : arg9.IsWhole)
  (arg10 : Memref sig .tc .vmem S256x256 .bf16) (h10 : arg10.IsWhole)
  (arg11 : Memref sig .tc .vmem S256x256 .bf16) (h11 : arg11.IsWhole)
  (x0 : FVec Ideal S256x256 .bf16) (x1 : FVec Ideal S256x128 .f32) (x2 : FVec Ideal S256x128 .f32) (x3 : FVec Ideal S256x128 .f32) (x4 : FVec Ideal S4096x256 .bf16) (x5 : FVec Ideal S4096x256 .bf16)
  (r : Fin 256) {T : Fin 4096} {Q K V G : Fin 2 → Rows ℝ} {C : Fin 2 → Fin 4096 → ℝ} (P : Point x0 x1 x2 x3 x4 x5 r T Q K V G C)
  (hT : T.val = 256 * (i 1).val + r.val)
include P hT

theorem out6_coe (h : Fin 2) (x : Fin 64) (hx : 64 * h.val + x.val < 128) :
    out0_A_6 (F := Ideal) c i arg2 h2 arg3 h3 arg4 h4 arg5 h5 arg6 h6 arg7 h7 arg8 h8 arg9 h9 arg10 h10 arg11 h11 x0 x1 x2 x3 x4 x5 (ix2 r ⟨64 * h.val + x.val, hx⟩)
      = ((dq (Q h) (K h) (V h) (G h) (C h) T x : ℝ) : EReal) := by
  rw [out6_apply, ← hT, eighth, total0_coe P, total1_coe P]
  have hm : (⟨(64 * h.val + x.val) % 64, Nat.mod_lt _ (by decide)⟩ : Fin 64) = x := Fin.ext (show (64 * h.val + x.val) % 64 = x.val by omega)
  match h with
  | ⟨0, _⟩ =>
    rw [if_pos (show 64 * 0 + x.val < 64 by omega), ← EReal.coe_mul]
    refine congrArg Real.toEReal (congrArg (· * (1 / 8 : ℝ)) (Finset.sum_congr rfl fun s _ => congrArg₂ (· * ·) rfl ?_))
    unfold lanes
    exact (if_pos (show (64 * 0 + x.val) / 64 = 0 by omega)).trans (congrArg _ hm)
  | ⟨1, _⟩ =>
    rw [if_neg (show ¬ 64 * 1 + x.val < 64 by omega), ← EReal.coe_mul]
    refine congrArg Real.toEReal (congrArg (· * (1 / 8 : ℝ)) (Finset.sum_congr rfl fun s _ => congrArg₂ (· * ·) rfl ?_))
    unfold lanes
    exact (if_pos (show (64 * 1 + x.val) / 64 = 1 by omega)).trans (congrArg _ hm)

theorem out7_coe (h : Fin 2) (x : Fin 64) (hx : 64 * h.val + x.val < 128) :
    out0_A_7 (F := Ideal) c i arg2 h2 arg3 h3 arg4 h4 arg5 h5 arg6 h6 arg7 h7 arg8 h8 arg9 h9 arg10 h10 arg11 h11 x0 x1 x2 x3 x4 x5 (ix2 r ⟨64 * h.val + x.val, hx⟩)
      = ((dsum (Q h) (K h) (V h) (G h) (C h) T : ℝ) : EReal) := by
  rw [out7_apply, ← hT, total0_coe P, total1_coe P]
  match h with
  | ⟨0, _⟩ =>
    rw [if_pos (show 64 * 0 + x.val < 64 by omega)]
    refine congrArg Real.toEReal (Finset.sum_congr rfl fun s _ => ?_)
    rw [show lanes 0 (K 0 s) (spareK (C 0 s)) 64 = 1 by simp [lanes, spareK], mul_one]
    rfl
  | ⟨1, _⟩ =>
    rw [if_neg (show ¬ 64 * 1 + x.val < 64 by omega)]
    refine congrArg Real.toEReal (Finset.sum_congr rfl fun s _ => ?_)
    rw [show lanes 1 (K 1 s) (spareK (C 1 s)) 0 = 1 by simp [lanes, spareK], mul_one]
    rfl
end

section
variable (m : (ℓ : Loc nD τ sig) → Buf (Elt Ideal) ℓ) (c : Dev nD)

theorem read6 (t : Fin cfg0.N) (y : FVec Ideal S4096x512 .bf16) (r : Fin 256) (j : Fin 128) (hj : 128 * (grid0.coords t 0).val + j.val < 512) :
    (((cfg0.win 6).blk t).view.read (Elt Ideal) y : FVec Ideal S256x128 .bf16) (ix2 r j) = y (ix2 (rowAt t r) ⟨128 * (grid0.coords t 0).val + j.val, hj⟩) := by
  rw [View.read_apply]
  show y _ = y _
  have hi := index6 t
  refine congrArg y (funext fun a => Fin.ext ?_)
  match a with
  | ⟨0, _⟩ => show win0_6.index t 0 * 256 + 1 * r.val = 256 * (grid0.coords t 1).val + r.val; rw [hi.1]; omega
  | ⟨1, _⟩ => show win0_6.index t 1 * 128 + 1 * j.val = 128 * (grid0.coords t 0).val + j.val; rw [hi.2]; omega

theorem read7 (t : Fin cfg0.N) (y : FVec Ideal S4096x512 .f32) (r : Fin 256) (j : Fin 128) (hj : 128 * (grid0.coords t 0).val + j.val < 512) :
    (((cfg0.win 7).blk t).view.read (Elt Ideal) y : FVec Ideal S256x128 .f32) (ix2 r j) = y (ix2 (rowAt t r) ⟨128 * (grid0.coords t 0).val + j.val, hj⟩) := by
  rw [View.read_apply]
  show y _ = y _
  have hi := index7 t
  refine congrArg y (funext fun a => Fin.ext ?_)
  match a with
  | ⟨0, _⟩ => show win0_7.index t 0 * 256 + 1 * r.val = 256 * (grid0.coords t 1).val + r.val; rw [hi.1]; omega
  | ⟨1, _⟩ => show win0_7.index t 1 * 128 + 1 * j.val = 128 * (grid0.coords t 0).val + j.val; rw [hi.2]; omega

theorem exists_point : ∀ (p : Fin 4) (b : Fin 16), ∃ t : Fin cfg0.N, (grid0.coords t 0).val = p.val ∧ (grid0.coords t 1).val = b.val :=
  (by decide +kernel : ∀ (p : Fin 4) (b : Fin 16), ∃ t : Fin grid0.N, (grid0.coords t 0).val = p.val ∧ (grid0.coords t 1).val = b.val)

/-- Every entry of the arrays is some grid point's. -/
theorem exists_entry (s : Fin 4096) (H : Fin 8) : ∃ (t : Fin cfg0.N) (r : Fin 256) (h : Fin 2), rowAt t r = s ∧ hd (pairAt t) h = H := by
  obtain ⟨t, h0, h1⟩ := exists_point ⟨H.val / 2, by omega⟩ ⟨s.val / 256, by omega⟩
  refine ⟨t, ⟨s.val % 256, Nat.mod_lt _ (by decide)⟩, ⟨H.val % 2, Nat.mod_lt _ (by decide)⟩, Fin.ext ?_, Fin.ext ?_⟩
  · show 256 * (grid0.coords t 1).val + s.val % 256 = s.val
    rw [h1]; show 256 * (s.val / 256) + s.val % 256 = s.val; omega
  · show (grid0.coords t 0).val * 2 + H.val % 2 = H.val
    rw [h0]; show H.val / 2 * 2 + H.val % 2 = H.val; omega

variable {m c} {Q K V G : Fin 8 → Rows ℝ} {C : Fin 8 → Fin 4096 → ℝ} (A : Args m c Q K V G C)
include A

/-- The kernel's first result: the gradients of the queries. -/
theorem arr6_coe (s : Fin 4096) (H : Fin 8) (x : Fin 64) :
    ((dats m 0 c).arrAt 6 cfg0.N : FVec Ideal S4096x512 .bf16) (ix2 s (col H x)) = ((dq (Q H) (K H) (V H) (G H) (C H) s x : ℝ) : EReal) := by
  obtain ⟨t, r, h, rfl, rfl⟩ := exists_entry s H
  have hb := congrFun ((blocks6 m c t (flush0_6 t)).trans (flushed6_A m c t))
  have hp := pair_lt t
  have h1 := read6 t ((dats m 0 c).arrAt 6 cfg0.N) r ⟨64 * h.val + x.val, by omega⟩ (by show _ + (64 * h.val + x.val) < 512; omega)
  refine (at_col (φ := .bf16) _ _ _ _ ?_).trans (h1.symm.trans ((hb (ix2 r ⟨64 * h.val + x.val, by omega⟩)).trans ?_))
  · show ((grid0.coords t 0).val * 2 + h.val) * 64 + x.val = 128 * (grid0.coords t 0).val + (64 * h.val + x.val); omega
  · exact out6_coe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) r (point A t r) rfl h x _

/-- The kernel's second result: the row sums of the logits' gradients, in every lane of the head. -/
theorem arr7_coe (s : Fin 4096) (H : Fin 8) (x : Fin 64) :
    ((dats m 0 c).arrAt 7 cfg0.N : FVec Ideal S4096x512 .f32) (ix2 s (col H x)) = ((dsum (Q H) (K H) (V H) (G H) (C H) s : ℝ) : EReal) := by
  obtain ⟨t, r, h, rfl, rfl⟩ := exists_entry s H
  have hb := congrFun ((blocks7 m c t (flush0_7 t)).trans (flushed7_A m c t))
  have hp := pair_lt t
  have h1 := read7 t ((dats m 0 c).arrAt 7 cfg0.N) r ⟨64 * h.val + x.val, by omega⟩ (by show _ + (64 * h.val + x.val) < 512; omega)
  refine (at_col (φ := .f32) _ _ _ _ ?_).trans (h1.symm.trans ((hb (ix2 r ⟨64 * h.val + x.val, by omega⟩)).trans ?_))
  · show ((grid0.coords t 0).val * 2 + h.val) * 64 + x.val = 128 * (grid0.coords t 0).val + (64 * h.val + x.val); omega
  · exact out7_coe c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) r (point A t r) rfl h x _
end

end Cert.Dq
-- ==== Proof.Dq.Ref.lean ====
/- The reference's two results at an index, over the reals. -/
module

public import proofs.«01_k».proof.Proof.Gen.ReferenceIdeal.Read
public import proofs.«01_k».proof.Proof.Dq.Soft

@[expose] public section

set_option maxRecDepth 16384

noncomputable section

open Idealize.ShloMosaic Idealize.ShloMosaic.TcCoe Idealize.ShloMosaic.Tactic

namespace Cert.Dq.Ref

open Cert.ReferenceIdeal Cert.ReferenceIdeal.Read

variable (x0 x1 x2 : FVec Ideal S4096x512 .bf16) (x3 : FVec Ideal S4096x8 .f32) (x4 : FVec Ideal S4096x1024 .f32)

theorem logit_apply (h : Fin 8) (t s : Fin 4096) :
    (val_main_v24_0 (F := Ideal) x0 x1 x3 : FVec Ideal S8x4096x4096 .f32) (ix3 h t s) = eLogit (head x0 h) (head x1 h) (sums x3 h) t s := by
  pointwise [val_main_v24_0, val_main_v24_1, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v3, val_main_v2, val_main_v1, val_main_v0, val_main_cst, val_main_cst_0, val_main_call0_v0, val_main_call0_v2, id]
  rfl

theorem max_apply (h : Fin 8) (t : Fin 4096) :
    (val_main_v25 (F := Ideal) x0 x1 x3 : FVec Ideal S8x4096 .f32) (ix2 h t) = eMax (head x0 h) (head x1 h) (sums x3 h) t := by
  have hl := logit_apply x0 x1 x3 h t
  unfold val_main_v25
  generalize (val_main_v24_0 (F := Ideal) x0 x1 x3 : FVec Ideal S8x4096x4096 .f32) = y at hl ⊢
  pointwise [val_main_cst_1]
  rw [eMax]
  exact Finset.fold_congr fun s _ => hl s

theorem max_apply' (h : Fin 8) (t : Fin 4096) :
    (val_main_v32 (F := Ideal) x0 x1 x3 : FVec Ideal S8x4096 .f32) (ix2 h t) = eMax (head x0 h) (head x1 h) (sums x3 h) t := by
  rw [val_main_v32_apply, max_apply, val_main_v31_apply, val_main_cst_3_apply]
  generalize eMax (head x0 h) (head x1 h) (sums x3 h) t = e
  show max (Ideal.ofBits .f32 0xFF800000#32) e = e
  rw [minusInf, max_bot_left]

theorem weight_apply (h : Fin 8) (t s : Fin 4096) :
    (val_main_v45 (F := Ideal) x0 x1 x3 : FVec Ideal S8x4096x4096 .f32) (ix3 h t s) = eWeight (head x0 h) (head x1 h) (sums x3 h) t s := by
  have hl := logit_apply x0 x1 x3 h t
  have hm := max_apply' x0 x1 x3 h t
  unfold val_main_v45 val_main_v44 val_main_v43 val_main_v42
  generalize (val_main_v24_0 (F := Ideal) x0 x1 x3 : FVec Ideal S8x4096x4096 .f32) = y at hl ⊢
  generalize (val_main_v32 (F := Ideal) x0 x1 x3 : FVec Ideal S8x4096 .f32) = z at hm ⊢
  pointwise []
  rw [hl, hm]; rfl

theorem sum_apply (h : Fin 8) (t : Fin 4096) :
    (val_main_v46 (F := Ideal) x0 x1 x3 : FVec Ideal S8x4096 .f32) (ix2 h t) = ∑ s, eWeight (head x0 h) (head x1 h) (sums x3 h) t s := by
  have hl := weight_apply x0 x1 x3 h t
  unfold val_main_v46
  generalize (val_main_v45 (F := Ideal) x0 x1 x3 : FVec Ideal S8x4096x4096 .f32) = y at hl ⊢
  pointwise [val_main_cst_9]
  exact Finset.sum_congr rfl fun s _ => hl s

theorem gprob_apply (h : Fin 8) (t s : Fin 4096) :
    (val_main_v58 (F := Ideal) x2 x4 : FVec Ideal S8x4096x4096 .f32) (ix3 h t s) = ∑ x, grads x4 h t x * head x2 h s x := by
  pointwise [val_main_v58, val_main_v57, val_main_v56, val_main_v55, val_main_v5, val_main_v4]
  rfl

theorem slope_apply (h : Fin 8) (t s : Fin 4096) :
    (val_main_v73 (F := Ideal) x0 x1 x2 x3 x4 : FVec Ideal S8x4096x4096 .f32) (ix3 h t s) =
      Scalar.select (IntOp.cmpi CmpIPredicate.sle (BitVec.ofNat 32 s.val) (BitVec.ofNat 32 t.val))
      ((Ideal.div (∑ x, grads x4 h t x * head x2 h s x) (∑ s, eWeight (head x0 h) (head x1 h) (sums x3 h) t s)
        + -∑ r, (∑ x, grads x4 h t x * head x2 h r x) * Ideal.div 1 ((∑ s, eWeight (head x0 h) (head x1 h) (sums x3 h) t s) * ∑ s, eWeight (head x0 h) (head x1 h) (sums x3 h) t s)
          * eWeight (head x0 h) (head x1 h) (sums x3 h) t r)
        * eWeight (head x0 h) (head x1 h) (sums x3 h) t s) 0 := by
  have hw := weight_apply x0 x1 x3 h t
  have hz := sum_apply x0 x1 x3 h t
  have hg := gprob_apply x2 x4 h t
  unfold val_main_v73 val_main_v72 val_main_v71 val_main_v70 val_main_v69 val_main_v68 val_main_v67 val_main_v66 val_main_v65 val_main_v64
    val_main_v63 val_main_v62 val_main_v61 val_main_v52 val_main_v50 val_main_v47
  generalize (val_main_v45 (F := Ideal) x0 x1 x3 : FVec Ideal S8x4096x4096 .f32) = y at hw ⊢
  generalize (val_main_v46 (F := Ideal) x0 x1 x3 : FVec Ideal S8x4096 .f32) = z at hz ⊢
  generalize (val_main_v58 (F := Ideal) x2 x4 : FVec Ideal S8x4096x4096 .f32) = g at hg ⊢
  pointwise [val_main_v51, val_main_cst_10, val_main_cst_11, val_main_cst_12, val_main_call1_v0, val_main_call1_cst, val_main_v24_1, val_main_v23, val_main_v22, val_main_v21, val_main_v20, val_main_v19, val_main_v18, val_main_v17]
  simp only [hw, hz, hg, Fin.sum_univ_one]

theorem dq_apply (t : Fin 4096) (h : Fin 8) (x : Fin 64) :
    (val_main_v92 (F := Ideal) x0 x1 x2 x3 x4 : FVec Ideal S4096x512 .bf16) (ix2 t (col h x))
      = ∑ s, (val_main_v73 (F := Ideal) x0 x1 x2 x3 x4 : FVec Ideal S8x4096x4096 .f32) (ix3 h t s)
          * Ideal.ofBits .f32 0x3E000000#32 * head x1 h s x := by
  unfold val_main_v92 val_main_v91 val_main_v88 val_main_v87 val_main_v84
  generalize (val_main_v73 (F := Ideal) x0 x1 x2 x3 x4 : FVec Ideal S8x4096x4096 .f32) = y
  pointwise [val_main_v83, val_main_cst_17, val_main_v3, val_main_v2]
  have h1 : (⟨(h.val * 64 + x.val) / 64, by omega⟩ : Fin 8) = h := Fin.ext (by show (h.val * 64 + x.val) / 64 = h.val; omega)
  have h2 : (⟨(h.val * 64 + x.val) / 64 * 64 + (h.val * 64 + x.val) % 64, by omega⟩ : Fin 512) = col h x := Fin.ext (by
    show (h.val * 64 + x.val) / 64 * 64 + (h.val * 64 + x.val) % 64 = h.val * 64 + x.val; omega)
  exact Finset.sum_congr rfl fun s _ => congrArg₂ (fun a b => y (ix3 a t s) * Ideal.ofBits .f32 0x3E000000#32 * x1 (ix2 s b)) h1 h2

theorem dsum_apply (t : Fin 4096) (h : Fin 8) (x : Fin 64) :
    (val_main_v93 (F := Ideal) x0 x1 x2 x3 x4 : FVec Ideal S4096x512 .f32) (ix2 t (col h x))
      = ∑ s, (val_main_v73 (F := Ideal) x0 x1 x2 x3 x4 : FVec Ideal S8x4096x4096 .f32) (ix3 h t s) := by
  unfold val_main_v93 val_main_v90 val_main_v89 val_main_v82 val_main_v81 val_main_v80 val_main_v79
  generalize (val_main_v73 (F := Ideal) x0 x1 x2 x3 x4 : FVec Ideal S8x4096x4096 .f32) = y
  pointwise [val_main_cst_15, val_main_cst_16]
  have h1 : (⟨(h.val * 64 + x.val) / 64, by omega⟩ : Fin 8) = h := Fin.ext (by show (h.val * 64 + x.val) / 64 = h.val; omega)
  rw [Fin.sum_univ_one]
  exact Finset.sum_congr rfl fun s _ => congrArg (fun a => y (ix3 a t s)) h1

section
variable {x0 x1 x2 x3 x4} {Q K V G : Fin 8 → Rows ℝ} {C : Fin 8 → Fin 4096 → ℝ}
  (hQ : ∀ h t x, head x0 h t x = (Q h t x : EReal)) (hK : ∀ h t x, head x1 h t x = (K h t x : EReal)) (hV : ∀ h t x, head x2 h t x = (V h t x : EReal))
  (hC : ∀ h t, sums x3 h t = (C h t : EReal)) (hG : ∀ h t x, grads x4 h t x = (G h t x : EReal))
include hQ hK hV hC hG

/-- The reference's first result is the gradient of the queries. -/
theorem dq_coe (t : Fin 4096) (h : Fin 8) (x : Fin 64) :
    (val_main_v92 (F := Ideal) x0 x1 x2 x3 x4 : FVec Ideal S4096x512 .bf16) (ix2 t (col h x))
      = ((dq (Q h) (K h) (V h) (G h) (C h) t x : ℝ) : EReal) := by
  rw [dq_apply, dq, Finset.sum_mul, coe_sum]
  refine Finset.sum_congr rfl fun s _ => ?_
  rw [slope_apply, slope_coe (hQ h) (hK h) (hC h) (hV h) (hG h), eighth, hK, ← EReal.coe_mul, ← EReal.coe_mul]
  congr 1; ring

/-- The reference's second result is the gradient of the running sums where they are added. -/
theorem dsum_coe (t : Fin 4096) (h : Fin 8) (x : Fin 64) :
    (val_main_v93 (F := Ideal) x0 x1 x2 x3 x4 : FVec Ideal S4096x512 .f32) (ix2 t (col h x))
      = ((dsum (Q h) (K h) (V h) (G h) (C h) t : ℝ) : EReal) := by
  rw [dsum_apply, dsum, coe_sum]
  exact Finset.sum_congr rfl fun s _ => by rw [slope_apply, slope_coe (hQ h) (hK h) (hC h) (hV h) (hG h)]
end

end Cert.Dq.Ref
-- ==== Proof.Dq.Finite.lean ====
/- What the precondition gives: every argument holds real numbers. -/
module

public import proofs.«01_k».proof.Pre_finite
public import Idealize.ShloMosaic.Lib.Pointwise
public import Idealize.ShloMosaic.Lib.ReduceAll

@[expose] public section

set_option maxRecDepth 16384

noncomputable section

open Idealize.ShloMosaic

namespace Cert.Dq.Finite

open Cert.Pre_finite

/-- A magnitude below infinity is a real number's. -/
theorem real_of_lt (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x with
  | coe a => exact ⟨a, rfl⟩
  | bot => exfalso; revert h; simp [Ideal.cmp]
  | top => exfalso; revert h; simp [Ideal.cmp]

instance : Subsingleton S_.Idx := ⟨fun a b => funext fun i => i.elim0⟩

variable [Facts]

/-- The array `x` passes the test when all its magnitudes are below infinity. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ a : ℝ, x i = (a : EReal) :=
  real_of_lt _ (Host.reduce_andi_all _ _ _ _ j h i)

theorem args_real (x0 x1 x2 : FVec Ideal S4096x512 .bf16) (x3 : FVec Ideal S4096x8 .f32) (x4 : FVec Ideal S4096x1024 .f32)
    (h : fn (F := Ideal) x0 x1 x2 x3 x4 = fun _ => 1#1) :
    (∀ i, ∃ a : ℝ, x0 i = (a : EReal)) ∧ (∀ i, ∃ a : ℝ, x1 i = (a : EReal)) ∧ (∀ i, ∃ a : ℝ, x2 i = (a : EReal))
      ∧ (∀ i, ∃ a : ℝ, x3 i = (a : EReal)) ∧ ∀ i, ∃ a : ℝ, x4 i = (a : EReal) := by
  have h0 := congrFun h (Shape.Idx.first Facts.h_S_)
  unfold fn fn_part1 at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨all_real (extf .f32 x0 Facts.bitsLt_bf16_f32) Facts.bcast_S_S4096x512 Facts.reducesTo_S4096x512_S_d0_1 Facts.h_S_ _ h0, all_real (extf .f32 x1 Facts.bitsLt_bf16_f32) Facts.bcast_S_S4096x512 Facts.reducesTo_S4096x512_S_d0_1 Facts.h_S_ _ h1,
    all_real (extf .f32 x2 Facts.bitsLt_bf16_f32) Facts.bcast_S_S4096x512 Facts.reducesTo_S4096x512_S_d0_1 Facts.h_S_ _ h2, all_real x3 Facts.bcast_S_S4096x8 Facts.reducesTo_S4096x8_S_d0_1 Facts.h_S_ _ h3,
    all_real x4 Facts.bcast_S_S4096x1024 Facts.reducesTo_S4096x1024_S_d0_1 Facts.h_S_ _ h4⟩

end Cert.Dq.Finite
-- ==== Proof.Dq.Arrays.lean ====
/- Kernel and reference leave the same arrays. -/
module

public import proofs.«01_k».proof.Defs
public import proofs.«01_k».proof.Proof.Dq.Result
public import proofs.«01_k».proof.Proof.Dq.Ref
public import proofs.«01_k».proof.Proof.Dq.Finite

@[expose] public section

set_option maxRecDepth 16384

noncomputable section

open Idealize.ShloMosaic Idealize.ShloMosaic.TcCoe Idealize.ShloMosaic.Tactic

namespace Cert.Dq

open Cert.KernelIdeal Cert.KernelIdeal.Gen Cert.ReferenceIdeal.Read

/-- Two arrays of eight heads side by side that agree head by head. -/
theorem ext_heads {φ : FTy} (x y : FVec Ideal ⟨2, ![4096, 512]⟩ φ) (h : ∀ (t : Fin 4096) (h : Fin 8) (l : Fin 64), x (ix2 t (col h l)) = y (ix2 t (col h l))) :
    x = y := by
  funext i
  obtain ⟨t, j, rfl⟩ : ∃ t j, i = ix2 t j := ⟨i 0, i 1, by funext a; match a with | ⟨0, _⟩ => rfl | ⟨1, _⟩ => rfl⟩
  have e : j = col ⟨j.val / 64, by omega⟩ ⟨j.val % 64, Nat.mod_lt _ (by decide)⟩ := Fin.ext (show j.val = j.val / 64 * 64 + j.val % 64 by omega)
  rw [e]
  exact h t _ _

variable [Cert.Pre_finite.Facts] (m : (ℓ : Loc nD τ sig) → Buf (Elt Ideal) ℓ) (c : Dev nD)

/-- Arguments that pass the precondition are real arrays. -/
theorem exists_args
    (h : Cert.Pre_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) :
    ∃ Q K V G C, Args m c Q K V G C := by
  obtain ⟨h0, h1, h2, h3, h4⟩ := Finite.args_real _ _ _ _ _ h
  choose f0 e0 using h0
  choose f1 e1 using h1
  choose f2 e2 using h2
  choose f3 e3 using h3
  choose f4 e4 using h4
  exact ⟨fun h t x => f0 (ix2 t (col h x)), fun h t x => f1 (ix2 t (col h x)), fun h t x => f2 (ix2 t (col h x)),
    fun h t x => f4 (ix2 t ⟨512 + (h.val * 64 + x.val), by omega⟩), fun h t => f3 (ix2 t h),
    ⟨fun _ _ _ => e0 _, fun _ _ _ => e1 _, fun _ _ _ => e2 _, fun _ _ => e3 _, fun _ _ _ => e4 _⟩⟩

variable {m c} {Q K V G : Fin 8 → Rows ℝ} {C : Fin 8 → Fin 4096 → ℝ} (A : Args m c Q K V G C)
include A

theorem queries_eq : (val_main_v92 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) : FVec Ideal S4096x512 .bf16) = (dats m 0 c).arrAt 6 cfg0.N :=
  ext_heads (φ := .bf16) _ _ fun t h x => (Ref.dq_coe A.q A.k A.v A.cs A.g t h x).trans (arr6_coe A t h x).symm

theorem sums_eq : (val_main_v93 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) : FVec Ideal S4096x512 .f32) = (dats m 0 c).arrAt 7 cfg0.N :=
  ext_heads (φ := .f32) _ _ fun t h x => (Ref.dsum_coe A.q A.k A.v A.cs A.g t h x).trans (arr7_coe A t h x).symm

end Cert.Dq
-- ==== Proof.Mlp.Norm.lean ====
/- Row by row: the scale of a root-mean-square norm, and products of matrices by rows and columns. -/
module

public import Idealize.ShloMosaic.Lib.Pointwise

@[expose] public section

set_option maxRecDepth 16384

noncomputable section

open Idealize.ShloMosaic Idealize.ShloMosaic.TcCoe Idealize.ShloMosaic.Tactic

namespace Cert.Mlp

/-- The scale a row of 1024 entries is divided by: one over the root of the mean of the squares and a millionth. -/
def scale (x : Fin 1024 → EReal) : EReal :=
  Ideal.rsqrt (Ideal.div (∑ k, x k * x k) (Ideal.ofBits FTy.f32 1149239296#32) + Ideal.ofBits FTy.f32 897988541#32)

/-- An entry of the normalised row, times the gain. -/
def normed (x g : Fin 1024 → EReal) (l : Fin 1024) : EReal := x l * scale x * g l

/-- An entry of a product of two matrices, from the row and the column. -/
def dot {n : ℕ} (a b : Fin n → EReal) : EReal := ∑ k, a k * b k

/-- Two arrays that agree at every row and column. -/
theorem ext2 {φ : FTy} {n k : ℕ} (x y : FVec Ideal ⟨2, ![n, k]⟩ φ) (h : ∀ r l, x (ix2 r l) = y (ix2 r l)) : x = y := by
  funext i
  obtain ⟨t, j, rfl⟩ : ∃ t j, i = ix2 t j := ⟨i 0, i 1, by funext a; match a with | ⟨0, _⟩ => rfl | ⟨1, _⟩ => rfl⟩
  exact h t j

/-- Two arrays of three axes that agree at every index. -/
theorem ext3 {φ : FTy} {n k l : ℕ} (x y : FVec Ideal ⟨3, ![n, k, l]⟩ φ) (h : ∀ a b c, x (ix3 a b c) = y (ix3 a b c)) : x = y := by
  funext i
  obtain ⟨a, b, c, rfl⟩ : ∃ a b c, i = ix3 a b c := ⟨i 0, i 1, i 2, by funext a; match a with | ⟨0, _⟩ => rfl | ⟨1, _⟩ => rfl | ⟨2, _⟩ => rfl⟩
  exact h a b c

/-- The offsets of an access to a whole array of two axes. -/
theorem zeros2 : (![0, 0] : Fin 2 → Nat) = fun _ => 0 := by
  funext a; match a with | ⟨0, _⟩ => rfl | ⟨1, _⟩ => rfl

/-- The offsets of an access to a whole array of three axes. -/
theorem zeros3 : (![0, 0, 0] : Fin 3 → Nat) = fun _ => 0 := by
  funext a; match a with | ⟨0, _⟩ => rfl | ⟨1, _⟩ => rfl | ⟨2, _⟩ => rfl

/-- The row of the whole array that row `r` of the block at point `t` is. -/
abbrev rowAt (t : Fin 8) (r : Fin 512) : Fin 4096 := ⟨512 * t.val + r.val, by omega⟩

/-- Every row is some block's. -/
theorem exists_row (s : Fin 4096) : ∃ t r, rowAt t r = s :=
  ⟨⟨s.val / 512, by omega⟩, ⟨s.val % 512, Nat.mod_lt _ (by decide)⟩, Fin.ext (show 512 * (s.val / 512) + s.val % 512 = s.val by omega)⟩

/-- The sum over the rows, block by block. -/
theorem sum_rows (f : Fin 4096 → EReal) : ∑ t : Fin 8, ∑ r : Fin 512, f (rowAt t r) = ∑ s, f s := by
  rw [← Fintype.sum_prod_type']
  refine Fintype.sum_equiv (finProdFinEquiv (m := 8) (n := 512)) _ _ fun p => congrArg f (Fin.ext ?_)
  show 512 * p.1.val + p.2.val = p.2.val + 512 * p.1.val
  omega

/-- What eight points leave that add up the rows in turn. -/
theorem fold_rows (f : Fin 4096 → EReal) (o : (n : ℕ) → n < 8 → EReal) (h0 : o 0 (by decide) = ∑ r, f (rowAt 0 r))
    (hs : ∀ n (hn : n + 1 < 8), o (n + 1) hn = o n (by omega) + ∑ r, f (rowAt ⟨n + 1, hn⟩ r)) : o 7 (by decide) = ∑ s, f s := by
  have h : ∀ n (hn : n < 8), o n hn = ∑ i ∈ Finset.range (n + 1), if hi : i < 8 then ∑ r, f (rowAt ⟨i, hi⟩ r) else 0 := by
    intro n
    induction n with
    | zero => intro hn; rw [Finset.sum_range_one, dif_pos hn]; exact h0
    | succ n ih => intro hn; rw [Finset.sum_range_succ, dif_pos hn, ← ih (by omega)]; exact hs n hn
  rw [h, Finset.sum_range, ← sum_rows]
  exact Finset.sum_congr rfl fun t _ => dif_pos t.isLt

end Cert.Mlp

end
-- ==== Proof.Mlp.NormGrad.lean ====
/- The gradient of a root-mean-square norm: the kernels' formula and the derivative agree on real numbers. -/
module

public import proofs.«01_k».proof.Proof.Mlp.Norm
public import Idealize.ShloMosaic.Lib.IdealHost

@[expose] public section

set_option maxRecDepth 16384

noncomputable section

open Idealize.ShloMosaic Idealize.ShloMosaic.TcCoe Idealize.ShloMosaic.Tactic

namespace Cert.Mlp

/-- The mean of a row's squares and a millionth; `scale` is one over its root. -/
def spread (x : Fin 1024 → EReal) : EReal := Ideal.div (∑ k, x k * x k) (Ideal.ofBits FTy.f32 1149239296#32) + Ideal.ofBits FTy.f32 897988541#32

/-- The gradient through the norm as the kernels write it, from the row, the gain and the gradient of the norm's output. -/
def grad (x g h : Fin 1024 → EReal) (l : Fin 1024) : EReal :=
  scale x * (h l * g l) - x l * (scale x * scale x * scale x * Ideal.div (∑ k, h k * g k * x k) (Ideal.ofBits FTy.f32 1149239296#32))

/-- What the derivative sends back through the mean of the squares. -/
def back (x g h : Fin 1024 → EReal) : EReal :=
  Ideal.div ((∑ k, x k * (h k * g k)) * (Ideal.ofBits FTy.f32 3204448256#32 * Ideal.div (scale x) (spread x))) (Ideal.ofBits FTy.f32 1149239296#32)

/-- The gradient through the norm as the derivative writes it. -/
def vjp (x g h : Fin 1024 → EReal) (l : Fin 1024) : EReal := h l * g l * scale x + x l * back x g h + back x g h * x l

theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg ha.le.not_gt, if_neg ha.ne']

theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

theorem ofBits_1024 : Ideal.ofBits FTy.f32 1149239296#32 = ((1024 : ℝ) : EReal) := by
  simp [Ideal.ofBits, Ideal.ieee]
  norm_num [← EReal.coe_mul]

theorem ofBits_half : Ideal.ofBits FTy.f32 3204448256#32 = ((-(1 / 2) : ℝ) : EReal) := by
  simp [Ideal.ofBits, Ideal.ieee]
  norm_num [← EReal.coe_mul]

/-- The number added to the mean. -/
def eps : ℝ := 8796093 / 8796093022208

theorem ofBits_eps : Ideal.ofBits FTy.f32 897988541#32 = (eps : EReal) := by
  simp [Ideal.ofBits, Ideal.ieee, eps]
  norm_num [← EReal.coe_mul]

theorem eps_pos : 0 < eps := by unfold eps; norm_num

section
variable (x : Fin 1024 → ℝ)

/-- The mean of the squares and a millionth, as a real number. -/
def meanSq : ℝ := (∑ k, x k * x k) / 1024 + eps

theorem meanSq_pos : 0 < meanSq x := by
  have : 0 ≤ ∑ k, x k * x k := Finset.sum_nonneg fun k _ => mul_self_nonneg _
  have := eps_pos
  unfold meanSq
  positivity

theorem spread_coe : spread (fun k => (x k : EReal)) = (meanSq x : EReal) := by
  unfold spread meanSq
  simp only [ofBits_1024, ofBits_eps, ← EReal.coe_mul, coe_sum, div_coe _ (by norm_num : (1024 : ℝ) ≠ 0), ← EReal.coe_add]

theorem scale_coe : scale (fun k => (x k : EReal)) = (((Real.sqrt (meanSq x))⁻¹ : ℝ) : EReal) :=
  (congrArg Ideal.rsqrt (spread_coe x)).trans (rsqrt_coe (meanSq_pos x))

/-- The cube of the scale is the scale over the mean of the squares. -/
theorem cube : (Real.sqrt (meanSq x))⁻¹ * (Real.sqrt (meanSq x))⁻¹ * (Real.sqrt (meanSq x))⁻¹ = (Real.sqrt (meanSq x))⁻¹ / meanSq x := by
  rw [← mul_inv, Real.mul_self_sqrt (meanSq_pos x).le, div_eq_mul_inv, mul_comm]
end

/-- A quotient by a real number is a product. -/
theorem div_real (a : EReal) {b : ℝ} (hb : b ≠ 0) : Ideal.div a (b : EReal) = a * ((b⁻¹ : ℝ) : EReal) := by
  unfold Ideal.div
  rw [if_neg (by exact_mod_cast hb), ← EReal.coe_inv]

/-- A number and itself make its double, infinite or not. -/
theorem double (y : EReal) : y + y = ((2 : ℝ) : EReal) * y := by
  induction y with
  | coe a => rw [← EReal.coe_add, ← EReal.coe_mul, two_mul]
  | top => rw [EReal.coe_mul_top_of_pos two_pos, EReal.top_add_top]
  | bot => rw [EReal.coe_mul_bot_of_pos two_pos, EReal.bot_add]

/-- The two formulas for one entry, the inner product `C` and the entry `a` any numbers. -/
theorem entry_eq (a C : EReal) (r q x : ℝ) :
    (r : EReal) * a - (x : EReal) * ((q : EReal) * (C * ((1024⁻¹ : ℝ) : EReal)))
    = a * (r : EReal) + (x : EReal) * (C * (((-(1 / 2) : ℝ) : EReal) * (q : EReal)) * ((1024⁻¹ : ℝ) : EReal))
      + C * (((-(1 / 2) : ℝ) : EReal) * (q : EReal)) * ((1024⁻¹ : ℝ) : EReal) * (x : EReal) := by
  rw [add_assoc, mul_comm _ (x : EReal), double, sub_eq_add_neg, ← EReal.neg_mul, ← EReal.coe_neg, mul_comm a]
  refine congrArg ((r : EReal) * a + ·) ?_
  have e : ((-x : ℝ) : EReal) = ((2 : ℝ) : EReal) * (x : EReal) * ((-(1 / 2) : ℝ) : EReal) := by
    rw [← EReal.coe_mul, ← EReal.coe_mul]
    exact congrArg Real.toEReal (by ring)
  rw [e]
  ac_rfl

theorem sq_nonneg' (y : EReal) : 0 ≤ y * y := by
  induction y with
  | coe a => exact_mod_cast mul_self_nonneg a
  | top => rw [EReal.top_mul_top]; exact le_top
  | bot => rw [EReal.bot_mul_bot]; exact le_top

/-- Where a row holds an infinite entry, its scale is zero. -/
theorem spread_top (x : Fin 1024 → EReal) (h : ¬∀ k, ∃ a : ℝ, x k = (a : EReal)) : spread x = ⊤ := by
  obtain ⟨k, hk⟩ := not_forall.1 h
  have hs : x k * x k = ⊤ := by
    generalize x k = y at hk
    induction y with
    | coe a => exact absurd ⟨a, rfl⟩ hk
    | top => exact EReal.top_mul_top
    | bot => exact EReal.bot_mul_bot
  have ht : ∑ k, x k * x k = ⊤ := top_le_iff.1 (hs ▸ Finset.single_le_sum (f := fun k => x k * x k) (fun k _ => sq_nonneg' (x k)) (Finset.mem_univ k))
  unfold spread
  rw [ht, ofBits_1024, ofBits_eps, div_real _ (by norm_num), EReal.top_mul_coe_of_pos (by norm_num), EReal.top_add_coe]

theorem scale_top (x : Fin 1024 → EReal) (h : ¬∀ k, ∃ a : ℝ, x k = (a : EReal)) : scale x = 0 :=
  (congrArg Ideal.rsqrt (spread_top x h)).trans rfl

/-- The kernels' formula is the derivative, on any rows. -/
theorem grad_eq (x g h : Fin 1024 → EReal) (l : Fin 1024) : grad x g h l = vjp x g h l := by
  by_cases hx : ∀ k, ∃ a : ℝ, x k = (a : EReal)
  · have hc : ∑ k, x k * (h k * g k) = ∑ k, h k * g k * x k := Finset.sum_congr rfl fun k _ => mul_comm _ _
    unfold grad vjp back
    rw [hc]
    generalize ∑ k, h k * g k * x k = C
    choose x' hx using hx
    obtain rfl : x = fun k => (x' k : EReal) := funext hx
    rw [scale_coe, spread_coe, ofBits_1024, ofBits_half, div_real _ (by norm_num : (1024 : ℝ) ≠ 0), div_real _ (by norm_num : (1024 : ℝ) ≠ 0), div_coe _ (meanSq_pos x').ne',
      ← EReal.coe_mul, ← EReal.coe_mul, cube]
    exact entry_eq _ C _ _ (x' l)
  · have hz : Ideal.div (0 : EReal) ⊤ = 0 := by
      unfold Ideal.div
      rw [if_neg (by decide), zero_mul]
    unfold grad vjp back
    rw [scale_top x hx, spread_top x hx, hz, ofBits_1024, div_real _ (by norm_num : (1024 : ℝ) ≠ 0), div_real _ (by norm_num : (1024 : ℝ) ≠ 0)]
    simp only [mul_zero, zero_mul, sub_zero, add_zero]

end Cert.Mlp

end
-- ==== Proof.Mlp.DownBwd.lean ====
/- The gradient through the down-projection, its norm and the squared positive part: kernel and reference leave the same arrays. -/
module

public import proofs.«01_k».proof.Proof.Gen.Kernel2Ideal.Value
public import proofs.«01_k».proof.Proof.Gen.Reference2Ideal.Read
public import proofs.«01_k».proof.Proof.Mlp.NormGrad

@[expose] public section

set_option maxRecDepth 16384

noncomputable section

open Idealize.ShloMosaic Idealize.ShloMosaic.TcCoe Idealize.ShloMosaic.Tactic

namespace Cert.Mlp.DownBwd

/-- Twice the positive part. -/
def slope (y : EReal) : EReal := Ideal.ofBits .f32 0x40000000#32 * max y 0

/-- Where the argument is not positive, the slope is zero. -/
theorem ite_slope (a y : EReal) : (if 0 < y then a * slope y else 0) = a * slope y := by
  split
  · rfl
  · next h => rw [slope, max_eq_right (not_lt.1 h), mul_zero, mul_zero]

section
open Cert.Kernel2Ideal Cert.Kernel2Ideal.Gen Cert.Kernel2Ideal.Value

section
variable (y : FVec Ideal S512x1024 .f32) (g : FVec Ideal S1x1024 .f32) (d : FVec Ideal S512x1024 .f32)

theorem pay5_apply (r : Fin 512) (l : Fin 1024) : k0_pay5 (F := Ideal) y g d (ix2 r l)
    = grad (fun k => y (ix2 r k)) (fun k => g (ix2 0 k)) (fun k => d (ix2 r k)) l := by
  pointwise [k0_pay5, k0_pay4]
  rfl

theorem pay7_apply (z : FVec Ideal S1x1024 .f32) (l : Fin 1024) : k0_pay7 (F := Ideal) y d z (ix2 0 l)
    = z (ix2 0 l) + ∑ r : Fin 512, d (ix2 r l) * (y (ix2 r l) * scale (fun k => y (ix2 r k))) := by
  pointwise [k0_pay7, k0_pay4]
  rfl

theorem pay6_apply (l : Fin 1024) : k0_pay6 (F := Ideal) (ix2 0 l) = (0 : EReal) := by
  pointwise [k0_pay6]

theorem pay8_apply (h : FVec Ideal S512x1024 .bf16) (w : FVec Ideal S512x1024 .bf16) (p : FVec Ideal S512x512 .bf16) (r j : Fin 512) :
    k0_pay8 (F := Ideal) h w p (ix2 r j) = dot (fun k => h (ix2 r k)) (fun k => w (ix2 j k)) * slope (p (ix2 r j)) := by
  pointwise [k0_pay8]
  rfl

section
variable (h : FVec Ideal S512x1024 .bf16) (w : FVec Ideal S512x1024 .bf16) (p : FVec Ideal S512x512 .bf16)

/-- Every chunk is worked out alike. -/
theorem pay1_eq : k0_pay1 (F := Ideal) (k0_pay16 (F := Ideal) h w) (k0_pay17 (F := Ideal) p) (k0_pay18 (F := Ideal)) = k0_pay8 (F := Ideal) h w p := rfl
theorem pay2_eq : k0_pay2 (F := Ideal) h w p = k0_pay8 (F := Ideal) h w p := rfl
theorem pay3_eq : k0_pay3 (F := Ideal) h w p = k0_pay8 (F := Ideal) h w p := rfl
theorem pay9_eq : k0_pay9 (F := Ideal) h w p = k0_pay8 (F := Ideal) h w p := rfl
theorem pay13_eq : k0_pay13 (F := Ideal) (k0_pay10 (F := Ideal) h w) (k0_pay11 (F := Ideal) p) (k0_pay12 (F := Ideal)) = k0_pay8 (F := Ideal) h w p := rfl
theorem pay14_eq : k0_pay14 (F := Ideal) h w p = k0_pay8 (F := Ideal) h w p := rfl
theorem pay15_eq : k0_pay15 (F := Ideal) h w p = k0_pay8 (F := Ideal) h w p := rfl
end
end

/-- The product of the rows of `h` and the rows of `w`, times the slope. -/
def dprod (h : FVec Ideal S512x1024 .bf16) (w : FVec Ideal S4096x1024 .bf16) (p : FVec Ideal S512x4096 .bf16) : FVec Ideal S512x4096 .bf16 :=
  fun y => dot (fun k => h (ix2 (y 0) k)) (fun k => w (ix2 (y 1) k)) * slope (p y)

/-- One chunk of columns, where the whole array has it. -/
theorem chunk (o : Nat) (i1 : ∀ a, (![0, o] : Fin 2 → Nat) a + S512x512.size a ≤ S512x4096.size a) (i2 : ∀ a, (![o, 0] : Fin 2 → Nat) a + S512x1024.size a ≤ S4096x1024.size a)
    (h : FVec Ideal S512x1024 .bf16) (w : FVec Ideal S4096x1024 .bf16) (p : FVec Ideal S512x4096 .bf16) (x : S512x512.Idx) :
    k0_pay8 (F := Ideal) h (View.ld (Val := Elt Ideal) (e' := .bf16) w (Rect.unit (s := S4096x1024) ![o, 0] S512x1024.size i2))
      (View.ld (Val := Elt Ideal) (e' := .bf16) p (Rect.unit (s := S512x4096) ![0, o] S512x512.size i1)) x
    = dprod h w p ((Rect.unit (s := S512x4096) ![0, o] S512x512.size i1).idx x) := by
  obtain ⟨r, j, rfl⟩ : ∃ r j, x = ix2 r j := ⟨x 0, x 1, by funext a; match a with | ⟨0, _⟩ => rfl | ⟨1, _⟩ => rfl⟩
  refine (pay8_apply h _ _ r j).trans (congrArg₂ (· * ·) (congrArg₂ dot (funext fun k => congrArg h (funext fun a => Fin.ext ?_)) (funext fun k => congrArg w (funext fun a => Fin.ext ?_))) rfl)
  · match a with
    | ⟨0, _⟩ => show r.val = 0 + 1 * r.val; omega
    | ⟨1, _⟩ => rfl
  · match a with
    | ⟨0, _⟩ => rfl
    | ⟨1, _⟩ => show 0 + 1 * k.val = k.val; omega

section
variable (c : Dev nD) (i : grid0.Coords) (arg1 : Memref sig .tc .vmem S512x1024 .f32) (h1 : arg1.IsWhole) (arg2 : Memref sig .tc .vmem S512x1024 .f32) (h2 : arg2.IsWhole)
  (arg3 : Memref sig .tc .vmem S1x1024 .f32) (h3 : arg3.IsWhole) (arg4 : Memref sig .tc .vmem S4096x1024 .bf16) (h4 : arg4.IsWhole) (arg5 : Memref sig .tc .vmem S512x4096 .bf16) (h5 : arg5.IsWhole)
  (arg6 : Memref sig .tc .vmem S512x1024 .bf16) (h6 : arg6.IsWhole) (arg7 : Memref sig .tc .vmem S512x4096 .bf16) (h7 : arg7.IsWhole) (arg8 : Memref sig .tc .vmem S1x1024 .f32) (h8 : arg8.IsWhole)
  (x0 x1 : FVec Ideal S512x1024 .f32) (x2 : FVec Ideal S1x1024 .f32) (x3 : FVec Ideal S4096x1024 .bf16) (x4 : FVec Ideal S512x4096 .bf16) (y : FVec Ideal S1x1024 .f32)

theorem outA5 (hc : cond0_0 i) : out0_A_5 (F := Ideal) c i arg1 h1 arg2 h2 arg3 h3 arg4 h4 arg5 h5 arg6 h6 arg7 h7 arg8 h8 hc x0 x1 x2 x3 x4 = k0_pay5 (F := Ideal) x1 x2 x0 := by
  unfold out0_A_5
  rw [View.read_writes_eq_canon _ _ _ (cover0_A_5 (F := Ideal) c i arg1 h1 arg2 h2 arg3 h3 arg4 h4 arg5 h5 arg6 h6 arg7 h7 arg8 h8 hc x0 x1 x2 x3 x4)]
  unfold kernelRun0_A
  dsimp only
  rw [View.canon_unit_zero zeros2]
  simp only [View.readAt_eq_ld, h1.read_unread, h2.read_unread, h3.read_unread, h4.read_unread, h5.read_unread, h8.read_unread, View.ld_unit_zero (S := S512x1024) zeros2,
    View.ld_unit_zero (S := S1x1024) zeros2]

theorem outA6 (hc : cond0_0 i) : out0_A_6 (F := Ideal) c i arg1 h1 arg2 h2 arg3 h3 arg4 h4 arg5 h5 arg6 h6 arg7 h7 arg8 h8 hc x0 x1 x2 x3 x4 = dprod (k0_pay5 (F := Ideal) x1 x2 x0) x3 x4 := by
  unfold out0_A_6
  rw [View.read_writes_eq_canon _ _ _ (cover0_A_6 (F := Ideal) c i arg1 h1 arg2 h2 arg3 h3 arg4 h4 arg5 h5 arg6 h6 arg7 h7 arg8 h8 hc x0 x1 x2 x3 x4)]
  funext z
  refine View.canon_apply_of_pieces (dprod (k0_pay5 (F := Ideal) x1 x2 x0) x3 x4) _ ?_ z (cover0_A_6 (F := Ideal) c i arg1 h1 arg2 h2 arg3 h3 arg4 h4 arg5 h5 arg6 h6 arg7 h7 arg8 h8 hc x0 x1 x2 x3 x4 z)
  unfold kernelRun0_A
  dsimp only
  unfold kernelRun0_A.sl.r_5 kernelRun0_A.sl.r_4 kernelRun0_A.sl.r_3 kernelRun0_A.sl.r_2 kernelRun0_A.sl.r
  simp only [View.readAt_eq_ld, h1.read_unread, h2.read_unread, h3.read_unread, h4.read_unread, h5.read_unread, h8.read_unread, View.ld_unit_zero (S := S512x1024) zeros2,
    View.ld_unit_zero (S := S1x1024) zeros2]
  simp only [pay1_eq, pay2_eq, pay3_eq, pay9_eq, pay13_eq, pay14_eq, pay15_eq, List.forall_mem_cons, List.not_mem_nil, false_implies, implies_true, and_true]
  exact ⟨chunk _ _ _ _ _ _, chunk _ _ _ _ _ _, chunk _ _ _ _ _ _, chunk _ _ _ _ _ _, chunk _ _ _ _ _ _, chunk _ _ _ _ _ _, chunk _ _ _ _ _ _, chunk _ _ _ _ _ _⟩

theorem outA7 (hc : cond0_0 i) : out0_A_7 (F := Ideal) c i arg1 h1 arg2 h2 arg3 h3 arg4 h4 arg5 h5 arg6 h6 arg7 h7 arg8 h8 hc x0 x1 x2 x3 x4
    = k0_pay7 (F := Ideal) x1 x0 (k0_pay6 (F := Ideal)) := by
  unfold out0_A_7
  rw [View.read_writes_eq_canon _ _ _ (cover0_A_7 (F := Ideal) c i arg1 h1 arg2 h2 arg3 h3 arg4 h4 arg5 h5 arg6 h6 arg7 h7 arg8 h8 hc x0 x1 x2 x3 x4)]
  unfold kernelRun0_A
  dsimp only
  rw [View.canon_cons_unit_zero zeros2]
  unfold kernelRun0_A.sl.r_1 kernelRun0_A.sl.v36 kernelRun0_A.sl.H7_1
  rw [View.readCov_cons_toLoadRect]
  simp only [View.readAt_eq_ld, h1.read_unread, h2.read_unread, h3.read_unread, h4.read_unread, h5.read_unread, h8.read_unread, View.ld_unit_zero (S := S512x1024) zeros2,
    View.ld_unit_zero (S := S1x1024) zeros2]

theorem outB5 (hc : ¬cond0_0 i) : out0_B_5 (F := Ideal) c i arg1 h1 arg2 h2 arg3 h3 arg4 h4 arg5 h5 arg6 h6 arg7 h7 arg8 h8 hc x0 x1 x2 x3 x4 y = k0_pay5 (F := Ideal) x1 x2 x0 := by
  unfold out0_B_5
  rw [View.read_writes_eq_canon _ _ _ (cover0_B_5 (F := Ideal) c i arg1 h1 arg2 h2 arg3 h3 arg4 h4 arg5 h5 arg6 h6 arg7 h7 arg8 h8 hc x0 x1 x2 x3 x4 y)]
  unfold kernelRun0_B
  dsimp only
  rw [View.canon_unit_zero zeros2]
  simp only [View.readAt_eq_ld, h1.read_unread, h2.read_unread, h3.read_unread, h4.read_unread, h5.read_unread, h8.read_unread, View.ld_unit_zero (S := S512x1024) zeros2,
    View.ld_unit_zero (S := S1x1024) zeros2]

theorem outB6 (hc : ¬cond0_0 i) : out0_B_6 (F := Ideal) c i arg1 h1 arg2 h2 arg3 h3 arg4 h4 arg5 h5 arg6 h6 arg7 h7 arg8 h8 hc x0 x1 x2 x3 x4 y = dprod (k0_pay5 (F := Ideal) x1 x2 x0) x3 x4 := by
  unfold out0_B_6
  rw [View.read_writes_eq_canon _ _ _ (cover0_B_6 (F := Ideal) c i arg1 h1 arg2 h2 arg3 h3 arg4 h4 arg5 h5 arg6 h6 arg7 h7 arg8 h8 hc x0 x1 x2 x3 x4 y)]
  funext z
  refine View.canon_apply_of_pieces (dprod (k0_pay5 (F := Ideal) x1 x2 x0) x3 x4) _ ?_ z (cover0_B_6 (F := Ideal) c i arg1 h1 arg2 h2 arg3 h3 arg4 h4 arg5 h5 arg6 h6 arg7 h7 arg8 h8 hc x0 x1 x2 x3 x4 y z)
  unfold kernelRun0_B
  dsimp only
  unfold kernelRun0_B.sl.r_5 kernelRun0_B.sl.r_4 kernelRun0_B.sl.r_3 kernelRun0_B.sl.r_2 kernelRun0_B.sl.r
  simp only [View.readAt_eq_ld, h1.read_unread, h2.read_unread, h3.read_unread, h4.read_unread, h5.read_unread, h8.read_unread, View.ld_unit_zero (S := S512x1024) zeros2,
    View.ld_unit_zero (S := S1x1024) zeros2]
  simp only [pay1_eq, pay2_eq, pay3_eq, pay9_eq, pay13_eq, pay14_eq, pay15_eq, List.forall_mem_cons, List.not_mem_nil, false_implies, implies_true, and_true]
  exact ⟨chunk _ _ _ _ _ _, chunk _ _ _ _ _ _, chunk _ _ _ _ _ _, chunk _ _ _ _ _ _, chunk _ _ _ _ _ _, chunk _ _ _ _ _ _, chunk _ _ _ _ _ _, chunk _ _ _ _ _ _⟩

theorem outB7 (hc : ¬cond0_0 i) : out0_B_7 (F := Ideal) c i arg1 h1 arg2 h2 arg3 h3 arg4 h4 arg5 h5 arg6 h6 arg7 h7 arg8 h8 hc x0 x1 x2 x3 x4 y
    = k0_pay7 (F := Ideal) x1 x0 y := by
  unfold out0_B_7
  rw [View.read_writes_eq_canon _ _ _ (cover0_B_7 (F := Ideal) c i arg1 h1 arg2 h2 arg3 h3 arg4 h4 arg5 h5 arg6 h6 arg7 h7 arg8 h8 hc x0 x1 x2 x3 x4 y)]
  unfold kernelRun0_B
  dsimp only
  rw [View.canon_unit_zero zeros2]
  unfold kernelRun0_B.sl.r_1
  simp only [View.readAt_eq_ld, h1.read_unread, h2.read_unread, h3.read_unread, h4.read_unread, h5.read_unread, h8.read_unread, View.ld_unit_zero (S := S512x1024) zeros2,
    View.ld_unit_zero (S := S1x1024) zeros2]

end

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 0 :=
  (by decide +kernel : ∀ t : Fin grid0.N, win0_1.index t 0 = t.val ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

theorem index6 : ∀ t : Fin cfg0.N, win0_6.index t 0 = t.val ∧ win0_6.index t 1 = 0 :=
  (by decide +kernel : ∀ t : Fin grid0.N, win0_6.index t 0 = t.val ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

section
variable (t : Fin cfg0.N)

theorem read0 (y : FVec Ideal S4096x1024 .f32) (r : Fin 512) (j : Fin 1024) :
    (((cfg0.win 0).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_0.index t 0 * 512 + 1 * r.val = 512 * t.val + r.val; rw [(index0 t).1]; omega
  | ⟨1, _⟩ => show win0_0.index t 1 * 1024 + 1 * j.val = j.val; rw [(index0 t).2]; omega

theorem read1 (y : FVec Ideal S4096x1024 .f32) (r : Fin 512) (j : Fin 1024) :
    (((cfg0.win 1).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_1.index t 0 * 512 + 1 * r.val = 512 * t.val + r.val; rw [(index1 t).1]; omega
  | ⟨1, _⟩ => show win0_1.index t 1 * 1024 + 1 * j.val = j.val; rw [(index1 t).2]; omega

theorem read2 (y : FVec Ideal S1x1024 .f32) (r : Fin 1) (j : Fin 1024) :
    (((cfg0.win 2).blk t).view.read (Elt Ideal) y : FVec Ideal S1x1024 .f32) (ix2 r j) = y (ix2 r j) := by
  rw [View.read_apply]
  show y _ = y _
  refine congrArg y (funext fun a => Fin.ext ?_)
  match a with
  | ⟨0, _⟩ => show win0_2.index t 0 * 1 + 1 * r.val = r.val; rw [(index2 t).1]; omega
  | ⟨1, _⟩ => show win0_2.index t 1 * 1024 + 1 * j.val = j.val; rw [(index2 t).2]; omega

theorem read3 (y : FVec Ideal S4096x1024 .bf16) (r : Fin 4096) (j : Fin 1024) :
    (((cfg0.win 3).blk t).view.read (Elt Ideal) y : FVec Ideal S4096x1024 .bf16) (ix2 r j) = y (ix2 r j) := by
  rw [View.read_apply]
  show y _ = y _
  refine congrArg y (funext fun a => Fin.ext ?_)
  match a with
  | ⟨0, _⟩ => show win0_3.index t 0 * 4096 + 1 * r.val = r.val; rw [(index3 t).1]; omega
  | ⟨1, _⟩ => show win0_3.index t 1 * 1024 + 1 * j.val = j.val; rw [(index3 t).2]; omega

theorem read4 (y : FVec Ideal S4096x4096 .bf16) (r : Fin 512) (j : Fin 4096) :
    (((cfg0.win 4).blk t).view.read (Elt Ideal) y : FVec Ideal S512x4096 .bf16) (ix2 r j) = y (ix2 (rowAt t r) j) := by
  rw [View.read_apply]
  show y _ = y _
  refine congrArg y (funext fun a => Fin.ext ?_)
  match a with
  | ⟨0, _⟩ => show win0_4.index t 0 * 512 + 1 * r.val = 512 * t.val + r.val; rw [(index4 t).1]; omega
  | ⟨1, _⟩ => show win0_4.index t 1 * 4096 + 1 * j.val = j.val; rw [(index4 t).2]; omega

theorem read5 (y : FVec Ideal S4096x1024 .bf16) (r : Fin 512) (j : Fin 1024) :
    (((cfg0.win 5).blk t).view.read (Elt Ideal) y : FVec Ideal S512x1024 .bf16) (ix2 r j) = y (ix2 (rowAt t r) j) := by
  rw [View.read_apply]
  show y _ = y _
  refine congrArg y (funext fun a => Fin.ext ?_)
  match a with
  | ⟨0, _⟩ => show win0_5.index t 0 * 512 + 1 * r.val = 512 * t.val + r.val; rw [(index5 t).1]; omega
  | ⟨1, _⟩ => show win0_5.index t 1 * 1024 + 1 * j.val = j.val; rw [(index5 t).2]; omega

theorem read6 (y : FVec Ideal S4096x4096 .bf16) (r : Fin 512) (j : Fin 4096) :
    (((cfg0.win 6).blk t).view.read (Elt Ideal) y : FVec Ideal S512x4096 .bf16) (ix2 r j) = y (ix2 (rowAt t r) j) := by
  rw [View.read_apply]
  show y _ = y _
  refine congrArg y (funext fun a => Fin.ext ?_)
  match a with
  | ⟨0, _⟩ => show win0_6.index t 0 * 512 + 1 * r.val = 512 * t.val + r.val; rw [(index6 t).1]; omega
  | ⟨1, _⟩ => show win0_6.index t 1 * 4096 + 1 * j.val = j.val; rw [(index6 t).2]; omega

theorem read7 (y : FVec Ideal S1x1024 .f32) (r : Fin 1) (j : Fin 1024) :
    (((cfg0.win 7).blk t).view.read (Elt Ideal) y : FVec Ideal S1x1024 .f32) (ix2 r j) = y (ix2 r j) := by
  rw [View.read_apply]
  show y _ = y _
  refine congrArg y (funext fun a => Fin.ext ?_)
  match a with
  | ⟨0, _⟩ => show win0_7.index t 0 * 1 + 1 * r.val = r.val; rw [(index7 t).1]; omega
  | ⟨1, _⟩ => show win0_7.index t 1 * 1024 + 1 * j.val = j.val; rw [(index7 t).2]; omega

end

variable (m : (ℓ : Loc nD τ sig) → Buf (Elt Ideal) ℓ) (c : Dev nD)

/-- The arguments, with their shapes. -/
abbrev dx : FVec Ideal S4096x1024 .f32 := V m c main_arg0
abbrev out : FVec Ideal S4096x1024 .f32 := V m c main_arg1
abbrev gain : FVec Ideal S1x1024 .f32 := V m c main_arg2
abbrev wts : FVec Ideal S4096x1024 .bf16 := V m c main_arg3
abbrev pre : FVec Ideal S4096x4096 .bf16 := V m c main_arg4

/-- A row of the gradient of the product, as the kernel and as the reference work it out. -/
abbrev row (d y : FVec Ideal S4096x1024 .f32) (g : FVec Ideal S1x1024 .f32) (s : Fin 4096) : Fin 1024 → EReal :=
  grad (fun k => y (ix2 s k)) (fun k => g (ix2 0 k)) (fun k => d (ix2 s k))
abbrev row' (d y : FVec Ideal S4096x1024 .f32) (g : FVec Ideal S1x1024 .f32) (s : Fin 4096) : Fin 1024 → EReal :=
  vjp (fun k => y (ix2 s k)) (fun k => g (ix2 0 k)) (fun k => d (ix2 s k))

/-- What a row adds to the gradient of the gain. -/
abbrev part (d y : FVec Ideal S4096x1024 .f32) (l : Fin 1024) (s : Fin 4096) : EReal := d (ix2 s l) * (y (ix2 s l) * scale (fun k => y (ix2 s k)))

theorem out5 (t : Fin cfg0.N) : (outsAt0 m c t.val t.isLt).1 = k0_pay5 (F := Ideal) (iblk m c 1 t) (iblk m c 2 t) (iblk m c 0 t) := by
  by_cases h0 : t.val % 8 = 0
  · rw [outsAt0_A m c t h0]
    dsimp only
    exact outA5 c (grid0.coords t) _ _ _ _ _ _ _ _ _ _ _ _ _ _ _ _ (iblk m c 0 t) (iblk m c 1 t) (iblk m c 2 t) (iblk m c 3 t) (iblk m c 4 t) _
  · rw [outsAt0_B m c t h0]
    dsimp only
    exact outB5 c (grid0.coords t) _ _ _ _ _ _ _ _ _ _ _ _ _ _ _ _ (iblk m c 0 t) (iblk m c 1 t) (iblk m c 2 t) (iblk m c 3 t) (iblk m c 4 t) _ _

theorem out6 (t : Fin cfg0.N) : (outsAt0 m c t.val t.isLt).2.1 = dprod (k0_pay5 (F := Ideal) (iblk m c 1 t) (iblk m c 2 t) (iblk m c 0 t)) (iblk m c 3 t) (iblk m c 4 t) := by
  by_cases h0 : t.val % 8 = 0
  · rw [outsAt0_A m c t h0]
    dsimp only
    exact outA6 c (grid0.coords t) _ _ _ _ _ _ _ _ _ _ _ _ _ _ _ _ (iblk m c 0 t) (iblk m c 1 t) (iblk m c 2 t) (iblk m c 3 t) (iblk m c 4 t) _
  · rw [outsAt0_B m c t h0]
    dsimp only
    exact outB6 c (grid0.coords t) _ _ _ _ _ _ _ _ _ _ _ _ _ _ _ _ (iblk m c 0 t) (iblk m c 1 t) (iblk m c 2 t) (iblk m c 3 t) (iblk m c 4 t) _ _

theorem row_block (t : Fin cfg0.N) (r : Fin 512) (l : Fin 1024) :
    k0_pay5 (F := Ideal) (iblk m c 1 t) (iblk m c 2 t) (iblk m c 0 t) (ix2 r l) = row (dx m c) (out m c) (gain m c) (rowAt t r) l := by
  refine (pay5_apply (iblk m c 1 t) (iblk m c 2 t) (iblk m c 0 t) r l).trans ?_
  have e0 := funext fun k => read1 t (out m c) r k
  have e1 := funext fun k => read2 t (gain m c) 0 k
  have e2 := funext fun k => read0 t (dx m c) r k
  exact congrFun ((congrArg (fun x => grad x _ _) e0).trans (congrArg₂ (grad _) e1 e2)) l

theorem arr5 (s : Fin 4096) (l : Fin 1024) : ((dats m 0 c).arrAt 5 cfg0.N : FVec Ideal S4096x1024 .bf16) (ix2 s l) = row (dx m c) (out m c) (gain m c) s l := by
  obtain ⟨t, r, rfl⟩ : ∃ t : Fin cfg0.N, ∃ r, rowAt t r = s := exists_row s
  refine (read5 t ((dats m 0 c).arrAt 5 cfg0.N) r l).symm.trans ((congrFun ((blocks5 m c t (flush0_5 t)).trans (flushed5 m c t)) (ix2 r l)).trans ?_)
  exact (congrFun (out5 m c t) (ix2 r l)).trans (row_block m c t r l)

theorem arr6 (s j : Fin 4096) : ((dats m 0 c).arrAt 6 cfg0.N : FVec Ideal S4096x4096 .bf16) (ix2 s j)
    = dot (row (dx m c) (out m c) (gain m c) s) (fun k => wts m c (ix2 j k)) * slope (pre m c (ix2 s j)) := by
  obtain ⟨t, r, rfl⟩ : ∃ t : Fin cfg0.N, ∃ r, rowAt t r = s := exists_row s
  refine (read6 t ((dats m 0 c).arrAt 6 cfg0.N) r j).symm.trans ((congrFun ((blocks6 m c t (flush0_6 t)).trans (flushed6 m c t)) (ix2 r j)).trans ?_)
  refine (congrFun (out6 m c t) (ix2 r j)).trans ?_
  exact congrArg₂ (· * ·) (congrArg₂ dot (funext fun k => row_block m c t r k) (funext fun k => read3 t (wts m c) j k)) (congrArg slope (read4 t (pre m c) r j))

/-- The rows of one block. -/
theorem part_block (t : Fin cfg0.N) (l : Fin 1024) (z : FVec Ideal S1x1024 .f32) : k0_pay7 (F := Ideal) (iblk m c 1 t) (iblk m c 0 t) z (ix2 0 l)
    = z (ix2 0 l) + ∑ r, part (dx m c) (out m c) l (rowAt t r) := by
  refine (pay7_apply (iblk m c 1 t) (iblk m c 0 t) z l).trans (congrArg₂ (· + ·) rfl (Finset.sum_congr rfl fun r _ => congrArg₂ (· * ·) ?_ (congrArg₂ (· * ·) ?_ (congrArg scale ?_))))
  · exact read0 t (dx m c) r l
  · exact read1 t (out m c) r l
  · exact funext fun k => read1 t (out m c) r k

theorem fold7 (l : Fin 1024) : (outsAt0 m c 7 (by decide)).2.2 (ix2 0 l) = ∑ s, part (dx m c) (out m c) l s := by
  refine fold_rows (part (dx m c) (out m c) l) (fun n hn => (outsAt0 m c n hn).2.2 (ix2 0 l)) ?_ fun n hn => ?_
  · let t : Fin cfg0.N := ⟨0, by decide⟩
    show (outsAt0 m c t.val t.isLt).2.2 (ix2 0 l) = _
    rw [outsAt0_A m c t rfl]
    dsimp only
    refine (congrFun (outA7 c (grid0.coords t) _ _ _ _ _ _ _ _ _ _ _ _ _ _ _ _ (iblk m c 0 t) (iblk m c 1 t) (iblk m c 2 t) (iblk m c 3 t) (iblk m c 4 t) _) (ix2 0 l)).trans ?_
    rw [part_block, pay6_apply, zero_add]
    rfl
  · let t : Fin cfg0.N := ⟨n + 1, hn⟩
    show (outsAt0 m c t.val t.isLt).2.2 (ix2 0 l) = _
    rw [outsAt0_B m c t (by show ¬(n + 1) % 8 = 0; omega)]
    dsimp only
    refine (congrFun (outB7 c (grid0.coords t) _ _ _ _ _ _ _ _ _ _ _ _ _ _ _ _ (iblk m c 0 t) (iblk m c 1 t) (iblk m c 2 t) (iblk m c 3 t) (iblk m c 4 t) _ _) (ix2 0 l)).trans ?_
    rw [part_block]
    rfl

/-- The last point. -/
abbrev last : Fin cfg0.N := ⟨7, by decide⟩

theorem disjoint7 : ∀ t t' : Fin cfg0.N, (cfg0.win 7).flush t = true → (cfg0.win 7).flush t' = true → t ≠ t' →
    Disjoint ((cfg0.win 7).blk t).view.set ((cfg0.win 7).blk t').view.set := fun t t' h h' hne => by
  have e := (flush0_7 t).mp h
  have e' := (flush0_7 t').mp h'
  have b : t.val < 8 := t.isLt
  have b' : t'.val < 8 := t'.isLt
  exact absurd (Fin.ext (by omega)) hne

theorem arr7 (l : Fin 1024) : ((dats m 0 c).arrAt 7 cfg0.N : FVec Ideal S1x1024 .f32) (ix2 0 l) = ∑ s, part (dx m c) (out m c) l s := by
  refine (read7 last ((dats m 0 c).arrAt 7 cfg0.N) 0 l).symm.trans ?_
  refine (congrFun (((dats m 0 c).read_blk_arrAt_eq_flushed 7 disjoint7 cfg0.N last last.isLt ((flush0_7 last).mpr rfl)).trans (flushed7 m c last)) (ix2 0 l)).trans ?_
  exact fold7 m c l
end

section
open Cert.Reference2Ideal Cert.Reference2Ideal.Read
variable (d y : FVec Ideal S4096x1024 .f32) (g : FVec Ideal S1x1024 .f32) (w : FVec Ideal S4096x1024 .bf16) (p : FVec Ideal S4096x4096 .bf16)

theorem ref17 (l : Fin 1024) : (val_main_v17 (F := Ideal) d y : FVec Ideal S1x1024 .f32) (ix2 0 l) = ∑ s, part d y l s := by
  pointwise [val_main_v17, val_main_v16, val_main_v15, val_main_cst_3, val_main_v12, val_main_v11, val_main_v7, val_main_v6, val_main_v5, val_main_v4, val_main_v3, val_main_v2, val_main_v1, val_main_v0,
    val_main_cst, val_main_cst_0, val_main_cst_1]
  exact Finset.sum_congr rfl fun s _ => mul_comm _ _

theorem ref29 (s : Fin 4096) (l : Fin 1024) : (val_main_v29 (F := Ideal) d y g : FVec Ideal S4096x1024 .f32) (ix2 s l)
    = back (fun k => y (ix2 s k)) (fun k => g (ix2 0 k)) (fun k => d (ix2 s k)) := by
  pointwise [val_main_v29, val_main_v28, val_main_v27, val_main_v25, val_main_v22, val_main_v21, val_main_v20, val_main_v19, val_main_v18, val_main_v26, val_main_cst_4, val_main_cst_5, val_main_cst_6,
    val_main_v10, val_main_v9, val_main_cst_2, val_main_v8, val_main_v7, val_main_v6, val_main_v5, val_main_v4,
    val_main_v3, val_main_v2, val_main_v1, val_main_v0, val_main_cst, val_main_cst_0, val_main_cst_1]
  exact (Fin.sum_univ_one _).trans rfl

theorem ref33 (s : Fin 4096) (l : Fin 1024) : (val_main_v33 (F := Ideal) d y g : FVec Ideal S4096x1024 .f32) (ix2 s l) = row' d y g s l := by
  have h := ref29 d y g s l
  unfold val_main_v33 val_main_v32 val_main_v31 val_main_v30
  generalize (val_main_v29 (F := Ideal) d y g : FVec Ideal S4096x1024 .f32) = z at h ⊢
  pointwise [val_main_v24, val_main_v23, val_main_v19, val_main_v18, val_main_v7, val_main_v6, val_main_v5, val_main_v4, val_main_v3, val_main_v2, val_main_v1, val_main_v0,
    val_main_cst, val_main_cst_0, val_main_cst_1]
  simp only [h]
  rfl

theorem ref48 (s : Fin 4096) (l : Fin 1024) : (val_main_v48 (F := Ideal) d y g : FVec Ideal S4096x1024 .bf16) (ix2 s l) = row' d y g s l := ref33 d y g s l

theorem ref44 (s j : Fin 4096) : (val_main_v44 (F := Ideal) d y g w : FVec Ideal S4096x4096 .f32) (ix2 s j) = dot (row' d y g s) (fun k => w (ix2 j k)) := by
  have h := fun l => ref33 d y g s l
  unfold val_main_v44
  generalize (val_main_v33 (F := Ideal) d y g : FVec Ideal S4096x1024 .f32) = z at h ⊢
  pointwise [val_main_v42]
  simp only [h]
  rfl

theorem ref49 (s j : Fin 4096) : (val_main_v49 (F := Ideal) d y g w p : FVec Ideal S4096x4096 .bf16) (ix2 s j)
    = dot (row' d y g s) (fun k => w (ix2 j k)) * slope (p (ix2 s j)) := by
  have h := ref44 d y g w s j
  unfold val_main_v49 val_main_v47 val_main_v45
  generalize (val_main_v44 (F := Ideal) d y g w : FVec Ideal S4096x4096 .f32) = z at h ⊢
  pointwise [val_main_v46, val_main_v41, val_main_v40, val_main_v37, val_main_v36, val_main_v35, val_main_v34, val_main_call0_v0, val_main_call0_cst, val_main_cst_7, val_main_cst_9, val_main_cst_10]
  simp only [h]
  exact ite_slope _ _
end

section
open Cert.Kernel2Ideal Cert.Kernel2Ideal.Gen
variable (m : (ℓ : Loc nD τ sig) → Buf (Elt Ideal) ℓ) (c : Dev nD)

theorem gain_eq : (Cert.Reference2Ideal.Read.val_main_v17 (F := Ideal) (m ((c.tc : Thread nD τ).loc main_arg0)) (m ((c.tc : Thread nD τ).loc main_arg1)) : FVec Ideal S1x1024 .f32)
      = (dats m 0 c).arrAt 7 cfg0.N :=
  ext2 (φ := .f32) _ _ fun p l => by
    obtain rfl : p = 0 := Subsingleton.elim _ _
    exact (ref17 _ _ l).trans (arr7 m c l).symm

theorem row_eq (s : Fin 4096) : row' (dx m c) (out m c) (gain m c) s = row (dx m c) (out m c) (gain m c) s :=
  funext fun l => (grad_eq _ _ _ l).symm

theorem product_eq :
    (Cert.Reference2Ideal.Read.val_main_v48 (F := Ideal) (m ((c.tc : Thread nD τ).loc main_arg0)) (m ((c.tc : Thread nD τ).loc main_arg1))
      (m ((c.tc : Thread nD τ).loc main_arg2)) : FVec Ideal S4096x1024 .bf16) = (dats m 0 c).arrAt 5 cfg0.N :=
  ext2 (φ := .bf16) _ _ fun s l => (ref48 _ _ _ s l).trans ((congrFun (row_eq m c s) l).trans (arr5 m c s l).symm)

theorem hidden_eq :
    (Cert.Reference2Ideal.Read.val_main_v49 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) : FVec Ideal S4096x4096 .bf16)
      = (dats m 0 c).arrAt 6 cfg0.N :=
  ext2 (φ := .bf16) _ _ fun s j => (ref49 _ _ _ _ _ s j).trans
    ((congrArg (fun x => dot x _ * slope _) (row_eq m c s)).trans (arr6 m c s j).symm)
end

end Cert.Mlp.DownBwd

end
-- ==== Proof.Mlp.DownGrad.lean ====
/- The gradient of the down-projection's weights: kernel and reference leave the same array. -/
module

public import proofs.«01_k».proof.Proof.Gen.Kernel3Ideal.Value
public import proofs.«01_k».proof.Proof.Gen.Reference3Ideal.Read
public import proofs.«01_k».proof.Proof.Mlp.Norm

@[expose] public section

set_option maxRecDepth 16384

noncomputable section

open Idealize.ShloMosaic Idealize.ShloMosaic.TcCoe Idealize.ShloMosaic.Tactic

namespace Cert.Mlp.DownGrad

section
open Cert.Kernel3Ideal Cert.Kernel3Ideal.Gen Cert.Kernel3Ideal.Value

theorem pay2_apply (a : FVec Ideal S4096x1024 .bf16) (b : FVec Ideal S4096x1024 .bf16) (r l : Fin 1024) :
    k0_pay2 (F := Ideal) (k0_pay1 (F := Ideal)) a b (ix2 r l) = dot (fun k => a (ix2 k r)) (fun k => b (ix2 k l)) := by
  pointwise [k0_pay2, k0_pay1]
  rfl

theorem pay3_apply (y : FVec Ideal S1024x1024 .f32) (p : Fin 2) (r : Fin 512) (l : Fin 1024) :
    k0_pay3 (F := Ideal) y (ix3 p r l) = y (ix2 ⟨p.val * 512 + r.val, by omega⟩ l) := by
  pointwise [k0_pay3]

section
variable (c : Dev nD) (i : grid0.Coords) (arg2 : Memref sig .tc .vmem S4096x1024 .bf16) (h2 : arg2.IsWhole) (arg3 : Memref sig .tc .vmem S4096x1024 .bf16) (h3 : arg3.IsWhole)
  (arg4 : Memref sig .tc .vmem S2x512x1024 .bf16) (h4 : arg4.IsWhole) (arg5 : Memref sig .tc .vmem S1024x1024 .f32) (h5 : arg5.IsWhole) (hc0 : cond0_0 i) (hc1 : cond0_1 i)
  (a : FVec Ideal S4096x1024 .bf16) (b : FVec Ideal S4096x1024 .bf16)

theorem out2_eq : out0_A_2 (F := Ideal) c i arg2 h2 arg3 h3 arg4 h4 arg5 h5 hc0 hc1 a b = k0_pay3 (F := Ideal) (k0_pay2 (F := Ideal) (k0_pay1 (F := Ideal)) a b) := by
  unfold out0_A_2
  rw [View.read_writes_eq_canon _ _ _ (cover0_A_2 (F := Ideal) c i arg2 h2 arg3 h3 arg4 h4 arg5 h5 hc0 hc1 a b)]
  unfold kernelRun0_A
  dsimp only
  rw [View.canon_unit_zero zeros3]
  unfold kernelRun0_A.sl.v14 kernelRun0_A.sl.HS0_2
  rw [View.readCov_cons_toLoadRect]
  unfold kernelRun0_A.sl.v3 kernelRun0_A.sl.HS0_1
  rw [View.readCov_cons_toLoadRect, View.readAt_eq_ld, View.readAt_eq_ld, h2.read_unread, h3.read_unread, View.ld_unit_zero (S := S4096x1024) zeros2, View.ld_unit_zero (S := S4096x1024) zeros2]

theorem out2_apply (p : Fin 2) (r : Fin 512) (l : Fin 1024) :
    out0_A_2 (F := Ideal) c i arg2 h2 arg3 h3 arg4 h4 arg5 h5 hc0 hc1 a b (ix3 p r l)
      = dot (fun k => a (ix2 k ⟨p.val * 512 + r.val, by omega⟩)) (fun k => b (ix2 k l)) := by
  rw [out2_eq]
  exact (pay3_apply _ p r l).trans (pay2_apply a b _ l)
end

theorem index0 : ∀ t : Fin cfg0.N, win0_0.index t 0 = 0 ∧ win0_0.index t 1 = t.val :=
  (by decide +kernel : ∀ t : Fin grid0.N, win0_0.index t 0 = 0 ∧ win0_0.index t 1 = t.val)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem points (t : Fin cfg0.N) : t.val < 4 := t.isLt

theorem read0 (t : Fin cfg0.N) (y : FVec Ideal S4096x4096 .bf16) (k : Fin 4096) (j : Fin 1024) :
    (((cfg0.win 0).blk t).view.read (Elt Ideal) y : FVec Ideal S4096x1024 .bf16) (ix2 k j)
      = y (ix2 k ⟨1024 * t.val + j.val, by have := points t; omega⟩) := by
  rw [View.read_apply]
  show y _ = y _
  refine congrArg y (funext fun a => Fin.ext ?_)
  match a with
  | ⟨0, _⟩ => show win0_0.index t 0 * 4096 + 1 * k.val = k.val; rw [(index0 t).1]; omega
  | ⟨1, _⟩ => show win0_0.index t 1 * 1024 + 1 * j.val = 1024 * t.val + j.val; rw [(index0 t).2]; omega

theorem read1 (t : Fin cfg0.N) (y : FVec Ideal S4096x1024 .bf16) (k : Fin 4096) (j : Fin 1024) :
    (((cfg0.win 1).blk t).view.read (Elt Ideal) y : FVec Ideal S4096x1024 .bf16) (ix2 k j) = y (ix2 k j) := by
  rw [View.read_apply]
  show y _ = y _
  refine congrArg y (funext fun a => Fin.ext ?_)
  match a with
  | ⟨0, _⟩ => show win0_1.index t 0 * 4096 + 1 * k.val = k.val; rw [(index1 t).1]; omega
  | ⟨1, _⟩ => show win0_1.index t 1 * 1024 + 1 * j.val = j.val; rw [(index1 t).2]; omega

theorem read2 (t : Fin cfg0.N) (y : FVec Ideal S8x512x1024 .bf16) (p : Fin 2) (r : Fin 512) (l : Fin 1024) :
    (((cfg0.win 2).blk t).view.read (Elt Ideal) y : FVec Ideal S2x512x1024 .bf16) (ix3 p r l)
      = y (ix3 ⟨2 * t.val + p.val, by have := points t; omega⟩ r l) := by
  rw [View.read_apply]
  show y _ = y _
  refine congrArg y (funext fun a => Fin.ext ?_)
  match a with
  | ⟨0, _⟩ => show win0_2.index t 0 * 2 + 1 * p.val = 2 * t.val + p.val; rw [(index2 t).1]; omega
  | ⟨1, _⟩ => show win0_2.index t 1 * 512 + 1 * r.val = r.val; rw [(index2 t).2.1]; omega
  | ⟨2, _⟩ => show win0_2.index t 2 * 1024 + 1 * l.val = l.val; rw [(index2 t).2.2]; omega

variable (m : (ℓ : Loc nD τ sig) → Buf (Elt Ideal) ℓ) (c : Dev nD)

/-- The arguments, with their shapes. -/
abbrev hid : FVec Ideal S4096x4096 .bf16 := V m c main_arg0
abbrev grad : FVec Ideal S4096x1024 .bf16 := V m c main_arg1

/-- An entry of the product over the tokens, the rows of the weights eight shards of 512. -/
abbrev prod (a : FVec Ideal S4096x4096 .bf16) (b : FVec Ideal S4096x1024 .bf16) (d : Fin 8) (r : Fin 512) (l : Fin 1024) : EReal :=
  dot (fun k => a (ix2 k ⟨d.val * 512 + r.val, by omega⟩)) (fun k => b (ix2 k l))

theorem arr2 (d : Fin 8) (r : Fin 512) (l : Fin 1024) :
    ((dats m 0 c).arrAt 2 cfg0.N : FVec Ideal S8x512x1024 .bf16) (ix3 d r l) = prod (hid m c) (grad m c) d r l := by
  obtain ⟨t, p, ht⟩ : ∃ t : Fin cfg0.N, ∃ p : Fin 2, 2 * t.val + p.val = d.val :=
    ⟨⟨d.val / 2, by show _ < 4; omega⟩, ⟨d.val % 2, Nat.mod_lt _ (by decide)⟩, by show 2 * (d.val / 2) + d.val % 2 = d.val; omega⟩
  have hd : d = ⟨2 * t.val + p.val, by omega⟩ := Fin.ext ht.symm
  rw [hd]
  refine (read2 t ((dats m 0 c).arrAt 2 cfg0.N) p r l).symm.trans ((congrFun ((blocks2 m c t (flush0_2 t)).trans (flushed2_A m c t)) (ix3 p r l)).trans ?_)
  refine (out2_apply c (grid0.coords t) (ms0_0 t) (hs0_0 t) (ms0_1 t) (hs0_1 t) (ms0_2 t) (hs0_2 t) scM0_0 (Memref.isWhole_whole _) (hcond0_0 t) (hcond0_1 t)
    (iblk m c 0 t) (iblk m c 1 t) p r l).trans ?_
  refine congrArg₂ dot (funext fun k => (read0 t (hid m c) k _).trans (congrArg (fun j => hid m c (ix2 k j)) (Fin.ext ?_))) (funext fun k => read1 t (grad m c) k l)
  show 1024 * t.val + (p.val * 512 + r.val) = (2 * t.val + p.val) * 512 + r.val
  omega
end

section
open Cert.Reference3Ideal Cert.Reference3Ideal.Read

theorem ref7 (a : FVec Ideal S4096x4096 .bf16) (b : FVec Ideal S4096x1024 .bf16) (d : Fin 8) (r : Fin 512) (l : Fin 1024) :
    (val_main_v7 (F := Ideal) a b : FVec Ideal S8x512x1024 .bf16) (ix3 d r l) = prod a b d r l := by
  pointwise [val_main_v7, val_main_v6, val_main_v5, val_main_v4, val_main_v3, val_main_v1]
  exact Finset.sum_congr rfl fun k _ => mul_comm _ _
end

section
open Cert.Kernel3Ideal Cert.Kernel3Ideal.Gen

theorem array_eq (m : (ℓ : Loc nD τ sig) → Buf (Elt Ideal) ℓ) (c : Dev nD) :
    (Cert.Reference3Ideal.Read.val_main_v7 (F := Ideal) (m ((c.tc : Thread nD τ).loc main_arg0)) (m ((c.tc : Thread nD τ).loc main_arg1)) : FVec Ideal S8x512x1024 .bf16)
      = (dats m 0 c).arrAt 2 cfg0.N :=
  ext3 (φ := .bf16) _ _ fun d r l => (ref7 _ _ d r l).trans (arr2 m c d r l).symm
end

end Cert.Mlp.DownGrad

end
-- ==== Proof.Mlp.UpBwd.lean ====
/- The gradient through the up-projection and its norm: kernel and reference leave the same arrays. -/
module

public import proofs.«01_k».proof.Proof.Gen.Kernel4Ideal.Value
public import proofs.«01_k».proof.Proof.Gen.Reference4Ideal.Read
public import proofs.«01_k».proof.Proof.Mlp.NormGrad

@[expose] public section

set_option maxRecDepth 16384

noncomputable section

open Idealize.ShloMosaic Idealize.ShloMosaic.TcCoe Idealize.ShloMosaic.Tactic

namespace Cert.Mlp.UpBwd

section
open Cert.Kernel4Ideal Cert.Kernel4Ideal.Gen Cert.Kernel4Ideal.Value

section
variable (a : FVec Ideal S512x4096 .bf16) (w : FVec Ideal S1024x4096 .bf16) (x : FVec Ideal S512x1024 .f32) (g : FVec Ideal S1x1024 .f32) (d : FVec Ideal S512x1024 .f32)

theorem pay3_apply (r : Fin 512) (l : Fin 1024) :
    k0_pay3 (F := Ideal) a w (ix2 r l) = dot (fun k => a (ix2 r k)) (fun k => w (ix2 l k)) := by
  pointwise [k0_pay3]
  rfl

theorem pay6_apply (r : Fin 512) (l : Fin 1024) : k0_pay6 (F := Ideal) a w x g d (ix2 r l)
    = grad (fun k => x (ix2 r k)) (fun k => g (ix2 0 k)) (fun l => dot (fun k => a (ix2 r k)) (fun k => w (ix2 l k))) l + d (ix2 r l) := by
  have h := fun l => pay3_apply a w r l
  unfold k0_pay6
  generalize k0_pay3 (F := Ideal) a w = y at h ⊢
  pointwise [k0_pay4]
  simp only [h]
  rfl

theorem pay5_apply (l : Fin 1024) : k0_pay5 (F := Ideal) a w x (ix2 0 l)
    = ∑ r : Fin 512, dot (fun k => a (ix2 r k)) (fun k => w (ix2 l k)) * (x (ix2 r l) * scale (fun k => x (ix2 r k))) := by
  have h := fun r l => pay3_apply a w r l
  unfold k0_pay5
  generalize k0_pay3 (F := Ideal) a w = y at h ⊢
  pointwise [k0_pay4]
  simp only [h]
  rfl

theorem pay2_apply (y z : FVec Ideal S1x1024 .f32) (l : Fin 1024) : k0_pay2 (F := Ideal) y z (ix2 0 l) = z (ix2 0 l) + y (ix2 0 l) := by
  pointwise [k0_pay2]

theorem pay1_apply (l : Fin 1024) : k0_pay1 (F := Ideal) (ix2 0 l) = (0 : EReal) := by
  pointwise [k0_pay1]
end

section
variable (c : Dev nD) (i : grid0.Coords) (arg1 : Memref sig .tc .vmem S512x4096 .bf16) (h1 : arg1.IsWhole) (arg2 : Memref sig .tc .vmem S1024x4096 .bf16) (h2 : arg2.IsWhole)
  (arg3 : Memref sig .tc .vmem S512x1024 .f32) (h3 : arg3.IsWhole) (arg4 : Memref sig .tc .vmem S1x1024 .f32) (h4 : arg4.IsWhole) (arg5 : Memref sig .tc .vmem S512x1024 .f32) (h5 : arg5.IsWhole)
  (arg6 : Memref sig .tc .vmem S512x1024 .f32) (h6 : arg6.IsWhole) (arg7 : Memref sig .tc .vmem S1x1024 .f32) (h7 : arg7.IsWhole)
  (a : FVec Ideal S512x4096 .bf16) (w : FVec Ideal S1024x4096 .bf16) (x : FVec Ideal S512x1024 .f32) (g : FVec Ideal S1x1024 .f32) (d : FVec Ideal S512x1024 .f32) (y : FVec Ideal S1x1024 .f32)

theorem outA5 (hc : cond0_0 i) : out0_A_5 (F := Ideal) c i arg1 h1 arg2 h2 arg3 h3 arg4 h4 arg5 h5 arg6 h6 arg7 h7 hc a w x g d = k0_pay6 (F := Ideal) a w x g d := by
  unfold out0_A_5
  rw [View.read_writes_eq_canon _ _ _ (cover0_A_5 (F := Ideal) c i arg1 h1 arg2 h2 arg3 h3 arg4 h4 arg5 h5 arg6 h6 arg7 h7 hc a w x g d)]
  unfold kernelRun0_A
  dsimp only
  rw [View.canon_unit_zero zeros2]
  simp only [View.readAt_eq_ld, h1.read_unread, h2.read_unread, h3.read_unread, h4.read_unread, h5.read_unread, View.ld_unit_zero (S := S512x4096) zeros2,
    View.ld_unit_zero (S := S1024x4096) zeros2, View.ld_unit_zero (S := S512x1024) zeros2, View.ld_unit_zero (S := S1x1024) zeros2]

theorem outB5 (hc : ¬cond0_0 i) : out0_B_5 (F := Ideal) c i arg1 h1 arg2 h2 arg3 h3 arg4 h4 arg5 h5 arg6 h6 arg7 h7 hc a w x g d y = k0_pay6 (F := Ideal) a w x g d := by
  unfold out0_B_5
  rw [View.read_writes_eq_canon _ _ _ (cover0_B_5 (F := Ideal) c i arg1 h1 arg2 h2 arg3 h3 arg4 h4 arg5 h5 arg6 h6 arg7 h7 hc a w x g d y)]
  unfold kernelRun0_B
  dsimp only
  rw [View.canon_unit_zero zeros2]
  simp only [View.readAt_eq_ld, h1.read_unread, h2.read_unread, h3.read_unread, h4.read_unread, h5.read_unread, View.ld_unit_zero (S := S512x4096) zeros2,
    View.ld_unit_zero (S := S1024x4096) zeros2, View.ld_unit_zero (S := S512x1024) zeros2, View.ld_unit_zero (S := S1x1024) zeros2]

theorem outA6 (hc : cond0_0 i) : out0_A_6 (F := Ideal) c i arg1 h1 arg2 h2 arg3 h3 arg4 h4 arg5 h5 arg6 h6 arg7 h7 hc a w x g d
    = k0_pay2 (F := Ideal) (k0_pay5 (F := Ideal) a w x) (k0_pay1 (F := Ideal)) := by
  unfold out0_A_6
  rw [View.read_writes_eq_canon _ _ _ (cover0_A_6 (F := Ideal) c i arg1 h1 arg2 h2 arg3 h3 arg4 h4 arg5 h5 arg6 h6 arg7 h7 hc a w x g d)]
  unfold kernelRun0_A
  dsimp only
  rw [View.canon_cons_unit_zero zeros2]
  unfold kernelRun0_A.sl.r kernelRun0_A.sl.v39 kernelRun0_A.sl.H6_1
  rw [View.readCov_cons_toLoadRect]
  simp only [View.readAt_eq_ld, h1.read_unread, h2.read_unread, h3.read_unread, h4.read_unread, h5.read_unread, View.ld_unit_zero (S := S512x4096) zeros2,
    View.ld_unit_zero (S := S1024x4096) zeros2, View.ld_unit_zero (S := S512x1024) zeros2, View.ld_unit_zero (S := S1x1024) zeros2]

theorem outB6 (hc : ¬cond0_0 i) : out0_B_6 (F := Ideal) c i arg1 h1 arg2 h2 arg3 h3 arg4 h4 arg5 h5 arg6 h6 arg7 h7 hc a w x g d y
    = k0_pay2 (F := Ideal) (k0_pay5 (F := Ideal) a w x) y := by
  unfold out0_B_6
  rw [View.read_writes_eq_canon _ _ _ (cover0_B_6 (F := Ideal) c i arg1 h1 arg2 h2 arg3 h3 arg4 h4 arg5 h5 arg6 h6 arg7 h7 hc a w x g d y)]
  unfold kernelRun0_B
  dsimp only
  rw [View.canon_unit_zero zeros2]
  unfold kernelRun0_B.sl.r
  simp only [View.readAt_eq_ld, h1.read_unread, h2.read_unread, h3.read_unread, h4.read_unread, h5.read_unread, h7.read_unread, View.ld_unit_zero (S := S512x4096) zeros2,
    View.ld_unit_zero (S := S1024x4096) zeros2, View.ld_unit_zero (S := S512x1024) zeros2, View.ld_unit_zero (S := S1x1024) zeros2]
end

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

section
variable (t : Fin cfg0.N)

theorem read0 (y : FVec Ideal S4096x4096 .bf16) (r : Fin 512) (j : Fin 4096) :
    (((cfg0.win 0).blk t).view.read (Elt Ideal) y : FVec Ideal S512x4096 .bf16) (ix2 r j) = y (ix2 (rowAt t r) j) := by
  rw [View.read_apply]
  show y _ = y _
  refine congrArg y (funext fun a => Fin.ext ?_)
  match a with
  | ⟨0, _⟩ => show win0_0.index t 0 * 512 + 1 * r.val = 512 * t.val + r.val; rw [(index0 t).1]; omega
  | ⟨1, _⟩ => show win0_0.index t 1 * 4096 + 1 * j.val = j.val; rw [(index0 t).2]; omega

theorem read1 (y : FVec Ideal S1024x4096 .bf16) (r : Fin 1024) (j : Fin 4096) :
    (((cfg0.win 1).blk t).view.read (Elt Ideal) y : FVec Ideal S1024x4096 .bf16) (ix2 r j) = y (ix2 r j) := by
  rw [View.read_apply]
  show y _ = y _
  refine congrArg y (funext fun a => Fin.ext ?_)
  match a with
  | ⟨0, _⟩ => show win0_1.index t 0 * 1024 + 1 * r.val = r.val; rw [(index1 t).1]; omega
  | ⟨1, _⟩ => show win0_1.index t 1 * 4096 + 1 * j.val = j.val; rw [(index1 t).2]; omega

theorem read2 (y : FVec Ideal S4096x1024 .f32) (r : Fin 512) (j : Fin 1024) :
    (((cfg0.win 2).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_2.index t 0 * 512 + 1 * r.val = 512 * t.val + r.val; rw [(index2 t).1]; omega
  | ⟨1, _⟩ => show win0_2.index t 1 * 1024 + 1 * j.val = j.val; rw [(index2 t).2]; omega

theorem read3 (y : FVec Ideal S1x1024 .f32) (r : Fin 1) (j : Fin 1024) :
    (((cfg0.win 3).blk t).view.read (Elt Ideal) y : FVec Ideal S1x1024 .f32) (ix2 r j) = y (ix2 r j) := by
  rw [View.read_apply]
  show y _ = y _
  refine congrArg y (funext fun a => Fin.ext ?_)
  match a with
  | ⟨0, _⟩ => show win0_3.index t 0 * 1 + 1 * r.val = r.val; rw [(index3 t).1]; omega
  | ⟨1, _⟩ => show win0_3.index t 1 * 1024 + 1 * j.val = j.val; rw [(index3 t).2]; omega

theorem read4 (y : FVec Ideal S4096x1024 .f32) (r : Fin 512) (j : Fin 1024) :
    (((cfg0.win 4).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_4.index t 0 * 512 + 1 * r.val = 512 * t.val + r.val; rw [(index4 t).1]; omega
  | ⟨1, _⟩ => show win0_4.index t 1 * 1024 + 1 * j.val = j.val; rw [(index4 t).2]; omega

theorem read5 (y : FVec Ideal S4096x1024 .f32) (r : Fin 512) (j : Fin 1024) :
    (((cfg0.win 5).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_5.index t 0 * 512 + 1 * r.val = 512 * t.val + r.val; rw [(index5 t).1]; omega
  | ⟨1, _⟩ => show win0_5.index t 1 * 1024 + 1 * j.val = j.val; rw [(index5 t).2]; omega

theorem read6 (y : FVec Ideal S1x1024 .f32) (r : Fin 1) (j : Fin 1024) :
    (((cfg0.win 6).blk t).view.read (Elt Ideal) y : FVec Ideal S1x1024 .f32) (ix2 r j) = y (ix2 r j) := by
  rw [View.read_apply]
  show y _ = y _
  refine congrArg y (funext fun a => Fin.ext ?_)
  match a with
  | ⟨0, _⟩ => show win0_6.index t 0 * 1 + 1 * r.val = r.val; rw [(index6 t).1]; omega
  | ⟨1, _⟩ => show win0_6.index t 1 * 1024 + 1 * j.val = j.val; rw [(index6 t).2]; omega

end

variable (m : (ℓ : Loc nD τ sig) → Buf (Elt Ideal) ℓ) (c : Dev nD)

/-- The arguments, with their shapes. -/
abbrev dpre : FVec Ideal S4096x4096 .bf16 := V m c main_arg0
abbrev wts : FVec Ideal S1024x4096 .bf16 := V m c main_arg1
abbrev inp : FVec Ideal S4096x1024 .f32 := V m c main_arg2
abbrev gain : FVec Ideal S1x1024 .f32 := V m c main_arg3
abbrev dres : FVec Ideal S4096x1024 .f32 := V m c main_arg4

/-- A row of the gradient of the norm's output. -/
abbrev row (a : FVec Ideal S4096x4096 .bf16) (w : FVec Ideal S1024x4096 .bf16) (s : Fin 4096) (l : Fin 1024) : EReal :=
  dot (fun k => a (ix2 s k)) (fun k => w (ix2 l k))

/-- What a row adds to the gradient of the gain. -/
abbrev part (a : FVec Ideal S4096x4096 .bf16) (w : FVec Ideal S1024x4096 .bf16) (x : FVec Ideal S4096x1024 .f32) (l : Fin 1024) (s : Fin 4096) : EReal :=
  row a w s l * (x (ix2 s l) * scale (fun k => x (ix2 s k)))

theorem out5 (t : Fin cfg0.N) : (outsAt0 m c t.val t.isLt).1 = k0_pay6 (F := Ideal) (iblk m c 0 t) (iblk m c 1 t) (iblk m c 2 t) (iblk m c 3 t) (iblk m c 4 t) := by
  by_cases h0 : t.val % 8 = 0
  · rw [outsAt0_A m c t h0]
    dsimp only
    exact outA5 c (grid0.coords t) _ _ _ _ _ _ _ _ _ _ _ _ _ _ (iblk m c 0 t) (iblk m c 1 t) (iblk m c 2 t) (iblk m c 3 t) (iblk m c 4 t) _
  · rw [outsAt0_B m c t h0]
    dsimp only
    exact outB5 c (grid0.coords t) _ _ _ _ _ _ _ _ _ _ _ _ _ _ (iblk m c 0 t) (iblk m c 1 t) (iblk m c 2 t) (iblk m c 3 t) (iblk m c 4 t) _ _

theorem arr5 (s : Fin 4096) (l : Fin 1024) : ((dats m 0 c).arrAt 5 cfg0.N : FVec Ideal S4096x1024 .f32) (ix2 s l)
    = grad (fun k => inp m c (ix2 s k)) (fun k => gain m c (ix2 0 k)) (row (dpre m c) (wts m c) s) l + dres m c (ix2 s l) := by
  obtain ⟨t, r, rfl⟩ : ∃ t : Fin cfg0.N, ∃ r, rowAt t r = s := exists_row s
  refine (read5 t ((dats m 0 c).arrAt 5 cfg0.N) r l).symm.trans ((congrFun ((blocks5 m c t (flush0_5 t)).trans (flushed5 m c t)) (ix2 r l)).trans ?_)
  refine (congrFun (out5 m c t) (ix2 r l)).trans ?_
  refine (pay6_apply (iblk m c 0 t) (iblk m c 1 t) (iblk m c 2 t) (iblk m c 3 t) (iblk m c 4 t) r l).trans ?_
  refine congrArg₂ (· + ·) ?_ (read4 t (dres m c) r l)
  have e0 := funext fun k => read2 t (inp m c) r k
  have e1 := funext fun k => read3 t (gain m c) 0 k
  have e2 : (fun l => dot (fun k => (iblk m c 0 t : FVec Ideal S512x4096 .bf16) (ix2 r k)) (fun k => (iblk m c 1 t : FVec Ideal S1024x4096 .bf16) (ix2 l k)))
      = row (dpre m c) (wts m c) (rowAt t r) :=
    funext fun l => congrArg₂ dot (funext fun k => read0 t (dpre m c) r k) (funext fun k => read1 t (wts m c) l k)
  exact congrFun ((congrArg (fun x => grad x _ _) e0).trans (congrArg₂ (grad _) e1 e2)) l

/-- The rows of one block. -/
theorem part_block (t : Fin cfg0.N) (l : Fin 1024) : k0_pay5 (F := Ideal) (iblk m c 0 t) (iblk m c 1 t) (iblk m c 2 t) (ix2 0 l)
    = ∑ r, part (dpre m c) (wts m c) (inp m c) l (rowAt t r) := by
  refine (pay5_apply (iblk m c 0 t) (iblk m c 1 t) (iblk m c 2 t) l).trans (Finset.sum_congr rfl fun r _ => congrArg₂ (· * ·) ?_ (congrArg₂ (· * ·) ?_ (congrArg scale ?_)))
  · exact congrArg₂ dot (funext fun k => read0 t (dpre m c) r k) (funext fun k => read1 t (wts m c) l k)
  · exact read2 t (inp m c) r l
  · exact funext fun k => read2 t (inp m c) r k

theorem fold6 (l : Fin 1024) : (outsAt0 m c 7 (by decide)).2 (ix2 0 l) = ∑ s, part (dpre m c) (wts m c) (inp m c) l s := by
  refine fold_rows (part (dpre m c) (wts m c) (inp m c) l) (fun n hn => (outsAt0 m c n hn).2 (ix2 0 l)) ?_ fun n hn => ?_
  · let t : Fin cfg0.N := ⟨0, by decide⟩
    show (outsAt0 m c t.val t.isLt).2 (ix2 0 l) = _
    rw [outsAt0_A m c t rfl]
    dsimp only
    refine (congrFun (outA6 c (grid0.coords t) _ _ _ _ _ _ _ _ _ _ _ _ _ _ (iblk m c 0 t) (iblk m c 1 t) (iblk m c 2 t) (iblk m c 3 t) (iblk m c 4 t) _) (ix2 0 l)).trans ?_
    rw [pay2_apply, pay1_apply, zero_add]
    exact part_block m c t l
  · let t : Fin cfg0.N := ⟨n + 1, hn⟩
    show (outsAt0 m c t.val t.isLt).2 (ix2 0 l) = _
    rw [outsAt0_B m c t (by show ¬(n + 1) % 8 = 0; omega)]
    dsimp only
    refine (congrFun (outB6 c (grid0.coords t) _ _ _ _ _ _ _ _ _ _ _ _ _ _ (iblk m c 0 t) (iblk m c 1 t) (iblk m c 2 t) (iblk m c 3 t) (iblk m c 4 t) _ _) (ix2 0 l)).trans ?_
    rw [pay2_apply]
    exact congrArg₂ (· + ·) rfl (part_block m c t l)

/-- The last point. -/
abbrev last : Fin cfg0.N := ⟨7, by decide⟩

theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have e := (flush0_6 t).mp h
  have e' := (flush0_6 t').mp h'
  have b : t.val < 8 := t.isLt
  have b' : t'.val < 8 := t'.isLt
  exact absurd (Fin.ext (by omega)) hne

theorem arr6 (l : Fin 1024) : ((dats m 0 c).arrAt 6 cfg0.N : FVec Ideal S1x1024 .f32) (ix2 0 l) = ∑ s, part (dpre m c) (wts m c) (inp m c) l s := by
  refine (read6 last ((dats m 0 c).arrAt 6 cfg0.N) 0 l).symm.trans ?_
  refine (congrFun (((dats m 0 c).read_blk_arrAt_eq_flushed 6 disjoint6 cfg0.N last last.isLt ((flush0_6 last).mpr rfl)).trans (flushed6 m c last)) (ix2 0 l)).trans ?_
  exact fold6 m c l
end

section
open Cert.Reference4Ideal Cert.Reference4Ideal.Read
variable (a : FVec Ideal S4096x4096 .bf16) (w : FVec Ideal S1024x4096 .bf16) (x : FVec Ideal S4096x1024 .f32) (g : FVec Ideal S1x1024 .f32) (d : FVec Ideal S4096x1024 .f32)

theorem ref18 (s : Fin 4096) (l : Fin 1024) : (val_main_v18 (F := Ideal) a w : FVec Ideal S4096x1024 .f32) (ix2 s l) = row a w s l := by
  pointwise [val_main_v18, val_main_v17, val_main_v15]
  rfl

theorem ref23 (s : Fin 4096) (l : Fin 1024) : (val_main_v23 (F := Ideal) a w g : FVec Ideal S4096x1024 .f32) (ix2 s l) = row a w s l * g (ix2 0 l) := by
  have h := ref18 a w s l
  unfold val_main_v23
  generalize (val_main_v18 (F := Ideal) a w : FVec Ideal S4096x1024 .f32) = y at h ⊢
  pointwise [val_main_v22]
  simp only [h]

theorem ref34 (s : Fin 4096) (l : Fin 1024) : (val_main_v34 (F := Ideal) a w x g : FVec Ideal S4096x1024 .f32) (ix2 s l)
    = back (fun k => x (ix2 s k)) (fun k => g (ix2 0 k)) (row a w s) := by
  have h := fun l => ref23 a w g s l
  unfold val_main_v34 val_main_v33 val_main_v32 val_main_v30 val_main_v26 val_main_v25 val_main_v24
  generalize (val_main_v23 (F := Ideal) a w g : FVec Ideal S4096x1024 .f32) = y at h ⊢
  pointwise [val_main_v31, val_main_cst_4, val_main_cst_5, val_main_cst_6, val_main_v10, val_main_v9, val_main_cst_2, val_main_v8, val_main_v7, val_main_v6, val_main_v5, val_main_v4,
    val_main_v3, val_main_v2, val_main_v1, val_main_v0, val_main_cst, val_main_cst_0, val_main_cst_1]
  simp only [h]
  exact (Fin.sum_univ_one _).trans rfl

theorem ref21 (l : Fin 1024) : (val_main_v21 (F := Ideal) a w x : FVec Ideal S1x1024 .f32) (ix2 0 l) = ∑ s, part a w x l s := by
  have h := fun s l => ref18 a w s l
  unfold val_main_v21 val_main_v20 val_main_v19
  generalize (val_main_v18 (F := Ideal) a w : FVec Ideal S4096x1024 .f32) = y at h ⊢
  pointwise [val_main_cst_3, val_main_v12, val_main_v11, val_main_v7, val_main_v6, val_main_v5, val_main_v4, val_main_v3, val_main_v2, val_main_v1, val_main_v0,
    val_main_cst, val_main_cst_0, val_main_cst_1]
  simp only [h]
  exact Finset.sum_congr rfl fun s _ => mul_comm _ _

theorem ref38 (s : Fin 4096) (l : Fin 1024) : (val_main_v38 (F := Ideal) a w x g d : FVec Ideal S4096x1024 .f32) (ix2 s l)
    = vjp (fun k => x (ix2 s k)) (fun k => g (ix2 0 k)) (row a w s) l + d (ix2 s l) := by
  have h := ref23 a w g s l
  have h' := ref34 a w x g s l
  unfold val_main_v38 val_main_v37 val_main_v36 val_main_v35 val_main_v29 val_main_v28
  generalize (val_main_v34 (F := Ideal) a w x g : FVec Ideal S4096x1024 .f32) = z at h' ⊢
  generalize (val_main_v23 (F := Ideal) a w g : FVec Ideal S4096x1024 .f32) = y at h ⊢
  pointwise [val_main_v27, val_main_v7, val_main_v6, val_main_v5, val_main_v4, val_main_v3, val_main_v2, val_main_v1, val_main_v0,
    val_main_cst, val_main_cst_0, val_main_cst_1]
  simp only [h, h']
  rw [add_assoc, add_assoc, add_comm]
  exact congrArg₂ (· + ·) (add_assoc _ _ _).symm rfl
end

section
open Cert.Kernel4Ideal Cert.Kernel4Ideal.Gen
variable (m : (ℓ : Loc nD τ sig) → Buf (Elt Ideal) ℓ) (c : Dev nD)

theorem gain_eq : (Cert.Reference4Ideal.Read.val_main_v21 (F := Ideal) (m ((c.tc : Thread nD τ).loc main_arg0)) (m ((c.tc : Thread nD τ).loc main_arg1))
      (m ((c.tc : Thread nD τ).loc main_arg2)) : FVec Ideal S1x1024 .f32)
      = (dats m 0 c).arrAt 6 cfg0.N :=
  ext2 (φ := .f32) _ _ fun p l => by
    obtain rfl : p = 0 := Subsingleton.elim _ _
    exact (ref21 _ _ _ l).trans (arr6 m c l).symm

theorem input_eq :
    (Cert.Reference4Ideal.Read.val_main_v38 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) : FVec Ideal S4096x1024 .f32)
      = (dats m 0 c).arrAt 5 cfg0.N :=
  ext2 (φ := .f32) _ _ fun s l => (ref38 _ _ _ _ _ s l).trans
    ((congrArg₂ (· + ·) (grad_eq _ _ _ l).symm rfl).trans (arr5 m c s l).symm)
end

end Cert.Mlp.UpBwd

end
-- ==== Proof.Mlp.UpGrad.lean ====
/- The gradient of the up-projection's weights: kernel and reference leave the same array. -/
module

public import proofs.«01_k».proof.Proof.Gen.Kernel5Ideal.Value
public import proofs.«01_k».proof.Proof.Gen.Reference5Ideal.Read
public import proofs.«01_k».proof.Proof.Mlp.Norm

@[expose] public section

set_option maxRecDepth 16384

noncomputable section

open Idealize.ShloMosaic Idealize.ShloMosaic.TcCoe Idealize.ShloMosaic.Tactic

namespace Cert.Mlp.UpGrad

section
open Cert.Kernel5Ideal Cert.Kernel5Ideal.Gen Cert.Kernel5Ideal.Value

theorem pay2_apply (y : FVec Ideal S256x4096 .f32) (a : FVec Ideal S2048x256 .bf16) (b : FVec Ideal S2048x4096 .bf16) (r : Fin 256) (j : Fin 4096) :
    k0_pay2 (F := Ideal) y a b (ix2 r j) = y (ix2 r j) + dot (fun k => a (ix2 k r)) (fun k => b (ix2 k j)) := by
  pointwise [k0_pay2]
  rfl

theorem pay1_apply (r : Fin 256) (j : Fin 4096) : k0_pay1 (F := Ideal) (ix2 r j) = (0 : EReal) := by
  pointwise [k0_pay1]

theorem pay6_apply (y : FVec Ideal S256x512 .f32) (p : Fin 1) (r : Fin 256) (l : Fin 512) : k0_pay6 (F := Ideal) y (ix3 p r l) = y (ix2 r l) := by
  obtain rfl : p = 0 := Subsingleton.elim _ _
  pointwise [k0_pay6]

/-- The sums, their columns cut into eight shards of 512. -/
def spread (y : FVec Ideal S256x4096 .f32) : FVec Ideal S8x256x512 .bf16 :=
  fun x => y (ix2 (x 1) ⟨512 * (x 0).val + (x 2).val, by have h0 : (x 0).val < 8 := (x 0).isLt; have h2 : (x 2).val < 512 := (x 2).isLt; omega⟩)

/-- One shard, stored from the columns read back. -/
theorem shard (d o : Nat) (ho : o = 512 * d) (i1 : ∀ a, (![d, 0, 0] : Fin 3 → Nat) a + S1x256x512.size a ≤ S8x256x512.size a)
    (i2 : ∀ a, (![0, o] : Fin 2 → Nat) a + S256x512.size a ≤ S256x4096.size a) (i3 : ∀ a, (![0, 0] : Fin 2 → Nat) a + S256x4096.size a ≤ S256x4096.size a)
    (arg5 : Memref sig .tc .vmem S256x4096 .f32) (y : FVec Ideal S256x4096 .f32) (x : S1x256x512.Idx) :
    k0_pay6 (F := Ideal) (arg5.view.readCov [⟨Rect.unit (s := S256x4096) ![0, 0] S256x4096.size i3, y⟩] (Rect.unit (s := S256x4096) ![0, o] S256x512.size i2).toLoadRect) x
      = spread y ((Rect.unit (s := S8x256x512) ![d, 0, 0] S1x256x512.size i1).idx x) := by
  obtain ⟨p, r, l, rfl⟩ : ∃ p r l, x = ix3 p r l := ⟨x 0, x 1, x 2, by funext a; match a with | ⟨0, _⟩ => rfl | ⟨1, _⟩ => rfl | ⟨2, _⟩ => rfl⟩
  obtain rfl : p = 0 := Subsingleton.elim _ _
  refine (pay6_apply _ 0 r l).trans ?_
  rw [View.readCov_eq_canon', View.canon_unit_zero zeros2]
  refine congrArg y (funext fun a => Fin.ext ?_)
  match a with
  | ⟨0, _⟩ => rfl
  | ⟨1, _⟩ => show o + 1 * l.val = 512 * (d + 1 * 0) + (0 + 1 * l.val); omega

section
variable (c : Dev nD) (i : grid0.Coords) (arg2 : Memref sig .tc .vmem S2048x256 .bf16) (h2 : arg2.IsWhole) (arg3 : Memref sig .tc .vmem S2048x4096 .bf16) (h3 : arg3.IsWhole)
  (arg4 : Memref sig .tc .vmem S8x256x512 .bf16) (h4 : arg4.IsWhole) (arg5 : Memref sig .tc .vmem S256x4096 .f32) (h5 : arg5.IsWhole)
  (a : FVec Ideal S2048x256 .bf16) (b : FVec Ideal S2048x4096 .bf16)

/-- What the first half of the tokens leaves. -/
theorem first_eq (hc0 : cond0_0 i) (hc1 : ¬cond0_1 i) : sout0_A_0 (F := Ideal) c i arg2 h2 arg3 h3 arg4 h4 arg5 h5 hc0 hc1 a b
    = k0_pay2 (F := Ideal) (k0_pay1 (F := Ideal)) a b := by
  unfold sout0_A_0
  rw [View.read_writes_eq_canon _ _ _ (scover0_A_0 (F := Ideal) c i arg2 h2 arg3 h3 arg4 h4 arg5 h5 hc0 hc1 a b)]
  unfold kernelRun0_A
  dsimp only
  rw [View.canon_cons_unit_zero zeros2]
  unfold kernelRun0_A.sl.v3 kernelRun0_A.sl.HS0_1
  rw [View.readCov_cons_toLoadRect, View.readAt_eq_ld, View.readAt_eq_ld, h2.read_unread, h3.read_unread, View.ld_unit_zero (S := S2048x256) zeros2,
    View.ld_unit_zero (S := S2048x4096) zeros2]

/-- What the second half writes back, from what the first left. -/
theorem second_eq (hc0 : ¬cond0_0 i) (hc1 : cond0_1 i) (y : FVec Ideal S256x4096 .f32) : out0_B_2 (F := Ideal) c i arg2 h2 arg3 h3 arg4 h4 arg5 h5 hc0 hc1 a b y
    = spread (k0_pay2 (F := Ideal) y a b) := by
  unfold out0_B_2
  rw [View.read_writes_eq_canon _ _ _ (cover0_B_2 (F := Ideal) c i arg2 h2 arg3 h3 arg4 h4 arg5 h5 hc0 hc1 a b y)]
  funext x
  refine View.canon_apply_of_pieces (spread (k0_pay2 (F := Ideal) y a b)) _ ?_ x (cover0_B_2 (F := Ideal) c i arg2 h2 arg3 h3 arg4 h4 arg5 h5 hc0 hc1 a b y x)
  unfold kernelRun0_B
  dsimp only
  unfold kernelRun0_B.sl.r kernelRun0_B.sl.v14 kernelRun0_B.sl.v19 kernelRun0_B.sl.v24 kernelRun0_B.sl.v29 kernelRun0_B.sl.v34 kernelRun0_B.sl.v39 kernelRun0_B.sl.v44 kernelRun0_B.sl.v49
    kernelRun0_B.sl.HS0_1
  simp only [View.readAt_eq_ld, h2.read_unread, h3.read_unread, h5.read_unread, View.ld_unit_zero (S := S2048x256) zeros2, View.ld_unit_zero (S := S2048x4096) zeros2,
    View.ld_unit_zero (S := S256x4096) zeros2, List.forall_mem_cons, List.not_mem_nil, false_implies, implies_true, and_true]
  exact ⟨shard 7 3584 rfl _ _ _ arg5 _, shard 6 3072 rfl _ _ _ arg5 _, shard 5 2560 rfl _ _ _ arg5 _, shard 4 2048 rfl _ _ _ arg5 _,
    shard 3 1536 rfl _ _ _ arg5 _, shard 2 1024 rfl _ _ _ arg5 _, shard 1 512 rfl _ _ _ arg5 _, shard 0 0 rfl _ _ _ arg5 _⟩
end

theorem points (t : Fin cfg0.N) : t.val < 8 := t.isLt

theorem index0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)

theorem index1 : ∀ t : Fin cfg0.N, win0_1.index t 0 = t.val % 2 ∧ win0_1.index t 1 = 0 :=
  (by decide +kernel : ∀ t : Fin grid0.N, win0_1.index t 0 = t.val % 2 ∧ win0_1.index t 1 = 0)

theorem index2 : ∀ t : Fin cfg0.N, win0_2.index t 0 = 0 ∧ win0_2.index t 1 = t.val / 2 ∧ win0_2.index t 2 = 0 :=
  (by decide +kernel : ∀ t : Fin grid0.N, win0_2.index t 0 = 0 ∧ win0_2.index t 1 = t.val / 2 ∧ win0_2.index t 2 = 0)

theorem read0 (t : Fin cfg0.N) (y : FVec Ideal S4096x1024 .bf16) (k : Fin 2048) (j : Fin 256) :
    (((cfg0.win 0).blk t).view.read (Elt Ideal) y : FVec Ideal S2048x256 .bf16) (ix2 k j)
      = y (ix2 ⟨2048 * (t.val % 2) + k.val, by omega⟩ ⟨256 * (t.val / 2) + j.val, by have := points t; omega⟩) := by
  rw [View.read_apply]
  show y _ = y _
  refine congrArg y (funext fun a => Fin.ext ?_)
  match a with
  | ⟨0, _⟩ => show win0_0.index t 0 * 2048 + 1 * k.val = 2048 * (t.val % 2) + k.val; rw [(index0 t).1]; omega
  | ⟨1, _⟩ => show win0_0.index t 1 * 256 + 1 * j.val = 256 * (t.val / 2) + j.val; rw [(index0 t).2]; omega

theorem read1 (t : Fin cfg0.N) (y : FVec Ideal S4096x4096 .bf16) (k : Fin 2048) (j : Fin 4096) :
    (((cfg0.win 1).blk t).view.read (Elt Ideal) y : FVec Ideal S2048x4096 .bf16) (ix2 k j) = y (ix2 ⟨2048 * (t.val % 2) + k.val, by omega⟩ j) := by
  rw [View.read_apply]
  show y _ = y _
  refine congrArg y (funext fun a => Fin.ext ?_)
  match a with
  | ⟨0, _⟩ => show win0_1.index t 0 * 2048 + 1 * k.val = 2048 * (t.val % 2) + k.val; rw [(index1 t).1]; omega
  | ⟨1, _⟩ => show win0_1.index t 1 * 4096 + 1 * j.val = j.val; rw [(index1 t).2]; omega

theorem read2 (t : Fin cfg0.N) (y : FVec Ideal S8x1024x512 .bf16) (d : Fin 8) (r : Fin 256) (l : Fin 512) :
    (((cfg0.win 2).blk t).view.read (Elt Ideal) y : FVec Ideal S8x256x512 .bf16) (ix3 d r l)
      = y (ix3 d ⟨256 * (t.val / 2) + r.val, by have := points t; omega⟩ l) := by
  rw [View.read_apply]
  show y _ = y _
  refine congrArg y (funext fun a => Fin.ext ?_)
  match a with
  | ⟨0, _⟩ => show win0_2.index t 0 * 8 + 1 * d.val = d.val; rw [(index2 t).1]; omega
  | ⟨1, _⟩ => show win0_2.index t 1 * 256 + 1 * r.val = 256 * (t.val / 2) + r.val; rw [(index2 t).2.1]; omega
  | ⟨2, _⟩ => show win0_2.index t 2 * 512 + 1 * l.val = l.val; rw [(index2 t).2.2]; omega

variable (m : (ℓ : Loc nD τ sig) → Buf (Elt Ideal) ℓ) (c : Dev nD)

/-- The arguments, with their shapes. -/
abbrev inp : FVec Ideal S4096x1024 .bf16 := V m c main_arg0
abbrev grad : FVec Ideal S4096x4096 .bf16 := V m c main_arg1

/-- An entry of the product over the tokens. -/
abbrev prod (a : FVec Ideal S4096x1024 .bf16) (b : FVec Ideal S4096x4096 .bf16) (r : Fin 1024) (j : Fin 4096) : EReal :=
  dot (fun k => a (ix2 k r)) (fun k => b (ix2 k j))

/-- The product over the tokens `2048 h`, ..., `2048 h + 2047`. -/
abbrev half (a : FVec Ideal S4096x1024 .bf16) (b : FVec Ideal S4096x4096 .bf16) (h : Fin 2) (r : Fin 1024) (j : Fin 4096) : EReal :=
  dot (fun k : Fin 2048 => a (ix2 ⟨2048 * h.val + k.val, by omega⟩ r)) (fun k => b (ix2 ⟨2048 * h.val + k.val, by omega⟩ j))

theorem halves (a : FVec Ideal S4096x1024 .bf16) (b : FVec Ideal S4096x4096 .bf16) (r : Fin 1024) (j : Fin 4096) : half a b 0 r j + half a b 1 r j = prod a b r j := by
  refine Eq.symm ((Fin.sum_univ_add (fun k : Fin (2048 + 2048) => a (ix2 k r) * b (ix2 k j))).trans (congrArg₂ (· + ·) ?_ ?_))
  · exact Finset.sum_congr rfl fun k _ => congrArg (fun k => a (ix2 k r) * b (ix2 k j)) (Fin.ext (show k.val = 2048 * 0 + k.val by omega))
  · exact Finset.sum_congr rfl fun k _ => congrArg (fun k => a (ix2 k r) * b (ix2 k j)) (Fin.ext (show 2048 + k.val = 2048 * 1 + k.val by omega))

/-- A block's product, in the whole arrays. -/
theorem half_block (t : Fin cfg0.N) (h : Fin 2) (ht : t.val % 2 = h.val) (n : Fin 4) (hn : t.val / 2 = n.val) (r : Fin 256) (j : Fin 4096) :
    dot (fun k => (iblk m c 0 t : FVec Ideal S2048x256 .bf16) (ix2 k r)) (fun k => (iblk m c 1 t : FVec Ideal S2048x4096 .bf16) (ix2 k j))
      = half (inp m c) (grad m c) h ⟨256 * n.val + r.val, by omega⟩ j := by
  refine congrArg₂ dot (funext fun k => (read0 t (inp m c) k r).trans ?_) (funext fun k => (read1 t (grad m c) k j).trans ?_)
  · exact congrArg₂ (fun k r => inp m c (ix2 k r)) (Fin.ext (by show 2048 * (t.val % 2) + k.val = _; rw [ht])) (Fin.ext (by show 256 * (t.val / 2) + r.val = _; rw [hn]))
  · exact congrArg (fun k => grad m c (ix2 k j)) (Fin.ext (by show 2048 * (t.val % 2) + k.val = _; rw [ht]))

/-- The two points of a block of rows. -/
abbrev even (n : Fin 4) : Fin cfg0.N := ⟨2 * n.val, by show _ < 8; omega⟩
abbrev odd (n : Fin 4) : Fin cfg0.N := ⟨2 * n.val + 1, by show _ < 8; omega⟩

theorem outs_congr (n k : ℕ) (h : n = k) (hn : n < cfg0.N) (hk : k < cfg0.N) : outsAt0 m c n hn = outsAt0 m c k hk := by
  subst h; rfl

theorem outs_first (t : Fin cfg0.N) (h0 : t.val % 2 = 0) (h1 : ¬t.val % 2 = 1) :
    (outsAt0 m c t.val t.isLt).2 = k0_pay2 (F := Ideal) (k0_pay1 (F := Ideal)) (iblk m c 0 t) (iblk m c 1 t) := by
  rw [outsAt0_A m c t h0 h1]
  dsimp only
  exact first_eq c (grid0.coords t) (ms0_0 t) (hs0_0 t) (ms0_1 t) (hs0_1 t) (ms0_2 t) (hs0_2 t) scM0_0 (Memref.isWhole_whole _) (iblk m c 0 t) (iblk m c 1 t) _ _

theorem arr2_block (d : Fin 8) (n : Fin 4) (r : Fin 256) (l : Fin 512) :
    (G2 m c : FVec Ideal S8x1024x512 .bf16) (ix3 d ⟨256 * n.val + r.val, by omega⟩ l)
      = prod (inp m c) (grad m c) ⟨256 * n.val + r.val, by omega⟩ ⟨512 * d.val + l.val, by omega⟩ := by
  have e0 : (even n).val % 2 = 0 := by show 2 * n.val % 2 = 0; omega
  have e1 : (odd n).val % 2 = 1 := by show (2 * n.val + 1) % 2 = 1; omega
  have e2 : (odd n).val / 2 = n.val := by show (2 * n.val + 1) / 2 = n.val; omega
  have e3 : (even n).val / 2 = n.val := by show 2 * n.val / 2 = n.val; omega
  have hr : (⟨256 * ((odd n).val / 2) + r.val, by omega⟩ : Fin 1024) = ⟨256 * n.val + r.val, by omega⟩ := Fin.ext (by show 256 * ((odd n).val / 2) + r.val = _; rw [e2])
  refine (congrArg (fun s => (G2 m c : FVec Ideal S8x1024x512 .bf16) (ix3 d s l)) hr.symm).trans ?_
  refine (read2 (odd n) (G2 m c) d r l).symm.trans ?_
  refine (congrFun ((flushed2_eq m c (odd n) ((flush0_2 (odd n)).mpr e1)).symm.trans (flushed2_B m c (odd n) (by omega) e1)) (ix3 d r l)).trans ?_
  refine (congrFun (second_eq c (grid0.coords (odd n)) (ms0_0 (odd n)) (hs0_0 (odd n)) (ms0_1 (odd n)) (hs0_1 (odd n)) (ms0_2 (odd n)) (hs0_2 (odd n)) scM0_0 (Memref.isWhole_whole _)
    (iblk m c 0 (odd n)) (iblk m c 1 (odd n)) _ _ _) (ix3 d r l)).trans ?_
  refine (pay2_apply _ (iblk m c 0 (odd n)) (iblk m c 1 (odd n)) r ⟨512 * d.val + l.val, by omega⟩).trans ?_
  refine Eq.trans (congrArg₂ (· + ·) ?_ (half_block m c (odd n) 1 e1 n e2 r ⟨512 * d.val + l.val, by omega⟩)) (halves _ _ _ _)
  refine (congrFun ((congrArg Prod.snd (outs_congr m c ((odd n).val - 1) (even n).val rfl _ (even n).isLt)).trans (outs_first m c (even n) e0 (by omega)))
    (ix2 r ⟨512 * d.val + l.val, by omega⟩)).trans ?_
  refine (pay2_apply _ (iblk m c 0 (even n)) (iblk m c 1 (even n)) r ⟨512 * d.val + l.val, by omega⟩).trans ?_
  rw [pay1_apply, zero_add]
  exact half_block m c (even n) 0 e0 n e3 r ⟨512 * d.val + l.val, by omega⟩

theorem arr2 (d : Fin 8) (s : Fin 1024) (l : Fin 512) :
    (G2 m c : FVec Ideal S8x1024x512 .bf16) (ix3 d s l) = prod (inp m c) (grad m c) s ⟨512 * d.val + l.val, by omega⟩ := by
  have hs : s = ⟨256 * (⟨s.val / 256, by omega⟩ : Fin 4).val + (⟨s.val % 256, Nat.mod_lt _ (by decide)⟩ : Fin 256).val, by show 256 * (s.val / 256) + s.val % 256 < 1024; omega⟩ :=
    Fin.ext (by show s.val = 256 * (s.val / 256) + s.val % 256; omega)
  rw [hs]
  exact arr2_block m c d _ _ l
end

section
open Cert.Reference5Ideal Cert.Reference5Ideal.Read

theorem ref8 (a : FVec Ideal S4096x1024 .bf16) (b : FVec Ideal S4096x4096 .bf16) (d : Fin 8) (s : Fin 1024) (l : Fin 512) :
    (val_main_v8 (F := Ideal) a b : FVec Ideal S8x1024x512 .bf16) (ix3 d s l) = prod a b s ⟨512 * d.val + l.val, by omega⟩ := by
  pointwise [val_main_v8, val_main_v7, val_main_v6, val_main_v5, val_main_v4, val_main_v3, val_main_v1]
  refine Finset.sum_congr rfl fun k _ => (mul_comm _ _).trans ?_
  exact congrArg (fun j => a (ix2 k s) * b (ix2 k j)) (Fin.ext (by show d.val * 512 + l.val = 512 * d.val + l.val; omega))
end

section
open Cert.Kernel5Ideal Cert.Kernel5Ideal.Gen Cert.Kernel5Ideal.Value

theorem array_eq (m : (ℓ : Loc nD τ sig) → Buf (Elt Ideal) ℓ) (c : Dev nD) :
    (Cert.Reference5Ideal.Read.val_main_v8 (F := Ideal) (m ((c.tc : Thread nD τ).loc main_arg0)) (m ((c.tc : Thread nD τ).loc main_arg1)) : FVec Ideal S8x1024x512 .bf16)
      = G2 m c :=
  ext3 (φ := .bf16) _ _ fun d r l => (ref8 _ _ d r l).trans (arr2 m c d r l).symm
end

end Cert.Mlp.UpGrad

end
-- ==== Proof.Mlp.UpFwd.lean ====
/- The up-projection behind its norm, and the squared positive part: kernel and reference leave the same arrays. -/
module

public import proofs.«01_k».proof.Proof.Gen.Kernel6Ideal.Value
public import proofs.«01_k».proof.Proof.Gen.Reference6Ideal.Read
public import proofs.«01_k».proof.Proof.Mlp.Norm

@[expose] public section

set_option maxRecDepth 16384

noncomputable section

open Idealize.ShloMosaic Idealize.ShloMosaic.TcCoe Idealize.ShloMosaic.Tactic

namespace Cert.Mlp.UpFwd

/-- The square of the positive part. -/
def square (y : EReal) : EReal := max y 0 * max y 0

section
open Cert.Kernel6Ideal Cert.Kernel6Ideal.Gen Cert.Kernel6Ideal.Value

theorem pay1_apply (x : FVec Ideal S512x1024 .f32) (g : FVec Ideal S1x1024 .f32) (r : Fin 512) (k : Fin 1024) :
    k0_pay1 (F := Ideal) x g (ix2 r k) = normed (fun k => x (ix2 r k)) (fun k => g (ix2 0 k)) k := by
  pointwise [k0_pay1]
  rfl

theorem pay10_apply (h : FVec Ideal S512x1024 .bf16) (w : FVec Ideal S1024x512 .bf16) (r j : Fin 512) :
    k0_pay10 (F := Ideal) h w (ix2 r j) = dot (fun k => h (ix2 r k)) (fun k => w (ix2 k j)) := by
  pointwise [k0_pay10, k0_pay9]
  rfl

theorem pay11_apply (h : FVec Ideal S512x1024 .bf16) (w : FVec Ideal S1024x512 .bf16) (r j : Fin 512) :
    k0_pay11 (F := Ideal) h w (ix2 r j) = square (dot (fun k => h (ix2 r k)) (fun k => w (ix2 k j))) := by
  pointwise [k0_pay11, k0_pay9]
  rfl

/-- The product of the rows of `h` and the columns of `w`, and the square of its positive part. -/
def prod (h : FVec Ideal S512x1024 .bf16) (w : FVec Ideal S1024x4096 .bf16) : FVec Ideal S512x4096 .bf16 :=
  fun y => dot (fun k => h (ix2 (y 0) k)) (fun k => w (ix2 k (y 1)))
def squares (h : FVec Ideal S512x1024 .bf16) (w : FVec Ideal S1024x4096 .bf16) : FVec Ideal S512x4096 .bf16 :=
  fun y => square (prod h w y)

section
variable (o : Nat) (i1 : ∀ a, (![0, o] : Fin 2 → Nat) a + S512x512.size a ≤ S512x4096.size a) (i2 : ∀ a, (![0, o] : Fin 2 → Nat) a + S1024x512.size a ≤ S1024x4096.size a)
  (h : FVec Ideal S512x1024 .bf16) (w : FVec Ideal S1024x4096 .bf16) (r j : Fin 512)

/-- The columns of one chunk, where the whole array has them. -/
theorem dot_chunk : dot (fun k => h (ix2 r k)) (fun k => (View.ld (Val := Elt Ideal) (e' := .bf16) w (Rect.unit (s := S1024x4096) ![0, o] S1024x512.size i2) : FVec Ideal S1024x512 .bf16) (ix2 k j))
    = prod h w ((Rect.unit (s := S512x4096) ![0, o] S512x512.size i1).idx (ix2 r j)) := by
  refine congrArg₂ dot (funext fun k => congrArg h (funext fun a => Fin.ext ?_)) (funext fun k => congrArg w (funext fun a => Fin.ext ?_))
  · match a with
    | ⟨0, _⟩ => show r.val = 0 + 1 * r.val; omega
    | ⟨1, _⟩ => rfl
  · match a with
    | ⟨0, _⟩ => show 0 + 1 * k.val = k.val; omega
    | ⟨1, _⟩ => rfl

theorem chunk10 (x : S512x512.Idx) : k0_pay10 (F := Ideal) h (View.ld w (Rect.unit (s := S1024x4096) ![0, o] S1024x512.size i2)) x
    = prod h w ((Rect.unit (s := S512x4096) ![0, o] S512x512.size i1).idx x) := by
  obtain ⟨r, j, rfl⟩ : ∃ r j, x = ix2 r j := ⟨x 0, x 1, by funext a; match a with | ⟨0, _⟩ => rfl | ⟨1, _⟩ => rfl⟩
  exact (pay10_apply h _ r j).trans (dot_chunk o i1 i2 h w r j)

theorem chunk11 (x : S512x512.Idx) : k0_pay11 (F := Ideal) h (View.ld w (Rect.unit (s := S1024x4096) ![0, o] S1024x512.size i2)) x
    = squares h w ((Rect.unit (s := S512x4096) ![0, o] S512x512.size i1).idx x) := by
  obtain ⟨r, j, rfl⟩ : ∃ r j, x = ix2 r j := ⟨x 0, x 1, by funext a; match a with | ⟨0, _⟩ => rfl | ⟨1, _⟩ => rfl⟩
  exact (pay11_apply h _ r j).trans (congrArg square (dot_chunk o i1 i2 h w r j))
end

section
variable (x : FVec Ideal S512x1024 .f32) (g : FVec Ideal S1x1024 .f32) (w : FVec Ideal S1024x4096 .bf16)

theorem out3_eq : out0_3 (F := Ideal) x g w = k0_pay1 (F := Ideal) x g := by
  unfold out0_3
  rw [View.canon_unit_zero zeros2, View.ld_unit_zero (S := S512x1024) zeros2, View.ld_unit_zero (S := S1x1024) zeros2]

theorem pay27_eq : k0_pay27 (F := Ideal) x g w = k0_pay1 (F := Ideal) x g := by
  unfold k0_pay27
  rw [View.ld_unit_zero (S := S512x1024) zeros2, View.ld_unit_zero (S := S1x1024) zeros2]

theorem out4_eq : out0_4 (F := Ideal) x g w = prod (k0_pay1 (F := Ideal) x g) w := by
  rw [← pay27_eq x g w]
  unfold out0_4
  funext y
  refine View.canon_apply_of_pieces (prod (k0_pay27 (F := Ideal) x g w) w) _ ?_ y (cover0_4 (F := Ideal) _ _ _ _ _ _ _ _ y)
  simp only [List.forall_mem_cons, List.not_mem_nil, false_implies, implies_true, and_true]
  exact ⟨chunk10 _ _ _ _ w, chunk10 _ _ _ _ w, chunk10 _ _ _ _ w, chunk10 _ _ _ _ w, chunk10 _ _ _ _ w, chunk10 _ _ _ _ w, chunk10 _ _ _ _ w, chunk10 _ _ _ _ w⟩

theorem out5_eq : out0_5 (F := Ideal) x g w = squares (k0_pay1 (F := Ideal) x g) w := by
  rw [← pay27_eq x g w]
  unfold out0_5
  funext y
  refine View.canon_apply_of_pieces (squares (k0_pay27 (F := Ideal) x g w) w) _ ?_ y (cover0_5 (F := Ideal) _ _ _ _ _ _ _ _ y)
  simp only [List.forall_mem_cons, List.not_mem_nil, false_implies, implies_true, and_true]
  exact ⟨chunk11 _ _ _ _ w, chunk11 _ _ _ _ w, chunk11 _ _ _ _ w, chunk11 _ _ _ _ w, chunk11 _ _ _ _ w, chunk11 _ _ _ _ w, chunk11 _ _ _ _ w, chunk11 _ _ _ _ w⟩
end

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

variable (t : Fin cfg0.N)

theorem read0 (y : FVec Ideal S4096x1024 .f32) (r : Fin 512) (j : Fin 1024) :
    (((cfg0.win 0).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_0.index t 0 * 512 + 1 * r.val = 512 * t.val + r.val; rw [(index0 t).1]; omega
  | ⟨1, _⟩ => show win0_0.index t 1 * 1024 + 1 * j.val = j.val; rw [(index0 t).2]; omega

theorem read1 (y : FVec Ideal S1x1024 .f32) (r : Fin 1) (j : Fin 1024) :
    (((cfg0.win 1).blk t).view.read (Elt Ideal) y : FVec Ideal S1x1024 .f32) (ix2 r j) = y (ix2 r j) := by
  rw [View.read_apply]
  show y _ = y _
  refine congrArg y (funext fun a => Fin.ext ?_)
  match a with
  | ⟨0, _⟩ => show win0_1.index t 0 * 1 + 1 * r.val = r.val; rw [(index1 t).1]; omega
  | ⟨1, _⟩ => show win0_1.index t 1 * 1024 + 1 * j.val = j.val; rw [(index1 t).2]; omega

theorem read2 (y : FVec Ideal S1024x4096 .bf16) (r : Fin 1024) (j : Fin 4096) :
    (((cfg0.win 2).blk t).view.read (Elt Ideal) y : FVec Ideal S1024x4096 .bf16) (ix2 r j) = y (ix2 r j) := by
  rw [View.read_apply]
  show y _ = y _
  refine congrArg y (funext fun a => Fin.ext ?_)
  match a with
  | ⟨0, _⟩ => show win0_2.index t 0 * 1024 + 1 * r.val = r.val; rw [(index2 t).1]; omega
  | ⟨1, _⟩ => show win0_2.index t 1 * 4096 + 1 * j.val = j.val; rw [(index2 t).2]; omega

theorem read3 (y : FVec Ideal S4096x1024 .bf16) (r : Fin 512) (j : Fin 1024) :
    (((cfg0.win 3).blk t).view.read (Elt Ideal) y : FVec Ideal S512x1024 .bf16) (ix2 r j) = y (ix2 (rowAt t r) j) := by
  rw [View.read_apply]
  show y _ = y _
  refine congrArg y (funext fun a => Fin.ext ?_)
  match a with
  | ⟨0, _⟩ => show win0_3.index t 0 * 512 + 1 * r.val = 512 * t.val + r.val; rw [(index3 t).1]; omega
  | ⟨1, _⟩ => show win0_3.index t 1 * 1024 + 1 * j.val = j.val; rw [(index3 t).2]; omega

theorem read4 (y : FVec Ideal S4096x4096 .bf16) (r : Fin 512) (j : Fin 4096) :
    (((cfg0.win 4).blk t).view.read (Elt Ideal) y : FVec Ideal S512x4096 .bf16) (ix2 r j) = y (ix2 (rowAt t r) j) := by
  rw [View.read_apply]
  show y _ = y _
  refine congrArg y (funext fun a => Fin.ext ?_)
  match a with
  | ⟨0, _⟩ => show win0_4.index t 0 * 512 + 1 * r.val = 512 * t.val + r.val; rw [(index4 t).1]; omega
  | ⟨1, _⟩ => show win0_4.index t 1 * 4096 + 1 * j.val = j.val; rw [(index4 t).2]; omega

theorem read5 (y : FVec Ideal S4096x4096 .bf16) (r : Fin 512) (j : Fin 4096) :
    (((cfg0.win 5).blk t).view.read (Elt Ideal) y : FVec Ideal S512x4096 .bf16) (ix2 r j) = y (ix2 (rowAt t r) j) := by
  rw [View.read_apply]
  show y _ = y _
  refine congrArg y (funext fun a => Fin.ext ?_)
  match a with
  | ⟨0, _⟩ => show win0_5.index t 0 * 512 + 1 * r.val = 512 * t.val + r.val; rw [(index5 t).1]; omega
  | ⟨1, _⟩ => show win0_5.index t 1 * 4096 + 1 * j.val = j.val; rw [(index5 t).2]; omega

variable (m : (ℓ : Loc nD τ sig) → Buf (Elt Ideal) ℓ) (c : Dev nD)

/-- The arguments, with their shapes. -/
abbrev res : FVec Ideal S4096x1024 .f32 := V m c main_arg0
abbrev gain : FVec Ideal S1x1024 .f32 := V m c main_arg1
abbrev wts : FVec Ideal S1024x4096 .bf16 := V m c main_arg2

/-- A row of the norm's output, and an entry of its product with the weights. -/
abbrev row (x : FVec Ideal S4096x1024 .f32) (g : FVec Ideal S1x1024 .f32) (s : Fin 4096) : Fin 1024 → EReal :=
  normed (fun k => x (ix2 s k)) (fun k => g (ix2 0 k))
abbrev entry (x : FVec Ideal S4096x1024 .f32) (g : FVec Ideal S1x1024 .f32) (w : FVec Ideal S1024x4096 .bf16) (s : Fin 4096) (j : Fin 4096) : EReal :=
  dot (row x g s) (fun k => w (ix2 k j))

theorem row_block (r : Fin 512) (k : Fin 1024) :
    k0_pay1 (F := Ideal) (iblk m c 0 t) (iblk m c 1 t) (ix2 r k) = row (res m c) (gain m c) (rowAt t r) k :=
  (pay1_apply (iblk m c 0 t) (iblk m c 1 t) r k).trans
    (congrFun (congrArg₂ normed (funext fun k => read0 t (res m c) r k) (funext fun k => read1 t (gain m c) 0 k)) k)

theorem entry_block (r : Fin 512) (j : Fin 4096) :
    prod (k0_pay1 (F := Ideal) (iblk m c 0 t) (iblk m c 1 t)) (iblk m c 2 t) (ix2 r j) = entry (res m c) (gain m c) (wts m c) (rowAt t r) j :=
  congrArg₂ dot (funext fun k => row_block t m c r k) (funext fun k => read2 t (wts m c) k j)

theorem arr3 (s : Fin 4096) (k : Fin 1024) : ((dats m 0 c).arrAt 3 cfg0.N : FVec Ideal S4096x1024 .bf16) (ix2 s k) = row (res m c) (gain m c) s k := by
  obtain ⟨t, r, rfl⟩ : ∃ t : Fin cfg0.N, ∃ r, rowAt t r = s := exists_row s
  refine (read3 t ((dats m 0 c).arrAt 3 cfg0.N) r k).symm.trans ((congrFun ((blocks3 m c t (flush0_3 t)).trans (flushed3 m c t)) (ix2 r k)).trans ?_)
  exact (congrFun (out3_eq (iblk m c 0 t) (iblk m c 1 t) (iblk m c 2 t)) (ix2 r k)).trans (row_block t m c r k)

theorem arr4 (s : Fin 4096) (j : Fin 4096) :
    ((dats m 0 c).arrAt 4 cfg0.N : FVec Ideal S4096x4096 .bf16) (ix2 s j) = entry (res m c) (gain m c) (wts m c) s j := by
  obtain ⟨t, r, rfl⟩ : ∃ t : Fin cfg0.N, ∃ r, rowAt t r = s := exists_row s
  refine (read4 t ((dats m 0 c).arrAt 4 cfg0.N) r j).symm.trans ((congrFun ((blocks4 m c t (flush0_4 t)).trans (flushed4 m c t)) (ix2 r j)).trans ?_)
  exact (congrFun (out4_eq (iblk m c 0 t) (iblk m c 1 t) (iblk m c 2 t)) (ix2 r j)).trans (entry_block t m c r j)

theorem arr5 (s : Fin 4096) (j : Fin 4096) :
    ((dats m 0 c).arrAt 5 cfg0.N : FVec Ideal S4096x4096 .bf16) (ix2 s j) = square (entry (res m c) (gain m c) (wts m c) s j) := by
  obtain ⟨t, r, rfl⟩ : ∃ t : Fin cfg0.N, ∃ r, rowAt t r = s := exists_row s
  refine (read5 t ((dats m 0 c).arrAt 5 cfg0.N) r j).symm.trans ((congrFun ((blocks5 m c t (flush0_5 t)).trans (flushed5 m c t)) (ix2 r j)).trans ?_)
  exact (congrFun (out5_eq (iblk m c 0 t) (iblk m c 1 t) (iblk m c 2 t)) (ix2 r j)).trans (congrArg square (entry_block t m c r j))
end

section
open Cert.Reference6Ideal Cert.Reference6Ideal.Read
variable (x : FVec Ideal S4096x1024 .f32) (g : FVec Ideal S1x1024 .f32) (w : FVec Ideal S1024x4096 .bf16)

theorem ref11 (s : Fin 4096) (k : Fin 1024) : (val_main_v11 (F := Ideal) x g : FVec Ideal S4096x1024 .f32) (ix2 s k) = row x g s k := by
  pointwise [val_main_v11, val_main_v10, val_main_v9, val_main_v8, val_main_v7, val_main_v6, val_main_v5, val_main_v4, val_main_v3, val_main_v2, val_main_v1, val_main_v0,
    val_main_cst, val_main_cst_0, val_main_cst_1]
  rfl

theorem ref14 (s : Fin 4096) (k : Fin 1024) : (val_main_v14 (F := Ideal) x g : FVec Ideal S4096x1024 .bf16) (ix2 s k) = row x g s k := ref11 x g s k

theorem ref13 (s : Fin 4096) (j : Fin 4096) : (val_main_v13 (F := Ideal) x g w : FVec Ideal S4096x4096 .f32) (ix2 s j) = entry x g w s j := by
  have h := fun k => ref11 x g s k
  unfold val_main_v13
  generalize (val_main_v11 (F := Ideal) x g : FVec Ideal S4096x1024 .f32) = y at h ⊢
  pointwise [val_main_v12]
  simp only [h]
  rfl

theorem ref15 (s : Fin 4096) (j : Fin 4096) : (val_main_v15 (F := Ideal) x g w : FVec Ideal S4096x4096 .bf16) (ix2 s j) = entry x g w s j := ref13 x g w s j

theorem ref18 (s : Fin 4096) (j : Fin 4096) : (val_main_v18 (F := Ideal) x g w : FVec Ideal S4096x4096 .bf16) (ix2 s j) = square (entry x g w s j) := by
  have h := ref13 x g w s j
  unfold val_main_v18 val_main_v17 val_main_v16
  generalize (val_main_v13 (F := Ideal) x g w : FVec Ideal S4096x4096 .f32) = y at h ⊢
  pointwise [val_main_call0_v0, val_main_call0_cst]
  simp only [h]
  rfl
end

section
open Cert.Kernel6Ideal Cert.Kernel6Ideal.Gen
variable (m : (ℓ : Loc nD τ sig) → Buf (Elt Ideal) ℓ) (c : Dev nD)

theorem norm_eq : (Cert.Reference6Ideal.Read.val_main_v14 (F := Ideal) (m ((c.tc : Thread nD τ).loc main_arg0)) (m ((c.tc : Thread nD τ).loc main_arg1)) : FVec Ideal S4096x1024 .bf16)
      = (dats m 0 c).arrAt 3 cfg0.N :=
  ext2 (φ := .bf16) _ _ fun s k => (ref14 _ _ s k).trans (arr3 m c s k).symm

theorem product_eq : (Cert.Reference6Ideal.Read.val_main_v15 (F := Ideal) (m ((c.tc : Thread nD τ).loc main_arg0)) (m ((c.tc : Thread nD τ).loc main_arg1))
      (m ((c.tc : Thread nD τ).loc main_arg2)) : FVec Ideal S4096x4096 .bf16)
      = (dats m 0 c).arrAt 4 cfg0.N :=
  ext2 (φ := .bf16) _ _ fun s j => (ref15 _ _ _ s j).trans (arr4 m c s j).symm

theorem squares_eq : (Cert.Reference6Ideal.Read.val_main_v18 (F := Ideal) (m ((c.tc : Thread nD τ).loc main_arg0)) (m ((c.tc : Thread nD τ).loc main_arg1))
      (m ((c.tc : Thread nD τ).loc main_arg2)) : FVec Ideal S4096x4096 .bf16)
      = (dats m 0 c).arrAt 5 cfg0.N :=
  ext2 (φ := .bf16) _ _ fun s j => (ref18 _ _ _ s j).trans (arr5 m c s j).symm
end

end Cert.Mlp.UpFwd

end
-- ==== Proof.Mlp.DownFwd.lean ====
/- The down-projection and its norm: kernel and reference leave the same arrays. -/
module

public import proofs.«01_k».proof.Proof.Gen.Kernel7Ideal.Value
public import proofs.«01_k».proof.Proof.Gen.Reference7Ideal.Read
public import proofs.«01_k».proof.Proof.Mlp.Norm

@[expose] public section

set_option maxRecDepth 16384

noncomputable section

open Idealize.ShloMosaic Idealize.ShloMosaic.TcCoe Idealize.ShloMosaic.Tactic

namespace Cert.Mlp.DownFwd

section
open Cert.Kernel7Ideal Cert.Kernel7Ideal.Gen Cert.Kernel7Ideal.Value

theorem pay1_apply (a : FVec Ideal S512x4096 .bf16) (w : FVec Ideal S4096x1024 .bf16) (r : Fin 512) (l : Fin 1024) :
    k0_pay1 (F := Ideal) a w (ix2 r l) = dot (fun k => a (ix2 r k)) (fun k => w (ix2 k l)) := by
  pointwise [k0_pay1]
  rfl

theorem pay2_apply (a : FVec Ideal S512x4096 .bf16) (w : FVec Ideal S4096x1024 .bf16) (x : FVec Ideal S512x1024 .f32) (g : FVec Ideal S1x1024 .f32)
    (r : Fin 512) (l : Fin 1024) :
    k0_pay2 (F := Ideal) a w x g (ix2 r l)
      = x (ix2 r l) + normed (fun l => dot (fun k => a (ix2 r k)) (fun k => w (ix2 k l))) (fun l => g (ix2 0 l)) l := by
  have h := fun l => pay1_apply a w r l
  unfold k0_pay2
  generalize k0_pay1 (F := Ideal) a w = y at h ⊢
  pointwise []
  simp only [h]
  rfl

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = t.val ∧ win0_4.index t 1 = 0 :=
  (by decide +kernel : ∀ t : Fin grid0.N, win0_4.index t 0 = t.val ∧ win0_4.index t 1 = 0)

theorem index5 : ∀ t : Fin cfg0.N, win0_5.index t 0 = t.val ∧ win0_5.index t 1 = 0 :=
  (by decide +kernel : ∀ t : Fin grid0.N, win0_5.index t 0 = t.val ∧ win0_5.index t 1 = 0)

variable (t : Fin cfg0.N)

theorem read0 (y : FVec Ideal S4096x4096 .bf16) (r : Fin 512) (j : Fin 4096) :
    (((cfg0.win 0).blk t).view.read (Elt Ideal) y : FVec Ideal S512x4096 .bf16) (ix2 r j) = y (ix2 (rowAt t r) j) := by
  rw [View.read_apply]
  show y _ = y _
  refine congrArg y (funext fun a => Fin.ext ?_)
  match a with
  | ⟨0, _⟩ => show win0_0.index t 0 * 512 + 1 * r.val = 512 * t.val + r.val; rw [(index0 t).1]; omega
  | ⟨1, _⟩ => show win0_0.index t 1 * 4096 + 1 * j.val = j.val; rw [(index0 t).2]; omega

theorem read1 (y : FVec Ideal S4096x1024 .bf16) (r : Fin 4096) (j : Fin 1024) :
    (((cfg0.win 1).blk t).view.read (Elt Ideal) y : FVec Ideal S4096x1024 .bf16) (ix2 r j) = y (ix2 r j) := by
  rw [View.read_apply]
  show y _ = y _
  refine congrArg y (funext fun a => Fin.ext ?_)
  match a with
  | ⟨0, _⟩ => show win0_1.index t 0 * 4096 + 1 * r.val = r.val; rw [(index1 t).1]; omega
  | ⟨1, _⟩ => show win0_1.index t 1 * 1024 + 1 * j.val = j.val; rw [(index1 t).2]; omega

theorem read2 (y : FVec Ideal S4096x1024 .f32) (r : Fin 512) (j : Fin 1024) :
    (((cfg0.win 2).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_2.index t 0 * 512 + 1 * r.val = 512 * t.val + r.val; rw [(index2 t).1]; omega
  | ⟨1, _⟩ => show win0_2.index t 1 * 1024 + 1 * j.val = j.val; rw [(index2 t).2]; omega

theorem read3 (y : FVec Ideal S1x1024 .f32) (j : Fin 1024) :
    (((cfg0.win 3).blk t).view.read (Elt Ideal) y : FVec Ideal S1x1024 .f32) (ix2 0 j) = y (ix2 0 j) := by
  rw [View.read_apply]
  show y _ = y _
  refine congrArg y (funext fun a => Fin.ext ?_)
  match a with
  | ⟨0, _⟩ => show win0_3.index t 0 * 1 + 1 * 0 = 0; rw [(index3 t).1]
  | ⟨1, _⟩ => show win0_3.index t 1 * 1024 + 1 * j.val = j.val; rw [(index3 t).2]; omega

theorem read4 (y : FVec Ideal S4096x1024 .f32) (r : Fin 512) (j : Fin 1024) :
    (((cfg0.win 4).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_4.index t 0 * 512 + 1 * r.val = 512 * t.val + r.val; rw [(index4 t).1]; omega
  | ⟨1, _⟩ => show win0_4.index t 1 * 1024 + 1 * j.val = j.val; rw [(index4 t).2]; omega

theorem read5 (y : FVec Ideal S4096x1024 .f32) (r : Fin 512) (j : Fin 1024) :
    (((cfg0.win 5).blk t).view.read (Elt Ideal) y : FVec Ideal S512x1024 .f32) (ix2 r j) = y (ix2 (rowAt t r) j) := by
  rw [View.read_apply]
  show y _ = y _
  refine congrArg y (funext fun a => Fin.ext ?_)
  match a with
  | ⟨0, _⟩ => show win0_5.index t 0 * 512 + 1 * r.val = 512 * t.val + r.val; rw [(index5 t).1]; omega
  | ⟨1, _⟩ => show win0_5.index t 1 * 1024 + 1 * j.val = j.val; rw [(index5 t).2]; omega

section
variable (a : FVec Ideal S512x4096 .bf16) (w : FVec Ideal S4096x1024 .bf16) (x : FVec Ideal S512x1024 .f32) (g : FVec Ideal S1x1024 .f32) (r : Fin 512) (l : Fin 1024)

theorem out4_apply : out0_4 (F := Ideal) a w x g (ix2 r l) = dot (fun k => a (ix2 r k)) (fun k => w (ix2 k l)) := by
  unfold out0_4
  rw [View.canon_unit_zero zeros2, View.ld_unit_zero (S := S512x4096) zeros2, View.ld_unit_zero (S := S4096x1024) zeros2]
  exact pay1_apply a w r l

theorem out5_apply : out0_5 (F := Ideal) a w x g (ix2 r l)
    = x (ix2 r l) + normed (fun l => dot (fun k => a (ix2 r k)) (fun k => w (ix2 k l))) (fun l => g (ix2 0 l)) l := by
  unfold out0_5
  rw [View.canon_unit_zero zeros2, View.ld_unit_zero (S := S512x4096) zeros2, View.ld_unit_zero (S := S4096x1024) zeros2,
    View.ld_unit_zero (S := S512x1024) zeros2, View.ld_unit_zero (S := S1x1024) zeros2]
  exact pay2_apply a w x g r l
end

variable (m : (ℓ : Loc nD τ sig) → Buf (Elt Ideal) ℓ) (c : Dev nD)

/-- The arguments, with their shapes. -/
abbrev hid : FVec Ideal S4096x4096 .bf16 := V m c main_arg0
abbrev wts : FVec Ideal S4096x1024 .bf16 := V m c main_arg1
abbrev res : FVec Ideal S4096x1024 .f32 := V m c main_arg2
abbrev gain : FVec Ideal S1x1024 .f32 := V m c main_arg3

/-- Row `s` of the product. -/
abbrev prod (s : Fin 4096) (l : Fin 1024) : EReal := dot (fun k => hid m c (ix2 s k)) (fun k => wts m c (ix2 k l))

theorem arr4 (s : Fin 4096) (l : Fin 1024) : ((dats m 0 c).arrAt 4 cfg0.N : FVec Ideal S4096x1024 .f32) (ix2 s l) = prod m c s l := by
  obtain ⟨t, r, rfl⟩ : ∃ t : Fin cfg0.N, ∃ r, rowAt t r = s := exists_row s
  refine (read4 t ((dats m 0 c).arrAt 4 cfg0.N) r l).symm.trans ((congrFun ((blocks4 m c t (flush0_4 t)).trans (flushed4 m c t)) (ix2 r l)).trans ?_)
  refine (out4_apply (iblk m c 0 t) (iblk m c 1 t) (iblk m c 2 t) (iblk m c 3 t) r l).trans ?_
  exact congrArg₂ dot (funext fun k => read0 t (hid m c) r k) (funext fun k => read1 t (wts m c) k l)

theorem arr5 (s : Fin 4096) (l : Fin 1024) :
    ((dats m 0 c).arrAt 5 cfg0.N : FVec Ideal S4096x1024 .f32) (ix2 s l) = res m c (ix2 s l) + normed (prod m c s) (fun l => gain m c (ix2 0 l)) l := by
  obtain ⟨t, r, rfl⟩ : ∃ t : Fin cfg0.N, ∃ r, rowAt t r = s := exists_row s
  refine (read5 t ((dats m 0 c).arrAt 5 cfg0.N) r l).symm.trans ((congrFun ((blocks5 m c t (flush0_5 t)).trans (flushed5 m c t)) (ix2 r l)).trans ?_)
  refine (out5_apply (iblk m c 0 t) (iblk m c 1 t) (iblk m c 2 t) (iblk m c 3 t) r l).trans ?_
  refine congrArg₂ (· + ·) (read2 t (res m c) r l) (congrFun (congrArg₂ normed (funext fun l => ?_) (funext fun l => read3 t (gain m c) l)) l)
  exact congrArg₂ dot (funext fun k => read0 t (hid m c) r k) (funext fun k => read1 t (wts m c) k l)
end

section
open Cert.Reference7Ideal Cert.Reference7Ideal.Read
variable (a : FVec Ideal S4096x4096 .bf16) (w : FVec Ideal S4096x1024 .bf16) (x : FVec Ideal S4096x1024 .f32) (g : FVec Ideal S1x1024 .f32)

theorem ref2 (s : Fin 4096) (l : Fin 1024) :
    (val_main_v2 (F := Ideal) a w : FVec Ideal S4096x1024 .f32) (ix2 s l) = dot (fun k => a (ix2 s k)) (fun k => w (ix2 k l)) := by
  pointwise [val_main_v2, val_main_v1, val_main_v0]
  rfl

theorem ref15 (s : Fin 4096) (l : Fin 1024) :
    (val_main_v15 (F := Ideal) a w x g : FVec Ideal S4096x1024 .f32) (ix2 s l)
      = x (ix2 s l) + normed (fun l => dot (fun k => a (ix2 s k)) (fun k => w (ix2 k l))) (fun l => g (ix2 0 l)) l := by
  have h := fun l => ref2 a w s l
  unfold val_main_v15 val_main_v14 val_main_v12 val_main_v11 val_main_v10 val_main_v9 val_main_v7 val_main_v5 val_main_v4 val_main_v3
  generalize (val_main_v2 (F := Ideal) a w : FVec Ideal S4096x1024 .f32) = y at h ⊢
  pointwise [val_main_v13, val_main_v8, val_main_v6, val_main_cst, val_main_cst_0, val_main_cst_1]
  simp only [h]
  rfl
end

section
open Cert.Kernel7Ideal Cert.Kernel7Ideal.Gen
variable (m : (ℓ : Loc nD τ sig) → Buf (Elt Ideal) ℓ) (c : Dev nD)

theorem product_eq : (Cert.Reference7Ideal.Read.val_main_v2 (F := Ideal) (m ((c.tc : Thread nD τ).loc main_arg0)) (m ((c.tc : Thread nD τ).loc main_arg1)) : FVec Ideal S4096x1024 .f32)
      = (dats m 0 c).arrAt 4 cfg0.N :=
  ext2 (φ := .f32) _ _ fun s l => (ref2 _ _ s l).trans (arr4 m c s l).symm

theorem sum_eq : (Cert.Reference7Ideal.Read.val_main_v15 (F := Ideal) (m ((c.tc : Thread nD τ).loc main_arg0)) (m ((c.tc : Thread nD τ).loc main_arg1))
      (m ((c.tc : Thread nD τ).loc main_arg2)) (m ((c.tc : Thread nD τ).loc main_arg3)) : FVec Ideal S4096x1024 .f32)
      = (dats m 0 c).arrAt 5 cfg0.N :=
  ext2 (φ := .f32) _ _ fun s l => (ref15 _ _ _ _ s l).trans (arr5 m c s l).symm
end

end Cert.Mlp.DownFwd

end
-- ==== Proof.Proj.Rows.lean ====
/- Arrays of 4096 rows, the blocks of 512 rows the kernels take of them, and the operations that work row by row. -/
module

public import proofs.«01_k».proof.Proof.Mlp.NormGrad

@[expose] public section

set_option maxRecDepth 16384

noncomputable section

open Idealize.ShloMosaic Idealize.ShloMosaic.TcCoe Idealize.ShloMosaic.Tactic

namespace Cert.Proj

open Cert.Mlp

/-- An index of two axes, from its coordinates. -/
theorem idx2_eq {n k : ℕ} (i : Shape.Idx ⟨2, ![n, k]⟩) (r : Fin n) (j : Fin k) (h0 : (i 0).val = r.val) (h1 : (i 1).val = j.val) : i = ix2 r j := by
  funext a
  match a with
  | ⟨0, _⟩ => exact Fin.ext h0
  | ⟨1, _⟩ => exact Fin.ext h1

/-- An index of three axes, from its coordinates. -/
theorem idx3_eq {n k l : ℕ} (i : Shape.Idx ⟨3, ![n, k, l]⟩) (r : Fin n) (j : Fin k) (p : Fin l) (h0 : (i 0).val = r.val) (h1 : (i 1).val = j.val)
    (h2 : (i 2).val = p.val) : i = ix3 r j p := by
  funext a
  match a with
  | ⟨0, _⟩ => exact Fin.ext h0
  | ⟨1, _⟩ => exact Fin.ext h1
  | ⟨2, _⟩ => exact Fin.ext h2

theorem shard_lt (p : Fin 8) (r : Fin 128) : p.val * 128 + r.val < 1024 := by omega

section
variable {n k l : ℕ} {φ φ' ψ : FTy}

/-- Rows `512 t` to `512 t + 511`. -/
def rows (t : Fin 8) (y : FVec Ideal ⟨2, ![4096, k]⟩ φ) : FVec Ideal ⟨2, ![512, k]⟩ φ := fun i => y (ix2 (rowAt t (i 0)) (i 1))

/-- Arrays with the same rows. -/
theorem rows_ext (x y : FVec Ideal ⟨2, ![4096, k]⟩ φ) (h : ∀ t, rows t x = rows t y) : x = y :=
  ext2 _ _ fun s j => by
    obtain ⟨t, r, rfl⟩ := exists_row s
    exact congrFun (h t) (ix2 r j)

/-- What a block of rows reads of an array. -/
theorem read_rows (y : FVec Ideal ⟨2, ![4096, k]⟩ φ) (t : Fin 8) {f : Shape.Idx ⟨2, ![512, k]⟩ → Shape.Idx ⟨2, ![4096, k]⟩} {a b : ℕ} (h : a = t.val ∧ b = 0)
    (e0 : ∀ i, (f i 0).val = a * 512 + 1 * (i 0).val) (e1 : ∀ i, (f i 1).val = b * k + 1 * (i 1).val) : (fun i => y (f i)) = rows t y :=
  funext fun i => congrArg y (idx2_eq _ _ _ ((e0 i).trans (by rw [h.1, one_mul, mul_comm])) ((e1 i).trans (by rw [h.2, zero_mul, one_mul, zero_add])))

/-- What a block that is the whole array reads of it. -/
theorem read_whole (y : FVec Ideal ⟨2, ![n, k]⟩ φ) {f : Shape.Idx ⟨2, ![n, k]⟩ → Shape.Idx ⟨2, ![n, k]⟩} {a b : ℕ} (h : a = 0 ∧ b = 0)
    (e0 : ∀ i, (f i 0).val = a * n + 1 * (i 0).val) (e1 : ∀ i, (f i 1).val = b * k + 1 * (i 1).val) : (fun i => y (f i)) = y :=
  funext fun i => congrArg y ((idx2_eq _ (i 0) (i 1) ((e0 i).trans (by rw [h.1, zero_mul, one_mul, zero_add]))
    ((e1 i).trans (by rw [h.2, zero_mul, one_mul, zero_add]))).trans (idx2_eq i _ _ rfl rfl).symm)

/-- The same with three axes. -/
theorem read_whole3 (y : FVec Ideal ⟨3, ![n, k, l]⟩ φ) {f : Shape.Idx ⟨3, ![n, k, l]⟩ → Shape.Idx ⟨3, ![n, k, l]⟩} {a b d : ℕ} (h : a = 0 ∧ b = 0 ∧ d = 0)
    (e0 : ∀ i, (f i 0).val = a * n + 1 * (i 0).val) (e1 : ∀ i, (f i 1).val = b * k + 1 * (i 1).val) (e2 : ∀ i, (f i 2).val = d * l + 1 * (i 2).val) : (fun i => y (f i)) = y :=
  funext fun i => congrArg y ((idx3_eq _ (i 0) (i 1) (i 2) ((e0 i).trans (by rw [h.1, zero_mul, one_mul, zero_add])) ((e1 i).trans (by rw [h.2.1, zero_mul, one_mul, zero_add]))
    ((e2 i).trans (by rw [h.2.2, zero_mul, one_mul, zero_add]))).trans (idx3_eq i _ _ _ rfl rfl rfl).symm)

/-- The product of two matrices; of one and the transpose of the other; of the transpose of one and the other. -/
def mul (a : FVec Ideal ⟨2, ![n, k]⟩ φ) (w : FVec Ideal ⟨2, ![k, l]⟩ φ') : FVec Ideal ⟨2, ![n, l]⟩ ψ :=
  fun i => dot (fun j => a (ix2 (i 0) j)) (fun j => w (ix2 j (i 1)))
def mulT (a : FVec Ideal ⟨2, ![n, k]⟩ φ) (w : FVec Ideal ⟨2, ![l, k]⟩ φ') : FVec Ideal ⟨2, ![n, l]⟩ ψ :=
  fun i => dot (fun j => a (ix2 (i 0) j)) (fun j => w (ix2 (i 1) j))
def Tmul (a : FVec Ideal ⟨2, ![k, n]⟩ φ) (w : FVec Ideal ⟨2, ![k, l]⟩ φ') : FVec Ideal ⟨2, ![n, l]⟩ ψ :=
  fun i => dot (fun j => a (ix2 j (i 0))) (fun j => w (ix2 j (i 1)))

/-- The columns from `o` on. -/
def cols (o : ℕ) (h : o + l ≤ k) (y : FVec Ideal ⟨2, ![n, k]⟩ φ) : FVec Ideal ⟨2, ![n, l]⟩ ψ :=
  fun i => y (ix2 (i 0) ⟨o + (i 1).val, Nat.lt_of_lt_of_le (Nat.add_lt_add_left (i 1).isLt o) h⟩)

/-- The rows from `o` on. -/
def slab (o : ℕ) (h : o + l ≤ n) (y : FVec Ideal ⟨2, ![n, k]⟩ φ) : FVec Ideal ⟨2, ![l, k]⟩ φ :=
  fun i => y (ix2 ⟨o + (i 0).val, Nat.lt_of_lt_of_le (Nat.add_lt_add_left (i 0).isLt o) h⟩ (i 1))

/-- What a load of some rows reads. -/
theorem ld_slab (o : ℕ) (h : o + l ≤ n) (y : FVec Ideal ⟨2, ![n, k]⟩ .bf16) (i : ∀ a, (![o, 0] : Fin 2 → Nat) a + (⟨2, ![l, k]⟩ : Shape).size a ≤ (⟨2, ![n, k]⟩ : Shape).size a) :
    (View.ld (Val := Elt Ideal) (e' := .bf16) y (Rect.unit (s := ⟨2, ![n, k]⟩) ![o, 0] (⟨2, ![l, k]⟩ : Shape).size i) : FVec Ideal ⟨2, ![l, k]⟩ .bf16) = slab o h y :=
  funext fun x => congrArg y (idx2_eq _ _ _ (by show o + 1 * (x 0).val = o + (x 0).val; omega) (by show 0 + 1 * (x 1).val = (x 1).val; omega))

/-- The rows, and the columns, as eight shards of 128. -/
def shards (y : FVec Ideal ⟨2, ![1024, k]⟩ φ) : FVec Ideal ⟨3, ![8, 128, k]⟩ ψ :=
  fun i => y (ix2 ⟨(i 0).val * 128 + (i 1).val, shard_lt (i 0) (i 1)⟩ (i 2))
def colShards (y : FVec Ideal ⟨2, ![n, 1024]⟩ φ) : FVec Ideal ⟨3, ![8, n, 128]⟩ ψ :=
  fun i => y (ix2 (i 1) ⟨(i 0).val * 128 + (i 2).val, shard_lt (i 0) (i 2)⟩)
end

section
variable {n : ℕ} {φ : FTy} (x : FVec Ideal ⟨2, ![n, 1024]⟩ .f32) (g : FVec Ideal ⟨2, ![1, 1024]⟩ .f32)

/-- The rows normalised, times the gain. -/
def norm : FVec Ideal ⟨2, ![n, 1024]⟩ φ := fun i => normed (fun k => x (ix2 (i 0) k)) (fun k => g (ix2 0 k)) (i 1)

/-- The normalised rows of `x` added to `y`. -/
def residual (y : FVec Ideal ⟨2, ![n, 1024]⟩ .f32) : FVec Ideal ⟨2, ![n, 1024]⟩ .f32 := fun i => y i + norm (φ := .f32) x g i

variable (h : FVec Ideal ⟨2, ![n, 1024]⟩ .f32)

/-- The gradient through the norm, as the kernels and as the derivative write it. -/
def normGrad : FVec Ideal ⟨2, ![n, 1024]⟩ φ := fun i => grad (fun k => x (ix2 (i 0) k)) (fun k => g (ix2 0 k)) (fun k => h (ix2 (i 0) k)) (i 1)
def normVjp : FVec Ideal ⟨2, ![n, 1024]⟩ φ := fun i => vjp (fun k => x (ix2 (i 0) k)) (fun k => g (ix2 0 k)) (fun k => h (ix2 (i 0) k)) (i 1)

theorem normVjp_eq : normVjp (φ := φ) x g h = normGrad x g h := funext fun _ => (grad_eq _ _ _ _).symm

/-- What the rows add to the gradient of the gain. -/
def gainGrad : FVec Ideal ⟨2, ![1, 1024]⟩ .f32 := fun i => ∑ s : Fin n, h (ix2 s (i 1)) * (x (ix2 s (i 1)) * scale (fun k => x (ix2 s k)))
end

/-- Arrays of one row. -/
theorem ext1 {k : ℕ} {φ : FTy} (x y : FVec Ideal ⟨2, ![1, k]⟩ φ) (h : ∀ l, x (ix2 0 l) = y (ix2 0 l)) : x = y :=
  ext2 _ _ fun p l => by
    obtain rfl : p = 0 := Subsingleton.elim _ _
    exact h l

/-- Eight points that add up what the blocks of rows give leave what all rows give. -/
theorem fold_gain (x h : FVec Ideal ⟨2, ![4096, 1024]⟩ .f32) (o : (n : ℕ) → n < 8 → FVec Ideal ⟨2, ![1, 1024]⟩ .f32)
    (h0 : o 0 (by decide) = fun i => (0 : EReal) + gainGrad (rows 0 x) (rows 0 h) i)
    (hs : ∀ n (hn : n + 1 < 8), o (n + 1) hn = fun i => o n (by omega) i + gainGrad (rows ⟨n + 1, hn⟩ x) (rows ⟨n + 1, hn⟩ h) i) : o 7 (by decide) = gainGrad x h :=
  ext1 _ _ fun l => fold_rows (fun s => h (ix2 s l) * (x (ix2 s l) * scale (fun k => x (ix2 s k)))) (fun n hn => o n hn (ix2 0 l))
    ((congrFun h0 (ix2 0 l)).trans (zero_add _)) fun n hn => congrFun (hs n hn) (ix2 0 l)

end Cert.Proj

end
-- ==== Proof.Proj.MixIn.lean ====
/- The norm and the mixer's input projection: kernel and reference leave the same arrays. -/
module

public import proofs.«01_k».proof.Proof.Gen.Kernel11Ideal.Value
public import proofs.«01_k».proof.Proof.Gen.Reference11Ideal.Read
public import proofs.«01_k».proof.Proof.Proj.Rows

@[expose] public section

set_option maxRecDepth 16384

noncomputable section

open Idealize.ShloMosaic Idealize.ShloMosaic.TcCoe Idealize.ShloMosaic.Tactic

namespace Cert.Proj.MixIn

open Cert.Mlp

section
open Cert.Kernel11Ideal Cert.Kernel11Ideal.Gen Cert.Kernel11Ideal.Value

section
variable (x : FVec Ideal S512x1024 .f32) (g : FVec Ideal S1x1024 .f32) (h w : FVec Ideal S512x1024 .bf16) (v : FVec Ideal S128x1024 .bf16)

theorem pay4_eq : k0_pay4 (F := Ideal) x g = norm (φ := .bf16) x g :=
  ext2 (φ := .bf16) _ _ fun r l => by
    pointwise [k0_pay4]
    rfl

theorem pay2_eq : k0_pay2 (F := Ideal) h w = mulT (ψ := .bf16) h w :=
  ext2 (φ := .bf16) _ _ fun r l => by
    pointwise [k0_pay2]
    rfl

theorem pay3_eq : k0_pay3 (F := Ideal) h v = mulT (ψ := .f32) h v :=
  ext2 (φ := .f32) _ _ fun r l => by
    pointwise [k0_pay3]
    rfl

theorem pay5_eq : k0_pay5 (F := Ideal) x g w = mulT (ψ := .f32) (norm (φ := .bf16) x g) w :=
  ext2 (φ := .f32) _ _ fun r l => by
    unfold k0_pay5
    rw [pay4_eq]
    pointwise []
    rfl

theorem pay6_eq : k0_pay6 (F := Ideal) x g w = mulT (ψ := .f32) (norm (φ := .bf16) x g) w := pay5_eq x g w
theorem pay7_eq : k0_pay7 (F := Ideal) x g w = mulT (ψ := .bf16) (norm (φ := .bf16) x g) w := pay5_eq x g w
theorem pay1_eq : k0_pay1 (F := Ideal) (k0_pay8 (F := Ideal) x g w) = mulT (ψ := .bf16) (norm (φ := .bf16) x g) w := pay5_eq x g w
end

/-- The product with some rows of the weights, where the columns from `o` on have it. -/
theorem chunk {ψ : FTy} {n K q : ℕ} (o p : ℕ) (e : q = o + p) (hK : o + K ≤ 2688) (i1 : ∀ a, (![0, p] : Fin 2 → Nat) a + (⟨2, ![512, n]⟩ : Shape).size a ≤ (⟨2, ![512, K]⟩ : Shape).size a)
    (i2 : ∀ a, (![q, 0] : Fin 2 → Nat) a + (⟨2, ![n, 1024]⟩ : Shape).size a ≤ S2688x1024.size a)
    (h : FVec Ideal S512x1024 .bf16) (w : FVec Ideal S2688x1024 .bf16) (x : (⟨2, ![512, n]⟩ : Shape).Idx) :
    (mulT (φ' := .bf16) (ψ := ψ) h (View.ld (Val := Elt Ideal) (e' := .bf16) w (Rect.unit (s := S2688x1024) ![q, 0] (⟨2, ![n, 1024]⟩ : Shape).size i2) : FVec Ideal ⟨2, ![n, 1024]⟩ .bf16) : FVec Ideal ⟨2, ![512, n]⟩ ψ) x
    = (cols (ψ := ψ) o hK (mulT (ψ := .f32) h w : FVec Ideal ⟨2, ![512, 2688]⟩ .f32) : FVec Ideal ⟨2, ![512, K]⟩ ψ) ((Rect.unit (s := ⟨2, ![512, K]⟩) ![0, p] (⟨2, ![512, n]⟩ : Shape).size i1).idx x) := by
  show dot _ _ = dot _ _
  refine congrArg₂ dot (funext fun k => congrArg h ?_) (funext fun k => congrArg w ?_)
  · exact (idx2_eq _ _ _ (by show 0 + 1 * (x 0).val = (x 0).val; omega) rfl).symm
  · exact idx2_eq _ _ _ (by show q + 1 * (x 1).val = o + (p + 1 * (x 1).val); omega) (by show 0 + 1 * k.val = k.val; omega)

section
variable (x : FVec Ideal S512x1024 .f32) (g : FVec Ideal S1x1024 .f32) (w : FVec Ideal S2688x1024 .bf16)

theorem pay9_eq : k0_pay9 (F := Ideal) x g w = norm (φ := .bf16) x g := by
  unfold k0_pay9
  rw [View.ld_unit_zero (S := S512x1024) zeros2, View.ld_unit_zero (S := S1x1024) zeros2]
  exact pay4_eq x g

theorem out3_eq : out0_3 (F := Ideal) x g w = norm (φ := .bf16) x g := by
  unfold out0_3
  rw [View.canon_unit_zero zeros2, View.ld_unit_zero (S := S512x1024) zeros2, View.ld_unit_zero (S := S1x1024) zeros2]
  exact pay4_eq x g

theorem out4_eq : out0_4 (F := Ideal) x g w = cols (ψ := .f32) 0 (by decide) (mulT (ψ := .f32) (norm (φ := .bf16) x g) w) := by
  unfold out0_4
  funext y
  refine View.canon_apply_of_pieces (cols (ψ := .f32) 0 (by decide) (mulT (ψ := .f32) (norm (φ := .bf16) x g) w) : FVec Ideal S512x1024 .f32) _ ?_ y (cover0_4 (F := Ideal) _ _ y)
  simp only [List.forall_mem_cons, List.not_mem_nil, false_implies, implies_true, and_true]
  rw [View.ld_unit_zero (S := S512x1024) zeros2, View.ld_unit_zero (S := S1x1024) zeros2, pay5_eq, pay6_eq]
  exact ⟨chunk 0 512 rfl _ _ _ _ w, chunk 0 0 rfl _ _ _ _ w⟩

theorem out5_eq : out0_5 (F := Ideal) x g w = cols (ψ := .bf16) 1024 (by decide) (mulT (ψ := .f32) (norm (φ := .bf16) x g) w) := by
  unfold out0_5
  funext y
  refine View.canon_apply_of_pieces (cols (ψ := .bf16) 1024 (by decide) (mulT (ψ := .f32) (norm (φ := .bf16) x g) w) : FVec Ideal S512x1536 .bf16) _ ?_ y (cover0_5 (F := Ideal) _ _ _ y)
  simp only [List.forall_mem_cons, List.not_mem_nil, false_implies, implies_true, and_true]
  rw [View.ld_unit_zero (S := S512x1024) zeros2, View.ld_unit_zero (S := S1x1024) zeros2, pay9_eq, pay1_eq, pay2_eq, pay7_eq]
  exact ⟨chunk 1024 1024 rfl _ _ _ _ w, chunk 1024 512 rfl _ _ _ _ w, chunk 1024 0 rfl _ _ _ _ w⟩

theorem out6_eq : out0_6 (F := Ideal) x g w = cols (ψ := .f32) 2560 (by decide) (mulT (ψ := .f32) (norm (φ := .bf16) x g) w) := by
  unfold out0_6
  funext y
  refine View.canon_apply_of_pieces (cols (ψ := .f32) 2560 (by decide) (mulT (ψ := .f32) (norm (φ := .bf16) x g) w) : FVec Ideal S512x128 .f32) _ ?_ y (cover0_6 (F := Ideal) _ y)
  simp only [List.forall_mem_cons, List.not_mem_nil, false_implies, implies_true, and_true]
  rw [pay9_eq, pay3_eq]
  exact chunk 2560 0 rfl _ _ _ _ w
end

/-- The blocks of the rows, and the gain and the weights whole. -/
theorem index : ∀ t : Fin cfg0.N, (win0_0.index t 0 = t.val ∧ win0_0.index t 1 = 0) ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = t.val ∧ win0_6.index t 1 = 0))

variable (m : (ℓ : Loc nD τ sig) → Buf (Elt Ideal) ℓ) (c : Dev nD)

/-- The arguments, with their shapes. -/
abbrev inp : FVec Ideal S4096x1024 .f32 := V m c main_arg0
abbrev gain : FVec Ideal S1x1024 .f32 := V m c main_arg1
abbrev wts : FVec Ideal S2688x1024 .bf16 := V m c main_arg2

section
variable (t : Fin cfg0.N)

theorem blk0 : (iblk m c 0 t : FVec Ideal S512x1024 .f32) = rows t (inp m c) := read_rows (inp m c) t (index t).1 (fun _ => rfl) fun _ => rfl
theorem blk1 : (iblk m c 1 t : FVec Ideal S1x1024 .f32) = gain m c := read_whole (gain m c) (index t).2.1 (fun _ => rfl) fun _ => rfl
theorem blk2 : (iblk m c 2 t : FVec Ideal S2688x1024 .bf16) = wts m c := read_whole (wts m c) (index t).2.2.1 (fun _ => rfl) fun _ => rfl
theorem read3 (y : FVec Ideal S4096x1024 .bf16) : (((cfg0.win 3).blk t).view.read (Elt Ideal) y : FVec Ideal S512x1024 .bf16) = rows t y :=
  read_rows y t (index t).2.2.2.1 (fun _ => rfl) fun _ => rfl
theorem read4 (y : FVec Ideal S4096x1024 .f32) : (((cfg0.win 4).blk t).view.read (Elt Ideal) y : FVec Ideal S512x1024 .f32) = rows t y :=
  read_rows y t (index t).2.2.2.2.1 (fun _ => rfl) fun _ => rfl
theorem read5 (y : FVec Ideal S4096x1536 .bf16) : (((cfg0.win 5).blk t).view.read (Elt Ideal) y : FVec Ideal S512x1536 .bf16) = rows t y :=
  read_rows y t (index t).2.2.2.2.2.1 (fun _ => rfl) fun _ => rfl
theorem read6 (y : FVec Ideal S4096x128 .f32) : (((cfg0.win 6).blk t).view.read (Elt Ideal) y : FVec Ideal S512x128 .f32) = rows t y :=
  read_rows y t (index t).2.2.2.2.2.2 (fun _ => rfl) fun _ => rfl
end

/-- The product with all the weights. -/
abbrev prod : FVec Ideal ⟨2, ![4096, 2688]⟩ .f32 := mulT (ψ := .f32) (norm (φ := .bf16) (inp m c) (gain m c)) (wts m c)

theorem arr3 : ((dats m 0 c).arrAt 3 cfg0.N : FVec Ideal S4096x1024 .bf16) = norm (φ := .bf16) (inp m c) (gain m c) :=
  rows_ext _ _ fun (t : Fin cfg0.N) => (read3 t _).symm.trans (((blocks3 m c t (flush0_3 t)).trans (flushed3 m c t)).trans
    ((out3_eq (iblk m c 0 t) (iblk m c 1 t) (iblk m c 2 t)).trans (by rw [blk0, blk1]; rfl)))

theorem arr4 : ((dats m 0 c).arrAt 4 cfg0.N : FVec Ideal S4096x1024 .f32) = cols (ψ := .f32) 0 (by decide) (prod m c) :=
  rows_ext _ _ fun (t : Fin cfg0.N) => (read4 t _).symm.trans (((blocks4 m c t (flush0_4 t)).trans (flushed4 m c t)).trans
    ((out4_eq (iblk m c 0 t) (iblk m c 1 t) (iblk m c 2 t)).trans (by rw [blk0, blk1, blk2]; rfl)))

theorem arr5 : ((dats m 0 c).arrAt 5 cfg0.N : FVec Ideal S4096x1536 .bf16) = cols (ψ := .bf16) 1024 (by decide) (prod m c) :=
  rows_ext _ _ fun (t : Fin cfg0.N) => (read5 t _).symm.trans (((blocks5 m c t (flush0_5 t)).trans (flushed5 m c t)).trans
    ((out5_eq (iblk m c 0 t) (iblk m c 1 t) (iblk m c 2 t)).trans (by rw [blk0, blk1, blk2]; rfl)))

theorem arr6 : ((dats m 0 c).arrAt 6 cfg0.N : FVec Ideal S4096x128 .f32) = cols (ψ := .f32) 2560 (by decide) (prod m c) :=
  rows_ext _ _ fun (t : Fin cfg0.N) => (read6 t _).symm.trans (((blocks6 m c t (flush0_6 t)).trans (flushed6 m c t)).trans
    ((out6_eq (iblk m c 0 t) (iblk m c 1 t) (iblk m c 2 t)).trans (by rw [blk0, blk1, blk2]; rfl)))
end

section
open Cert.Reference11Ideal Cert.Reference11Ideal.Read
variable (x : FVec Ideal S4096x1024 .f32) (g : FVec Ideal S1x1024 .f32) (w : FVec Ideal S2688x1024 .bf16)

theorem ref11 : val_main_v11 (F := Ideal) x g = norm (φ := .f32) x g :=
  ext2 (φ := .f32) _ _ fun s l => by
    pointwise [val_main_v11, val_main_v10, val_main_v9, val_main_v8, val_main_v7, val_main_v6, val_main_v5, val_main_v4, val_main_v3, val_main_v2, val_main_v1, val_main_v0,
      val_main_cst, val_main_cst_0, val_main_cst_1]
    rfl

theorem ref15 : val_main_v15 (F := Ideal) x g = norm (φ := .bf16) x g := ref11 x g

theorem ref14 : (val_main_v14 (F := Ideal) x g w : FVec Ideal ⟨2, ![4096, 2688]⟩ .f32) = mulT (ψ := .f32) (norm (φ := .bf16) x g) w :=
  ext2 (φ := .f32) _ _ fun s l => by
    unfold val_main_v14
    rw [ref11]
    pointwise [val_main_v13, val_main_v12]
    rfl

theorem ref16 : val_main_v16 (F := Ideal) x g w = cols (ψ := .f32) 0 (by decide) (mulT (ψ := .f32) (norm (φ := .bf16) x g) w) :=
  funext fun i => (val_main_v16_apply (F := Ideal) x g w i).trans (by rw [ref14]; exact congrArg _ (idx2_eq _ _ _ rfl (Nat.zero_add _).symm))

theorem ref18 : val_main_v18 (F := Ideal) x g w = cols (ψ := .bf16) 1024 (by decide) (mulT (ψ := .f32) (norm (φ := .bf16) x g) w) :=
  funext fun i => (val_main_v17_apply (F := Ideal) x g w i).trans (by rw [ref14]; exact congrArg _ (idx2_eq _ _ _ rfl rfl))

theorem ref19 : val_main_v19 (F := Ideal) x g w = cols (ψ := .f32) 2560 (by decide) (mulT (ψ := .f32) (norm (φ := .bf16) x g) w) :=
  funext fun i => (val_main_v19_apply (F := Ideal) x g w i).trans (by rw [ref14]; exact congrArg _ (idx2_eq _ _ _ rfl rfl))
end

end Cert.Proj.MixIn

end
-- ==== Proof.Proj.MixOut.lean ====
/- The mixer's output projection, its norm and the residual: kernel and reference leave the same arrays. -/
module

public import proofs.«01_k».proof.Proof.Gen.Kernel12Ideal.Value
public import proofs.«01_k».proof.Proof.Gen.Reference12Ideal.Read
public import proofs.«01_k».proof.Proof.Proj.Rows

@[expose] public section

set_option maxRecDepth 16384

noncomputable section

open Idealize.ShloMosaic Idealize.ShloMosaic.TcCoe Idealize.ShloMosaic.Tactic

namespace Cert.Proj.MixOut

open Cert.Mlp

section
open Cert.Kernel12Ideal Cert.Kernel12Ideal.Gen Cert.Kernel12Ideal.Value

section
variable (a : FVec Ideal S512x1024 .bf16) (w : FVec Ideal S1024x1024 .bf16) (x : FVec Ideal S512x1024 .f32) (g : FVec Ideal S1x1024 .f32)

theorem pay1_eq : k0_pay1 (F := Ideal) a w = mul a w :=
  ext2 (φ := .f32) _ _ fun r l => by
    pointwise [k0_pay1]
    rfl

theorem pay2_eq : k0_pay2 (F := Ideal) a w x g = residual (mul a w) g x :=
  ext2 (φ := .f32) _ _ fun r l => by
    unfold k0_pay2
    rw [pay1_eq]
    generalize (mul a w : FVec Ideal S512x1024 .f32) = y
    pointwise []
    rfl

theorem out4_eq : out0_4 (F := Ideal) a w x g = mul (ψ := .f32) a w := by
  unfold out0_4
  rw [View.canon_unit_zero zeros2, View.ld_unit_zero (S := S512x1024) zeros2, View.ld_unit_zero (S := S1024x1024) zeros2]
  exact pay1_eq a w

theorem out5_eq : out0_5 (F := Ideal) a w x g = residual (mul a w) g x := by
  unfold out0_5
  rw [View.canon_unit_zero zeros2, View.ld_unit_zero (S := S512x1024) zeros2, View.ld_unit_zero (S := S1024x1024) zeros2, View.ld_unit_zero (S := S512x1024) zeros2,
    View.ld_unit_zero (S := S1x1024) zeros2]
  exact pay2_eq a w x g
end

/-- The blocks of the rows, and the weights and the gain whole. -/
theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0))

variable (m : (ℓ : Loc nD τ sig) → Buf (Elt Ideal) ℓ) (c : Dev nD)

/-- The arguments, with their shapes. -/
abbrev mixed : FVec Ideal S4096x1024 .bf16 := V m c main_arg0
abbrev wts : FVec Ideal S1024x1024 .bf16 := V m c main_arg1
abbrev res : FVec Ideal S4096x1024 .f32 := V m c main_arg2
abbrev gain : FVec Ideal S1x1024 .f32 := V m c main_arg3

section
variable (t : Fin cfg0.N)

theorem blk0 : (iblk m c 0 t : FVec Ideal S512x1024 .bf16) = rows t (mixed m c) := read_rows (mixed m c) t (index t).1 (fun _ => rfl) fun _ => rfl
theorem blk1 : (iblk m c 1 t : FVec Ideal S1024x1024 .bf16) = wts m c := read_whole (wts m c) (index t).2.1 (fun _ => rfl) fun _ => rfl
theorem blk2 : (iblk m c 2 t : FVec Ideal S512x1024 .f32) = rows t (res m c) := read_rows (res m c) t (index t).2.2.1 (fun _ => rfl) fun _ => rfl
theorem blk3 : (iblk m c 3 t : FVec Ideal S1x1024 .f32) = gain m c := read_whole (gain m c) (index t).2.2.2.1 (fun _ => rfl) fun _ => rfl
theorem read4 (y : FVec Ideal S4096x1024 .f32) : (((cfg0.win 4).blk t).view.read (Elt Ideal) y : FVec Ideal S512x1024 .f32) = rows t y :=
  read_rows y t (index t).2.2.2.2.1 (fun _ => rfl) fun _ => rfl
theorem read5 (y : FVec Ideal S4096x1024 .f32) : (((cfg0.win 5).blk t).view.read (Elt Ideal) y : FVec Ideal S512x1024 .f32) = rows t y :=
  read_rows y t (index t).2.2.2.2.2 (fun _ => rfl) fun _ => rfl
end

theorem arr4 : ((dats m 0 c).arrAt 4 cfg0.N : FVec Ideal S4096x1024 .f32) = mul (ψ := .f32) (mixed m c) (wts m c) :=
  rows_ext _ _ fun (t : Fin cfg0.N) => (read4 t _).symm.trans (((blocks4 m c t (flush0_4 t)).trans (flushed4 m c t)).trans
    ((out4_eq (iblk m c 0 t) (iblk m c 1 t) (iblk m c 2 t) (iblk m c 3 t)).trans (congrArg₂ mul (blk0 m c t) (blk1 m c t))))

theorem arr5 : ((dats m 0 c).arrAt 5 cfg0.N : FVec Ideal S4096x1024 .f32) = residual (mul (mixed m c) (wts m c)) (gain m c) (res m c) :=
  rows_ext _ _ fun (t : Fin cfg0.N) => (read5 t _).symm.trans (((blocks5 m c t (flush0_5 t)).trans (flushed5 m c t)).trans
    ((out5_eq (iblk m c 0 t) (iblk m c 1 t) (iblk m c 2 t) (iblk m c 3 t)).trans (by rw [blk0, blk1, blk2, blk3]; rfl)))
end

section
open Cert.Reference12Ideal Cert.Reference12Ideal.Read
variable (a : FVec Ideal S4096x1024 .bf16) (w : FVec Ideal S1024x1024 .bf16) (x : FVec Ideal S4096x1024 .f32) (g : FVec Ideal S1x1024 .f32)

theorem ref2 : val_main_v2 (F := Ideal) a w = mul (ψ := .f32) a w :=
  ext2 (φ := .f32) _ _ fun s l => by
    pointwise [val_main_v2, val_main_v1, val_main_v0]
    rfl

theorem ref15 : val_main_v15 (F := Ideal) a w x g = residual (mul a w) g x :=
  ext2 (φ := .f32) _ _ fun s l => by
    unfold val_main_v15 val_main_v14 val_main_v12 val_main_v11 val_main_v10 val_main_v9 val_main_v7 val_main_v5 val_main_v4 val_main_v3
    rw [ref2]
    generalize (mul a w : FVec Ideal S4096x1024 .f32) = y
    pointwise [val_main_v13, val_main_v8, val_main_v6, val_main_cst, val_main_cst_0, val_main_cst_1]
    rfl
end

end Cert.Proj.MixOut

end
-- ==== Proof.Proj.MixBwd.lean ====
/- The gradient through the norm and the mixer's output projection: kernel and reference leave the same arrays. -/
module

public import proofs.«01_k».proof.Proof.Gen.Kernel8Ideal.Value
public import proofs.«01_k».proof.Proof.Gen.Reference8Ideal.Read
public import proofs.«01_k».proof.Proof.Proj.Rows
public import proofs.«01_k».proof.Proof.Mlp.DownBwd

@[expose] public section

set_option maxRecDepth 16384

noncomputable section

open Idealize.ShloMosaic Idealize.ShloMosaic.TcCoe Idealize.ShloMosaic.Tactic

namespace Cert.Proj.MixBwd

open Cert.Mlp

section
open Cert.Kernel8Ideal Cert.Kernel8Ideal.Gen Cert.Kernel8Ideal.Value

section
variable (y d : FVec Ideal S512x1024 .f32) (g z : FVec Ideal S1x1024 .f32) (h w : FVec Ideal S512x1024 .bf16)

theorem pay4_eq : k0_pay4 (F := Ideal) y g d = normGrad (φ := .bf16) y g d :=
  ext2 (φ := .bf16) _ _ (DownBwd.pay5_apply y g d)

theorem pay6_eq : k0_pay6 (F := Ideal) y d z = fun i => z i + gainGrad y d i :=
  ext1 (φ := .f32) _ _ (DownBwd.pay7_apply y d z)

theorem pay5_eq : k0_pay5 (F := Ideal) = fun _ => (0 : EReal) :=
  ext1 (φ := .f32) _ _ DownBwd.pay6_apply

theorem pay1_eq : k0_pay1 (F := Ideal) h w = mulT (ψ := .f32) h w :=
  ext2 (φ := .f32) _ _ fun r l => by
    pointwise [k0_pay1]
    rfl

theorem pay2_eq : k0_pay2 (F := Ideal) h w = mulT (ψ := .f32) h w := pay1_eq h w
end

/-- One chunk of columns, where the whole array has it. -/
theorem chunk (o : Nat) (i1 : ∀ a, (![0, o] : Fin 2 → Nat) a + S512x512.size a ≤ S512x1024.size a) (i2 : ∀ a, (![o, 0] : Fin 2 → Nat) a + S512x1024.size a ≤ S1024x1024.size a)
    (h : FVec Ideal S512x1024 .bf16) (w : FVec Ideal S1024x1024 .bf16) (x : S512x512.Idx) :
    (mulT (φ' := .bf16) h (View.ld (Val := Elt Ideal) (e' := .bf16) w (Rect.unit (s := S1024x1024) ![o, 0] S512x1024.size i2) : FVec Ideal S512x1024 .bf16) : FVec Ideal S512x512 .f32) x
    = (mulT h w : FVec Ideal S512x1024 .f32) ((Rect.unit (s := S512x1024) ![0, o] S512x512.size i1).idx x) :=
  congrArg₂ dot (funext fun k => congrArg h (idx2_eq _ _ _ (by show 0 + 1 * (x 0).val = (x 0).val; omega) rfl).symm)
    (funext fun k => congrArg w (idx2_eq _ _ _ rfl (by show 0 + 1 * k.val = k.val; omega)))

section
variable (c : Dev nD) (i : grid0.Coords) (arg1 : Memref sig .tc .vmem S512x1024 .f32) (h1 : arg1.IsWhole) (arg2 : Memref sig .tc .vmem S512x1024 .f32) (h2 : arg2.IsWhole)
  (arg3 : Memref sig .tc .vmem S1x1024 .f32) (h3 : arg3.IsWhole) (arg4 : Memref sig .tc .vmem S1024x1024 .bf16) (h4 : arg4.IsWhole) (arg5 : Memref sig .tc .vmem S512x1024 .bf16) (h5 : arg5.IsWhole)
  (arg6 : Memref sig .tc .vmem S512x1024 .f32) (h6 : arg6.IsWhole) (arg7 : Memref sig .tc .vmem S1x1024 .f32) (h7 : arg7.IsWhole)
  (x0 x1 : FVec Ideal S512x1024 .f32) (x2 : FVec Ideal S1x1024 .f32) (x3 : FVec Ideal S1024x1024 .bf16) (z : FVec Ideal S1x1024 .f32)

theorem outA4 (hc : cond0_0 i) : out0_A_4 (F := Ideal) c i arg1 h1 arg2 h2 arg3 h3 arg4 h4 arg5 h5 arg6 h6 arg7 h7 hc x0 x1 x2 x3 = normGrad (φ := .bf16) x1 x2 x0 := by
  unfold out0_A_4
  rw [View.read_writes_eq_canon _ _ _ (cover0_A_4 (F := Ideal) c i arg1 h1 arg2 h2 arg3 h3 arg4 h4 arg5 h5 arg6 h6 arg7 h7 hc x0 x1 x2 x3)]
  unfold kernelRun0_A
  dsimp only
  rw [View.canon_unit_zero zeros2]
  simp only [View.readAt_eq_ld, h1.read_unread, h2.read_unread, h3.read_unread, View.ld_unit_zero (S := S512x1024) zeros2, View.ld_unit_zero (S := S1x1024) zeros2]
  exact pay4_eq x1 x0 x2

theorem outB4 (hc : ¬cond0_0 i) : out0_B_4 (F := Ideal) c i arg1 h1 arg2 h2 arg3 h3 arg4 h4 arg5 h5 arg6 h6 arg7 h7 hc x0 x1 x2 x3 z = normGrad (φ := .bf16) x1 x2 x0 := by
  unfold out0_B_4
  rw [View.read_writes_eq_canon _ _ _ (cover0_B_4 (F := Ideal) c i arg1 h1 arg2 h2 arg3 h3 arg4 h4 arg5 h5 arg6 h6 arg7 h7 hc x0 x1 x2 x3 z)]
  unfold kernelRun0_B
  dsimp only
  rw [View.canon_unit_zero zeros2]
  simp only [View.readAt_eq_ld, h1.read_unread, h2.read_unread, h3.read_unread, View.ld_unit_zero (S := S512x1024) zeros2, View.ld_unit_zero (S := S1x1024) zeros2]
  exact pay4_eq x1 x0 x2

theorem outA5 (hc : cond0_0 i) : out0_A_5 (F := Ideal) c i arg1 h1 arg2 h2 arg3 h3 arg4 h4 arg5 h5 arg6 h6 arg7 h7 hc x0 x1 x2 x3 = mulT (ψ := .f32) (normGrad (φ := .bf16) x1 x2 x0) x3 := by
  unfold out0_A_5
  rw [View.read_writes_eq_canon _ _ _ (cover0_A_5 (F := Ideal) c i arg1 h1 arg2 h2 arg3 h3 arg4 h4 arg5 h5 arg6 h6 arg7 h7 hc x0 x1 x2 x3)]
  funext j
  refine View.canon_apply_of_pieces (mulT (normGrad (φ := .bf16) x1 x2 x0) x3 : FVec Ideal S512x1024 .f32) _ ?_ j
    (cover0_A_5 (F := Ideal) c i arg1 h1 arg2 h2 arg3 h3 arg4 h4 arg5 h5 arg6 h6 arg7 h7 hc x0 x1 x2 x3 j)
  unfold kernelRun0_A
  dsimp only
  unfold kernelRun0_A.sl.r
  simp only [View.readAt_eq_ld, h1.read_unread, h2.read_unread, h3.read_unread, h4.read_unread, View.ld_unit_zero (S := S512x1024) zeros2, View.ld_unit_zero (S := S1x1024) zeros2]
  simp only [pay1_eq, pay2_eq, pay4_eq, List.forall_mem_cons, List.not_mem_nil, false_implies, implies_true, and_true]
  exact ⟨chunk _ _ _ _ _, chunk _ _ _ _ _⟩

theorem outB5 (hc : ¬cond0_0 i) : out0_B_5 (F := Ideal) c i arg1 h1 arg2 h2 arg3 h3 arg4 h4 arg5 h5 arg6 h6 arg7 h7 hc x0 x1 x2 x3 z = mulT (ψ := .f32) (normGrad (φ := .bf16) x1 x2 x0) x3 := by
  unfold out0_B_5
  rw [View.read_writes_eq_canon _ _ _ (cover0_B_5 (F := Ideal) c i arg1 h1 arg2 h2 arg3 h3 arg4 h4 arg5 h5 arg6 h6 arg7 h7 hc x0 x1 x2 x3 z)]
  funext j
  refine View.canon_apply_of_pieces (mulT (normGrad (φ := .bf16) x1 x2 x0) x3 : FVec Ideal S512x1024 .f32) _ ?_ j
    (cover0_B_5 (F := Ideal) c i arg1 h1 arg2 h2 arg3 h3 arg4 h4 arg5 h5 arg6 h6 arg7 h7 hc x0 x1 x2 x3 z j)
  unfold kernelRun0_B
  dsimp only
  unfold kernelRun0_B.sl.r
  simp only [View.readAt_eq_ld, h1.read_unread, h2.read_unread, h3.read_unread, h4.read_unread, View.ld_unit_zero (S := S512x1024) zeros2, View.ld_unit_zero (S := S1x1024) zeros2]
  simp only [pay1_eq, pay2_eq, pay4_eq, List.forall_mem_cons, List.not_mem_nil, false_implies, implies_true, and_true]
  exact ⟨chunk _ _ _ _ _, chunk _ _ _ _ _⟩

theorem outA6 (hc : cond0_0 i) : out0_A_6 (F := Ideal) c i arg1 h1 arg2 h2 arg3 h3 arg4 h4 arg5 h5 arg6 h6 arg7 h7 hc x0 x1 x2 x3 = fun j => (0 : EReal) + gainGrad x1 x0 j := by
  unfold out0_A_6
  rw [View.read_writes_eq_canon _ _ _ (cover0_A_6 (F := Ideal) c i arg1 h1 arg2 h2 arg3 h3 arg4 h4 arg5 h5 arg6 h6 arg7 h7 hc x0 x1 x2 x3)]
  unfold kernelRun0_A
  dsimp only
  rw [View.canon_cons_unit_zero zeros2]
  unfold kernelRun0_A.sl.r_1 kernelRun0_A.sl.v36 kernelRun0_A.sl.H6_1
  rw [View.readCov_cons_toLoadRect]
  simp only [View.readAt_eq_ld, h1.read_unread, h2.read_unread, View.ld_unit_zero (S := S512x1024) zeros2]
  rw [pay6_eq, pay5_eq]

theorem outB6 (hc : ¬cond0_0 i) : out0_B_6 (F := Ideal) c i arg1 h1 arg2 h2 arg3 h3 arg4 h4 arg5 h5 arg6 h6 arg7 h7 hc x0 x1 x2 x3 z = fun j => z j + gainGrad x1 x0 j := by
  unfold out0_B_6
  rw [View.read_writes_eq_canon _ _ _ (cover0_B_6 (F := Ideal) c i arg1 h1 arg2 h2 arg3 h3 arg4 h4 arg5 h5 arg6 h6 arg7 h7 hc x0 x1 x2 x3 z)]
  unfold kernelRun0_B
  dsimp only
  rw [View.canon_unit_zero zeros2]
  unfold kernelRun0_B.sl.r_1
  simp only [View.readAt_eq_ld, h1.read_unread, h2.read_unread, h7.read_unread, View.ld_unit_zero (S := S512x1024) zeros2, View.ld_unit_zero (S := S1x1024) zeros2]
  rw [pay6_eq]
end

/-- The blocks of the rows, and the gain, the weights and the gain's gradient whole. -/
theorem index : ∀ t : Fin cfg0.N, (win0_0.index t 0 = t.val ∧ win0_0.index t 1 = 0) ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0))

variable (m : (ℓ : Loc nD τ sig) → Buf (Elt Ideal) ℓ) (c : Dev nD)

/-- The arguments, with their shapes. -/
abbrev dx : FVec Ideal S4096x1024 .f32 := V m c main_arg0
abbrev out : FVec Ideal S4096x1024 .f32 := V m c main_arg1
abbrev gain : FVec Ideal S1x1024 .f32 := V m c main_arg2
abbrev wts : FVec Ideal S1024x1024 .bf16 := V m c main_arg3

section
variable (t : Fin cfg0.N)

theorem blk0 : (iblk m c 0 t : FVec Ideal S512x1024 .f32) = rows t (dx m c) := read_rows (dx m c) t (index t).1 (fun _ => rfl) fun _ => rfl
theorem blk1 : (iblk m c 1 t : FVec Ideal S512x1024 .f32) = rows t (out m c) := read_rows (out m c) t (index t).2.1 (fun _ => rfl) fun _ => rfl
theorem blk2 : (iblk m c 2 t : FVec Ideal S1x1024 .f32) = gain m c := read_whole (gain m c) (index t).2.2.1 (fun _ => rfl) fun _ => rfl
theorem blk3 : (iblk m c 3 t : FVec Ideal S1024x1024 .bf16) = wts m c := read_whole (wts m c) (index t).2.2.2.1 (fun _ => rfl) fun _ => rfl
theorem read4 (y : FVec Ideal S4096x1024 .bf16) : (((cfg0.win 4).blk t).view.read (Elt Ideal) y : FVec Ideal S512x1024 .bf16) = rows t y :=
  read_rows y t (index t).2.2.2.2.1 (fun _ => rfl) fun _ => rfl
theorem read5 (y : FVec Ideal S4096x1024 .f32) : (((cfg0.win 5).blk t).view.read (Elt Ideal) y : FVec Ideal S512x1024 .f32) = rows t y :=
  read_rows y t (index t).2.2.2.2.2.1 (fun _ => rfl) fun _ => rfl
theorem read6 (y : FVec Ideal S1x1024 .f32) : (((cfg0.win 6).blk t).view.read (Elt Ideal) y : FVec Ideal S1x1024 .f32) = y :=
  read_whole y (index t).2.2.2.2.2.2 (fun _ => rfl) fun _ => rfl

theorem out4 : (outsAt0 m c t.val t.isLt).1 = normGrad (φ := .bf16) (iblk m c 1 t) (iblk m c 2 t) (iblk m c 0 t) := by
  by_cases h0 : t.val % 8 = 0
  · rw [outsAt0_A m c t h0]
    dsimp only
    exact outA4 c (grid0.coords t) _ _ _ _ _ _ _ _ _ _ _ _ _ _ (iblk m c 0 t) (iblk m c 1 t) (iblk m c 2 t) (iblk m c 3 t) _
  · rw [outsAt0_B m c t h0]
    dsimp only
    exact outB4 c (grid0.coords t) _ _ _ _ _ _ _ _ _ _ _ _ _ _ (iblk m c 0 t) (iblk m c 1 t) (iblk m c 2 t) (iblk m c 3 t) _ _

theorem out5 : (outsAt0 m c t.val t.isLt).2.1 = mulT (φ' := .bf16) (ψ := .f32) (normGrad (φ := .bf16) (iblk m c 1 t) (iblk m c 2 t) (iblk m c 0 t)) (iblk m c 3 t) := by
  by_cases h0 : t.val % 8 = 0
  · rw [outsAt0_A m c t h0]
    dsimp only
    exact outA5 c (grid0.coords t) _ _ _ _ _ _ _ _ _ _ _ _ _ _ (iblk m c 0 t) (iblk m c 1 t) (iblk m c 2 t) (iblk m c 3 t) _
  · rw [outsAt0_B m c t h0]
    dsimp only
    exact outB5 c (grid0.coords t) _ _ _ _ _ _ _ _ _ _ _ _ _ _ (iblk m c 0 t) (iblk m c 1 t) (iblk m c 2 t) (iblk m c 3 t) _ _
end

theorem out6 : (outsAt0 m c 7 (by decide)).2.2 = gainGrad (out m c) (dx m c) := by
  refine fold_gain (out m c) (dx m c) (fun n hn => (outsAt0 m c n hn).2.2) ?_ fun n hn => ?_
  · let t : Fin cfg0.N := ⟨0, by decide⟩
    show (outsAt0 m c t.val t.isLt).2.2 = fun i => (0 : EReal) + gainGrad (rows t (out m c)) (rows t (dx m c)) i
    rw [outsAt0_A m c t rfl, ← blk0, ← blk1]
    dsimp only
    exact outA6 c (grid0.coords t) _ _ _ _ _ _ _ _ _ _ _ _ _ _ (iblk m c 0 t) (iblk m c 1 t) (iblk m c 2 t) (iblk m c 3 t) _
  · let t : Fin cfg0.N := ⟨n + 1, hn⟩
    show (outsAt0 m c t.val t.isLt).2.2 = fun i => (outsAt0 m c n (Nat.lt_of_succ_lt hn)).2.2 i + gainGrad (rows t (out m c)) (rows t (dx m c)) i
    rw [outsAt0_B m c t (by show ¬(n + 1) % 8 = 0; omega), ← blk0, ← blk1]
    dsimp only
    exact outB6 c (grid0.coords t) _ _ _ _ _ _ _ _ _ _ _ _ _ _ (iblk m c 0 t) (iblk m c 1 t) (iblk m c 2 t) (iblk m c 3 t) _ _

theorem arr4 : ((dats m 0 c).arrAt 4 cfg0.N : FVec Ideal S4096x1024 .bf16) = normGrad (φ := .bf16) (out m c) (gain m c) (dx m c) :=
  rows_ext _ _ fun (t : Fin cfg0.N) => (read4 t _).symm.trans (((blocks4 m c t (flush0_4 t)).trans (flushed4 m c t)).trans ((out4 m c t).trans (by rw [blk0, blk1, blk2]; rfl)))

theorem arr5 : ((dats m 0 c).arrAt 5 cfg0.N : FVec Ideal S4096x1024 .f32) = mulT (ψ := .f32) (normGrad (φ := .bf16) (out m c) (gain m c) (dx m c)) (wts m c) :=
  rows_ext _ _ fun (t : Fin cfg0.N) => (read5 t _).symm.trans (((blocks5 m c t (flush0_5 t)).trans (flushed5 m c t)).trans ((out5 m c t).trans (by rw [blk0, blk1, blk2, blk3]; rfl)))

/-- The last point. -/
abbrev last : Fin cfg0.N := ⟨7, by decide⟩

theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have e := (flush0_6 t).mp h
  have e' := (flush0_6 t').mp h'
  have b : t.val < 8 := t.isLt
  have b' : t'.val < 8 := t'.isLt
  exact absurd (Fin.ext (by omega)) hne

theorem arr6 : ((dats m 0 c).arrAt 6 cfg0.N : FVec Ideal S1x1024 .f32) = gainGrad (out m c) (dx m c) :=
  (read6 last _).symm.trans ((((dats m 0 c).read_blk_arrAt_eq_flushed 6 disjoint6 cfg0.N last last.isLt ((flush0_6 last).mpr rfl)).trans (flushed6 m c last)).trans (out6 m c))
end

section
open Cert.Reference8Ideal Cert.Reference8Ideal.Read
variable (d y : FVec Ideal S4096x1024 .f32) (g : FVec Ideal S1x1024 .f32) (w : FVec Ideal S1024x1024 .bf16)

theorem ref17 : val_main_v17 (F := Ideal) d y = gainGrad y d := ext1 (φ := .f32) _ _ (DownBwd.ref17 d y)

theorem ref33 : val_main_v33 (F := Ideal) d y g = normGrad (φ := .f32) y g d :=
  (ext2 (φ := .f32) _ _ (DownBwd.ref33 d y g)).trans (normVjp_eq y g d)

theorem ref38 : val_main_v38 (F := Ideal) d y g = normGrad (φ := .bf16) y g d := ref33 d y g

theorem ref37 : val_main_v37 (F := Ideal) d y g w = mulT (ψ := .f32) (normGrad (φ := .bf16) y g d) w :=
  ext2 (φ := .f32) _ _ fun s l => by
    unfold val_main_v37
    rw [ref33]
    pointwise [val_main_v35]
    rfl
end

end Cert.Proj.MixBwd

end
-- ==== Proof.Proj.MixInBwd.lean ====
/- The gradient through the mixer's input projection and its norm: kernel and reference leave the same arrays. -/
module

public import proofs.«01_k».proof.Proof.Gen.Kernel10Ideal.Value
public import proofs.«01_k».proof.Proof.Gen.Reference10Ideal.Read
public import proofs.«01_k».proof.Proof.Proj.Rows
public import proofs.«01_k».proof.Proof.Mlp.DownBwd

@[expose] public section

set_option maxRecDepth 16384

noncomputable section

open Idealize.ShloMosaic Idealize.ShloMosaic.TcCoe Idealize.ShloMosaic.Tactic

namespace Cert.Proj.MixInBwd

open Cert.Mlp

/-- The sum of the five products. -/
def sums {n : ℕ} (a : FVec Ideal ⟨2, ![n, 1024]⟩ .bf16) (b p q : FVec Ideal ⟨2, ![n, 512]⟩ .bf16) (f : FVec Ideal ⟨2, ![n, 128]⟩ .bf16)
    (w : FVec Ideal ⟨2, ![2688, 1024]⟩ .bf16) : FVec Ideal ⟨2, ![n, 1024]⟩ .f32 :=
  fun i => mul (ψ := .f32) a (slab (l := 1024) 0 (by decide) w) i + mul (ψ := .f32) b (slab (l := 512) 1024 (by decide) w) i + mul (ψ := .f32) p (slab (l := 512) 1536 (by decide) w) i
    + mul (ψ := .f32) q (slab (l := 512) 2048 (by decide) w) i + mul (ψ := .f32) f (slab (l := 128) 2560 (by decide) w) i

section
open Cert.Kernel10Ideal Cert.Kernel10Ideal.Gen Cert.Kernel10Ideal.Value

section
variable (a : FVec Ideal S512x1024 .bf16) (b p q : FVec Ideal S512x512 .bf16) (f : FVec Ideal S512x128 .bf16) (w : FVec Ideal S2688x1024 .bf16)
  (h x d : FVec Ideal S512x1024 .f32) (g z : FVec Ideal S1x1024 .f32)

theorem pay5_eq : k0_pay5 (F := Ideal) a (slab (l := 1024) 0 (by decide) w) b (slab (l := 512) 1024 (by decide) w) p (slab (l := 512) 1536 (by decide) w)
    q (slab (l := 512) 2048 (by decide) w) f (slab (l := 128) 2560 (by decide) w) = sums a b p q f w :=
  ext2 (φ := .f32) _ _ fun r l => by
    pointwise [k0_pay5]
    rfl

theorem pay2_eq : k0_pay2 (F := Ideal) h x g (k0_pay6 (F := Ideal) x) (k0_pay7 (F := Ideal)) d = fun i => normGrad (φ := .f32) x g h i + d i :=
  ext2 (φ := .f32) _ _ fun r l => congrArg (· + d (ix2 r l)) (DownBwd.pay5_apply x g h r l)

theorem pay4_eq : k0_pay4 (F := Ideal) h x (k0_pay6 (F := Ideal) x) (k0_pay7 (F := Ideal)) z = fun i => z i + gainGrad x h i :=
  ext1 (φ := .f32) _ _ (DownBwd.pay7_apply x h z)

theorem pay3_eq : k0_pay3 (F := Ideal) = fun _ => (0 : EReal) :=
  ext1 (φ := .f32) _ _ DownBwd.pay6_apply
end

section
variable (c : Dev nD) (i : grid0.Coords) (arg1 : Memref sig .tc .vmem S512x1024 .bf16) (h1 : arg1.IsWhole) (arg2 : Memref sig .tc .vmem S512x512 .bf16) (h2 : arg2.IsWhole)
  (arg3 : Memref sig .tc .vmem S512x512 .bf16) (h3 : arg3.IsWhole) (arg4 : Memref sig .tc .vmem S512x512 .bf16) (h4 : arg4.IsWhole) (arg5 : Memref sig .tc .vmem S512x128 .bf16) (h5 : arg5.IsWhole)
  (arg6 : Memref sig .tc .vmem S2688x1024 .bf16) (h6 : arg6.IsWhole) (arg7 : Memref sig .tc .vmem S512x1024 .f32) (h7 : arg7.IsWhole) (arg8 : Memref sig .tc .vmem S1x1024 .f32) (h8 : arg8.IsWhole)
  (arg9 : Memref sig .tc .vmem S512x1024 .f32) (h9 : arg9.IsWhole) (arg10 : Memref sig .tc .vmem S512x1024 .f32) (h10 : arg10.IsWhole) (arg11 : Memref sig .tc .vmem S1x1024 .f32) (h11 : arg11.IsWhole)
  (a : FVec Ideal S512x1024 .bf16) (b p q : FVec Ideal S512x512 .bf16) (f : FVec Ideal S512x128 .bf16) (w : FVec Ideal S2688x1024 .bf16) (x : FVec Ideal S512x1024 .f32) (g : FVec Ideal S1x1024 .f32)
  (d : FVec Ideal S512x1024 .f32) (z : FVec Ideal S1x1024 .f32)

theorem outA9 (hc : cond0_0 i) : out0_A_9 (F := Ideal) c i arg1 h1 arg2 h2 arg3 h3 arg4 h4 arg5 h5 arg6 h6 arg7 h7 arg8 h8 arg9 h9 arg10 h10 arg11 h11 hc a b p q f w x g d
    = fun j => normGrad (φ := .f32) x g (sums a b p q f w) j + d j := by
  unfold out0_A_9
  rw [View.read_writes_eq_canon _ _ _ (cover0_A_9 (F := Ideal) c i arg1 h1 arg2 h2 arg3 h3 arg4 h4 arg5 h5 arg6 h6 arg7 h7 arg8 h8 arg9 h9 arg10 h10 arg11 h11 hc a b p q f w x g d)]
  unfold kernelRun0_A
  dsimp only
  rw [View.canon_unit_zero zeros2]
  unfold kernelRun0_A.sl.r kernelRun0_A.sl.r_1 kernelRun0_A.sl.r_2 kernelRun0_A.sl.r_3
  simp only [View.readAt_eq_ld, h1.read_unread, h2.read_unread, h3.read_unread, h4.read_unread, h5.read_unread, h6.read_unread, h7.read_unread, h8.read_unread, h9.read_unread,
    View.ld_unit_zero (S := S512x1024) zeros2, View.ld_unit_zero (S := S512x512) zeros2, View.ld_unit_zero (S := S512x128) zeros2, View.ld_unit_zero (S := S1x1024) zeros2]
  rw [ld_slab 0 (by decide) w, ld_slab 1024 (by decide) w, ld_slab 1536 (by decide) w, ld_slab 2048 (by decide) w, ld_slab 2560 (by decide) w, pay5_eq, pay2_eq]

theorem outA10 (hc : cond0_0 i) : out0_A_10 (F := Ideal) c i arg1 h1 arg2 h2 arg3 h3 arg4 h4 arg5 h5 arg6 h6 arg7 h7 arg8 h8 arg9 h9 arg10 h10 arg11 h11 hc a b p q f w x g d
    = fun j => (0 : EReal) + gainGrad x (sums a b p q f w) j := by
  unfold out0_A_10
  rw [View.read_writes_eq_canon _ _ _ (cover0_A_10 (F := Ideal) c i arg1 h1 arg2 h2 arg3 h3 arg4 h4 arg5 h5 arg6 h6 arg7 h7 arg8 h8 arg9 h9 arg10 h10 arg11 h11 hc a b p q f w x g d)]
  unfold kernelRun0_A
  dsimp only
  rw [View.canon_cons_unit_zero zeros2]
  unfold kernelRun0_A.sl.r kernelRun0_A.sl.r_1 kernelRun0_A.sl.r_3 kernelRun0_A.sl.v55 kernelRun0_A.sl.H10_1
  rw [View.readCov_cons_toLoadRect]
  simp only [View.readAt_eq_ld, h1.read_unread, h2.read_unread, h3.read_unread, h4.read_unread, h5.read_unread, h6.read_unread, h7.read_unread,
    View.ld_unit_zero (S := S512x1024) zeros2, View.ld_unit_zero (S := S512x512) zeros2, View.ld_unit_zero (S := S512x128) zeros2]
  rw [ld_slab 0 (by decide) w, ld_slab 1024 (by decide) w, ld_slab 1536 (by decide) w, ld_slab 2048 (by decide) w, ld_slab 2560 (by decide) w, pay5_eq, pay4_eq, pay3_eq]

theorem outB9 (hc : ¬cond0_0 i) : out0_B_9 (F := Ideal) c i arg1 h1 arg2 h2 arg3 h3 arg4 h4 arg5 h5 arg6 h6 arg7 h7 arg8 h8 arg9 h9 arg10 h10 arg11 h11 hc a b p q f w x g d z
    = fun j => normGrad (φ := .f32) x g (sums a b p q f w) j + d j := by
  unfold out0_B_9
  rw [View.read_writes_eq_canon _ _ _ (cover0_B_9 (F := Ideal) c i arg1 h1 arg2 h2 arg3 h3 arg4 h4 arg5 h5 arg6 h6 arg7 h7 arg8 h8 arg9 h9 arg10 h10 arg11 h11 hc a b p q f w x g d z)]
  unfold kernelRun0_B
  dsimp only
  rw [View.canon_unit_zero zeros2]
  unfold kernelRun0_B.sl.r kernelRun0_B.sl.r_1 kernelRun0_B.sl.r_2 kernelRun0_B.sl.r_3
  simp only [View.readAt_eq_ld, h1.read_unread, h2.read_unread, h3.read_unread, h4.read_unread, h5.read_unread, h6.read_unread, h7.read_unread, h8.read_unread, h9.read_unread,
    View.ld_unit_zero (S := S512x1024) zeros2, View.ld_unit_zero (S := S512x512) zeros2, View.ld_unit_zero (S := S512x128) zeros2, View.ld_unit_zero (S := S1x1024) zeros2]
  rw [ld_slab 0 (by decide) w, ld_slab 1024 (by decide) w, ld_slab 1536 (by decide) w, ld_slab 2048 (by decide) w, ld_slab 2560 (by decide) w, pay5_eq, pay2_eq]

theorem outB10 (hc : ¬cond0_0 i) : out0_B_10 (F := Ideal) c i arg1 h1 arg2 h2 arg3 h3 arg4 h4 arg5 h5 arg6 h6 arg7 h7 arg8 h8 arg9 h9 arg10 h10 arg11 h11 hc a b p q f w x g d z
    = fun j => z j + gainGrad x (sums a b p q f w) j := by
  unfold out0_B_10
  rw [View.read_writes_eq_canon _ _ _ (cover0_B_10 (F := Ideal) c i arg1 h1 arg2 h2 arg3 h3 arg4 h4 arg5 h5 arg6 h6 arg7 h7 arg8 h8 arg9 h9 arg10 h10 arg11 h11 hc a b p q f w x g d z)]
  unfold kernelRun0_B
  dsimp only
  rw [View.canon_unit_zero zeros2]
  unfold kernelRun0_B.sl.r kernelRun0_B.sl.r_1 kernelRun0_B.sl.r_3
  simp only [View.readAt_eq_ld, h1.read_unread, h2.read_unread, h3.read_unread, h4.read_unread, h5.read_unread, h6.read_unread, h7.read_unread, h11.read_unread,
    View.ld_unit_zero (S := S512x1024) zeros2, View.ld_unit_zero (S := S512x512) zeros2, View.ld_unit_zero (S := S512x128) zeros2, View.ld_unit_zero (S := S1x1024) zeros2]
  rw [ld_slab 0 (by decide) w, ld_slab 1024 (by decide) w, ld_slab 1536 (by decide) w, ld_slab 2048 (by decide) w, ld_slab 2560 (by decide) w, pay5_eq, pay4_eq]
end

/-- The blocks of the rows, and the weights, the gain and the gain's gradient whole. -/
theorem index : ∀ t : Fin cfg0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = 0 ∧ win0_7.index t 1 = 0) ∧ (win0_8.index t 0 = t.val ∧ win0_8.index t 1 = 0)
    ∧ (win0_9.index t 0 = t.val ∧ win0_9.index t 1 = 0) ∧ (win0_10.index t 0 = 0 ∧ win0_10.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0)
    ∧ (win0_5.index t 0 = 0 ∧ win0_5.index t 1 = 0) ∧ (win0_6.index t 0 = t.val ∧ win0_6.index t 1 = 0) ∧ (win0_7.index t 0 = 0 ∧ win0_7.index t 1 = 0)
    ∧ (win0_8.index t 0 = t.val ∧ win0_8.index t 1 = 0) ∧ (win0_9.index t 0 = t.val ∧ win0_9.index t 1 = 0) ∧ (win0_10.index t 0 = 0 ∧ win0_10.index t 1 = 0))

variable (m : (ℓ : Loc nD τ sig) → Buf (Elt Ideal) ℓ) (c : Dev nD)

/-- The arguments, with their shapes. -/
abbrev dag : FVec Ideal S4096x1024 .bf16 := V m c main_arg0
abbrev dq : FVec Ideal S4096x512 .bf16 := V m c main_arg1
abbrev dk : FVec Ideal S4096x512 .bf16 := V m c main_arg2
abbrev dv : FVec Ideal S4096x512 .bf16 := V m c main_arg3
abbrev dfl : FVec Ideal S4096x128 .bf16 := V m c main_arg4
abbrev wts : FVec Ideal S2688x1024 .bf16 := V m c main_arg5
abbrev inp : FVec Ideal S4096x1024 .f32 := V m c main_arg6
abbrev gain : FVec Ideal S1x1024 .f32 := V m c main_arg7
abbrev dres : FVec Ideal S4096x1024 .f32 := V m c main_arg8

section
variable (t : Fin cfg0.N)

theorem blk0 : (iblk m c 0 t : FVec Ideal S512x1024 .bf16) = rows t (dag m c) := read_rows (dag m c) t (index t).1 (fun _ => rfl) fun _ => rfl
theorem blk1 : (iblk m c 1 t : FVec Ideal S512x512 .bf16) = rows t (dq m c) := read_rows (dq m c) t (index t).2.1 (fun _ => rfl) fun _ => rfl
theorem blk2 : (iblk m c 2 t : FVec Ideal S512x512 .bf16) = rows t (dk m c) := read_rows (dk m c) t (index t).2.2.1 (fun _ => rfl) fun _ => rfl
theorem blk3 : (iblk m c 3 t : FVec Ideal S512x512 .bf16) = rows t (dv m c) := read_rows (dv m c) t (index t).2.2.2.1 (fun _ => rfl) fun _ => rfl
theorem blk4 : (iblk m c 4 t : FVec Ideal S512x128 .bf16) = rows t (dfl m c) := read_rows (dfl m c) t (index t).2.2.2.2.1 (fun _ => rfl) fun _ => rfl
theorem blk5 : (iblk m c 5 t : FVec Ideal S2688x1024 .bf16) = wts m c := read_whole (wts m c) (index t).2.2.2.2.2.1 (fun _ => rfl) fun _ => rfl
theorem blk6 : (iblk m c 6 t : FVec Ideal S512x1024 .f32) = rows t (inp m c) := read_rows (inp m c) t (index t).2.2.2.2.2.2.1 (fun _ => rfl) fun _ => rfl
theorem blk7 : (iblk m c 7 t : FVec Ideal S1x1024 .f32) = gain m c := read_whole (gain m c) (index t).2.2.2.2.2.2.2.1 (fun _ => rfl) fun _ => rfl
theorem blk8 : (iblk m c 8 t : FVec Ideal S512x1024 .f32) = rows t (dres m c) := read_rows (dres m c) t (index t).2.2.2.2.2.2.2.2.1 (fun _ => rfl) fun _ => rfl
theorem read9 (y : FVec Ideal S4096x1024 .f32) : (((cfg0.win 9).blk t).view.read (Elt Ideal) y : FVec Ideal S512x1024 .f32) = rows t y :=
  read_rows y t (index t).2.2.2.2.2.2.2.2.2.1 (fun _ => rfl) fun _ => rfl
theorem read10 (y : FVec Ideal S1x1024 .f32) : (((cfg0.win 10).blk t).view.read (Elt Ideal) y : FVec Ideal S1x1024 .f32) = y :=
  read_whole y (index t).2.2.2.2.2.2.2.2.2.2 (fun _ => rfl) fun _ => rfl

/-- The gradient of the norm's output, on one block and on all rows. -/
abbrev part : FVec Ideal S512x1024 .f32 := sums (iblk m c 0 t) (iblk m c 1 t) (iblk m c 2 t) (iblk m c 3 t) (iblk m c 4 t) (iblk m c 5 t)
abbrev dh : FVec Ideal S4096x1024 .f32 := sums (dag m c) (dq m c) (dk m c) (dv m c) (dfl m c) (wts m c)

theorem part_eq : part m c t = rows t (dh m c) := by
  unfold part
  rw [blk0, blk1, blk2, blk3, blk4, blk5]
  rfl

theorem out9 : (outsAt0 m c t.val t.isLt).1 = fun j => normGrad (φ := .f32) (iblk m c 6 t) (iblk m c 7 t) (part m c t) j + (iblk m c 8 t : FVec Ideal S512x1024 .f32) j := by
  by_cases h0 : t.val % 8 = 0
  · rw [outsAt0_A m c t h0]
    dsimp only
    exact outA9 c (grid0.coords t) _ _ _ _ _ _ _ _ _ _ _ _ _ _ _ _ _ _ _ _ _ _ (iblk m c 0 t) (iblk m c 1 t) (iblk m c 2 t) (iblk m c 3 t) (iblk m c 4 t)
      (iblk m c 5 t) (iblk m c 6 t) (iblk m c 7 t) (iblk m c 8 t) _
  · rw [outsAt0_B m c t h0]
    dsimp only
    exact outB9 c (grid0.coords t) _ _ _ _ _ _ _ _ _ _ _ _ _ _ _ _ _ _ _ _ _ _ (iblk m c 0 t) (iblk m c 1 t) (iblk m c 2 t) (iblk m c 3 t) (iblk m c 4 t)
      (iblk m c 5 t) (iblk m c 6 t) (iblk m c 7 t) (iblk m c 8 t) _ _
end

theorem out10 : (outsAt0 m c 7 (by decide)).2 = gainGrad (inp m c) (dh m c) := by
  refine fold_gain (inp m c) (dh m c) (fun n hn => (outsAt0 m c n hn).2) ?_ fun n hn => ?_
  · let t : Fin cfg0.N := ⟨0, by decide⟩
    show (outsAt0 m c t.val t.isLt).2 = fun i => (0 : EReal) + gainGrad (rows t (inp m c)) (rows t (dh m c)) i
    rw [outsAt0_A m c t rfl, ← blk6, ← part_eq]
    dsimp only
    exact outA10 c (grid0.coords t) _ _ _ _ _ _ _ _ _ _ _ _ _ _ _ _ _ _ _ _ _ _ (iblk m c 0 t) (iblk m c 1 t) (iblk m c 2 t) (iblk m c 3 t) (iblk m c 4 t)
      (iblk m c 5 t) (iblk m c 6 t) (iblk m c 7 t) (iblk m c 8 t) _
  · let t : Fin cfg0.N := ⟨n + 1, hn⟩
    show (outsAt0 m c t.val t.isLt).2 = fun i => (outsAt0 m c n (Nat.lt_of_succ_lt hn)).2 i + gainGrad (rows t (inp m c)) (rows t (dh m c)) i
    rw [outsAt0_B m c t (by show ¬(n + 1) % 8 = 0; omega), ← blk6, ← part_eq]
    dsimp only
    exact outB10 c (grid0.coords t) _ _ _ _ _ _ _ _ _ _ _ _ _ _ _ _ _ _ _ _ _ _ (iblk m c 0 t) (iblk m c 1 t) (iblk m c 2 t) (iblk m c 3 t) (iblk m c 4 t)
      (iblk m c 5 t) (iblk m c 6 t) (iblk m c 7 t) (iblk m c 8 t) _ _

theorem arr9 : ((dats m 0 c).arrAt 9 cfg0.N : FVec Ideal S4096x1024 .f32) = fun j => normGrad (φ := .f32) (inp m c) (gain m c) (dh m c) j + dres m c j :=
  rows_ext _ _ fun (t : Fin cfg0.N) => (read9 t _).symm.trans (((blocks9 m c t (flush0_9 t)).trans (flushed9 m c t)).trans
    ((out9 m c t).trans (by rw [part_eq, blk6, blk7, blk8]; rfl)))

/-- The last point. -/
abbrev last : Fin cfg0.N := ⟨7, by decide⟩

theorem disjoint10 : ∀ t t' : Fin cfg0.N, (cfg0.win 10).flush t = true → (cfg0.win 10).flush t' = true → t ≠ t' →
    Disjoint ((cfg0.win 10).blk t).view.set ((cfg0.win 10).blk t').view.set := fun t t' h h' hne => by
  have e := (flush0_10 t).mp h
  have e' := (flush0_10 t').mp h'
  have b : t.val < 8 := t.isLt
  have b' : t'.val < 8 := t'.isLt
  exact absurd (Fin.ext (by omega)) hne

theorem arr10 : ((dats m 0 c).arrAt 10 cfg0.N : FVec Ideal S1x1024 .f32) = gainGrad (inp m c) (dh m c) :=
  (read10 last _).symm.trans ((((dats m 0 c).read_blk_arrAt_eq_flushed 10 disjoint10 cfg0.N last last.isLt ((flush0_10 last).mpr rfl)).trans (flushed10 m c last)).trans (out10 m c))
end

section
open Cert.Reference10Ideal Cert.Reference10Ideal.Read
variable (a : FVec Ideal S4096x1024 .bf16) (b p q : FVec Ideal S4096x512 .bf16) (f : FVec Ideal S4096x128 .bf16) (w : FVec Ideal S2688x1024 .bf16)
  (x d : FVec Ideal S4096x1024 .f32) (g : FVec Ideal S1x1024 .f32)

/-- The blocks of the weights. -/
theorem ref1 : val_main_v1 (F := Ideal) w = slab (l := 1024) 0 (by decide) w :=
  funext fun i => (val_main_v1_apply (F := Ideal) w i).trans (congrArg w (idx2_eq _ _ _ (Nat.zero_add _).symm rfl))
theorem ref2 : val_main_v2 (F := Ideal) w = slab (l := 512) 1024 (by decide) w :=
  funext fun i => (val_main_v2_apply (F := Ideal) w i).trans (congrArg w (idx2_eq _ _ _ rfl rfl))
theorem ref3 : val_main_v3 (F := Ideal) w = slab (l := 512) 1536 (by decide) w :=
  funext fun i => (val_main_v3_apply (F := Ideal) w i).trans (congrArg w (idx2_eq _ _ _ rfl rfl))
theorem ref4 : val_main_v4 (F := Ideal) w = slab (l := 512) 2048 (by decide) w :=
  funext fun i => (val_main_v4_apply (F := Ideal) w i).trans (congrArg w (idx2_eq _ _ _ rfl rfl))
theorem ref5 : val_main_v5 (F := Ideal) w = slab (l := 128) 2560 (by decide) w :=
  funext fun i => (val_main_v5_apply (F := Ideal) w i).trans (congrArg w (idx2_eq _ _ _ rfl rfl))

/-- Five terms, added from the other end. -/
theorem add_rev (u v w x y : EReal) : y + x + w + v + u = u + v + w + x + y := by ac_rfl

theorem ref44 : val_main_v44 (F := Ideal) a b p q f w = sums a b p q f w :=
  ext2 (φ := .f32) _ _ fun s l => by
    unfold val_main_v44 val_main_v43 val_main_v42 val_main_v41 val_main_v40 val_main_v39 val_main_v38 val_main_v37 val_main_v36 val_main_v29 val_main_v27 val_main_v25 val_main_v23 val_main_v21
    rw [ref1, ref2, ref3, ref4, ref5]
    pointwise [val_main_v31, val_main_v32, val_main_v33, val_main_v34, val_main_v35]
    exact add_rev _ _ _ _ _

theorem ref47 : val_main_v47 (F := Ideal) a b p q f w x = gainGrad x (sums a b p q f w) := by
  rw [← ref44]
  exact ext1 (φ := .f32) _ _ (DownBwd.ref17 (val_main_v44 (F := Ideal) a b p q f w) x)

theorem ref64 : val_main_v64 (F := Ideal) a b p q f w x g d = fun i => normGrad (φ := .f32) x g (sums a b p q f w) i + d i := by
  rw [← normVjp_eq, ← ref44]
  refine ext2 (φ := .f32) _ _ fun s l => ?_
  refine Eq.trans ?_ (congrArg (· + d (ix2 s l)) (DownBwd.ref33 (val_main_v44 (F := Ideal) a b p q f w) x g s l))
  exact (congrArg (· + _) (add_assoc _ _ _)).trans ((add_assoc _ _ _).trans ((add_comm _ _).trans rfl))
end

end Cert.Proj.MixInBwd

end
-- ==== Proof.Proj.OutGrad.lean ====
/- The gradient of the mixer's output weights: kernel and reference leave the same array. -/
module

public import proofs.«01_k».proof.Proof.Gen.Kernel9Ideal.Value
public import proofs.«01_k».proof.Proof.Gen.Reference9Ideal.Read
public import proofs.«01_k».proof.Proof.Proj.Rows

@[expose] public section

set_option maxRecDepth 16384

noncomputable section

open Idealize.ShloMosaic Idealize.ShloMosaic.TcCoe Idealize.ShloMosaic.Tactic

namespace Cert.Proj.OutGrad

open Cert.Mlp

section
open Cert.Kernel9Ideal Cert.Kernel9Ideal.Gen Cert.Kernel9Ideal.Value

theorem pay2_eq (a b : FVec Ideal S4096x1024 .bf16) : k0_pay2 (F := Ideal) (k0_pay1 (F := Ideal)) a b = Tmul (ψ := .f32) a b :=
  ext2 (φ := .f32) _ _ fun r l => by
    pointwise [k0_pay2, k0_pay1]
    rfl

theorem pay3_eq (y : FVec Ideal S1024x1024 .f32) : k0_pay3 (F := Ideal) y = shards (ψ := .bf16) y :=
  ext3 (φ := .bf16) _ _ fun p r l => by
    pointwise [k0_pay3]
    rfl

theorem out2_eq (c : Dev nD) (i : grid0.Coords) (arg2 : Memref sig .tc .vmem S4096x1024 .bf16) (h2 : arg2.IsWhole) (arg3 : Memref sig .tc .vmem S4096x1024 .bf16) (h3 : arg3.IsWhole)
    (arg4 : Memref sig .tc .vmem S8x128x1024 .bf16) (h4 : arg4.IsWhole) (arg5 : Memref sig .tc .vmem S1024x1024 .f32) (h5 : arg5.IsWhole) (hc0 : cond0_0 i) (hc1 : cond0_1 i)
    (a b : FVec Ideal S4096x1024 .bf16) : out0_A_2 (F := Ideal) c i arg2 h2 arg3 h3 arg4 h4 arg5 h5 hc0 hc1 a b = shards (ψ := .bf16) (Tmul (ψ := .f32) a b) := by
  unfold out0_A_2
  rw [View.read_writes_eq_canon _ _ _ (cover0_A_2 (F := Ideal) c i arg2 h2 arg3 h3 arg4 h4 arg5 h5 hc0 hc1 a b)]
  unfold kernelRun0_A
  dsimp only
  rw [View.canon_unit_zero zeros3]
  unfold kernelRun0_A.sl.v14 kernelRun0_A.sl.HS0_2
  rw [View.readCov_cons_toLoadRect]
  unfold kernelRun0_A.sl.v3 kernelRun0_A.sl.HS0_1
  rw [View.readCov_cons_toLoadRect, View.readAt_eq_ld, View.readAt_eq_ld, h2.read_unread, h3.read_unread, View.ld_unit_zero (S := S4096x1024) zeros2, View.ld_unit_zero (S := S4096x1024) zeros2,
    pay2_eq, pay3_eq]

/-- The only point takes the arrays whole. -/
theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0))

variable (m : (ℓ : Loc nD τ sig) → Buf (Elt Ideal) ℓ) (c : Dev nD)

/-- The arguments, with their shapes. -/
abbrev mixed : FVec Ideal S4096x1024 .bf16 := V m c main_arg0
abbrev dy : FVec Ideal S4096x1024 .bf16 := V m c main_arg1

section
variable (t : Fin cfg0.N)

theorem blk0 : (iblk m c 0 t : FVec Ideal S4096x1024 .bf16) = mixed m c := read_whole (mixed m c) (index t).1 (fun _ => rfl) fun _ => rfl
theorem blk1 : (iblk m c 1 t : FVec Ideal S4096x1024 .bf16) = dy m c := read_whole (dy m c) (index t).2.1 (fun _ => rfl) fun _ => rfl
theorem read2 (y : FVec Ideal S8x128x1024 .bf16) : (((cfg0.win 2).blk t).view.read (Elt Ideal) y : FVec Ideal S8x128x1024 .bf16) = y :=
  read_whole3 y (index t).2.2 (fun _ => rfl) (fun _ => rfl) fun _ => rfl
end

theorem arr2 : ((dats m 0 c).arrAt 2 cfg0.N : FVec Ideal S8x128x1024 .bf16) = shards (ψ := .bf16) (Tmul (ψ := .f32) (mixed m c) (dy m c)) := by
  let t : Fin cfg0.N := ⟨0, by decide⟩
  refine (read2 t _).symm.trans (((blocks2 m c t (flush0_2 t)).trans (flushed2_A m c t)).trans ((out2_eq c (grid0.coords t) _ _ _ _ _ _ _ _ _ _ (iblk m c 0 t) (iblk m c 1 t)).trans ?_))
  rw [blk0, blk1]
end

section
open Cert.Reference9Ideal Cert.Reference9Ideal.Read

theorem ref7 (a b : FVec Ideal S4096x1024 .bf16) : val_main_v7 (F := Ideal) a b = shards (ψ := .bf16) (Tmul (ψ := .f32) a b) :=
  ext3 (φ := .bf16) _ _ fun d r l => by
    pointwise [val_main_v7, val_main_v6, val_main_v5, val_main_v4, val_main_v3, val_main_v1]
    exact Finset.sum_congr rfl fun k _ => mul_comm _ _
end

end Cert.Proj.OutGrad

end
-- ==== Proof.Proj.InGrad.lean ====
/- The gradient of the mixer's input weights: kernel and reference leave the same array. -/
module

public import proofs.«01_k».proof.Proof.Gen.Kernel13Ideal.Value
public import proofs.«01_k».proof.Proof.Gen.Reference13Ideal.Read
public import proofs.«01_k».proof.Proof.Proj.Rows
public import Idealize.ShloMosaic.Lib.Pipeline.RowLoads

@[expose] public section

set_option maxRecDepth 16384

noncomputable section

open Idealize.ShloMosaic Idealize.ShloMosaic.TcCoe Idealize.ShloMosaic.Tactic

namespace Cert.Proj.InGrad

open Cert.Mlp

/-- Row `r` of the block `t` of 1024 rows. -/
def rowOf (t : Fin 4) (r : Fin 1024) : Fin 4096 := ⟨1024 * t.val + r.val, by omega⟩

/-- Rows `1024 t` to `1024 t + 1023`. -/
def quarter {k : ℕ} {φ : FTy} (t : Fin 4) (y : FVec Ideal ⟨2, ![4096, k]⟩ φ) : FVec Ideal ⟨2, ![1024, k]⟩ φ := fun i => y (ix2 (rowOf t (i 0)) (i 1))

/-- What such a block reads of an array. -/
theorem read_quarter {k : ℕ} {φ : FTy} (y : FVec Ideal ⟨2, ![4096, k]⟩ φ) (t : Fin 4) {f : Shape.Idx ⟨2, ![1024, k]⟩ → Shape.Idx ⟨2, ![4096, k]⟩} {a b : ℕ} (h : a = t.val ∧ b = 0)
    (e0 : ∀ i, (f i 0).val = a * 1024 + 1 * (i 0).val) (e1 : ∀ i, (f i 1).val = b * k + 1 * (i 1).val) : (fun i => y (f i)) = quarter t y :=
  funext fun i => congrArg y (idx2_eq _ _ _ ((e0 i).trans (by rw [h.1, one_mul, mul_comm]; rfl)) ((e1 i).trans (by rw [h.2, zero_mul, one_mul, zero_add])))

/-- The sum over the rows, block by block. -/
theorem sum_quarters (f : Fin 4096 → EReal) : (((0 + ∑ r, f (rowOf 0 r)) + ∑ r, f (rowOf 1 r)) + ∑ r, f (rowOf 2 r)) + ∑ r, f (rowOf 3 r) = ∑ s, f s := by
  have h : ∑ t : Fin 4, ∑ r : Fin 1024, f (rowOf t r) = ∑ s, f s := by
    rw [← Fintype.sum_prod_type']
    refine Fintype.sum_equiv (finProdFinEquiv (m := 4) (n := 1024)) _ _ fun p => congrArg f (Fin.ext ?_)
    show 1024 * p.1.val + p.2.val = p.2.val + 1024 * p.1.val
    omega
  rw [← h, Fin.sum_univ_four, zero_add]

section
variable {n : ℕ} (a : FVec Ideal ⟨2, ![n, 1024]⟩ .bf16) (p q v : FVec Ideal ⟨2, ![n, 512]⟩ .bf16) (f : FVec Ideal ⟨2, ![n, 128]⟩ .bf16)

/-- The five arrays side by side. -/
def joined : FVec Ideal ⟨2, ![n, 2688]⟩ .bf16 := fun i =>
  if h0 : (i 1).val < 1024 then a (ix2 (i 0) ⟨(i 1).val, h0⟩)
  else if h1 : (i 1).val < 1536 then p (ix2 (i 0) ⟨(i 1).val - 1024, by omega⟩)
  else if h2 : (i 1).val < 2048 then q (ix2 (i 0) ⟨(i 1).val - 1536, by omega⟩)
  else if h3 : (i 1).val < 2560 then v (ix2 (i 0) ⟨(i 1).val - 2048, by omega⟩)
  else f (ix2 (i 0) ⟨(i 1).val - 2560, by have h : (i 1).val < 2688 := (i 1).isLt; omega⟩)

theorem joined0 (i : Shape.Idx ⟨2, ![n, 2688]⟩) (r : Fin n) (l : Fin 1024) (e0 : (i 0).val = r.val) (e1 : (i 1).val = l.val) : joined a p q v f i = a (ix2 r l) := by
  unfold joined
  rw [dif_pos (show (i 1).val < 1024 by omega)]
  exact congrArg a (idx2_eq _ _ _ e0 e1)

theorem joined1 (i : Shape.Idx ⟨2, ![n, 2688]⟩) (r : Fin n) (l : Fin 512) (e0 : (i 0).val = r.val) (e1 : (i 1).val = 1024 + l.val) : joined a p q v f i = p (ix2 r l) := by
  unfold joined
  rw [dif_neg (show ¬(i 1).val < 1024 by omega), dif_pos (show (i 1).val < 1536 by omega)]
  exact congrArg p (idx2_eq _ _ _ e0 (by show (i 1).val - 1024 = l.val; omega))

theorem joined2 (i : Shape.Idx ⟨2, ![n, 2688]⟩) (r : Fin n) (l : Fin 512) (e0 : (i 0).val = r.val) (e1 : (i 1).val = 1536 + l.val) : joined a p q v f i = q (ix2 r l) := by
  unfold joined
  rw [dif_neg (show ¬(i 1).val < 1024 by omega), dif_neg (show ¬(i 1).val < 1536 by omega), dif_pos (show (i 1).val < 2048 by omega)]
  exact congrArg q (idx2_eq _ _ _ e0 (by show (i 1).val - 1536 = l.val; omega))

theorem joined3 (i : Shape.Idx ⟨2, ![n, 2688]⟩) (r : Fin n) (l : Fin 512) (e0 : (i 0).val = r.val) (e1 : (i 1).val = 2048 + l.val) : joined a p q v f i = v (ix2 r l) := by
  unfold joined
  rw [dif_neg (show ¬(i 1).val < 1024 by omega), dif_neg (show ¬(i 1).val < 1536 by omega), dif_neg (show ¬(i 1).val < 2048 by omega), dif_pos (show (i 1).val < 2560 by omega)]
  exact congrArg v (idx2_eq _ _ _ e0 (by show (i 1).val - 2048 = l.val; omega))

theorem joined4 (i : Shape.Idx ⟨2, ![n, 2688]⟩) (r : Fin n) (l : Fin 128) (e0 : (i 0).val = r.val) (e1 : (i 1).val = 2560 + l.val) : joined a p q v f i = f (ix2 r l) := by
  unfold joined
  rw [dif_neg (show ¬(i 1).val < 1024 by omega), dif_neg (show ¬(i 1).val < 1536 by omega), dif_neg (show ¬(i 1).val < 2048 by omega), dif_neg (show ¬(i 1).val < 2560 by omega)]
  exact congrArg f (idx2_eq _ _ _ e0 (by show (i 1).val - 2560 = l.val; omega))

end

section
open Cert.Kernel13Ideal Cert.Kernel13Ideal.Gen Cert.Kernel13Ideal.Value

section
variable (b : FVec Ideal S1024x1024 .bf16)

theorem pay3_eq : k0_pay3 (F := Ideal) = fun _ => (0 : EReal) :=
  ext2 (φ := .f32) _ _ fun r l => by
    pointwise [k0_pay3]

theorem pay4_eq (y : FVec Ideal S1024x1024 .f32) (a : FVec Ideal S1024x1024 .bf16) : k0_pay4 (F := Ideal) b y a = fun i => y i + Tmul (ψ := .f32) a b i :=
  ext2 (φ := .f32) _ _ fun r l => by
    pointwise [k0_pay4]
    rfl

theorem pay5_eq (y : FVec Ideal S512x1024 .f32) (a : FVec Ideal S1024x512 .bf16) : k0_pay5 (F := Ideal) b y a = fun i => y i + Tmul (ψ := .f32) a b i :=
  ext2 (φ := .f32) _ _ fun r l => by
    pointwise [k0_pay5]
    rfl

theorem pay6_eq (y : FVec Ideal S512x1024 .f32) (a : FVec Ideal S1024x512 .bf16) : k0_pay6 (F := Ideal) b y a = fun i => y i + Tmul (ψ := .f32) a b i := pay5_eq b y a

theorem pay1_eq (y : FVec Ideal S512x1024 .f32) (a : FVec Ideal S1024x512 .bf16) :
    k0_pay1 (F := Ideal) b (k0_pay7 y) a (constant S512x1024 .f32 0x00000000#32) = fun i => y i + Tmul (ψ := .f32) a b i := pay5_eq b y a

theorem pay2_eq (y : FVec Ideal S128x1024 .f32) (a : FVec Ideal S1024x128 .bf16) : k0_pay2 (F := Ideal) b y a = fun i => y i + Tmul (ψ := .f32) a b i :=
  ext2 (φ := .f32) _ _ fun r l => by
    pointwise [k0_pay2]
    rfl

variable (y : FVec Ideal S2688x1024 .f32) (z : FVec Ideal ⟨2, ![1024, 2688]⟩ .bf16)

/-- What one point adds to the array. -/
def step : FVec Ideal S2688x1024 .f32 := fun i => y i + Tmul (ψ := .f32) z b i

/-- Where the newest write holds the rows of `G` and the older writes leave `G` off those rows, all leave `G`. -/
theorem canon_rows {w : ℕ} (o : ℕ) (inb : ∀ a, (![o, 0] : Fin 2 → Nat) a + (⟨2, ![w, 1024]⟩ : Shape).size a ≤ S2688x1024.size a) (g : FVec Ideal ⟨2, ![w, 1024]⟩ .f32)
    (L : List (View.Piece (Elt Ideal) S2688x1024 .f32)) (G : FVec Ideal S2688x1024 .f32) (i : S2688x1024.Idx)
    (hg : ∀ j, g j = G ((Rect.unit (s := S2688x1024) ![o, 0] (⟨2, ![w, 1024]⟩ : Shape).size inb).idx j))
    (hL : ¬(o ≤ (i 0).val ∧ (i 0).val < o + w) → View.canon L i = G i) :
    View.canon ((⟨Rect.unit (s := S2688x1024) ![o, 0] (⟨2, ![w, 1024]⟩ : Shape).size inb, g⟩ : View.Piece (Elt Ideal) S2688x1024 .f32) :: L) i = G i := by
  by_cases hm : i ∈ (Rect.unit (s := S2688x1024) ![o, 0] (⟨2, ![w, 1024]⟩ : Shape).size inb).set
  · obtain ⟨x, rfl⟩ := (Rect.unit (s := S2688x1024) ![o, 0] (⟨2, ![w, 1024]⟩ : Shape).size inb).exists_idx_of_mem hm
    exact (View.canon_cons_emb _ _ _ x).trans (hg x)
  · refine (View.canon_cons_of_not_mem _ _ hm).trans (hL fun h => hm ?_)
    rw [← show (Rect.unit (s := S2688x1024) ![o, 0] (⟨2, ![w, 1024]⟩ : Shape).size inb).idx (ix2 (⟨(i 0).val - o, by omega⟩ : Fin w) (i 1)) = i from
      (idx2_eq _ (i 0) (i 1) (by show o + 1 * ((i 0).val - o) = (i 0).val; omega) (by show 0 + 1 * (i 1).val = (i 1).val; omega)).trans (idx2_eq i _ _ rfl rfl).symm]
    exact (Rect.unit (s := S2688x1024) ![o, 0] (⟨2, ![w, 1024]⟩ : Shape).size inb).idx_mem _

/-- What a point adds to some rows of the array is the product with the columns it read. -/
theorem step_rows {w : ℕ} (o : ℕ) (inb : ∀ a, (![o, 0] : Fin 2 → Nat) a + (⟨2, ![w, 1024]⟩ : Shape).size a ≤ S2688x1024.size a) (a : FVec Ideal ⟨2, ![1024, w]⟩ .bf16)
    (h : ∀ (i : Shape.Idx ⟨2, ![1024, 2688]⟩) (r : Fin 1024) (l : Fin w), (i 0).val = r.val → (i 1).val = o + l.val → z i = a (ix2 r l)) (j : Shape.Idx ⟨2, ![w, 1024]⟩) :
    y ((Rect.unit (s := S2688x1024) ![o, 0] (⟨2, ![w, 1024]⟩ : Shape).size inb).idx j) + Tmul (ψ := .f32) a b j
      = step b y z ((Rect.unit (s := S2688x1024) ![o, 0] (⟨2, ![w, 1024]⟩ : Shape).size inb).idx j) := by
  refine congrArg (y _ + ·) (congrArg₂ dot (funext fun k => (h _ k (j 0) rfl ?_).symm) (funext fun k => congrArg b (idx2_eq _ _ _ rfl ?_).symm))
  · show o + 1 * (j 0).val = o + (j 0).val
    omega
  · show 0 + 1 * (j 1).val = (j 1).val
    omega

variable (a : FVec Ideal S1024x1024 .bf16) (p q v : FVec Ideal S1024x512 .bf16) (f : FVec Ideal S1024x128 .bf16)

/-- The five writes of a point, over any older ones. -/
theorem canon_step (L : List (View.Piece (Elt Ideal) S2688x1024 .f32)) :
    View.canon ((⟨Rect.unit (s := S2688x1024) ![2560, 0] S128x1024.size inb_S2688x1024_S128x1024_2560_0, fun j => View.ld (Val := Elt Ideal) (e' := .f32) y (Rect.unit (s := S2688x1024) ![2560, 0] S128x1024.size inb_S2688x1024_S128x1024_2560_0) j + Tmul (ψ := .f32) f b j⟩ : View.Piece (Elt Ideal) S2688x1024 .f32)
      :: ⟨Rect.unit (s := S2688x1024) ![2048, 0] S512x1024.size inb_S2688x1024_S512x1024_2048_0, fun j => View.ld (Val := Elt Ideal) (e' := .f32) y (Rect.unit (s := S2688x1024) ![2048, 0] S512x1024.size inb_S2688x1024_S512x1024_2048_0) j + Tmul (ψ := .f32) v b j⟩
      :: ⟨Rect.unit (s := S2688x1024) ![1536, 0] S512x1024.size inb_S2688x1024_S512x1024_1536_0, fun j => View.ld (Val := Elt Ideal) (e' := .f32) y (Rect.unit (s := S2688x1024) ![1536, 0] S512x1024.size inb_S2688x1024_S512x1024_1536_0) j + Tmul (ψ := .f32) q b j⟩
      :: ⟨Rect.unit (s := S2688x1024) ![1024, 0] S512x1024.size inb_S2688x1024_S512x1024_1024_0, fun j => View.ld (Val := Elt Ideal) (e' := .f32) y (Rect.unit (s := S2688x1024) ![1024, 0] S512x1024.size inb_S2688x1024_S512x1024_1024_0) j + Tmul (ψ := .f32) p b j⟩
      :: ⟨Rect.unit (s := S2688x1024) ![0, 0] S1024x1024.size inb_S2688x1024_S1024x1024_0_0, fun j => View.ld (Val := Elt Ideal) (e' := .f32) y (Rect.unit (s := S2688x1024) ![0, 0] S1024x1024.size inb_S2688x1024_S1024x1024_0_0) j + Tmul (ψ := .f32) a b j⟩ :: L)
      = step b y (joined a p q v f) := by
  funext i
  have b0 : (i 0).val < 2688 := (i 0).isLt
  refine canon_rows 2560 _ _ _ _ i (step_rows b y _ 2560 _ f (joined4 a p q v f)) fun h4 => ?_
  refine canon_rows 2048 _ _ _ _ i (step_rows b y _ 2048 _ v (joined3 a p q v f)) fun h3 => ?_
  refine canon_rows 1536 _ _ _ _ i (step_rows b y _ 1536 _ q (joined2 a p q v f)) fun h2 => ?_
  refine canon_rows 1024 _ _ _ _ i (step_rows b y _ 1024 _ p (joined1 a p q v f)) fun h1 => ?_
  refine canon_rows 0 _ _ _ _ i (step_rows b y _ 0 _ a fun i r l e0 e1 => joined0 a p q v f i r l e0 (e1.trans (Nat.zero_add _))) fun h0 => ?_
  omega
end

section
variable (c : Dev nD) (i : grid0.Coords) (arg1 : Memref sig .tc .vmem S1024x1024 .bf16) (h1 : arg1.IsWhole) (arg2 : Memref sig .tc .vmem S1024x512 .bf16) (h2 : arg2.IsWhole)
  (arg3 : Memref sig .tc .vmem S1024x512 .bf16) (h3 : arg3.IsWhole) (arg4 : Memref sig .tc .vmem S1024x512 .bf16) (h4 : arg4.IsWhole) (arg5 : Memref sig .tc .vmem S1024x128 .bf16) (h5 : arg5.IsWhole)
  (arg6 : Memref sig .tc .vmem S1024x1024 .bf16) (h6 : arg6.IsWhole) (arg7 : Memref sig .tc .vmem S2688x1024 .f32) (h7 : arg7.IsWhole)
  (x0 : FVec Ideal S1024x1024 .bf16) (x1 x2 x3 : FVec Ideal S1024x512 .bf16) (x4 : FVec Ideal S1024x128 .bf16) (x5 : FVec Ideal S1024x1024 .bf16) (y : FVec Ideal S2688x1024 .f32)

theorem outB (hc : ¬cond0_0 i) : out0_B_6 (F := Ideal) c i arg1 h1 arg2 h2 arg3 h3 arg4 h4 arg5 h5 arg6 h6 arg7 h7 hc x0 x1 x2 x3 x4 x5 y = step x5 y (joined x0 x1 x2 x3 x4) := by
  unfold out0_B_6
  rw [View.read_writes_eq_canon _ _ _ (cover0_B_6 (F := Ideal) c i arg1 h1 arg2 h2 arg3 h3 arg4 h4 arg5 h5 arg6 h6 arg7 h7 hc x0 x1 x2 x3 x4 x5 y)]
  unfold kernelRun0_B
  dsimp only
  unfold kernelRun0_B.sl.r kernelRun0_B.sl.v28 kernelRun0_B.sl.v16 kernelRun0_B.sl.v10 kernelRun0_B.sl.r_1 kernelRun0_B.sl.v22 kernelRun0_B.sl.r_2 kernelRun0_B.sl.cst_23
  simp only [View.readAt_eq_ld, h1.read_unread, h2.read_unread, h3.read_unread, h4.read_unread, h5.read_unread, h6.read_unread, h7.read_unread,
    View.ld_unit_zero (S := S1024x1024) zeros2, View.ld_unit_zero (S := S1024x512) zeros2, View.ld_unit_zero (S := S1024x128) zeros2]
  refine Eq.trans ?_ (canon_step x5 y x0 x1 x2 x3 x4 [])
  rw [pay4_eq, pay5_eq, pay6_eq, pay1_eq, pay2_eq]
  rfl

/-- The zeros, read back; the rows still to be written are zero. -/
theorem readA (B : LoadRect S2688x1024) : arg7.view.readCov (kernelRun0_A.sl.H6_1 (F := Ideal)) B = fun _ => (0 : EReal) := by
  unfold kernelRun0_A.sl.H6_1
  rw [View.readCov_eq_canon', View.canon_unit_zero zeros2, pay3_eq]

theorem readA2 : kernelRun0_A.sl.v10 (F := Ideal) c arg1 h1 arg6 h6 arg7 x0 x5 = fun _ => (0 : EReal) := by
  unfold kernelRun0_A.sl.v10 kernelRun0_A.sl.H6_2
  exact (View.readCov_cons_of_rows_disjoint arg7.view 0 1024 (by decide) _ _ _ _).trans (readA arg7 _)

theorem readA3 : kernelRun0_A.sl.v16 (F := Ideal) c arg1 h1 arg2 h2 arg6 h6 arg7 x0 x1 x5 = fun _ => (0 : EReal) := by
  unfold kernelRun0_A.sl.v16 kernelRun0_A.sl.H6_3 kernelRun0_A.sl.H6_2
  exact (View.readCov_cons_of_rows_disjoint arg7.view 1024 1536 (by decide) _ _ _ _).trans
    ((View.readCov_cons_of_rows_disjoint arg7.view 0 1536 (by decide) _ _ _ _).trans (readA arg7 _))

theorem readA4 : kernelRun0_A.sl.v22 (F := Ideal) c arg1 h1 arg2 h2 arg3 h3 arg6 h6 arg7 x0 x1 x2 x5 = fun _ => (0 : EReal) := by
  unfold kernelRun0_A.sl.v22 kernelRun0_A.sl.H6_4 kernelRun0_A.sl.H6_3 kernelRun0_A.sl.H6_2
  exact (View.readCov_cons_of_rows_disjoint arg7.view 1536 2048 (by decide) _ _ _ _).trans
    ((View.readCov_cons_of_rows_disjoint arg7.view 1024 2048 (by decide) _ _ _ _).trans
    ((View.readCov_cons_of_rows_disjoint arg7.view 0 2048 (by decide) _ _ _ _).trans (readA arg7 _)))

theorem readA5 : kernelRun0_A.sl.v28 (F := Ideal) c arg1 h1 arg2 h2 arg3 h3 arg4 h4 arg6 h6 arg7 x0 x1 x2 x3 x5 = fun _ => (0 : EReal) := by
  unfold kernelRun0_A.sl.v28 kernelRun0_A.sl.H6_5 kernelRun0_A.sl.H6_4 kernelRun0_A.sl.H6_3 kernelRun0_A.sl.H6_2
  exact (View.readCov_cons_of_rows_disjoint arg7.view 2048 2560 (by decide) _ _ _ _).trans
    ((View.readCov_cons_of_rows_disjoint arg7.view 1536 2560 (by decide) _ _ _ _).trans
    ((View.readCov_cons_of_rows_disjoint arg7.view 1024 2560 (by decide) _ _ _ _).trans
    ((View.readCov_cons_of_rows_disjoint arg7.view 0 2560 (by decide) _ _ _ _).trans (readA arg7 _))))

theorem outA (hc : cond0_0 i) : out0_A_6 (F := Ideal) c i arg1 h1 arg2 h2 arg3 h3 arg4 h4 arg5 h5 arg6 h6 arg7 h7 hc x0 x1 x2 x3 x4 x5 = step x5 (fun _ => (0 : EReal)) (joined x0 x1 x2 x3 x4) := by
  unfold out0_A_6
  rw [View.read_writes_eq_canon _ _ _ (cover0_A_6 (F := Ideal) c i arg1 h1 arg2 h2 arg3 h3 arg4 h4 arg5 h5 arg6 h6 arg7 h7 hc x0 x1 x2 x3 x4 x5)]
  unfold kernelRun0_A
  dsimp only
  rw [readA5]
  unfold kernelRun0_A.sl.H6_5 kernelRun0_A.sl.r_1 kernelRun0_A.sl.H6_4 kernelRun0_A.sl.H6_3 kernelRun0_A.sl.H6_2 kernelRun0_A.sl.v4 kernelRun0_A.sl.r kernelRun0_A.sl.r_2 kernelRun0_A.sl.cst_23
  rw [readA4, readA3, readA2, readA]
  simp only [View.readAt_eq_ld, h1.read_unread, h2.read_unread, h3.read_unread, h4.read_unread, h5.read_unread, h6.read_unread,
    View.ld_unit_zero (S := S1024x1024) zeros2, View.ld_unit_zero (S := S1024x512) zeros2, View.ld_unit_zero (S := S1024x128) zeros2]
  refine Eq.trans ?_ (canon_step x5 (fun _ => (0 : EReal)) x0 x1 x2 x3 x4 kernelRun0_A.sl.H6_1)
  rw [pay4_eq, pay5_eq, pay6_eq, pay1_eq, pay2_eq]
  rfl
end

/-- The blocks of the rows, and the gradient whole. -/
theorem index : ∀ t : Fin cfg0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0))

variable (m : (ℓ : Loc nD τ sig) → Buf (Elt Ideal) ℓ) (c : Dev nD)

/-- The arguments, with their shapes; the first five are the gradients of what the projection gave. -/
abbrev dz0 : FVec Ideal S4096x1024 .bf16 := V m c main_arg0
abbrev dz1 : FVec Ideal S4096x512 .bf16 := V m c main_arg1
abbrev dz2 : FVec Ideal S4096x512 .bf16 := V m c main_arg2
abbrev dz3 : FVec Ideal S4096x512 .bf16 := V m c main_arg3
abbrev dz4 : FVec Ideal S4096x128 .bf16 := V m c main_arg4
abbrev inp : FVec Ideal S4096x1024 .bf16 := V m c main_arg5
abbrev dz : FVec Ideal ⟨2, ![4096, 2688]⟩ .bf16 := joined (dz0 m c) (dz1 m c) (dz2 m c) (dz3 m c) (dz4 m c)

section
variable (t : Fin cfg0.N)

theorem blk0 : (iblk m c 0 t : FVec Ideal S1024x1024 .bf16) = quarter t (dz0 m c) := read_quarter (dz0 m c) t (index t).1 (fun _ => rfl) fun _ => rfl
theorem blk1 : (iblk m c 1 t : FVec Ideal S1024x512 .bf16) = quarter t (dz1 m c) := read_quarter (dz1 m c) t (index t).2.1 (fun _ => rfl) fun _ => rfl
theorem blk2 : (iblk m c 2 t : FVec Ideal S1024x512 .bf16) = quarter t (dz2 m c) := read_quarter (dz2 m c) t (index t).2.2.1 (fun _ => rfl) fun _ => rfl
theorem blk3 : (iblk m c 3 t : FVec Ideal S1024x512 .bf16) = quarter t (dz3 m c) := read_quarter (dz3 m c) t (index t).2.2.2.1 (fun _ => rfl) fun _ => rfl
theorem blk4 : (iblk m c 4 t : FVec Ideal S1024x128 .bf16) = quarter t (dz4 m c) := read_quarter (dz4 m c) t (index t).2.2.2.2.1 (fun _ => rfl) fun _ => rfl
theorem blk5 : (iblk m c 5 t : FVec Ideal S1024x1024 .bf16) = quarter t (inp m c) := read_quarter (inp m c) t (index t).2.2.2.2.2.1 (fun _ => rfl) fun _ => rfl
theorem read6 (y : FVec Ideal S2688x1024 .f32) : (((cfg0.win 6).blk t).view.read (Elt Ideal) y : FVec Ideal S2688x1024 .f32) = y :=
  read_whole y (index t).2.2.2.2.2.2 (fun _ => rfl) fun _ => rfl

/-- The five blocks of a point side by side. -/
theorem blks : joined (n := 1024) (iblk m c 0 t) (iblk m c 1 t) (iblk m c 2 t) (iblk m c 3 t) (iblk m c 4 t) = quarter t (dz m c) := by
  rw [blk0, blk1, blk2, blk3, blk4]
  rfl
end

/-- What the first point leaves, and what the others do. -/
theorem first : outsAt0 m c 0 (by decide) = step (quarter 0 (inp m c)) (fun _ => (0 : EReal)) (quarter 0 (dz m c)) := by
  let t : Fin cfg0.N := ⟨0, by decide⟩
  show outsAt0 m c t.val t.isLt = step (quarter t (inp m c)) (fun _ => (0 : EReal)) (quarter t (dz m c))
  rw [outsAt0_A m c t rfl, ← blk5, ← blks]
  exact outA c (grid0.coords t) _ _ _ _ _ _ _ _ _ _ _ _ _ _ (iblk m c 0 t) (iblk m c 1 t) (iblk m c 2 t) (iblk m c 3 t) (iblk m c 4 t) (iblk m c 5 t) _

theorem next (n : ℕ) (hn : n + 1 < 4) : outsAt0 m c (n + 1) hn = step (quarter ⟨n + 1, hn⟩ (inp m c)) (outsAt0 m c n (Nat.lt_of_succ_lt hn)) (quarter ⟨n + 1, hn⟩ (dz m c)) := by
  let t : Fin cfg0.N := ⟨n + 1, hn⟩
  show outsAt0 m c t.val t.isLt = step (quarter t (inp m c)) (outsAt0 m c n (Nat.lt_of_succ_lt hn)) (quarter t (dz m c))
  rw [outsAt0_B m c t (by show ¬(n + 1) % 4 = 0; omega), ← blk5, ← blks]
  exact outB c (grid0.coords t) _ _ _ _ _ _ _ _ _ _ _ _ _ _ (iblk m c 0 t) (iblk m c 1 t) (iblk m c 2 t) (iblk m c 3 t) (iblk m c 4 t) (iblk m c 5 t) _ _

/-- The last point. -/
abbrev last : Fin cfg0.N := ⟨3, by decide⟩

theorem out6 : outsAt0 m c 3 (by decide) = Tmul (ψ := .f32) (dz m c) (inp m c) := by
  rw [next m c 2 (by decide), next m c 1 (by decide), next m c 0 (by decide), first]
  funext i
  exact sum_quarters fun s => dz m c (ix2 s (i 0)) * inp m c (ix2 s (i 1))

theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have e := (flush0_6 t).mp h
  have e' := (flush0_6 t').mp h'
  have b : t.val < 4 := t.isLt
  have b' : t'.val < 4 := t'.isLt
  exact absurd (Fin.ext (by omega)) hne

theorem arr6 : ((dats m 0 c).arrAt 6 cfg0.N : FVec Ideal S2688x1024 .f32) = Tmul (ψ := .f32) (dz m c) (inp m c) :=
  (read6 last _).symm.trans ((((dats m 0 c).read_blk_arrAt_eq_flushed 6 disjoint6 cfg0.N last last.isLt ((flush0_6 last).mpr rfl)).trans (flushed6 m c last)).trans (out6 m c))
end

section
open Cert.Reference13Ideal Cert.Reference13Ideal.Read
variable (a : FVec Ideal S4096x1024 .bf16) (p q v : FVec Ideal S4096x512 .bf16) (f : FVec Ideal S4096x128 .bf16) (h : FVec Ideal S4096x1024 .bf16)

/-- Off the joined axis a piece is read where the whole is. -/
theorem off_axis {w : ℕ} (s : Fin 4096) (j : Fin w) (l : Fin 2688) (b : Fin 2) (hb : b ≠ 1) : (ix2 s j b).val = (ix2 s l b).val :=
  match b, hb with
  | ⟨0, _⟩, _ => rfl
  | ⟨1, _⟩, hb => absurd rfl hb

theorem ref0 : val_main_v0 (F := Ideal) a p q v f = joined a p q v f :=
  ext2 (φ := .bf16) _ _ fun s l => by
    unfold val_main_v0
    by_cases h0 : l.val < 1024
    · rw [joined0 a p q v f (ix2 s l) s ⟨l.val, h0⟩ rfl rfl]
      exact concatenate_apply_piece _ _ _ (ix2 s l) 0 (by show 0 < 5; decide) S4096x1024 a rfl rfl 0 rfl (ix2 s ⟨l.val, h0⟩) (off_axis s _ l) (Nat.zero_add _)
    by_cases h1 : l.val < 1536
    · have e : 1024 + (l.val - 1024) = l.val := by omega
      rw [joined1 a p q v f (ix2 s l) s ⟨l.val - 1024, by omega⟩ rfl e.symm]
      exact concatenate_apply_piece _ _ _ (ix2 s l) 1 (by show 1 < 5; decide) S4096x512 p rfl rfl 1024 rfl (ix2 s ⟨l.val - 1024, by omega⟩) (off_axis s _ l) e
    by_cases h2 : l.val < 2048
    · have e : 1536 + (l.val - 1536) = l.val := by omega
      rw [joined2 a p q v f (ix2 s l) s ⟨l.val - 1536, by omega⟩ rfl e.symm]
      exact concatenate_apply_piece _ _ _ (ix2 s l) 2 (by show 2 < 5; decide) S4096x512 q rfl rfl 1536 rfl (ix2 s ⟨l.val - 1536, by omega⟩) (off_axis s _ l) e
    by_cases h3 : l.val < 2560
    · have e : 2048 + (l.val - 2048) = l.val := by omega
      rw [joined3 a p q v f (ix2 s l) s ⟨l.val - 2048, by omega⟩ rfl e.symm]
      exact concatenate_apply_piece _ _ _ (ix2 s l) 3 (by show 3 < 5; decide) S4096x512 v rfl rfl 2048 rfl (ix2 s ⟨l.val - 2048, by omega⟩) (off_axis s _ l) e
    · have e : 2560 + (l.val - 2560) = l.val := by omega
      rw [joined4 a p q v f (ix2 s l) s ⟨l.val - 2560, by omega⟩ rfl e.symm]
      exact concatenate_apply_piece _ _ _ (ix2 s l) 4 (by show 4 < 5; decide) S4096x128 f rfl rfl 2560 rfl (ix2 s ⟨l.val - 2560, by omega⟩) (off_axis s _ l) e

theorem ref7 : val_main_v7 (F := Ideal) a p q v f h = Tmul (ψ := .f32) (joined a p q v f) h := by
  rw [← ref0]
  exact ext2 (φ := .f32) _ _ fun r l => by
    pointwise [val_main_v7, val_main_v6, val_main_v5, val_main_v1, val_main_v3]
    rfl
end
end Cert.Proj.InGrad
end
-- ==== Proof.Proj.QueryFwd.lean ====
/- The norm and the memory attention's query projection: kernel and reference leave the same arrays. -/
module

public import proofs.«01_k».proof.Proof.Gen.Kernel14Ideal.Value
public import proofs.«01_k».proof.Proof.Gen.Reference14Ideal.Read
public import proofs.«01_k».proof.Proof.Proj.Rows

@[expose] public section

set_option maxRecDepth 16384

noncomputable section

open Idealize.ShloMosaic Idealize.ShloMosaic.TcCoe Idealize.ShloMosaic.Tactic

namespace Cert.Proj.QueryFwd

open Cert.Mlp

section
open Cert.Kernel14Ideal Cert.Kernel14Ideal.Gen Cert.Kernel14Ideal.Value

section
variable (x : FVec Ideal S512x1024 .f32) (g : FVec Ideal S1x1024 .f32) (w : FVec Ideal S1024x512 .bf16)

theorem pay1_eq : k0_pay1 (F := Ideal) x g = norm (φ := .bf16) x g :=
  ext2 (φ := .bf16) _ _ fun r l => by
    pointwise [k0_pay1]
    rfl

theorem pay2_eq : k0_pay2 (F := Ideal) x g w = mul (ψ := .bf16) (norm (φ := .bf16) x g) w :=
  ext2 (φ := .bf16) _ _ fun r l => by
    unfold k0_pay2
    rw [pay1_eq]
    pointwise []
    rfl

theorem out3_eq : out0_3 (F := Ideal) x g w = norm (φ := .bf16) x g := by
  unfold out0_3
  rw [View.canon_unit_zero zeros2, View.ld_unit_zero (S := S512x1024) zeros2, View.ld_unit_zero (S := S1x1024) zeros2]
  exact pay1_eq x g

theorem out4_eq : out0_4 (F := Ideal) x g w = mul (ψ := .bf16) (norm (φ := .bf16) x g) w := by
  unfold out0_4
  rw [View.canon_unit_zero zeros2, View.ld_unit_zero (S := S512x1024) zeros2, View.ld_unit_zero (S := S1x1024) zeros2, View.ld_unit_zero (S := S1024x512) zeros2]
  exact pay2_eq x g w
end

/-- The blocks of the rows, and the gain and the weights whole. -/
theorem index : ∀ t : Fin cfg0.N, (win0_0.index t 0 = t.val ∧ win0_0.index t 1 = 0) ∧ (win0_1.index t 0 = 0 ∧ win0_1.index t 1 = 0) ∧ (win0_2.index t 0 = 0 ∧ win0_2.index t 1 = 0)
    ∧ (win0_3.index t 0 = t.val ∧ win0_3.index t 1 = 0) ∧ (win0_4.index t 0 = t.val ∧ win0_4.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0))

variable (m : (ℓ : Loc nD τ sig) → Buf (Elt Ideal) ℓ) (c : Dev nD)

/-- The arguments, with their shapes. -/
abbrev inp : FVec Ideal S4096x1024 .f32 := V m c main_arg0
abbrev gain : FVec Ideal S1x1024 .f32 := V m c main_arg1
abbrev wts : FVec Ideal S1024x512 .bf16 := V m c main_arg2

section
variable (t : Fin cfg0.N)

theorem blk0 : (iblk m c 0 t : FVec Ideal S512x1024 .f32) = rows t (inp m c) := read_rows (inp m c) t (index t).1 (fun _ => rfl) fun _ => rfl
theorem blk1 : (iblk m c 1 t : FVec Ideal S1x1024 .f32) = gain m c := read_whole (gain m c) (index t).2.1 (fun _ => rfl) fun _ => rfl
theorem blk2 : (iblk m c 2 t : FVec Ideal S1024x512 .bf16) = wts m c := read_whole (wts m c) (index t).2.2.1 (fun _ => rfl) fun _ => rfl
theorem read3 (y : FVec Ideal S4096x1024 .bf16) : (((cfg0.win 3).blk t).view.read (Elt Ideal) y : FVec Ideal S512x1024 .bf16) = rows t y :=
  read_rows y t (index t).2.2.2.1 (fun _ => rfl) fun _ => rfl
theorem read4 (y : FVec Ideal S4096x512 .bf16) : (((cfg0.win 4).blk t).view.read (Elt Ideal) y : FVec Ideal S512x512 .bf16) = rows t y :=
  read_rows y t (index t).2.2.2.2 (fun _ => rfl) fun _ => rfl
end

theorem arr3 : ((dats m 0 c).arrAt 3 cfg0.N : FVec Ideal S4096x1024 .bf16) = norm (φ := .bf16) (inp m c) (gain m c) :=
  rows_ext _ _ fun (t : Fin cfg0.N) => (read3 t _).symm.trans (((blocks3 m c t (flush0_3 t)).trans (flushed3 m c t)).trans
    ((out3_eq (iblk m c 0 t) (iblk m c 1 t) (iblk m c 2 t)).trans (by rw [blk0, blk1]; rfl)))

theorem arr4 : ((dats m 0 c).arrAt 4 cfg0.N : FVec Ideal S4096x512 .bf16) = mul (ψ := .bf16) (norm (φ := .bf16) (inp m c) (gain m c)) (wts m c) :=
  rows_ext _ _ fun (t : Fin cfg0.N) => (read4 t _).symm.trans (((blocks4 m c t (flush0_4 t)).trans (flushed4 m c t)).trans
    ((out4_eq (iblk m c 0 t) (iblk m c 1 t) (iblk m c 2 t)).trans (by rw [blk0, blk1, blk2]; rfl)))
end

section
open Cert.Reference14Ideal Cert.Reference14Ideal.Read
variable (x : FVec Ideal S4096x1024 .f32) (g : FVec Ideal S1x1024 .f32) (w : FVec Ideal S1024x512 .bf16)

theorem ref11 : val_main_v11 (F := Ideal) x g = norm (φ := .f32) x g :=
  ext2 (φ := .f32) _ _ fun s l => by
    pointwise [val_main_v11, val_main_v10, val_main_v9, val_main_v8, val_main_v7, val_main_v6, val_main_v5, val_main_v4, val_main_v3, val_main_v2, val_main_v1, val_main_v0,
      val_main_cst, val_main_cst_0, val_main_cst_1]
    rfl

theorem ref12 : val_main_v12 (F := Ideal) x g = norm (φ := .bf16) x g := ref11 x g

theorem ref15 : val_main_v15 (F := Ideal) x g w = mul (ψ := .bf16) (norm (φ := .bf16) x g) w :=
  ext2 (φ := .bf16) _ _ fun s l => by
    unfold val_main_v15 val_main_v14
    rw [ref11]
    pointwise [val_main_v13]
    rfl
end

end Cert.Proj.QueryFwd

end
-- ==== Proof.Proj.QueryBwd.lean ====
/- The gradient through the memory attention's query projection and its norm: kernel and reference leave the same arrays. -/
module

public import proofs.«01_k».proof.Proof.Gen.Kernel16Ideal.Value
public import proofs.«01_k».proof.Proof.Gen.Reference16Ideal.Read
public import proofs.«01_k».proof.Proof.Proj.Rows
public import proofs.«01_k».proof.Proof.Mlp.DownBwd

@[expose] public section

set_option maxRecDepth 16384

noncomputable section

open Idealize.ShloMosaic Idealize.ShloMosaic.TcCoe Idealize.ShloMosaic.Tactic

namespace Cert.Proj.QueryBwd

open Cert.Mlp

section
open Cert.Kernel16Ideal Cert.Kernel16Ideal.Gen Cert.Kernel16Ideal.Value

section
variable (a : FVec Ideal S512x512 .bf16) (w : FVec Ideal S1024x512 .bf16) (x d : FVec Ideal S512x1024 .f32) (g y z : FVec Ideal S1x1024 .f32)

theorem pay3_eq : k0_pay3 (F := Ideal) a w = mulT (ψ := .f32) a w :=
  ext2 (φ := .f32) _ _ fun r l => by
    pointwise [k0_pay3]
    rfl

theorem pay6_eq : k0_pay6 (F := Ideal) a w x g d = fun i => normGrad (φ := .f32) x g (mulT a w) i + d i := by
  rw [← pay3_eq]
  exact ext2 (φ := .f32) _ _ fun r l => congrArg (· + d (ix2 r l)) (DownBwd.pay5_apply x g (k0_pay3 (F := Ideal) a w) r l)

theorem pay5_eq : k0_pay5 (F := Ideal) a w x = gainGrad x (mulT a w) := by
  rw [← pay3_eq]
  refine ext1 (φ := .f32) _ _ fun l => ?_
  unfold k0_pay5
  generalize k0_pay3 (F := Ideal) a w = h
  pointwise [k0_pay4]
  rfl

theorem pay2_eq : k0_pay2 (F := Ideal) y z = fun i => z i + y i :=
  ext1 (φ := .f32) _ _ fun l => by pointwise [k0_pay2]

theorem pay1_eq : k0_pay1 (F := Ideal) = fun _ => (0 : EReal) :=
  ext1 (φ := .f32) _ _ fun l => by pointwise [k0_pay1]
end

section
variable (c : Dev nD) (i : grid0.Coords) (arg1 : Memref sig .tc .vmem S512x512 .bf16) (h1 : arg1.IsWhole) (arg2 : Memref sig .tc .vmem S1024x512 .bf16) (h2 : arg2.IsWhole)
  (arg3 : Memref sig .tc .vmem S512x1024 .f32) (h3 : arg3.IsWhole) (arg4 : Memref sig .tc .vmem S1x1024 .f32) (h4 : arg4.IsWhole) (arg5 : Memref sig .tc .vmem S512x1024 .f32) (h5 : arg5.IsWhole)
  (arg6 : Memref sig .tc .vmem S512x1024 .f32) (h6 : arg6.IsWhole) (arg7 : Memref sig .tc .vmem S1x1024 .f32) (h7 : arg7.IsWhole)
  (a : FVec Ideal S512x512 .bf16) (w : FVec Ideal S1024x512 .bf16) (x : FVec Ideal S512x1024 .f32) (g : FVec Ideal S1x1024 .f32) (d : FVec Ideal S512x1024 .f32) (z : FVec Ideal S1x1024 .f32)

theorem outA5 (hc : cond0_0 i) : out0_A_5 (F := Ideal) c i arg1 h1 arg2 h2 arg3 h3 arg4 h4 arg5 h5 arg6 h6 arg7 h7 hc a w x g d
    = fun j => normGrad (φ := .f32) x g (mulT a w) j + d j := by
  unfold out0_A_5
  rw [View.read_writes_eq_canon _ _ _ (cover0_A_5 (F := Ideal) c i arg1 h1 arg2 h2 arg3 h3 arg4 h4 arg5 h5 arg6 h6 arg7 h7 hc a w x g d)]
  unfold kernelRun0_A
  dsimp only
  rw [View.canon_unit_zero zeros2]
  simp only [View.readAt_eq_ld, h1.read_unread, h2.read_unread, h3.read_unread, h4.read_unread, h5.read_unread, View.ld_unit_zero (S := S512x512) zeros2,
    View.ld_unit_zero (S := S1024x512) zeros2, View.ld_unit_zero (S := S512x1024) zeros2, View.ld_unit_zero (S := S1x1024) zeros2]
  exact pay6_eq a w x d g

theorem outB5 (hc : ¬cond0_0 i) : out0_B_5 (F := Ideal) c i arg1 h1 arg2 h2 arg3 h3 arg4 h4 arg5 h5 arg6 h6 arg7 h7 hc a w x g d z
    = fun j => normGrad (φ := .f32) x g (mulT a w) j + d j := by
  unfold out0_B_5
  rw [View.read_writes_eq_canon _ _ _ (cover0_B_5 (F := Ideal) c i arg1 h1 arg2 h2 arg3 h3 arg4 h4 arg5 h5 arg6 h6 arg7 h7 hc a w x g d z)]
  unfold kernelRun0_B
  dsimp only
  rw [View.canon_unit_zero zeros2]
  simp only [View.readAt_eq_ld, h1.read_unread, h2.read_unread, h3.read_unread, h4.read_unread, h5.read_unread, View.ld_unit_zero (S := S512x512) zeros2,
    View.ld_unit_zero (S := S1024x512) zeros2, View.ld_unit_zero (S := S512x1024) zeros2, View.ld_unit_zero (S := S1x1024) zeros2]
  exact pay6_eq a w x d g

theorem outA6 (hc : cond0_0 i) : out0_A_6 (F := Ideal) c i arg1 h1 arg2 h2 arg3 h3 arg4 h4 arg5 h5 arg6 h6 arg7 h7 hc a w x g d = fun j => (0 : EReal) + gainGrad x (mulT a w) j := by
  unfold out0_A_6
  rw [View.read_writes_eq_canon _ _ _ (cover0_A_6 (F := Ideal) c i arg1 h1 arg2 h2 arg3 h3 arg4 h4 arg5 h5 arg6 h6 arg7 h7 hc a w x g d)]
  unfold kernelRun0_A
  dsimp only
  rw [View.canon_cons_unit_zero zeros2]
  unfold kernelRun0_A.sl.r kernelRun0_A.sl.v39 kernelRun0_A.sl.H6_1
  rw [View.readCov_cons_toLoadRect]
  simp only [View.readAt_eq_ld, h1.read_unread, h2.read_unread, h3.read_unread, View.ld_unit_zero (S := S512x512) zeros2,
    View.ld_unit_zero (S := S1024x512) zeros2, View.ld_unit_zero (S := S512x1024) zeros2]
  rw [pay2_eq, pay1_eq, pay5_eq]

theorem outB6 (hc : ¬cond0_0 i) : out0_B_6 (F := Ideal) c i arg1 h1 arg2 h2 arg3 h3 arg4 h4 arg5 h5 arg6 h6 arg7 h7 hc a w x g d z = fun j => z j + gainGrad x (mulT a w) j := by
  unfold out0_B_6
  rw [View.read_writes_eq_canon _ _ _ (cover0_B_6 (F := Ideal) c i arg1 h1 arg2 h2 arg3 h3 arg4 h4 arg5 h5 arg6 h6 arg7 h7 hc a w x g d z)]
  unfold kernelRun0_B
  dsimp only
  rw [View.canon_unit_zero zeros2]
  unfold kernelRun0_B.sl.r
  simp only [View.readAt_eq_ld, h1.read_unread, h2.read_unread, h3.read_unread, h7.read_unread, View.ld_unit_zero (S := S512x512) zeros2,
    View.ld_unit_zero (S := S1024x512) zeros2, View.ld_unit_zero (S := S512x1024) zeros2, View.ld_unit_zero (S := S1x1024) zeros2]
  rw [pay2_eq, pay5_eq]
end

/-- The blocks of the rows, and the weights, the gain and the gain's gradient whole. -/
theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0))

variable (m : (ℓ : Loc nD τ sig) → Buf (Elt Ideal) ℓ) (c : Dev nD)

/-- The arguments, with their shapes. -/
abbrev dqm : FVec Ideal S4096x512 .bf16 := V m c main_arg0
abbrev wts : FVec Ideal S1024x512 .bf16 := V m c main_arg1
abbrev inp : FVec Ideal S4096x1024 .f32 := V m c main_arg2
abbrev gain : FVec Ideal S1x1024 .f32 := V m c main_arg3
abbrev dres : FVec Ideal S4096x1024 .f32 := V m c main_arg4

section
variable (t : Fin cfg0.N)

theorem blk0 : (iblk m c 0 t : FVec Ideal S512x512 .bf16) = rows t (dqm m c) := read_rows (dqm m c) t (index t).1 (fun _ => rfl) fun _ => rfl
theorem blk1 : (iblk m c 1 t : FVec Ideal S1024x512 .bf16) = wts m c := read_whole (wts m c) (index t).2.1 (fun _ => rfl) fun _ => rfl
theorem blk2 : (iblk m c 2 t : FVec Ideal S512x1024 .f32) = rows t (inp m c) := read_rows (inp m c) t (index t).2.2.1 (fun _ => rfl) fun _ => rfl
theorem blk3 : (iblk m c 3 t : FVec Ideal S1x1024 .f32) = gain m c := read_whole (gain m c) (index t).2.2.2.1 (fun _ => rfl) fun _ => rfl
theorem blk4 : (iblk m c 4 t : FVec Ideal S512x1024 .f32) = rows t (dres m c) := read_rows (dres m c) t (index t).2.2.2.2.1 (fun _ => rfl) fun _ => rfl
theorem read5 (y : FVec Ideal S4096x1024 .f32) : (((cfg0.win 5).blk t).view.read (Elt Ideal) y : FVec Ideal S512x1024 .f32) = rows t y :=
  read_rows y t (index t).2.2.2.2.2.1 (fun _ => rfl) fun _ => rfl
theorem read6 (y : FVec Ideal S1x1024 .f32) : (((cfg0.win 6).blk t).view.read (Elt Ideal) y : FVec Ideal S1x1024 .f32) = y :=
  read_whole y (index t).2.2.2.2.2.2 (fun _ => rfl) fun _ => rfl

theorem out5 : (outsAt0 m c t.val t.isLt).1
    = fun j => normGrad (φ := .f32) (iblk m c 2 t) (iblk m c 3 t) (mulT (φ := .bf16) (φ' := .bf16) (iblk m c 0 t) (iblk m c 1 t)) j + (iblk m c 4 t : FVec Ideal S512x1024 .f32) j := by
  by_cases h0 : t.val % 8 = 0
  · rw [outsAt0_A m c t h0]
    dsimp only
    exact outA5 c (grid0.coords t) _ _ _ _ _ _ _ _ _ _ _ _ _ _ (iblk m c 0 t) (iblk m c 1 t) (iblk m c 2 t) (iblk m c 3 t) (iblk m c 4 t) _
  · rw [outsAt0_B m c t h0]
    dsimp only
    exact outB5 c (grid0.coords t) _ _ _ _ _ _ _ _ _ _ _ _ _ _ (iblk m c 0 t) (iblk m c 1 t) (iblk m c 2 t) (iblk m c 3 t) (iblk m c 4 t) _ _
end

/-- The gradient of the norm's output. -/
abbrev dh : FVec Ideal S4096x1024 .f32 := mulT (dqm m c) (wts m c)

theorem out6 : (outsAt0 m c 7 (by decide)).2 = gainGrad (inp m c) (dh m c) := by
  refine fold_gain (inp m c) (dh m c) (fun n hn => (outsAt0 m c n hn).2) ?_ fun n hn => ?_
  · let t : Fin cfg0.N := ⟨0, by decide⟩
    show (outsAt0 m c t.val t.isLt).2 = fun i => (0 : EReal) + gainGrad (rows t (inp m c)) (mulT (rows t (dqm m c)) (wts m c)) i
    rw [outsAt0_A m c t rfl, ← blk0, ← blk1 m c t, ← blk2]
    dsimp only
    exact outA6 c (grid0.coords t) _ _ _ _ _ _ _ _ _ _ _ _ _ _ (iblk m c 0 t) (iblk m c 1 t) (iblk m c 2 t) (iblk m c 3 t) (iblk m c 4 t) _
  · let t : Fin cfg0.N := ⟨n + 1, hn⟩
    show (outsAt0 m c t.val t.isLt).2 = fun i => (outsAt0 m c n (Nat.lt_of_succ_lt hn)).2 i + gainGrad (rows t (inp m c)) (mulT (rows t (dqm m c)) (wts m c)) i
    rw [outsAt0_B m c t (by show ¬(n + 1) % 8 = 0; omega), ← blk0, ← blk1 m c t, ← blk2]
    dsimp only
    exact outB6 c (grid0.coords t) _ _ _ _ _ _ _ _ _ _ _ _ _ _ (iblk m c 0 t) (iblk m c 1 t) (iblk m c 2 t) (iblk m c 3 t) (iblk m c 4 t) _ _

theorem arr5 : ((dats m 0 c).arrAt 5 cfg0.N : FVec Ideal S4096x1024 .f32) = fun j => normGrad (φ := .f32) (inp m c) (gain m c) (dh m c) j + dres m c j :=
  rows_ext _ _ fun (t : Fin cfg0.N) => (read5 t _).symm.trans (((blocks5 m c t (flush0_5 t)).trans (flushed5 m c t)).trans
    ((out5 m c t).trans (by rw [blk0, blk1, blk2, blk3, blk4]; rfl)))

/-- The last point. -/
abbrev last : Fin cfg0.N := ⟨7, by decide⟩

theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have e := (flush0_6 t).mp h
  have e' := (flush0_6 t').mp h'
  have b : t.val < 8 := t.isLt
  have b' : t'.val < 8 := t'.isLt
  exact absurd (Fin.ext (by omega)) hne

theorem arr6 : ((dats m 0 c).arrAt 6 cfg0.N : FVec Ideal S1x1024 .f32) = gainGrad (inp m c) (dh m c) :=
  (read6 last _).symm.trans ((((dats m 0 c).read_blk_arrAt_eq_flushed 6 disjoint6 cfg0.N last last.isLt ((flush0_6 last).mpr rfl)).trans (flushed6 m c last)).trans (out6 m c))
end

section
open Cert.Reference16Ideal Cert.Reference16Ideal.Read
variable (a : FVec Ideal S4096x512 .bf16) (w : FVec Ideal S1024x512 .bf16) (x d : FVec Ideal S4096x1024 .f32) (g : FVec Ideal S1x1024 .f32)

theorem ref18 : val_main_v18 (F := Ideal) a w = mulT (ψ := .f32) a w :=
  ext2 (φ := .f32) _ _ fun s l => by
    pointwise [val_main_v18, val_main_v17, val_main_v15]
    rfl

theorem ref21 : val_main_v21 (F := Ideal) a w x = gainGrad x (mulT a w) := by
  rw [← ref18]
  exact ext1 (φ := .f32) _ _ (DownBwd.ref17 (val_main_v18 (F := Ideal) a w) x)

theorem ref38 : val_main_v38 (F := Ideal) a w x g d = fun i => normGrad (φ := .f32) x g (mulT a w) i + d i := by
  rw [← normVjp_eq, ← ref18]
  refine ext2 (φ := .f32) _ _ fun s l => ?_
  refine Eq.trans ?_ (congrArg (· + d (ix2 s l)) (DownBwd.ref33 (val_main_v18 (F := Ideal) a w) x g s l))
  exact (congrArg (· + _) (add_assoc _ _ _)).trans ((add_assoc _ _ _).trans ((add_comm _ _).trans rfl))
end

end Cert.Proj.QueryBwd

end
-- ==== Proof.Proj.QueryGrad.lean ====
/- The gradient of the memory attention's query weights: kernel and reference leave the same array. -/
module

public import proofs.«01_k».proof.Proof.Gen.Kernel18Ideal.Value
public import proofs.«01_k».proof.Proof.Gen.Reference18Ideal.Read
public import proofs.«01_k».proof.Proof.Proj.Rows

@[expose] public section

set_option maxRecDepth 16384

noncomputable section

open Idealize.ShloMosaic Idealize.ShloMosaic.TcCoe Idealize.ShloMosaic.Tactic

namespace Cert.Proj.QueryGrad

open Cert.Mlp

section
open Cert.Kernel18Ideal Cert.Kernel18Ideal.Gen Cert.Kernel18Ideal.Value

theorem pay2_eq (a : FVec Ideal S4096x1024 .bf16) (b : FVec Ideal S4096x512 .bf16) : k0_pay2 (F := Ideal) (k0_pay1 (F := Ideal)) a b = Tmul (ψ := .f32) a b :=
  ext2 (φ := .f32) _ _ fun r l => by
    pointwise [k0_pay2, k0_pay1]
    rfl

theorem pay3_eq (y : FVec Ideal S1024x512 .f32) : k0_pay3 (F := Ideal) y = shards (ψ := .bf16) y :=
  ext3 (φ := .bf16) _ _ fun p r l => by
    pointwise [k0_pay3]
    rfl

theorem out2_eq (c : Dev nD) (i : grid0.Coords) (arg2 : Memref sig .tc .vmem S4096x1024 .bf16) (h2 : arg2.IsWhole) (arg3 : Memref sig .tc .vmem S4096x512 .bf16) (h3 : arg3.IsWhole)
    (arg4 : Memref sig .tc .vmem S8x128x512 .bf16) (h4 : arg4.IsWhole) (arg5 : Memref sig .tc .vmem S1024x512 .f32) (h5 : arg5.IsWhole) (hc0 : cond0_0 i) (hc1 : cond0_1 i)
    (a : FVec Ideal S4096x1024 .bf16) (b : FVec Ideal S4096x512 .bf16) :
    out0_A_2 (F := Ideal) c i arg2 h2 arg3 h3 arg4 h4 arg5 h5 hc0 hc1 a b = shards (ψ := .bf16) (Tmul (ψ := .f32) a b) := by
  unfold out0_A_2
  rw [View.read_writes_eq_canon _ _ _ (cover0_A_2 (F := Ideal) c i arg2 h2 arg3 h3 arg4 h4 arg5 h5 hc0 hc1 a b)]
  unfold kernelRun0_A
  dsimp only
  rw [View.canon_unit_zero zeros3]
  unfold kernelRun0_A.sl.v14 kernelRun0_A.sl.HS0_2
  rw [View.readCov_cons_toLoadRect]
  unfold kernelRun0_A.sl.v3 kernelRun0_A.sl.HS0_1
  rw [View.readCov_cons_toLoadRect, View.readAt_eq_ld, View.readAt_eq_ld, h2.read_unread, h3.read_unread, View.ld_unit_zero (S := S4096x1024) zeros2, View.ld_unit_zero (S := S4096x512) zeros2,
    pay2_eq, pay3_eq]

/-- The only point takes the arrays whole. -/
theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0))

variable (m : (ℓ : Loc nD τ sig) → Buf (Elt Ideal) ℓ) (c : Dev nD)

/-- The arguments, with their shapes. -/
abbrev inp : FVec Ideal S4096x1024 .bf16 := V m c main_arg0
abbrev dqm : FVec Ideal S4096x512 .bf16 := V m c main_arg1

section
variable (t : Fin cfg0.N)

theorem blk0 : (iblk m c 0 t : FVec Ideal S4096x1024 .bf16) = inp m c := read_whole (inp m c) (index t).1 (fun _ => rfl) fun _ => rfl
theorem blk1 : (iblk m c 1 t : FVec Ideal S4096x512 .bf16) = dqm m c := read_whole (dqm m c) (index t).2.1 (fun _ => rfl) fun _ => rfl
theorem read2 (y : FVec Ideal S8x128x512 .bf16) : (((cfg0.win 2).blk t).view.read (Elt Ideal) y : FVec Ideal S8x128x512 .bf16) = y :=
  read_whole3 y (index t).2.2 (fun _ => rfl) (fun _ => rfl) fun _ => rfl
end

theorem arr2 : ((dats m 0 c).arrAt 2 cfg0.N : FVec Ideal S8x128x512 .bf16) = shards (ψ := .bf16) (Tmul (ψ := .f32) (inp m c) (dqm m c)) := by
  let t : Fin cfg0.N := ⟨0, by decide⟩
  refine (read2 t _).symm.trans (((blocks2 m c t (flush0_2 t)).trans (flushed2_A m c t)).trans ((out2_eq c (grid0.coords t) _ _ _ _ _ _ _ _ _ _ (iblk m c 0 t) (iblk m c 1 t)).trans ?_))
  rw [blk0, blk1]
end

section
open Cert.Reference18Ideal Cert.Reference18Ideal.Read

theorem ref7 (a : FVec Ideal S4096x1024 .bf16) (b : FVec Ideal S4096x512 .bf16) : val_main_v7 (F := Ideal) a b = shards (ψ := .bf16) (Tmul (ψ := .f32) a b) :=
  ext3 (φ := .bf16) _ _ fun d r l => by
    pointwise [val_main_v7, val_main_v6, val_main_v5, val_main_v4, val_main_v3, val_main_v1]
    exact Finset.sum_congr rfl fun k _ => mul_comm _ _
end

end Cert.Proj.QueryGrad

end
-- ==== Proof.Proj.MemOut.lean ====
/- The memory attention's output projection, its norm and the residual: kernel and reference leave the same arrays. -/
module

public import proofs.«01_k».proof.Proof.Gen.Kernel15Ideal.Value
public import proofs.«01_k».proof.Proof.Gen.Reference15Ideal.Read
public import proofs.«01_k».proof.Proof.Proj.Rows

@[expose] public section

set_option maxRecDepth 16384

noncomputable section

open Idealize.ShloMosaic Idealize.ShloMosaic.TcCoe Idealize.ShloMosaic.Tactic

namespace Cert.Proj.MemOut

open Cert.Mlp

section
open Cert.Kernel15Ideal Cert.Kernel15Ideal.Gen Cert.Kernel15Ideal.Value

section
variable (a : FVec Ideal S512x512 .bf16) (w : FVec Ideal S512x1024 .bf16) (x : FVec Ideal S512x1024 .f32) (g : FVec Ideal S1x1024 .f32)

theorem pay1_eq : k0_pay1 (F := Ideal) a w = mul (ψ := .f32) a w :=
  ext2 (φ := .f32) _ _ fun r l => by
    pointwise [k0_pay1]
    rfl

theorem pay2_eq : k0_pay2 (F := Ideal) a w x g = residual (mul a w) g x :=
  ext2 (φ := .f32) _ _ fun r l => by
    unfold k0_pay2
    rw [pay1_eq]
    generalize (mul a w : FVec Ideal S512x1024 .f32) = y
    pointwise []
    rfl

theorem out4_eq : out0_4 (F := Ideal) a w x g = mul (ψ := .f32) a w := by
  unfold out0_4
  rw [View.canon_unit_zero zeros2, View.ld_unit_zero (S := S512x512) zeros2, View.ld_unit_zero (S := S512x1024) zeros2]
  exact pay1_eq a w

theorem out5_eq : out0_5 (F := Ideal) a w x g = residual (mul a w) g x := by
  unfold out0_5
  rw [View.canon_unit_zero zeros2, View.ld_unit_zero (S := S512x512) zeros2, View.ld_unit_zero (S := S512x1024) zeros2, View.ld_unit_zero (S := S512x1024) zeros2,
    View.ld_unit_zero (S := S1x1024) zeros2]
  exact pay2_eq a w x g
end

/-- The blocks of the rows, and the weights and the gain whole. -/
theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0))

variable (m : (ℓ : Loc nD τ sig) → Buf (Elt Ideal) ℓ) (c : Dev nD)

/-- The arguments, with their shapes. -/
abbrev read : FVec Ideal S4096x512 .bf16 := V m c main_arg0
abbrev wts : FVec Ideal S512x1024 .bf16 := V m c main_arg1
abbrev res : FVec Ideal S4096x1024 .f32 := V m c main_arg2
abbrev gain : FVec Ideal S1x1024 .f32 := V m c main_arg3

section
variable (t : Fin cfg0.N)

theorem blk0 : (iblk m c 0 t : FVec Ideal S512x512 .bf16) = rows t (read m c) := read_rows (read m c) t (index t).1 (fun _ => rfl) fun _ => rfl
theorem blk1 : (iblk m c 1 t : FVec Ideal S512x1024 .bf16) = wts m c := read_whole (wts m c) (index t).2.1 (fun _ => rfl) fun _ => rfl
theorem blk2 : (iblk m c 2 t : FVec Ideal S512x1024 .f32) = rows t (res m c) := read_rows (res m c) t (index t).2.2.1 (fun _ => rfl) fun _ => rfl
theorem blk3 : (iblk m c 3 t : FVec Ideal S1x1024 .f32) = gain m c := read_whole (gain m c) (index t).2.2.2.1 (fun _ => rfl) fun _ => rfl
theorem read4 (y : FVec Ideal S4096x1024 .f32) : (((cfg0.win 4).blk t).view.read (Elt Ideal) y : FVec Ideal S512x1024 .f32) = rows t y :=
  read_rows y t (index t).2.2.2.2.1 (fun _ => rfl) fun _ => rfl
theorem read5 (y : FVec Ideal S4096x1024 .f32) : (((cfg0.win 5).blk t).view.read (Elt Ideal) y : FVec Ideal S512x1024 .f32) = rows t y :=
  read_rows y t (index t).2.2.2.2.2 (fun _ => rfl) fun _ => rfl
end

theorem arr4 : ((dats m 0 c).arrAt 4 cfg0.N : FVec Ideal S4096x1024 .f32) = mul (ψ := .f32) (read m c) (wts m c) :=
  rows_ext _ _ fun (t : Fin cfg0.N) => (read4 t _).symm.trans (((blocks4 m c t (flush0_4 t)).trans (flushed4 m c t)).trans
    ((out4_eq (iblk m c 0 t) (iblk m c 1 t) (iblk m c 2 t) (iblk m c 3 t)).trans (congrArg₂ mul (blk0 m c t) (blk1 m c t))))

theorem arr5 : ((dats m 0 c).arrAt 5 cfg0.N : FVec Ideal S4096x1024 .f32) = residual (mul (read m c) (wts m c)) (gain m c) (res m c) :=
  rows_ext _ _ fun (t : Fin cfg0.N) => (read5 t _).symm.trans (((blocks5 m c t (flush0_5 t)).trans (flushed5 m c t)).trans
    ((out5_eq (iblk m c 0 t) (iblk m c 1 t) (iblk m c 2 t) (iblk m c 3 t)).trans (by rw [blk0, blk1, blk2, blk3]; rfl)))
end

section
open Cert.Reference15Ideal Cert.Reference15Ideal.Read
variable (a : FVec Ideal S4096x512 .bf16) (w : FVec Ideal S512x1024 .bf16) (x : FVec Ideal S4096x1024 .f32) (g : FVec Ideal S1x1024 .f32)

theorem ref2 : val_main_v2 (F := Ideal) a w = mul (ψ := .f32) a w :=
  ext2 (φ := .f32) _ _ fun s l => by
    pointwise [val_main_v2, val_main_v1, val_main_v0]
    rfl

theorem ref15 : val_main_v15 (F := Ideal) a w x g = residual (mul a w) g x :=
  ext2 (φ := .f32) _ _ fun s l => by
    unfold val_main_v15 val_main_v14 val_main_v12 val_main_v11 val_main_v10 val_main_v9 val_main_v7 val_main_v5 val_main_v4 val_main_v3
    rw [ref2]
    generalize (mul a w : FVec Ideal S4096x1024 .f32) = y
    pointwise [val_main_v13, val_main_v8, val_main_v6, val_main_cst, val_main_cst_0, val_main_cst_1]
    rfl
end

end Cert.Proj.MemOut

end
-- ==== Proof.Proj.MemBwd.lean ====
/- The gradient through the norm and the memory attention's output projection: kernel and reference leave the same arrays. -/
module

public import proofs.«01_k».proof.Proof.Gen.Kernel17Ideal.Value
public import proofs.«01_k».proof.Proof.Gen.Reference17Ideal.Read
public import proofs.«01_k».proof.Proof.Proj.Rows
public import proofs.«01_k».proof.Proof.Mlp.DownBwd

@[expose] public section

set_option maxRecDepth 16384

noncomputable section

open Idealize.ShloMosaic Idealize.ShloMosaic.TcCoe Idealize.ShloMosaic.Tactic

namespace Cert.Proj.MemBwd

open Cert.Mlp

section
open Cert.Kernel17Ideal Cert.Kernel17Ideal.Gen Cert.Kernel17Ideal.Value

section
variable (y d : FVec Ideal S512x1024 .f32) (g z : FVec Ideal S1x1024 .f32) (h w : FVec Ideal S512x1024 .bf16)

theorem pay3_eq : k0_pay3 (F := Ideal) y g d = normGrad (φ := .bf16) y g d :=
  ext2 (φ := .bf16) _ _ (DownBwd.pay5_apply y g d)

theorem pay5_eq : k0_pay5 (F := Ideal) y d z = fun i => z i + gainGrad y d i :=
  ext1 (φ := .f32) _ _ (DownBwd.pay7_apply y d z)

theorem pay4_eq : k0_pay4 (F := Ideal) = fun _ => (0 : EReal) :=
  ext1 (φ := .f32) _ _ DownBwd.pay6_apply

theorem pay1_eq : k0_pay1 (F := Ideal) h w = mulT (ψ := .bf16) h w :=
  ext2 (φ := .bf16) _ _ fun r l => by
    pointwise [k0_pay1]
    rfl
end

section
variable (c : Dev nD) (i : grid0.Coords) (arg1 : Memref sig .tc .vmem S512x1024 .f32) (h1 : arg1.IsWhole) (arg2 : Memref sig .tc .vmem S512x1024 .f32) (h2 : arg2.IsWhole)
  (arg3 : Memref sig .tc .vmem S1x1024 .f32) (h3 : arg3.IsWhole) (arg4 : Memref sig .tc .vmem S512x1024 .bf16) (h4 : arg4.IsWhole) (arg5 : Memref sig .tc .vmem S512x1024 .bf16) (h5 : arg5.IsWhole)
  (arg6 : Memref sig .tc .vmem S512x512 .bf16) (h6 : arg6.IsWhole) (arg7 : Memref sig .tc .vmem S1x1024 .f32) (h7 : arg7.IsWhole)
  (x0 x1 : FVec Ideal S512x1024 .f32) (x2 : FVec Ideal S1x1024 .f32) (x3 : FVec Ideal S512x1024 .bf16) (z : FVec Ideal S1x1024 .f32)

theorem outA4 (hc : cond0_0 i) : out0_A_4 (F := Ideal) c i arg1 h1 arg2 h2 arg3 h3 arg4 h4 arg5 h5 arg6 h6 arg7 h7 hc x0 x1 x2 x3 = normGrad (φ := .bf16) x1 x2 x0 := by
  unfold out0_A_4
  rw [View.read_writes_eq_canon _ _ _ (cover0_A_4 (F := Ideal) c i arg1 h1 arg2 h2 arg3 h3 arg4 h4 arg5 h5 arg6 h6 arg7 h7 hc x0 x1 x2 x3)]
  unfold kernelRun0_A
  dsimp only
  rw [View.canon_unit_zero zeros2]
  simp only [View.readAt_eq_ld, h1.read_unread, h2.read_unread, h3.read_unread, View.ld_unit_zero (S := S512x1024) zeros2, View.ld_unit_zero (S := S1x1024) zeros2]
  exact pay3_eq x1 x0 x2

theorem outB4 (hc : ¬cond0_0 i) : out0_B_4 (F := Ideal) c i arg1 h1 arg2 h2 arg3 h3 arg4 h4 arg5 h5 arg6 h6 arg7 h7 hc x0 x1 x2 x3 z = normGrad (φ := .bf16) x1 x2 x0 := by
  unfold out0_B_4
  rw [View.read_writes_eq_canon _ _ _ (cover0_B_4 (F := Ideal) c i arg1 h1 arg2 h2 arg3 h3 arg4 h4 arg5 h5 arg6 h6 arg7 h7 hc x0 x1 x2 x3 z)]
  unfold kernelRun0_B
  dsimp only
  rw [View.canon_unit_zero zeros2]
  simp only [View.readAt_eq_ld, h1.read_unread, h2.read_unread, h3.read_unread, View.ld_unit_zero (S := S512x1024) zeros2, View.ld_unit_zero (S := S1x1024) zeros2]
  exact pay3_eq x1 x0 x2

theorem outA5 (hc : cond0_0 i) : out0_A_5 (F := Ideal) c i arg1 h1 arg2 h2 arg3 h3 arg4 h4 arg5 h5 arg6 h6 arg7 h7 hc x0 x1 x2 x3 = mulT (ψ := .bf16) (normGrad (φ := .bf16) x1 x2 x0) x3 := by
  unfold out0_A_5
  rw [View.read_writes_eq_canon _ _ _ (cover0_A_5 (F := Ideal) c i arg1 h1 arg2 h2 arg3 h3 arg4 h4 arg5 h5 arg6 h6 arg7 h7 hc x0 x1 x2 x3)]
  unfold kernelRun0_A
  dsimp only
  rw [View.canon_unit_zero zeros2]
  unfold kernelRun0_A.sl.r
  simp only [View.readAt_eq_ld, h1.read_unread, h2.read_unread, h3.read_unread, h4.read_unread, View.ld_unit_zero (S := S512x1024) zeros2, View.ld_unit_zero (S := S1x1024) zeros2]
  rw [pay3_eq, pay1_eq]

theorem outB5 (hc : ¬cond0_0 i) : out0_B_5 (F := Ideal) c i arg1 h1 arg2 h2 arg3 h3 arg4 h4 arg5 h5 arg6 h6 arg7 h7 hc x0 x1 x2 x3 z = mulT (ψ := .bf16) (normGrad (φ := .bf16) x1 x2 x0) x3 := by
  unfold out0_B_5
  rw [View.read_writes_eq_canon _ _ _ (cover0_B_5 (F := Ideal) c i arg1 h1 arg2 h2 arg3 h3 arg4 h4 arg5 h5 arg6 h6 arg7 h7 hc x0 x1 x2 x3 z)]
  unfold kernelRun0_B
  dsimp only
  rw [View.canon_unit_zero zeros2]
  unfold kernelRun0_B.sl.r
  simp only [View.readAt_eq_ld, h1.read_unread, h2.read_unread, h3.read_unread, h4.read_unread, View.ld_unit_zero (S := S512x1024) zeros2, View.ld_unit_zero (S := S1x1024) zeros2]
  rw [pay3_eq, pay1_eq]

theorem outA6 (hc : cond0_0 i) : out0_A_6 (F := Ideal) c i arg1 h1 arg2 h2 arg3 h3 arg4 h4 arg5 h5 arg6 h6 arg7 h7 hc x0 x1 x2 x3 = fun j => (0 : EReal) + gainGrad x1 x0 j := by
  unfold out0_A_6
  rw [View.read_writes_eq_canon _ _ _ (cover0_A_6 (F := Ideal) c i arg1 h1 arg2 h2 arg3 h3 arg4 h4 arg5 h5 arg6 h6 arg7 h7 hc x0 x1 x2 x3)]
  unfold kernelRun0_A
  dsimp only
  rw [View.canon_cons_unit_zero zeros2]
  unfold kernelRun0_A.sl.r_1 kernelRun0_A.sl.v36 kernelRun0_A.sl.H6_1
  rw [View.readCov_cons_toLoadRect]
  simp only [View.readAt_eq_ld, h1.read_unread, h2.read_unread, View.ld_unit_zero (S := S512x1024) zeros2]
  rw [pay5_eq, pay4_eq]

theorem outB6 (hc : ¬cond0_0 i) : out0_B_6 (F := Ideal) c i arg1 h1 arg2 h2 arg3 h3 arg4 h4 arg5 h5 arg6 h6 arg7 h7 hc x0 x1 x2 x3 z = fun j => z j + gainGrad x1 x0 j := by
  unfold out0_B_6
  rw [View.read_writes_eq_canon _ _ _ (cover0_B_6 (F := Ideal) c i arg1 h1 arg2 h2 arg3 h3 arg4 h4 arg5 h5 arg6 h6 arg7 h7 hc x0 x1 x2 x3 z)]
  unfold kernelRun0_B
  dsimp only
  rw [View.canon_unit_zero zeros2]
  unfold kernelRun0_B.sl.r_1
  simp only [View.readAt_eq_ld, h1.read_unread, h2.read_unread, h7.read_unread, View.ld_unit_zero (S := S512x1024) zeros2, View.ld_unit_zero (S := S1x1024) zeros2]
  rw [pay5_eq]
end

/-- The blocks of the rows, and the gain, the weights and the gain's gradient whole. -/
theorem index : ∀ t : Fin cfg0.N, (win0_0.index t 0 = t.val ∧ win0_0.index t 1 = 0) ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0) ∧ (win0_5.index t 0 = t.val ∧ win0_5.index t 1 = 0)
    ∧ (win0_6.index t 0 = 0 ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0))

variable (m : (ℓ : Loc nD τ sig) → Buf (Elt Ideal) ℓ) (c : Dev nD)

/-- The arguments, with their shapes. -/
abbrev dx : FVec Ideal S4096x1024 .f32 := V m c main_arg0
abbrev out : FVec Ideal S4096x1024 .f32 := V m c main_arg1
abbrev gain : FVec Ideal S1x1024 .f32 := V m c main_arg2
abbrev wts : FVec Ideal S512x1024 .bf16 := V m c main_arg3

section
variable (t : Fin cfg0.N)

theorem blk0 : (iblk m c 0 t : FVec Ideal S512x1024 .f32) = rows t (dx m c) := read_rows (dx m c) t (index t).1 (fun _ => rfl) fun _ => rfl
theorem blk1 : (iblk m c 1 t : FVec Ideal S512x1024 .f32) = rows t (out m c) := read_rows (out m c) t (index t).2.1 (fun _ => rfl) fun _ => rfl
theorem blk2 : (iblk m c 2 t : FVec Ideal S1x1024 .f32) = gain m c := read_whole (gain m c) (index t).2.2.1 (fun _ => rfl) fun _ => rfl
theorem blk3 : (iblk m c 3 t : FVec Ideal S512x1024 .bf16) = wts m c := read_whole (wts m c) (index t).2.2.2.1 (fun _ => rfl) fun _ => rfl
theorem read4 (y : FVec Ideal S4096x1024 .bf16) : (((cfg0.win 4).blk t).view.read (Elt Ideal) y : FVec Ideal S512x1024 .bf16) = rows t y :=
  read_rows y t (index t).2.2.2.2.1 (fun _ => rfl) fun _ => rfl
theorem read5 (y : FVec Ideal S4096x512 .bf16) : (((cfg0.win 5).blk t).view.read (Elt Ideal) y : FVec Ideal S512x512 .bf16) = rows t y :=
  read_rows y t (index t).2.2.2.2.2.1 (fun _ => rfl) fun _ => rfl
theorem read6 (y : FVec Ideal S1x1024 .f32) : (((cfg0.win 6).blk t).view.read (Elt Ideal) y : FVec Ideal S1x1024 .f32) = y :=
  read_whole y (index t).2.2.2.2.2.2 (fun _ => rfl) fun _ => rfl

theorem out4 : (outsAt0 m c t.val t.isLt).1 = normGrad (φ := .bf16) (iblk m c 1 t) (iblk m c 2 t) (iblk m c 0 t) := by
  by_cases h0 : t.val % 8 = 0
  · rw [outsAt0_A m c t h0]
    dsimp only
    exact outA4 c (grid0.coords t) _ _ _ _ _ _ _ _ _ _ _ _ _ _ (iblk m c 0 t) (iblk m c 1 t) (iblk m c 2 t) (iblk m c 3 t) _
  · rw [outsAt0_B m c t h0]
    dsimp only
    exact outB4 c (grid0.coords t) _ _ _ _ _ _ _ _ _ _ _ _ _ _ (iblk m c 0 t) (iblk m c 1 t) (iblk m c 2 t) (iblk m c 3 t) _ _

theorem out5 : (outsAt0 m c t.val t.isLt).2.1 = mulT (φ' := .bf16) (ψ := .bf16) (normGrad (φ := .bf16) (iblk m c 1 t) (iblk m c 2 t) (iblk m c 0 t)) (iblk m c 3 t) := by
  by_cases h0 : t.val % 8 = 0
  · rw [outsAt0_A m c t h0]
    dsimp only
    exact outA5 c (grid0.coords t) _ _ _ _ _ _ _ _ _ _ _ _ _ _ (iblk m c 0 t) (iblk m c 1 t) (iblk m c 2 t) (iblk m c 3 t) _
  · rw [outsAt0_B m c t h0]
    dsimp only
    exact outB5 c (grid0.coords t) _ _ _ _ _ _ _ _ _ _ _ _ _ _ (iblk m c 0 t) (iblk m c 1 t) (iblk m c 2 t) (iblk m c 3 t) _ _
end

theorem out6 : (outsAt0 m c 7 (by decide)).2.2 = gainGrad (out m c) (dx m c) := by
  refine fold_gain (out m c) (dx m c) (fun n hn => (outsAt0 m c n hn).2.2) ?_ fun n hn => ?_
  · let t : Fin cfg0.N := ⟨0, by decide⟩
    show (outsAt0 m c t.val t.isLt).2.2 = fun i => (0 : EReal) + gainGrad (rows t (out m c)) (rows t (dx m c)) i
    rw [outsAt0_A m c t rfl, ← blk0, ← blk1]
    dsimp only
    exact outA6 c (grid0.coords t) _ _ _ _ _ _ _ _ _ _ _ _ _ _ (iblk m c 0 t) (iblk m c 1 t) (iblk m c 2 t) (iblk m c 3 t) _
  · let t : Fin cfg0.N := ⟨n + 1, hn⟩
    show (outsAt0 m c t.val t.isLt).2.2 = fun i => (outsAt0 m c n (Nat.lt_of_succ_lt hn)).2.2 i + gainGrad (rows t (out m c)) (rows t (dx m c)) i
    rw [outsAt0_B m c t (by show ¬(n + 1) % 8 = 0; omega), ← blk0, ← blk1]
    dsimp only
    exact outB6 c (grid0.coords t) _ _ _ _ _ _ _ _ _ _ _ _ _ _ (iblk m c 0 t) (iblk m c 1 t) (iblk m c 2 t) (iblk m c 3 t) _ _

theorem arr4 : ((dats m 0 c).arrAt 4 cfg0.N : FVec Ideal S4096x1024 .bf16) = normGrad (φ := .bf16) (out m c) (gain m c) (dx m c) :=
  rows_ext _ _ fun (t : Fin cfg0.N) => (read4 t _).symm.trans (((blocks4 m c t (flush0_4 t)).trans (flushed4 m c t)).trans ((out4 m c t).trans (by rw [blk0, blk1, blk2]; rfl)))

theorem arr5 : ((dats m 0 c).arrAt 5 cfg0.N : FVec Ideal S4096x512 .bf16) = mulT (ψ := .bf16) (normGrad (φ := .bf16) (out m c) (gain m c) (dx m c)) (wts m c) :=
  rows_ext _ _ fun (t : Fin cfg0.N) => (read5 t _).symm.trans (((blocks5 m c t (flush0_5 t)).trans (flushed5 m c t)).trans ((out5 m c t).trans (by rw [blk0, blk1, blk2, blk3]; rfl)))

/-- The last point. -/
abbrev last : Fin cfg0.N := ⟨7, by decide⟩

theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have e := (flush0_6 t).mp h
  have e' := (flush0_6 t').mp h'
  have b : t.val < 8 := t.isLt
  have b' : t'.val < 8 := t'.isLt
  exact absurd (Fin.ext (by omega)) hne

theorem arr6 : ((dats m 0 c).arrAt 6 cfg0.N : FVec Ideal S1x1024 .f32) = gainGrad (out m c) (dx m c) :=
  (read6 last _).symm.trans ((((dats m 0 c).read_blk_arrAt_eq_flushed 6 disjoint6 cfg0.N last last.isLt ((flush0_6 last).mpr rfl)).trans (flushed6 m c last)).trans (out6 m c))
end

section
open Cert.Reference17Ideal Cert.Reference17Ideal.Read
variable (d y : FVec Ideal S4096x1024 .f32) (g : FVec Ideal S1x1024 .f32) (w : FVec Ideal S512x1024 .bf16)

theorem ref17 : val_main_v17 (F := Ideal) d y = gainGrad y d := ext1 (φ := .f32) _ _ (DownBwd.ref17 d y)

theorem ref33 : val_main_v33 (F := Ideal) d y g = normGrad (φ := .f32) y g d :=
  (ext2 (φ := .f32) _ _ (DownBwd.ref33 d y g)).trans (normVjp_eq y g d)

theorem ref38 : val_main_v38 (F := Ideal) d y g = normGrad (φ := .bf16) y g d := ref33 d y g

theorem ref39 : val_main_v39 (F := Ideal) d y g w = mulT (ψ := .bf16) (normGrad (φ := .bf16) y g d) w :=
  ext2 (φ := .bf16) _ _ fun s l => by
    unfold val_main_v39 val_main_v37
    rw [ref33]
    pointwise [val_main_v35]
    rfl
end

end Cert.Proj.MemBwd

end
-- ==== Proof.Proj.MemGrad.lean ====
/- The gradient of the memory attention's output weights: kernel and reference leave the same array. -/
module

public import proofs.«01_k».proof.Proof.Gen.Kernel19Ideal.Value
public import proofs.«01_k».proof.Proof.Gen.Reference19Ideal.Read
public import proofs.«01_k».proof.Proof.Proj.Rows

@[expose] public section

set_option maxRecDepth 16384

noncomputable section

open Idealize.ShloMosaic Idealize.ShloMosaic.TcCoe Idealize.ShloMosaic.Tactic

namespace Cert.Proj.MemGrad

open Cert.Mlp

section
open Cert.Kernel19Ideal Cert.Kernel19Ideal.Gen Cert.Kernel19Ideal.Value

theorem pay2_eq (a : FVec Ideal S4096x512 .bf16) (b : FVec Ideal S4096x1024 .bf16) : k0_pay2 (F := Ideal) (k0_pay1 (F := Ideal)) a b = Tmul (ψ := .f32) a b :=
  ext2 (φ := .f32) _ _ fun r l => by
    pointwise [k0_pay2, k0_pay1]
    rfl

theorem pay4_apply (y : FVec Ideal S512x128 .f32) (p : Fin 1) (r : Fin 512) (l : Fin 128) : k0_pay4 (F := Ideal) y (ix3 p r l) = y (ix2 r l) := by
  obtain rfl : p = 0 := Subsingleton.elim _ _
  pointwise [k0_pay4]

/-- One shard, stored from the columns read back. -/
theorem shard (d o : Nat) (ho : o = d * 128) (i1 : ∀ a, (![d, 0, 0] : Fin 3 → Nat) a + S1x512x128.size a ≤ S8x512x128.size a)
    (i2 : ∀ a, (![0, o] : Fin 2 → Nat) a + S512x128.size a ≤ S512x1024.size a) (i3 : ∀ a, (![0, 0] : Fin 2 → Nat) a + S512x1024.size a ≤ S512x1024.size a)
    (arg5 : Memref sig .tc .vmem S512x1024 .f32) (y : FVec Ideal S512x1024 .f32) (ws : List _) (x : S1x512x128.Idx) :
    k0_pay4 (F := Ideal) (arg5.view.readCov (⟨Rect.unit (s := S512x1024) ![0, 0] S512x1024.size i3, y⟩ :: ws) (Rect.unit (s := S512x1024) ![0, o] S512x128.size i2).toLoadRect) x
      = colShards (ψ := .bf16) y ((Rect.unit (s := S8x512x128) ![d, 0, 0] S1x512x128.size i1).idx x) := by
  obtain ⟨p, r, l, rfl⟩ : ∃ p r l, x = ix3 p r l := ⟨x 0, x 1, x 2, idx3_eq x _ _ _ rfl rfl rfl⟩
  obtain rfl : p = 0 := Subsingleton.elim _ _
  refine (pay4_apply _ 0 r l).trans ?_
  rw [View.readCov_eq_canon', View.canon_cons_unit_zero zeros2]
  refine congrArg y (funext fun a => Fin.ext ?_)
  match a with
  | ⟨0, _⟩ => rfl
  | ⟨1, _⟩ => show o + 1 * l.val = (d + 1 * 0) * 128 + (0 + 1 * l.val); omega

theorem out2_eq (c : Dev nD) (i : grid0.Coords) (arg2 : Memref sig .tc .vmem S4096x512 .bf16) (h2 : arg2.IsWhole) (arg3 : Memref sig .tc .vmem S4096x1024 .bf16) (h3 : arg3.IsWhole)
    (arg4 : Memref sig .tc .vmem S8x512x128 .bf16) (h4 : arg4.IsWhole) (arg5 : Memref sig .tc .vmem S512x1024 .f32) (h5 : arg5.IsWhole) (hc0 : cond0_0 i) (hc1 : cond0_1 i)
    (a : FVec Ideal S4096x512 .bf16) (b : FVec Ideal S4096x1024 .bf16) :
    out0_A_2 (F := Ideal) c i arg2 h2 arg3 h3 arg4 h4 arg5 h5 hc0 hc1 a b = colShards (ψ := .bf16) (Tmul (ψ := .f32) a b) := by
  unfold out0_A_2
  rw [View.read_writes_eq_canon _ _ _ (cover0_A_2 (F := Ideal) c i arg2 h2 arg3 h3 arg4 h4 arg5 h5 hc0 hc1 a b)]
  funext x
  refine View.canon_apply_of_pieces (colShards (ψ := .bf16) (Tmul (ψ := .f32) a b)) _ ?_ x (cover0_A_2 (F := Ideal) c i arg2 h2 arg3 h3 arg4 h4 arg5 h5 hc0 hc1 a b x)
  unfold kernelRun0_A
  dsimp only
  unfold kernelRun0_A.sl.r kernelRun0_A.sl.v14 kernelRun0_A.sl.v19 kernelRun0_A.sl.v24 kernelRun0_A.sl.v29 kernelRun0_A.sl.v34 kernelRun0_A.sl.v39 kernelRun0_A.sl.v44 kernelRun0_A.sl.v49
    kernelRun0_A.sl.HS0_2 kernelRun0_A.sl.v3 kernelRun0_A.sl.HS0_1
  simp only [View.readCov_cons_toLoadRect, View.readAt_eq_ld, h2.read_unread, h3.read_unread, View.ld_unit_zero (S := S4096x512) zeros2, View.ld_unit_zero (S := S4096x1024) zeros2,
    pay2_eq, List.forall_mem_cons, List.not_mem_nil, false_implies, implies_true, and_true]
  exact ⟨shard 7 896 rfl _ _ _ arg5 _ _, shard 6 768 rfl _ _ _ arg5 _ _, shard 5 640 rfl _ _ _ arg5 _ _, shard 4 512 rfl _ _ _ arg5 _ _,
    shard 3 384 rfl _ _ _ arg5 _ _, shard 2 256 rfl _ _ _ arg5 _ _, shard 1 128 rfl _ _ _ arg5 _ _, shard 0 0 rfl _ _ _ arg5 _ _⟩

/-- The only point takes the arrays whole. -/
theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0))

variable (m : (ℓ : Loc nD τ sig) → Buf (Elt Ideal) ℓ) (c : Dev nD)

/-- The arguments, with their shapes. -/
abbrev read : FVec Ideal S4096x512 .bf16 := V m c main_arg0
abbrev dy : FVec Ideal S4096x1024 .bf16 := V m c main_arg1

section
variable (t : Fin cfg0.N)

theorem blk0 : (iblk m c 0 t : FVec Ideal S4096x512 .bf16) = read m c := read_whole (read m c) (index t).1 (fun _ => rfl) fun _ => rfl
theorem blk1 : (iblk m c 1 t : FVec Ideal S4096x1024 .bf16) = dy m c := read_whole (dy m c) (index t).2.1 (fun _ => rfl) fun _ => rfl
theorem read2 (y : FVec Ideal S8x512x128 .bf16) : (((cfg0.win 2).blk t).view.read (Elt Ideal) y : FVec Ideal S8x512x128 .bf16) = y :=
  read_whole3 y (index t).2.2 (fun _ => rfl) (fun _ => rfl) fun _ => rfl
end

theorem arr2 : ((dats m 0 c).arrAt 2 cfg0.N : FVec Ideal S8x512x128 .bf16) = colShards (ψ := .bf16) (Tmul (ψ := .f32) (read m c) (dy m c)) := by
  let t : Fin cfg0.N := ⟨0, by decide⟩
  refine (read2 t _).symm.trans (((blocks2 m c t (flush0_2 t)).trans (flushed2_A m c t)).trans ((out2_eq c (grid0.coords t) _ _ _ _ _ _ _ _ _ _ (iblk m c 0 t) (iblk m c 1 t)).trans ?_))
  rw [blk0, blk1]
end

section
open Cert.Reference19Ideal Cert.Reference19Ideal.Read

theorem ref8 (a : FVec Ideal S4096x512 .bf16) (b : FVec Ideal S4096x1024 .bf16) : val_main_v8 (F := Ideal) a b = colShards (ψ := .bf16) (Tmul (ψ := .f32) a b) :=
  ext3 (φ := .bf16) _ _ fun d r l => by
    pointwise [val_main_v8, val_main_v7, val_main_v6, val_main_v5, val_main_v4, val_main_v3, val_main_v1]
    exact Finset.sum_congr rfl fun k _ => mul_comm _ _
end

end Cert.Proj.MemGrad

end
-- ==== Proof.Proj.KvFwd.lean ====
/- The norm of the memory and its projection to keys and values: kernel and reference leave the same arrays. -/
module

public import proofs.«01_k».proof.Proof.Gen.Kernel20Ideal.Value
public import proofs.«01_k».proof.Proof.Gen.Reference20Ideal.Read
public import proofs.«01_k».proof.Proof.Proj.Rows

@[expose] public section

set_option maxRecDepth 16384

noncomputable section

open Idealize.ShloMosaic Idealize.ShloMosaic.TcCoe Idealize.ShloMosaic.Tactic

namespace Cert.Proj.KvFwd

open Cert.Mlp

section
open Cert.Kernel20Ideal Cert.Kernel20Ideal.Gen Cert.Kernel20Ideal.Value

section
variable (x : FVec Ideal S256x1024 .f32) (g : FVec Ideal S1x1024 .f32) (v : FVec Ideal S1024x512 .bf16)

theorem pay1_eq : k0_pay1 (F := Ideal) x g = norm (φ := .bf16) x g :=
  ext2 (φ := .bf16) _ _ fun r l => by
    pointwise [k0_pay1]
    rfl

theorem pay2_eq : k0_pay2 (F := Ideal) x g v = mul (ψ := .bf16) (norm (φ := .bf16) x g) v :=
  ext2 (φ := .bf16) _ _ fun r l => by
    unfold k0_pay2
    rw [pay1_eq]
    pointwise []
    rfl

theorem pay3_eq : k0_pay3 (F := Ideal) x g v = mul (ψ := .bf16) (norm (φ := .bf16) x g) v := pay2_eq x g v
end

/-- The product with the columns from `o` on of the weights is the columns from `o` on of the product. -/
theorem chunk (o : ℕ) (i1 : ∀ a, (![0, o] : Fin 2 → Nat) a + S256x512.size a ≤ S256x1024.size a) (i2 : ∀ a, (![0, o] : Fin 2 → Nat) a + S1024x512.size a ≤ S1024x1024.size a)
    (h : FVec Ideal S256x1024 .bf16) (w : FVec Ideal S1024x1024 .bf16) (x : S256x512.Idx) :
    (mul (φ' := .bf16) (ψ := .bf16) h (View.ld (Val := Elt Ideal) (e' := .bf16) w (Rect.unit (s := S1024x1024) ![0, o] S1024x512.size i2) : FVec Ideal S1024x512 .bf16) : FVec Ideal S256x512 .bf16) x
    = (mul (ψ := .bf16) h w : FVec Ideal S256x1024 .bf16) ((Rect.unit (s := S256x1024) ![0, o] S256x512.size i1).idx x) := by
  show dot _ _ = dot _ _
  refine congrArg₂ dot (funext fun k => congrArg h ?_) (funext fun k => congrArg w ?_)
  · exact (idx2_eq _ _ _ (by show 0 + 1 * (x 0).val = (x 0).val; omega) rfl).symm
  · exact idx2_eq _ _ _ (by show 0 + 1 * k.val = k.val; omega) rfl

section
variable (x : FVec Ideal S256x1024 .f32) (g : FVec Ideal S1x1024 .f32) (w : FVec Ideal S1024x1024 .bf16)

theorem out3_eq : out0_3 (F := Ideal) x g w = norm (φ := .bf16) x g := by
  unfold out0_3
  rw [View.canon_unit_zero zeros2, View.ld_unit_zero (S := S256x1024) zeros2, View.ld_unit_zero (S := S1x1024) zeros2]
  exact pay1_eq x g

theorem out4_eq : out0_4 (F := Ideal) x g w = mul (ψ := .bf16) (norm (φ := .bf16) x g) w := by
  unfold out0_4
  funext y
  refine View.canon_apply_of_pieces (mul (ψ := .bf16) (norm (φ := .bf16) x g) w : FVec Ideal S256x1024 .bf16) _ ?_ y (cover0_4 (F := Ideal) _ _ y)
  simp only [List.forall_mem_cons, List.not_mem_nil, false_implies, implies_true, and_true]
  rw [View.ld_unit_zero (S := S256x1024) zeros2, View.ld_unit_zero (S := S1x1024) zeros2, pay2_eq, pay3_eq]
  exact ⟨chunk 512 _ _ _ w, chunk 0 _ _ _ w⟩
end

/-- The only point takes the arrays whole. -/
theorem index : ∀ t : Fin cfg0.N, (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0))

variable (m : (ℓ : Loc nD τ sig) → Buf (Elt Ideal) ℓ) (c : Dev nD)

/-- The arguments, with their shapes. -/
abbrev inp : FVec Ideal S256x1024 .f32 := V m c main_arg0
abbrev gain : FVec Ideal S1x1024 .f32 := V m c main_arg1
abbrev wts : FVec Ideal S1024x1024 .bf16 := V m c main_arg2

section
variable (t : Fin cfg0.N)

theorem blk0 : (iblk m c 0 t : FVec Ideal S256x1024 .f32) = inp m c := read_whole (inp m c) (index t).1 (fun _ => rfl) fun _ => rfl
theorem blk1 : (iblk m c 1 t : FVec Ideal S1x1024 .f32) = gain m c := read_whole (gain m c) (index t).2.1 (fun _ => rfl) fun _ => rfl
theorem blk2 : (iblk m c 2 t : FVec Ideal S1024x1024 .bf16) = wts m c := read_whole (wts m c) (index t).2.2.1 (fun _ => rfl) fun _ => rfl
theorem read3 (y : FVec Ideal S256x1024 .bf16) : (((cfg0.win 3).blk t).view.read (Elt Ideal) y : FVec Ideal S256x1024 .bf16) = y :=
  read_whole y (index t).2.2.2.1 (fun _ => rfl) fun _ => rfl
theorem read4 (y : FVec Ideal S256x1024 .bf16) : (((cfg0.win 4).blk t).view.read (Elt Ideal) y : FVec Ideal S256x1024 .bf16) = y :=
  read_whole y (index t).2.2.2.2 (fun _ => rfl) fun _ => rfl
end

/-- The only point. -/
abbrev only : Fin cfg0.N := ⟨0, by decide⟩

theorem arr3 : ((dats m 0 c).arrAt 3 cfg0.N : FVec Ideal S256x1024 .bf16) = norm (φ := .bf16) (inp m c) (gain m c) :=
  (read3 only _).symm.trans (((blocks3 m c only (flush0_3 only)).trans (flushed3 m c only)).trans
    ((out3_eq (iblk m c 0 only) (iblk m c 1 only) (iblk m c 2 only)).trans (by rw [blk0, blk1])))

theorem arr4 : ((dats m 0 c).arrAt 4 cfg0.N : FVec Ideal S256x1024 .bf16) = mul (ψ := .bf16) (norm (φ := .bf16) (inp m c) (gain m c)) (wts m c) :=
  (read4 only _).symm.trans (((blocks4 m c only (flush0_4 only)).trans (flushed4 m c only)).trans
    ((out4_eq (iblk m c 0 only) (iblk m c 1 only) (iblk m c 2 only)).trans (by rw [blk0, blk1, blk2])))
end

section
open Cert.Reference20Ideal Cert.Reference20Ideal.Read
variable (x : FVec Ideal S256x1024 .f32) (g : FVec Ideal S1x1024 .f32) (w : FVec Ideal S1024x1024 .bf16)

theorem ref11 : val_main_v11 (F := Ideal) x g = norm (φ := .f32) x g :=
  ext2 (φ := .f32) _ _ fun s l => by
    pointwise [val_main_v11, val_main_v10, val_main_v9, val_main_v8, val_main_v7, val_main_v6, val_main_v5, val_main_v4, val_main_v3, val_main_v2, val_main_v1, val_main_v0,
      val_main_cst, val_main_cst_0, val_main_cst_1]
    rfl

theorem ref12 : val_main_v12 (F := Ideal) x g = norm (φ := .bf16) x g := ref11 x g

theorem ref15 : val_main_v15 (F := Ideal) x g w = mul (ψ := .bf16) (norm (φ := .bf16) x g) w :=
  ext2 (φ := .bf16) _ _ fun s l => by
    unfold val_main_v15 val_main_v14
    rw [ref11]
    pointwise [val_main_v13]
    rfl
end

end Cert.Proj.KvFwd

end
-- ==== Proof.Proj.KvBwd.lean ====
/- The gradient through the memory's keys and values and its norm: kernel and reference leave the same arrays. -/
module

public import proofs.«01_k».proof.Proof.Gen.Kernel21Ideal.Value
public import proofs.«01_k».proof.Proof.Gen.Reference21Ideal.Read
public import proofs.«01_k».proof.Proof.Proj.Rows

@[expose] public section

set_option maxRecDepth 16384

noncomputable section

open Idealize.ShloMosaic Idealize.ShloMosaic.TcCoe Idealize.ShloMosaic.Tactic

namespace Cert.Proj.KvBwd

open Cert.Mlp

section
open Cert.Kernel21Ideal Cert.Kernel21Ideal.Gen Cert.Kernel21Ideal.Value

section
variable (a : FVec Ideal S256x1024 .bf16) (w : FVec Ideal S1024x1024 .bf16) (x : FVec Ideal S256x1024 .f32) (g y z : FVec Ideal S1x1024 .f32)

theorem pay2_eq : k0_pay2 (F := Ideal) a w = mulT (ψ := .f32) a w :=
  ext2 (φ := .f32) _ _ fun r l => by
    pointwise [k0_pay2]
    rfl

theorem pay4_eq : k0_pay4 (F := Ideal) a w x g = normGrad (φ := .f32) x g (mulT a w) := by
  rw [← pay2_eq]
  refine ext2 (φ := .f32) _ _ fun r l => ?_
  unfold k0_pay4
  generalize k0_pay2 (F := Ideal) a w = h
  pointwise [k0_pay3]
  rfl

theorem pay5_eq : k0_pay5 (F := Ideal) a w x = gainGrad x (mulT a w) := by
  rw [← pay2_eq]
  refine ext1 (φ := .f32) _ _ fun l => ?_
  unfold k0_pay5
  generalize k0_pay2 (F := Ideal) a w = h
  pointwise [k0_pay3]
  rfl

theorem pay1_eq : k0_pay1 (F := Ideal) y z = fun i => z i + y i :=
  ext1 (φ := .f32) _ _ fun l => by pointwise [k0_pay1]

theorem pay6_eq : k0_pay6 (F := Ideal) = fun _ => (0 : EReal) :=
  ext1 (φ := .f32) _ _ fun l => by pointwise [k0_pay6]
end

section
variable (c : Dev nD) (i : grid0.Coords) (arg1 : Memref sig .tc .vmem S256x1024 .bf16) (h1 : arg1.IsWhole) (arg2 : Memref sig .tc .vmem S1024x1024 .bf16) (h2 : arg2.IsWhole)
  (arg3 : Memref sig .tc .vmem S256x1024 .f32) (h3 : arg3.IsWhole) (arg4 : Memref sig .tc .vmem S1x1024 .f32) (h4 : arg4.IsWhole) (arg5 : Memref sig .tc .vmem S256x1024 .f32) (h5 : arg5.IsWhole)
  (arg6 : Memref sig .tc .vmem S1x1024 .f32) (h6 : arg6.IsWhole) (hc : cond0_0 i)
  (a : FVec Ideal S256x1024 .bf16) (w : FVec Ideal S1024x1024 .bf16) (x : FVec Ideal S256x1024 .f32) (g : FVec Ideal S1x1024 .f32)

theorem out4_eq : out0_A_4 (F := Ideal) c i arg1 h1 arg2 h2 arg3 h3 arg4 h4 arg5 h5 arg6 h6 hc a w x g = normGrad (φ := .f32) x g (mulT a w) := by
  unfold out0_A_4
  rw [View.read_writes_eq_canon _ _ _ (cover0_A_4 (F := Ideal) c i arg1 h1 arg2 h2 arg3 h3 arg4 h4 arg5 h5 arg6 h6 hc a w x g)]
  unfold kernelRun0_A
  dsimp only
  rw [View.canon_unit_zero zeros2]
  simp only [View.readAt_eq_ld, h1.read_unread, h2.read_unread, h3.read_unread, h4.read_unread,
    View.ld_unit_zero (S := S256x1024) zeros2, View.ld_unit_zero (S := S1024x1024) zeros2, View.ld_unit_zero (S := S1x1024) zeros2]
  exact pay4_eq a w x g

/-- The call clears the gradient of the gain and adds to it once. -/
theorem out5_eq : out0_A_5 (F := Ideal) c i arg1 h1 arg2 h2 arg3 h3 arg4 h4 arg5 h5 arg6 h6 hc a w x g = gainGrad x (mulT a w) := by
  unfold out0_A_5
  rw [View.read_writes_eq_canon _ _ _ (cover0_A_5 (F := Ideal) c i arg1 h1 arg2 h2 arg3 h3 arg4 h4 arg5 h5 arg6 h6 hc a w x g)]
  unfold kernelRun0_A
  dsimp only
  rw [View.canon_cons_unit_zero zeros2]
  unfold kernelRun0_A.sl.r kernelRun0_A.sl.v37 kernelRun0_A.sl.H5_1
  rw [View.readCov_cons_toLoadRect]
  simp only [View.readAt_eq_ld, h1.read_unread, h2.read_unread, h3.read_unread, View.ld_unit_zero (S := S256x1024) zeros2, View.ld_unit_zero (S := S1024x1024) zeros2]
  rw [pay1_eq, pay6_eq, pay5_eq]
  exact funext fun _ => zero_add _
end

/-- The only point takes the arrays whole. -/
theorem index : ∀ t : Fin cfg0.N, (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0))

variable (m : (ℓ : Loc nD τ sig) → Buf (Elt Ideal) ℓ) (c : Dev nD)

/-- The arguments, with their shapes. -/
abbrev dkv : FVec Ideal S256x1024 .bf16 := V m c main_arg0
abbrev wts : FVec Ideal S1024x1024 .bf16 := V m c main_arg1
abbrev inp : FVec Ideal S256x1024 .f32 := V m c main_arg2
abbrev gain : FVec Ideal S1x1024 .f32 := V m c main_arg3

section
variable (t : Fin cfg0.N)

theorem blk0 : (iblk m c 0 t : FVec Ideal S256x1024 .bf16) = dkv m c := read_whole (dkv m c) (index t).1 (fun _ => rfl) fun _ => rfl
theorem blk1 : (iblk m c 1 t : FVec Ideal S1024x1024 .bf16) = wts m c := read_whole (wts m c) (index t).2.1 (fun _ => rfl) fun _ => rfl
theorem blk2 : (iblk m c 2 t : FVec Ideal S256x1024 .f32) = inp m c := read_whole (inp m c) (index t).2.2.1 (fun _ => rfl) fun _ => rfl
theorem blk3 : (iblk m c 3 t : FVec Ideal S1x1024 .f32) = gain m c := read_whole (gain m c) (index t).2.2.2.1 (fun _ => rfl) fun _ => rfl
theorem read4 (y : FVec Ideal S256x1024 .f32) : (((cfg0.win 4).blk t).view.read (Elt Ideal) y : FVec Ideal S256x1024 .f32) = y :=
  read_whole y (index t).2.2.2.2.1 (fun _ => rfl) fun _ => rfl
theorem read5 (y : FVec Ideal S1x1024 .f32) : (((cfg0.win 5).blk t).view.read (Elt Ideal) y : FVec Ideal S1x1024 .f32) = y :=
  read_whole y (index t).2.2.2.2.2 (fun _ => rfl) fun _ => rfl
end

/-- The gradient of the norm's output. -/
abbrev dh : FVec Ideal S256x1024 .f32 := mulT (dkv m c) (wts m c)

/-- The only point. -/
abbrev only : Fin cfg0.N := ⟨0, by decide⟩

theorem arr4 : ((dats m 0 c).arrAt 4 cfg0.N : FVec Ideal S256x1024 .f32) = normGrad (φ := .f32) (inp m c) (gain m c) (dh m c) :=
  (read4 only _).symm.trans (((blocks4 m c only (flush0_4 only)).trans (flushed4_A m c only)).trans
    ((out4_eq c (grid0.coords only) _ _ _ _ _ _ _ _ _ _ _ _ _ (iblk m c 0 only) (iblk m c 1 only) (iblk m c 2 only) (iblk m c 3 only)).trans (by rw [blk0, blk1, blk2, blk3])))

theorem arr5 : ((dats m 0 c).arrAt 5 cfg0.N : FVec Ideal S1x1024 .f32) = gainGrad (inp m c) (dh m c) :=
  (read5 only _).symm.trans (((blocks5 m c only (flush0_5 only)).trans (flushed5_A m c only)).trans
    ((out5_eq c (grid0.coords only) _ _ _ _ _ _ _ _ _ _ _ _ _ (iblk m c 0 only) (iblk m c 1 only) (iblk m c 2 only) (iblk m c 3 only)).trans (by rw [blk0, blk1, blk2])))
end

section
open Cert.Reference21Ideal Cert.Reference21Ideal.Read
variable (a : FVec Ideal S256x1024 .bf16) (w : FVec Ideal S1024x1024 .bf16) (x : FVec Ideal S256x1024 .f32) (g : FVec Ideal S1x1024 .f32)

theorem ref18 : val_main_v18 (F := Ideal) a w = mulT (ψ := .f32) a w :=
  ext2 (φ := .f32) _ _ fun s l => by
    pointwise [val_main_v18, val_main_v17, val_main_v15]
    rfl

theorem ref21 : val_main_v21 (F := Ideal) a w x = gainGrad x (mulT a w) := by
  refine ext1 (φ := .f32) _ _ fun l => ?_
  unfold val_main_v21 val_main_v20 val_main_v19
  rw [ref18]
  generalize (mulT a w : FVec Ideal S256x1024 .f32) = h
  pointwise [val_main_cst_3, val_main_v12, val_main_v11, val_main_v7, val_main_v6, val_main_v5, val_main_v4, val_main_v3, val_main_v2, val_main_v1, val_main_v0,
    val_main_cst, val_main_cst_0, val_main_cst_1]
  exact Finset.sum_congr rfl fun s _ => mul_comm _ _

theorem ref33 (s : Fin 256) (l : Fin 1024) : (val_main_v33 (F := Ideal) a w x g : FVec Ideal S256x1024 .f32) (ix2 s l)
    = back (fun k => x (ix2 s k)) (fun k => g (ix2 0 k)) (fun k => (mulT a w : FVec Ideal S256x1024 .f32) (ix2 s k)) := by
  unfold val_main_v33 val_main_v32 val_main_v31 val_main_v29 val_main_v26 val_main_v25 val_main_v24 val_main_v23
  rw [ref18]
  generalize (mulT a w : FVec Ideal S256x1024 .f32) = h
  pointwise [val_main_v22, val_main_v30, val_main_cst_4, val_main_cst_5, val_main_cst_6, val_main_v10, val_main_v9, val_main_cst_2, val_main_v8, val_main_v7, val_main_v6, val_main_v5,
    val_main_v4, val_main_v3, val_main_v2, val_main_v1, val_main_v0, val_main_cst, val_main_cst_0, val_main_cst_1]
  exact (Fin.sum_univ_one _).trans rfl

theorem ref37 : val_main_v37 (F := Ideal) a w x g = normGrad (φ := .f32) x g (mulT a w) := by
  rw [← normVjp_eq]
  refine ext2 (φ := .f32) _ _ fun s l => ?_
  have h := ref33 a w x g s l
  unfold val_main_v37 val_main_v36 val_main_v35 val_main_v34 val_main_v28 val_main_v23
  generalize (val_main_v33 (F := Ideal) a w x g : FVec Ideal S256x1024 .f32) = z at h ⊢
  rw [ref18]
  generalize (mulT a w : FVec Ideal S256x1024 .f32) = y at h ⊢
  pointwise [val_main_v22, val_main_v27, val_main_v7, val_main_v6, val_main_v5, val_main_v4, val_main_v3, val_main_v2, val_main_v1, val_main_v0, val_main_cst, val_main_cst_0, val_main_cst_1]
  simp only [h]
  rfl
end

end Cert.Proj.KvBwd

end
-- ==== Proof.Proj.KvGrad.lean ====
/- The gradient of the memory attention's key weights: kernel and reference leave the same array. -/
module

public import proofs.«01_k».proof.Proof.Gen.Kernel22Ideal.Value
public import proofs.«01_k».proof.Proof.Gen.Reference22Ideal.Read
public import proofs.«01_k».proof.Proof.Proj.Rows

@[expose] public section

set_option maxRecDepth 16384

noncomputable section

open Idealize.ShloMosaic Idealize.ShloMosaic.TcCoe Idealize.ShloMosaic.Tactic

namespace Cert.Proj.KvGrad

open Cert.Mlp

section
open Cert.Kernel22Ideal Cert.Kernel22Ideal.Gen Cert.Kernel22Ideal.Value

theorem pay2_eq (a : FVec Ideal S256x1024 .bf16) (b : FVec Ideal S256x512 .bf16) : k0_pay2 (F := Ideal) (k0_pay1 (F := Ideal)) a b = Tmul (ψ := .f32) a b :=
  ext2 (φ := .f32) _ _ fun r l => by
    pointwise [k0_pay2, k0_pay1]
    rfl

theorem pay3_eq (y : FVec Ideal S1024x512 .f32) : k0_pay3 (F := Ideal) y = shards (ψ := .bf16) y :=
  ext3 (φ := .bf16) _ _ fun p r l => by
    pointwise [k0_pay3]
    rfl

/-- The call writes the product's shards once: it has one block of rows. -/
theorem out2_eq (c : Dev nD) (i : grid0.Coords) (arg2 : Memref sig .tc .vmem S256x1024 .bf16) (h2 : arg2.IsWhole) (arg3 : Memref sig .tc .vmem S256x512 .bf16) (h3 : arg3.IsWhole)
    (arg4 : Memref sig .tc .vmem S8x128x512 .bf16) (h4 : arg4.IsWhole) (arg5 : Memref sig .tc .vmem S1024x512 .f32) (h5 : arg5.IsWhole) (hc0 : cond0_0 i) (hc1 : cond0_1 i)
    (a : FVec Ideal S256x1024 .bf16) (b : FVec Ideal S256x512 .bf16) :
    out0_A_2 (F := Ideal) c i arg2 h2 arg3 h3 arg4 h4 arg5 h5 hc0 hc1 a b = shards (ψ := .bf16) (Tmul (ψ := .f32) a b) := by
  unfold out0_A_2
  rw [View.read_writes_eq_canon _ _ _ (cover0_A_2 (F := Ideal) c i arg2 h2 arg3 h3 arg4 h4 arg5 h5 hc0 hc1 a b)]
  unfold kernelRun0_A
  dsimp only
  rw [View.canon_unit_zero zeros3]
  unfold kernelRun0_A.sl.v14 kernelRun0_A.sl.HS0_2
  rw [View.readCov_cons_toLoadRect]
  unfold kernelRun0_A.sl.v3 kernelRun0_A.sl.HS0_1
  rw [View.readCov_cons_toLoadRect, View.readAt_eq_ld, View.readAt_eq_ld, h2.read_unread, h3.read_unread, View.ld_unit_zero (S := S256x1024) zeros2, View.ld_unit_zero (S := S256x512) zeros2,
    pay2_eq, pay3_eq]

/-- The only point takes the arrays whole. -/
theorem index : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0))

variable (m : (ℓ : Loc nD τ sig) → Buf (Elt Ideal) ℓ) (c : Dev nD)

/-- The arguments, with their shapes. -/
abbrev memN : FVec Ideal S256x1024 .bf16 := V m c main_arg0
abbrev dk : FVec Ideal S256x512 .bf16 := V m c main_arg1

section
variable (t : Fin cfg0.N)

theorem blk0 : (iblk m c 0 t : FVec Ideal S256x1024 .bf16) = memN m c := read_whole (memN m c) (index t).1 (fun _ => rfl) fun _ => rfl
theorem blk1 : (iblk m c 1 t : FVec Ideal S256x512 .bf16) = dk m c := read_whole (dk m c) (index t).2.1 (fun _ => rfl) fun _ => rfl
theorem read2 (y : FVec Ideal S8x128x512 .bf16) : (((cfg0.win 2).blk t).view.read (Elt Ideal) y : FVec Ideal S8x128x512 .bf16) = y :=
  read_whole3 y (index t).2.2 (fun _ => rfl) (fun _ => rfl) fun _ => rfl
end

theorem arr2 : ((dats m 0 c).arrAt 2 cfg0.N : FVec Ideal S8x128x512 .bf16) = shards (ψ := .bf16) (Tmul (ψ := .f32) (memN m c) (dk m c)) := by
  let t : Fin cfg0.N := ⟨0, by decide⟩
  refine (read2 t _).symm.trans (((blocks2 m c t (flush0_2 t)).trans (flushed2_A m c t)).trans ((out2_eq c (grid0.coords t) _ _ _ _ _ _ _ _ _ _ (iblk m c 0 t) (iblk m c 1 t)).trans ?_))
  rw [blk0, blk1]
end

section
open Cert.Reference22Ideal Cert.Reference22Ideal.Read

theorem ref7 (a : FVec Ideal S256x1024 .bf16) (b : FVec Ideal S256x512 .bf16) : val_main_v7 (F := Ideal) a b = shards (ψ := .bf16) (Tmul (ψ := .f32) a b) :=
  ext3 (φ := .bf16) _ _ fun d r l => by
    pointwise [val_main_v7, val_main_v6, val_main_v5, val_main_v4, val_main_v3, val_main_v1]
    exact Finset.sum_congr rfl fun k _ => mul_comm _ _
end

end Cert.Proj.KvGrad

end
-- ==== Proof.Proj.LossHead.lean ====
/- The head of the loss, its gradient and its sum by feature: kernel and reference leave the same arrays. -/
module

public import proofs.«01_k».proof.Proof.Gen.Kernel23Ideal.Value
public import proofs.«01_k».proof.Proof.Gen.Reference23Ideal.Read
public import proofs.«01_k».proof.Proof.Proj.Rows

@[expose] public section

set_option maxRecDepth 16384

noncomputable section

open Idealize.ShloMosaic Idealize.ShloMosaic.TcCoe Idealize.ShloMosaic.Tactic

namespace Cert.Proj.LossHead

open Cert.Mlp

/-! ## The constants, and a factor taken into a sum -/

theorem ofBits_half_pos : Ideal.ofBits FTy.f32 0x3F000000#32 = ((1 / 2 : ℝ) : EReal) := by
  simp [Ideal.ofBits, Ideal.ieee]
  norm_num [← EReal.coe_mul]

theorem ofBits_2 : Ideal.ofBits FTy.f32 0x40000000#32 = ((2 : ℝ) : EReal) := by
  simp [Ideal.ofBits, Ideal.ieee]
  norm_num [← EReal.coe_mul]

theorem ofBits_inv : Ideal.ofBits FTy.f32 0x3A800000#32 = ((1024⁻¹ : ℝ) : EReal) := by
  simp [Ideal.ofBits, Ideal.ieee]
  norm_num [← EReal.coe_mul]

theorem ofBits_halfInv : Ideal.ofBits FTy.f32 0x3A000000#32 = ((1 / 2 * 1024⁻¹ : ℝ) : EReal) := by
  simp [Ideal.ofBits, Ideal.ieee]
  norm_num [← EReal.coe_mul]

/-- A sum of terms that are not negative, times a number. -/
theorem sum_mul {n : ℕ} (f : Fin n → EReal) (hf : ∀ s, 0 ≤ f s) (k : EReal) : (∑ s, f s) * k = ∑ s, f s * k := by
  have h : ∀ S : Finset (Fin n), (∑ s ∈ S, f s) * k = ∑ s ∈ S, f s * k := fun S => by
    induction S using Finset.cons_induction with
    | empty => exact zero_mul k
    | cons a S _ ih => rw [Finset.sum_cons, Finset.sum_cons, EReal.right_distrib_of_nonneg (hf a) (Finset.sum_nonneg fun s _ => hf s), ih]
  exact h _

/-! ## The results -/

/-- Half of a squared error's mean over the 1024 features, for one entry. -/
def term (y z : EReal) : EReal := (y - z) * (y - z) * ((1 / 2 * 1024⁻¹ : ℝ) : EReal)

section
variable {n : ℕ} (y z : FVec Ideal ⟨2, ![n, 1024]⟩ .f32)

/-- The gradient of the loss. -/
def errGrad : FVec Ideal ⟨2, ![n, 1024]⟩ .f32 := fun i => (y i - z i) * ((1024⁻¹ : ℝ) : EReal)

/-- The loss by feature. -/
def total : FVec Ideal ⟨2, ![1, 1024]⟩ .f32 := fun i => ∑ s : Fin n, term (y (ix2 s (i 1))) (z (ix2 s (i 1)))
end

section
open Cert.Kernel23Ideal Cert.Kernel23Ideal.Gen Cert.Kernel23Ideal.Value

section
variable (y z : FVec Ideal S512x1024 .f32) (p : FVec Ideal S1x1024 .f32)

theorem pay3_eq : k0_pay3 (F := Ideal) y z = errGrad y z :=
  ext2 (φ := .f32) _ _ fun r l => by
    pointwise [k0_pay3, k0_pay2]
    rw [ofBits_inv]
    rfl

theorem pay4_eq : k0_pay4 (F := Ideal) y z p = fun i => p i + total y z i :=
  ext1 (φ := .f32) _ _ fun l => by
    pointwise [k0_pay4, k0_pay2]
    rw [ofBits_halfInv, sum_mul _ fun _ => sq_nonneg' _]
    rfl

theorem pay1_eq : k0_pay1 (F := Ideal) = fun _ => (0 : EReal) :=
  ext1 (φ := .f32) _ _ fun l => by pointwise [k0_pay1]
end

section
variable (c : Dev nD) (i : grid0.Coords) (arg1 : Memref sig .tc .vmem S512x1024 .f32) (h1 : arg1.IsWhole) (arg2 : Memref sig .tc .vmem S512x1024 .f32) (h2 : arg2.IsWhole)
  (arg3 : Memref sig .tc .vmem S512x1024 .f32) (h3 : arg3.IsWhole) (arg4 : Memref sig .tc .vmem S1x1024 .f32) (h4 : arg4.IsWhole)
  (y z : FVec Ideal S512x1024 .f32) (p : FVec Ideal S1x1024 .f32)

theorem outA2 (hc : cond0_0 i) : out0_A_2 (F := Ideal) c i arg1 h1 arg2 h2 arg3 h3 arg4 h4 hc y z = errGrad y z := by
  unfold out0_A_2
  rw [View.read_writes_eq_canon _ _ _ (cover0_A_2 (F := Ideal) c i arg1 h1 arg2 h2 arg3 h3 arg4 h4 hc y z)]
  unfold kernelRun0_A
  dsimp only
  rw [View.canon_unit_zero zeros2]
  simp only [View.readAt_eq_ld, h1.read_unread, h2.read_unread, View.ld_unit_zero (S := S512x1024) zeros2]
  exact pay3_eq y z

theorem outB2 (hc : ¬cond0_0 i) : out0_B_2 (F := Ideal) c i arg1 h1 arg2 h2 arg3 h3 arg4 h4 hc y z p = errGrad y z := by
  unfold out0_B_2
  rw [View.read_writes_eq_canon _ _ _ (cover0_B_2 (F := Ideal) c i arg1 h1 arg2 h2 arg3 h3 arg4 h4 hc y z p)]
  unfold kernelRun0_B
  dsimp only
  rw [View.canon_unit_zero zeros2]
  simp only [View.readAt_eq_ld, h1.read_unread, h2.read_unread, View.ld_unit_zero (S := S512x1024) zeros2]
  exact pay3_eq y z

theorem outA3 (hc : cond0_0 i) : out0_A_3 (F := Ideal) c i arg1 h1 arg2 h2 arg3 h3 arg4 h4 hc y z = fun j => (0 : EReal) + total y z j := by
  unfold out0_A_3
  rw [View.read_writes_eq_canon _ _ _ (cover0_A_3 (F := Ideal) c i arg1 h1 arg2 h2 arg3 h3 arg4 h4 hc y z)]
  unfold kernelRun0_A
  dsimp only
  rw [View.canon_cons_unit_zero zeros2]
  unfold kernelRun0_A.sl.v9 kernelRun0_A.sl.H3_1
  rw [View.readCov_cons_toLoadRect]
  simp only [View.readAt_eq_ld, h1.read_unread, h2.read_unread, View.ld_unit_zero (S := S512x1024) zeros2]
  rw [pay4_eq, pay1_eq]

theorem outB3 (hc : ¬cond0_0 i) : out0_B_3 (F := Ideal) c i arg1 h1 arg2 h2 arg3 h3 arg4 h4 hc y z p = fun j => p j + total y z j := by
  unfold out0_B_3
  rw [View.read_writes_eq_canon _ _ _ (cover0_B_3 (F := Ideal) c i arg1 h1 arg2 h2 arg3 h3 arg4 h4 hc y z p)]
  unfold kernelRun0_B
  dsimp only
  rw [View.canon_unit_zero zeros2]
  simp only [View.readAt_eq_ld, h1.read_unread, h2.read_unread, h4.read_unread, View.ld_unit_zero (S := S512x1024) zeros2, View.ld_unit_zero (S := S1x1024) zeros2]
  rw [pay4_eq]
end

/-- The blocks of the rows, and the loss whole. -/
theorem index : ∀ t : Fin cfg0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = 0 ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0))

variable (m : (ℓ : Loc nD τ sig) → Buf (Elt Ideal) ℓ) (c : Dev nD)

/-- The arguments, with their shapes. -/
abbrev out : FVec Ideal S4096x1024 .f32 := V m c main_arg0
abbrev target : FVec Ideal S4096x1024 .f32 := V m c main_arg1

section
variable (t : Fin cfg0.N)

theorem blk0 : (iblk m c 0 t : FVec Ideal S512x1024 .f32) = rows t (out m c) := read_rows (out m c) t (index t).1 (fun _ => rfl) fun _ => rfl
theorem blk1 : (iblk m c 1 t : FVec Ideal S512x1024 .f32) = rows t (target m c) := read_rows (target m c) t (index t).2.1 (fun _ => rfl) fun _ => rfl
theorem read2 (y : FVec Ideal S4096x1024 .f32) : (((cfg0.win 2).blk t).view.read (Elt Ideal) y : FVec Ideal S512x1024 .f32) = rows t y :=
  read_rows y t (index t).2.2.1 (fun _ => rfl) fun _ => rfl
theorem read3 (y : FVec Ideal S1x1024 .f32) : (((cfg0.win 3).blk t).view.read (Elt Ideal) y : FVec Ideal S1x1024 .f32) = y :=
  read_whole y (index t).2.2.2 (fun _ => rfl) fun _ => rfl

theorem out2 : (outsAt0 m c t.val t.isLt).1 = errGrad (iblk m c 0 t) (iblk m c 1 t) := by
  by_cases h0 : t.val % 8 = 0
  · rw [outsAt0_A m c t h0]
    dsimp only
    exact outA2 c (grid0.coords t) _ _ _ _ _ _ _ _ (iblk m c 0 t) (iblk m c 1 t) _
  · rw [outsAt0_B m c t h0]
    dsimp only
    exact outB2 c (grid0.coords t) _ _ _ _ _ _ _ _ (iblk m c 0 t) (iblk m c 1 t) _ _
end

/-- What the points have added up. -/
theorem out3 : (outsAt0 m c 7 (by decide)).2 = total (out m c) (target m c) :=
  ext1 (φ := .f32) _ _ fun l => by
    refine fold_rows (fun s => term (out m c (ix2 s l)) (target m c (ix2 s l))) (fun n hn => (outsAt0 m c n hn).2 (ix2 0 l)) ?_ fun n hn => ?_
    · let t : Fin cfg0.N := ⟨0, by decide⟩
      show (outsAt0 m c t.val t.isLt).2 (ix2 0 l) = total (rows t (out m c)) (rows t (target m c)) (ix2 0 l)
      rw [outsAt0_A m c t rfl, ← blk0, ← blk1]
      dsimp only
      exact (congrFun (outA3 c (grid0.coords t) _ _ _ _ _ _ _ _ (iblk m c 0 t) (iblk m c 1 t) _) (ix2 0 l)).trans (zero_add _)
    · let t : Fin cfg0.N := ⟨n + 1, hn⟩
      show (outsAt0 m c t.val t.isLt).2 (ix2 0 l) = (outsAt0 m c n (Nat.lt_of_succ_lt hn)).2 (ix2 0 l) + total (rows t (out m c)) (rows t (target m c)) (ix2 0 l)
      rw [outsAt0_B m c t (by show ¬(n + 1) % 8 = 0; omega), ← blk0, ← blk1]
      dsimp only
      exact congrFun (outB3 c (grid0.coords t) _ _ _ _ _ _ _ _ (iblk m c 0 t) (iblk m c 1 t) _ _) (ix2 0 l)

theorem arr2 : ((dats m 0 c).arrAt 2 cfg0.N : FVec Ideal S4096x1024 .f32) = errGrad (out m c) (target m c) :=
  rows_ext _ _ fun (t : Fin cfg0.N) => (read2 t _).symm.trans (((blocks2 m c t (flush0_2 t)).trans (flushed2 m c t)).trans
    ((out2 m c t).trans (by rw [blk0, blk1]; rfl)))

/-- The last point. -/
abbrev last : Fin cfg0.N := ⟨7, by decide⟩

theorem disjoint3 : ∀ t t' : Fin cfg0.N, (cfg0.win 3).flush t = true → (cfg0.win 3).flush t' = true → t ≠ t' →
    Disjoint ((cfg0.win 3).blk t).view.set ((cfg0.win 3).blk t').view.set := fun t t' h h' hne => by
  have e := (flush0_3 t).mp h
  have e' := (flush0_3 t').mp h'
  have b : t.val < 8 := t.isLt
  have b' : t'.val < 8 := t'.isLt
  exact absurd (Fin.ext (by omega)) hne

theorem arr3 : ((dats m 0 c).arrAt 3 cfg0.N : FVec Ideal S1x1024 .f32) = total (out m c) (target m c) :=
  (read3 last _).symm.trans ((((dats m 0 c).read_blk_arrAt_eq_flushed 3 disjoint3 cfg0.N last last.isLt ((flush0_3 last).mpr rfl)).trans (flushed3 m c last)).trans (out3 m c))
end

section
open Cert.Reference23Ideal Cert.Reference23Ideal.Read
variable (y z : FVec Ideal S4096x1024 .f32)

/-- Half a square's derivative over 1024 is the error over 1024. -/
theorem ref22 : val_main_v22 (F := Ideal) y z = errGrad y z :=
  ext2 (φ := .f32) _ _ fun s l => by
    pointwise [val_main_v22, val_main_v21, val_main_v20, val_main_v19, val_main_v18, val_main_v17, val_main_v11, val_main_v10, val_main_v8, val_main_cst_2, val_main_cst_7, val_main_cst_8, val_main_cst_9]
    rw [ofBits_half_pos, ofBits_2, ofBits_1024, div_real _ (by norm_num), ← EReal.coe_mul, ← mul_assoc, ← EReal.coe_mul, mul_comm]
    exact congrArg ((y (ix2 s l) - z (ix2 s l)) * ·) (congrArg Real.toEReal (by norm_num))

theorem ref7 : val_main_v7 (F := Ideal) y z = total y z :=
  ext1 (φ := .f32) _ _ fun l => by
    pointwise [val_main_v7, val_main_v6, val_main_v5, val_main_v4, val_main_v3, val_main_v2, val_main_v1, val_main_v0, val_main_cst, val_main_cst_0, val_main_cst_1]
    rw [ofBits_half_pos, ofBits_1024, div_real _ (by norm_num), mul_comm ((1 / 2 : ℝ) : EReal), mul_assoc, ← EReal.coe_mul, sum_mul _ fun _ => sq_nonneg' _]
    rfl
end

end Cert.Proj.LossHead

end
-- ==== Proof.Proj.Memory.lean ====
/- The memory attention: four heads of 128 lanes, each row of queries against the memory's 256 keys and values.

The keys are the first 512 columns of one array, the values its last 512. -/
module

public import proofs.«01_k».proof.Proof.Proj.Rows

@[expose] public section

set_option maxRecDepth 16384

noncomputable section

open Idealize.ShloMosaic Idealize.ShloMosaic.TcCoe Idealize.ShloMosaic.Tactic

namespace Cert.Proj.Memory

open Cert.Mlp

/-- Lane `x` of head `h`, as a column of the queries, of the keys and of the values. -/
abbrev col (h : Fin 4) (x : Fin 128) : Fin 512 := ⟨h.val * 128 + x.val, by omega⟩
abbrev keyCol (h : Fin 4) (x : Fin 128) : Fin 1024 := ⟨h.val * 128 + x.val, by omega⟩
abbrev valCol (h : Fin 4) (x : Fin 128) : Fin 1024 := ⟨512 + (h.val * 128 + x.val), by omega⟩

/-- A column's head and lane. -/
abbrev headOf (j : Fin 512) : Fin 4 := ⟨j.val / 128, by omega⟩
abbrev laneOf (j : Fin 512) : Fin 128 := ⟨j.val % 128, by omega⟩

theorem exists_col (j : Fin 512) : ∃ h x, j = col h x :=
  ⟨headOf j, laneOf j, Fin.ext (by show j.val = j.val / 128 * 128 + j.val % 128; omega)⟩
theorem headOf_col (h : Fin 4) (x : Fin 128) : headOf (col h x) = h := Fin.ext (by show (h.val * 128 + x.val) / 128 = h.val; omega)
theorem laneOf_col (h : Fin 4) (x : Fin 128) : laneOf (col h x) = x := Fin.ext (by show (h.val * 128 + x.val) % 128 = x.val; omega)

section
variable (f : Fin 256 → EReal)

/-- The exponentials of a row of logits less their maximum, and what share of their sum each is. -/
def weight (m : Fin 256) : EReal := Ideal.exp (f m - Finset.fold max (Ideal.ofBits .f32 0xFF800000#32) f Finset.univ)
def prob (m : Fin 256) : EReal := Ideal.div (weight f m) (∑ j, weight f j)
end

section
variable (q : Fin 128 → EReal) (k v : Fin 256 → Fin 128 → EReal)

/-- The logits of one row of queries, and what the attention gives of the values. -/
def logits (m : Fin 256) : EReal := (∑ x, q x * k m x) * Ideal.ofBits .f32 0x3DB504F3#32
def attn (x : Fin 128) : EReal := ∑ m, v m x * prob (logits q k) m
end

section
variable {n : ℕ} {φ ψ : FTy} (q : FVec Ideal ⟨2, ![n, 512]⟩ φ) (kv : FVec Ideal ⟨2, ![256, 1024]⟩ φ)

/-- Head `h` of a row, and of the keys and of the values. -/
def head (r : Fin n) (h : Fin 4) : Fin 128 → EReal := fun x => q (ix2 r (col h x))
def keys (h : Fin 4) : Fin 256 → Fin 128 → EReal := fun m x => kv (ix2 m (keyCol h x))
def vals (h : Fin 4) : Fin 256 → Fin 128 → EReal := fun m x => kv (ix2 m (valCol h x))

/-- The attention of all rows and heads. -/
def out : FVec Ideal ⟨2, ![n, 512]⟩ ψ := fun i => attn (head q (i 0) (headOf (i 1))) (keys kv (headOf (i 1))) (vals kv (headOf (i 1))) (laneOf (i 1))

theorem out_apply (r : Fin n) (h : Fin 4) (x : Fin 128) : out (ψ := ψ) q kv (ix2 r (col h x)) = attn (head q r h) (keys kv h) (vals kv h) x := by
  show attn (head q r (headOf (col h x))) (keys kv (headOf (col h x))) (vals kv (headOf (col h x))) (laneOf (col h x)) = _
  rw [headOf_col, laneOf_col]
end

end Cert.Proj.Memory

end
-- ==== Proof.Proj.MemAttn.lean ====
/- The memory attention, forward: kernel and reference leave the same arrays. -/
module

public import proofs.«01_k».proof.Proof.Gen.Kernel24Ideal.Value
public import proofs.«01_k».proof.Proof.Gen.Reference24Ideal.Read
public import proofs.«01_k».proof.Proof.Proj.Memory

@[expose] public section

set_option maxRecDepth 16384

noncomputable section

open Idealize.ShloMosaic Idealize.ShloMosaic.TcCoe Idealize.ShloMosaic.Tactic

namespace Cert.Proj.MemAttn

open Cert.Mlp Cert.Proj.Memory

section
open Cert.Kernel24Ideal Cert.Kernel24Ideal.Gen Cert.Kernel24Ideal.Value

/-- The logits of one head, keys by queries. -/
def logitsT (k : FVec Ideal S256x128 .bf16) (q : FVec Ideal S512x128 .bf16) : FVec Ideal S256x512 .f32 :=
  mulf (matmul dot_S256x128_S512x128_S256x512_1_1_0_0_n_n none k q (constant S256x512 .f32 0x00000000#32)) (broadcast S256x512 (Scalar.ofBits .f32 0x3DB504F3#32))

/-- The exponentials less each column's maximum, and their shares of the column's sum. -/
def weightsT (s : FVec Ideal S256x512 .f32) : FVec Ideal S256x512 .f32 :=
  exp (subf s (broadcastTo S256x512 (shapeCast S1x512 (multiReduction .maximumf [0] S512 s 0xFF800000#32 reduces_S256x512_S512 (.inl rfl) rfl) shapeCasts_S512_S1x512) broadcasts_S1x512_S256x512))
def sharesT (p : FVec Ideal S256x512 .f32) : FVec Ideal S256x512 .f32 :=
  divf p (broadcastTo S256x512 (shapeCast S1x512 (multiReduction .add [0] S512 p 0x00000000#32 reduces_S256x512_S512 (.inl rfl) rfl) shapeCasts_S512_S1x512) broadcasts_S1x512_S256x512)

/-- One head of the kernel. -/
def headT (k : FVec Ideal S256x128 .bf16) (q : FVec Ideal S512x128 .bf16) (v : FVec Ideal S256x128 .bf16) : FVec Ideal S512x128 .bf16 :=
  truncf .bf16 (matmul dot_S256x512_S256x128_S512x128_0_0_1_1_n_n none (truncf .bf16 (sharesT (weightsT (logitsT k q))) bitsLt_bf16_f32) v (constant S512x128 .f32 0x00000000#32)) bitsLt_bf16_f32

section
variable (k : FVec Ideal S256x128 .bf16) (q : FVec Ideal S512x128 .bf16) (v : FVec Ideal S256x128 .bf16)

theorem logitsT_apply (m : Fin 256) (r : Fin 512) : logitsT k q (ix2 m r) = logits (fun x => q (ix2 r x)) (fun m x => k (ix2 m x)) m := by
  pointwise [logitsT]
  exact congrArg (· * _) (Finset.sum_congr rfl fun x _ => mul_comm _ _)

theorem weightsT_apply (s : FVec Ideal S256x512 .f32) (m : Fin 256) (r : Fin 512) : weightsT s (ix2 m r) = weight (fun j => s (ix2 j r)) m := by
  pointwise [weightsT]
  rfl

theorem sharesT_apply (s : FVec Ideal S256x512 .f32) (m : Fin 256) (r : Fin 512) : sharesT s (ix2 m r) = Ideal.div (s (ix2 m r)) (∑ j, s (ix2 j r)) := by
  pointwise [sharesT]

theorem headT_apply (r : Fin 512) (x : Fin 128) : headT k q v (ix2 r x) = attn (fun x => q (ix2 r x)) (fun m x => k (ix2 m x)) (fun m x => v (ix2 m x)) x := by
  have h : ∀ m, sharesT (weightsT (logitsT k q)) (ix2 m r) = prob (logits (fun x => q (ix2 r x)) (fun m x => k (ix2 m x))) m := fun m => by
    simp only [sharesT_apply, weightsT_apply, logitsT_apply]
    rfl
  unfold headT
  generalize sharesT (weightsT (logitsT k q)) = p at h ⊢
  pointwise []
  exact Finset.sum_congr rfl fun m _ => by rw [h, mul_comm]
end

section
variable (q : FVec Ideal S512x512 .bf16) (kv : FVec Ideal S256x1024 .bf16)

/-- What head `h` of the kernel gives, its operands from column `o` of the queries and keys and column `o'` of the values. -/
theorem slices_apply (h : Fin 4) {o o' : ℕ} (ho : o = h.val * 128) (ho' : o' = 512 + h.val * 128) (i0 : S256x1024.Slices ![0, o] S256x128) (i1 : S512x512.Slices ![0, o] S512x128)
    (i2 : S256x1024.Slices ![0, o'] S256x128) (r : Fin 512) (x : Fin 128) :
    headT (extractStridedSlice S256x128 ![0, o] kv i0) (extractStridedSlice S512x128 ![0, o] q i1) (extractStridedSlice S256x128 ![0, o'] kv i2) (ix2 r x)
      = attn (head q r h) (keys kv h) (vals kv h) x := by
  subst ho ho'
  rw [headT_apply]
  have e0 : (fun x => extractStridedSlice S512x128 ![0, h.val * 128] q i1 (ix2 r x)) = head q r h :=
    funext fun x => congrArg q (idx2_eq _ _ _ (by show 0 + r.val = r.val; omega) rfl)
  have e1 : (fun m x => extractStridedSlice S256x128 ![0, h.val * 128] kv i0 (ix2 m x)) = keys kv h :=
    funext fun m => funext fun x => congrArg kv (idx2_eq _ _ _ (by show 0 + m.val = m.val; omega) rfl)
  have e2 : (fun m x => extractStridedSlice S256x128 ![0, 512 + h.val * 128] kv i2 (ix2 m x)) = vals kv h :=
    funext fun m => funext fun x => congrArg kv (idx2_eq _ _ _ (by show 0 + m.val = m.val; omega) (by show 512 + h.val * 128 + x.val = 512 + (h.val * 128 + x.val); omega))
  rw [e0, e1, e2]

/-- What a piece of 128 columns leaves. -/
theorem chunk (h : Fin 4) {o : ℕ} (ho : o = h.val * 128) (i : ∀ a, (![0, o] : Fin 2 → Nat) a + S512x128.size a ≤ S512x512.size a) (y : FVec Ideal S512x128 .bf16)
    (hy : ∀ r x, y (ix2 r x) = attn (head q r h) (keys kv h) (vals kv h) x) (x : S512x128.Idx) :
    y x = (out q kv : FVec Ideal S512x512 .bf16) ((Rect.unit (s := S512x512) ![0, o] S512x128.size i).idx x) := by
  subst ho
  refine ((congrArg y (idx2_eq x (x 0) (x 1) rfl rfl)).trans (hy (x 0) (x 1))).trans ((out_apply q kv (x 0) h (x 1)).symm.trans (congrArg _ (idx2_eq _ _ _ ?_ ?_).symm))
  · show 0 + 1 * (x 0).val = (x 0).val; omega
  · show h.val * 128 + 1 * (x 1).val = h.val * 128 + (x 1).val; omega

theorem out2_eq : out0_2 (F := Ideal) q kv = out (ψ := .bf16) q kv := by
  unfold out0_2
  rw [View.ld_unit_zero (S := S512x512) zeros2, View.ld_unit_zero (S := S256x1024) zeros2]
  funext y
  refine View.canon_apply_of_pieces (out q kv : FVec Ideal S512x512 .bf16) _ ?_ y (cover0_2 (F := Ideal) _ _ _ _ y)
  simp only [List.forall_mem_cons, List.not_mem_nil, false_implies, implies_true, and_true]
  exact ⟨chunk q kv 3 rfl _ _ (slices_apply q kv 3 rfl rfl _ _ _), chunk q kv 2 rfl _ _ (slices_apply q kv 2 rfl rfl _ _ _),
    chunk q kv 1 rfl _ _ (slices_apply q kv 1 rfl rfl _ _ _), chunk q kv 0 rfl _ _ (slices_apply q kv 0 rfl rfl _ _ _)⟩
end

/-- The blocks of the queries' rows, and the keys and values whole. -/
theorem index : ∀ t : Fin cfg0.N, (win0_0.index t 0 = t.val ∧ win0_0.index t 1 = 0) ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

variable (m : (ℓ : Loc nD τ sig) → Buf (Elt Ideal) ℓ) (c : Dev nD)

/-- The arguments, with their shapes. -/
abbrev queries : FVec Ideal S4096x512 .bf16 := V m c main_arg0
abbrev memory : FVec Ideal S256x1024 .bf16 := V m c main_arg1

section
variable (t : Fin cfg0.N)

theorem blk0 : (iblk m c 0 t : FVec Ideal S512x512 .bf16) = rows t (queries m c) := read_rows (queries m c) t (index t).1 (fun _ => rfl) fun _ => rfl
theorem blk1 : (iblk m c 1 t : FVec Ideal S256x1024 .bf16) = memory m c := read_whole (memory m c) (index t).2.1 (fun _ => rfl) fun _ => rfl
theorem read2 (y : FVec Ideal S4096x512 .bf16) : (((cfg0.win 2).blk t).view.read (Elt Ideal) y : FVec Ideal S512x512 .bf16) = rows t y :=
  read_rows y t (index t).2.2 (fun _ => rfl) fun _ => rfl
end

theorem arr2 : ((dats m 0 c).arrAt 2 cfg0.N : FVec Ideal S4096x512 .bf16) = out (ψ := .bf16) (queries m c) (memory m c) :=
  rows_ext _ _ fun (t : Fin cfg0.N) => (read2 t _).symm.trans (((blocks2 m c t (flush0_2 t)).trans (flushed2 m c t)).trans
    ((out2_eq (iblk m c 0 t) (iblk m c 1 t)).trans (by rw [blk0, blk1]; rfl)))
end

section
open Cert.Reference24Ideal Cert.Reference24Ideal.Read
variable (q : FVec Ideal S4096x512 .bf16) (kv : FVec Ideal S256x1024 .bf16)

theorem logits_apply (h : Fin 4) (r : Fin 4096) (m : Fin 256) :
    (val_main_v9 (F := Ideal) q kv : FVec Ideal S4x4096x256 .f32) (ix3 h r m) = logits (head q r h) (keys kv h) m := by
  pointwise [val_main_v9, val_main_v8, val_main_v7, val_main_v5, val_main_v4, val_main_v2, val_main_v1, val_main_v0, val_main_cst]
  rfl

/-- The largest logit of a row. -/
theorem max_apply (h : Fin 4) (r : Fin 4096) : (val_main_v10 (F := Ideal) q kv : FVec Ideal S4x4096 .f32) (ix2 h r)
    = Finset.fold max (Ideal.ofBits .f32 0xFF800000#32) (logits (head q r h) (keys kv h)) Finset.univ := by
  have hl := logits_apply q kv h r
  unfold val_main_v10
  generalize (val_main_v9 (F := Ideal) q kv : FVec Ideal S4x4096x256 .f32) = y at hl ⊢
  pointwise [val_main_cst_0]
  exact Finset.fold_congr fun m _ => hl m

theorem max_apply' (h : Fin 4) (r : Fin 4096) : (val_main_v12 (F := Ideal) q kv : FVec Ideal S4x4096 .f32) (ix2 h r)
    = Finset.fold max (Ideal.ofBits .f32 0xFF800000#32) (logits (head q r h) (keys kv h)) Finset.univ := by
  rw [val_main_v12_apply, max_apply, val_main_v11_apply, val_main_cst_1_apply]
  generalize Finset.fold max (Ideal.ofBits .f32 0xFF800000#32) (logits (head q r h) (keys kv h)) Finset.univ = e
  show max (Ideal.ofBits .f32 0xFF800000#32) e = e
  rw [show Ideal.ofBits .f32 0xFF800000#32 = ⊥ by simp [Ideal.ofBits, Ideal.ieee], max_bot_left]

theorem weight_apply (h : Fin 4) (r : Fin 4096) (m : Fin 256) :
    (val_main_v16 (F := Ideal) q kv : FVec Ideal S4x4096x256 .f32) (ix3 h r m) = weight (logits (head q r h) (keys kv h)) m := by
  have hl := logits_apply q kv h r
  have hm := max_apply' q kv h r
  unfold val_main_v16 val_main_v15 val_main_v14 val_main_v13
  generalize (val_main_v9 (F := Ideal) q kv : FVec Ideal S4x4096x256 .f32) = y at hl ⊢
  generalize (val_main_v12 (F := Ideal) q kv : FVec Ideal S4x4096 .f32) = z at hm ⊢
  pointwise []
  rw [hl, hm]; rfl

theorem prob_apply (h : Fin 4) (r : Fin 4096) (m : Fin 256) :
    (val_main_v20 (F := Ideal) q kv : FVec Ideal S4x4096x256 .f32) (ix3 h r m) = prob (logits (head q r h) (keys kv h)) m := by
  have hw := weight_apply q kv h r
  unfold val_main_v20 val_main_v19 val_main_v18 val_main_v17
  generalize (val_main_v16 (F := Ideal) q kv : FVec Ideal S4x4096x256 .f32) = y at hw ⊢
  pointwise [val_main_cst_2]
  simp only [hw]
  rfl

theorem ref24 : val_main_v24 (F := Ideal) q kv = (out q kv : FVec Ideal S4096x512 .bf16) :=
  ext2 (φ := .bf16) _ _ fun r j => by
    obtain ⟨h, x, rfl⟩ := exists_col j
    have hp := prob_apply q kv h r
    rw [out_apply]
    unfold val_main_v24 val_main_v23 val_main_v22 val_main_v21
    generalize (val_main_v20 (F := Ideal) q kv : FVec Ideal S4x4096x256 .f32) = y at hp ⊢
    pointwise [val_main_v6, val_main_v3, val_main_v1]
    have e0 : (⟨(h.val * 128 + x.val) / 128, by omega⟩ : Fin 4) = h := headOf_col h x
    have e1 : (⟨512 + ((h.val * 128 + x.val) / 128 * 128 + (h.val * 128 + x.val) % 128), by omega⟩ : Fin 1024) = valCol h x := Fin.ext (by
      show 512 + ((h.val * 128 + x.val) / 128 * 128 + (h.val * 128 + x.val) % 128) = 512 + (h.val * 128 + x.val); omega)
    exact Finset.sum_congr rfl fun m _ => (congrArg₂ (fun a b => kv (ix2 m b) * y (ix3 a r m)) e0 e1).trans (congrArg (kv (ix2 m (valCol h x)) * ·) (hp m))
end

end Cert.Proj.MemAttn

end
-- ==== Proof.lean ====
/- The claims: kernel, its reading over the extended reals and the reference each run with no fault and end with every
   counter at zero; and over the extended reals kernel and reference leave the same arrays. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Dq.Arrays
public import Idealize.ShloMosaic.Adequacy
public import Idealize.ShloMosaic.Init
public import proofs.«01_k».proof.Proof.Mlp.DownBwd
public import proofs.«01_k».proof.Proof.Mlp.DownGrad
public import proofs.«01_k».proof.Proof.Mlp.UpBwd
public import proofs.«01_k».proof.Proof.Mlp.UpGrad
public import proofs.«01_k».proof.Proof.Mlp.UpFwd
public import proofs.«01_k».proof.Proof.Mlp.DownFwd
public import proofs.«01_k».proof.Proof.Proj.MixIn
public import proofs.«01_k».proof.Proof.Proj.MixOut
public import proofs.«01_k».proof.Proof.Proj.MixBwd
public import proofs.«01_k».proof.Proof.Proj.MixInBwd
public import proofs.«01_k».proof.Proof.Proj.OutGrad
public import proofs.«01_k».proof.Proof.Proj.InGrad
public import proofs.«01_k».proof.Proof.Proj.QueryFwd
public import proofs.«01_k».proof.Proof.Proj.QueryBwd
public import proofs.«01_k».proof.Proof.Proj.QueryGrad
public import proofs.«01_k».proof.Proof.Proj.MemOut
public import proofs.«01_k».proof.Proof.Proj.MemBwd
public import proofs.«01_k».proof.Proof.Proj.MemGrad
public import proofs.«01_k».proof.Proof.Proj.KvFwd
public import proofs.«01_k».proof.Proof.Proj.KvBwd
public import proofs.«01_k».proof.Proof.Proj.KvGrad
public import proofs.«01_k».proof.Proof.Proj.LossHead
public import proofs.«01_k».proof.Proof.Proj.MemAttn

@[expose] public section

noncomputable section

namespace Cert.Proof

open Idealize.ShloMosaic Idealize.SL.Sem

/-! ## The gradient of the queries -/

/-- The reference runs on any arguments; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Kernel and reference end with the same arrays. -/
theorem algebraic : Cert.algebraic_KernelIdeal_ReferenceIdeal_pre_finite := by
  intro m ρ m' ρ' hpre hagree
  refine ⟨fun c => (Cert.KernelIdeal.Gen.dats m 0 c).arrAt 6 Cert.KernelIdeal.cfg0.N, fun c => (Cert.KernelIdeal.Gen.dats m 0 c).arrAt 7 Cert.KernelIdeal.cfg0.N, ?_, ?_⟩
  · exact (θ_run _ _ _).mono (fun r h c => ⟨(h c).1, (h c).2.1, (h c).2.2.2.2⟩) (Cert.KernelIdeal.Value.run_blocks (F := Ideal) m ρ)
  · refine (θ_run _ _ _).mono (fun r h c => ?_) (Cert.ReferenceIdeal.Value.run (F := Ideal) m' ρ')
    obtain ⟨Q, K, V, G, C, A⟩ := Cert.Dq.exists_args m c (hpre c)
    obtain ⟨a0, a1, a2, a3, a4⟩ := hagree c
    refine ⟨(h c).1.trans ?_, (h c).2.1.trans ?_, (h c).2.2⟩
    · rw [Cert.ReferenceIdeal.Read.val_main_v92_eq, a0, a1, a2, a3, a4]
      exact Cert.Dq.queries_eq A
    · rw [Cert.ReferenceIdeal.Read.val_main_v93_eq, a0, a1, a2, a3, a4]
      exact Cert.Dq.sums_eq A

/-! ## The gradient through the down-projection -/

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem algebraic2 : Cert.algebraic_Kernel2Ideal_Reference2Ideal := by
  intro m ρ m' ρ' _ hagree
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N, ?_, ?_⟩
  · exact (θ_run _ _ _).mono (fun r h c => ⟨(h c).1, (h c).2.1, (h c).2.2.1, (h c).2.2.2⟩) (Cert.Kernel2Ideal.Value.run_blocks (F := Ideal) m ρ)
  · refine (θ_run _ _ _).mono (fun r h c => ?_) (Cert.Reference2Ideal.Value.run (F := Ideal) m' ρ')
    obtain ⟨a0, a1, a2, a3, a4⟩ := hagree c
    refine ⟨(h c).1.trans ?_, (h c).2.1.trans ?_, (h c).2.2.1.trans ?_, (h c).2.2.2⟩
    · rw [Cert.Reference2Ideal.Read.val_main_v48_eq, a0, a1, a2]
      exact Cert.Mlp.DownBwd.product_eq m c
    · rw [Cert.Reference2Ideal.Read.val_main_v49_eq, a0, a1, a2, a3, a4]
      exact Cert.Mlp.DownBwd.hidden_eq m c
    · rw [Cert.Reference2Ideal.Read.val_main_v17_eq, a0, a1]
      exact Cert.Mlp.DownBwd.gain_eq m c

/-! ## The gradient of the down-projection's weights -/

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m ρ m' ρ' _ hagree
  refine ⟨fun c => (Cert.Kernel3Ideal.Gen.dats m 0 c).arrAt 2 Cert.Kernel3Ideal.cfg0.N, ?_, ?_⟩
  · exact (θ_run _ _ _).mono (fun r h c => ⟨(h c).1, (h c).2⟩) (Cert.Kernel3Ideal.Value.run_blocks (F := Ideal) m ρ)
  · refine (θ_run _ _ _).mono (fun r h c => ?_) (Cert.Reference3Ideal.Value.run (F := Ideal) m' ρ')
    obtain ⟨a0, a1⟩ := hagree c
    refine ⟨(h c).1.trans ?_, (h c).2⟩
    · rw [Cert.Reference3Ideal.Read.val_main_v7_eq, a0, a1]
      exact Cert.Mlp.DownGrad.array_eq m c

/-! ## The gradient through the up-projection -/

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic4 : Cert.algebraic_Kernel4Ideal_Reference4Ideal := by
  intro m ρ m' ρ' _ hagree
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N, ?_, ?_⟩
  · exact (θ_run _ _ _).mono (fun r h c => ⟨(h c).1, (h c).2.1, (h c).2.2⟩) (Cert.Kernel4Ideal.Value.run_blocks (F := Ideal) m ρ)
  · refine (θ_run _ _ _).mono (fun r h c => ?_) (Cert.Reference4Ideal.Value.run (F := Ideal) m' ρ')
    obtain ⟨a0, a1, a2, a3, a4⟩ := hagree c
    refine ⟨(h c).1.trans ?_, (h c).2.1.trans ?_, (h c).2.2⟩
    · rw [Cert.Reference4Ideal.Read.val_main_v38_eq, a0, a1, a2, a3, a4]
      exact Cert.Mlp.UpBwd.input_eq m c
    · rw [Cert.Reference4Ideal.Read.val_main_v21_eq, a0, a1, a2]
      exact Cert.Mlp.UpBwd.gain_eq m c

/-! ## The gradient of the up-projection's weights -/

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨fun c => Cert.Kernel5Ideal.Value.G2 m c, ?_, ?_⟩
  · exact (θ_run _ _ _).mono (fun r h c => ⟨(h c).1, (h c).2⟩) (Cert.Kernel5Ideal.Value.run (F := Ideal) m ρ)
  · refine (θ_run _ _ _).mono (fun r h c => ?_) (Cert.Reference5Ideal.Value.run (F := Ideal) m' ρ')
    obtain ⟨a0, a1⟩ := hagree c
    refine ⟨(h c).1.trans ?_, (h c).2⟩
    · rw [Cert.Reference5Ideal.Read.val_main_v8_eq, a0, a1]
      exact Cert.Mlp.UpGrad.array_eq m c

/-! ## The up-projection -/

theorem frame_reference6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic6 : Cert.algebraic_Kernel6Ideal_Reference6Ideal := by
  intro m ρ m' ρ' _ hagree
  refine ⟨fun c => (Cert.Kernel6Ideal.Gen.dats m 0 c).arrAt 3 Cert.Kernel6Ideal.cfg0.N, fun c => (Cert.Kernel6Ideal.Gen.dats m 0 c).arrAt 4 Cert.Kernel6Ideal.cfg0.N, fun c => (Cert.Kernel6Ideal.Gen.dats m 0 c).arrAt 5 Cert.Kernel6Ideal.cfg0.N, ?_, ?_⟩
  · exact (θ_run _ _ _).mono (fun r h c => ⟨(h c).1, (h c).2.1, (h c).2.2.1, (h c).2.2.2⟩) (Cert.Kernel6Ideal.Value.run_blocks (F := Ideal) m ρ)
  · refine (θ_run _ _ _).mono (fun r h c => ?_) (Cert.Reference6Ideal.Value.run (F := Ideal) m' ρ')
    obtain ⟨a0, a1, a2⟩ := hagree c
    refine ⟨(h c).1.trans ?_, (h c).2.1.trans ?_, (h c).2.2.1.trans ?_, (h c).2.2.2⟩
    · rw [Cert.Reference6Ideal.Read.val_main_v14_eq, a0, a1]
      exact Cert.Mlp.UpFwd.norm_eq m c
    · rw [Cert.Reference6Ideal.Read.val_main_v15_eq, a0, a1, a2]
      exact Cert.Mlp.UpFwd.product_eq m c
    · rw [Cert.Reference6Ideal.Read.val_main_v18_eq, a0, a1, a2]
      exact Cert.Mlp.UpFwd.squares_eq m c

/-! ## The down-projection -/

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic7 : Cert.algebraic_Kernel7Ideal_Reference7Ideal := by
  intro m ρ m' ρ' _ hagree
  refine ⟨fun c => (Cert.Kernel7Ideal.Gen.dats m 0 c).arrAt 4 Cert.Kernel7Ideal.cfg0.N, fun c => (Cert.Kernel7Ideal.Gen.dats m 0 c).arrAt 5 Cert.Kernel7Ideal.cfg0.N, ?_, ?_⟩
  · exact (θ_run _ _ _).mono (fun r h c => ⟨(h c).1, (h c).2.1, (h c).2.2⟩) (Cert.Kernel7Ideal.Value.run_blocks (F := Ideal) m ρ)
  · refine (θ_run _ _ _).mono (fun r h c => ?_) (Cert.Reference7Ideal.Value.run (F := Ideal) m' ρ')
    obtain ⟨a0, a1, a2, a3⟩ := hagree c
    refine ⟨(h c).1.trans ?_, (h c).2.1.trans ?_, (h c).2.2⟩
    · rw [Cert.Reference7Ideal.Read.val_main_v2_eq, a0, a1]
      exact Cert.Mlp.DownFwd.product_eq m c
    · rw [Cert.Reference7Ideal.Read.val_main_v15_eq, a0, a1, a2, a3]
      exact Cert.Mlp.DownFwd.sum_eq m c

/-! ## The gradient through the mixer's output projection -/

theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

theorem algebraic8 : Cert.algebraic_Kernel8Ideal_Reference8Ideal := by
  intro m ρ m' ρ' _ hagree
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N,
    fun c => (Cert.Kernel8Ideal.Gen.dats m 0 c).arrAt 6 Cert.Kernel8Ideal.cfg0.N, ?_, ?_⟩
  · exact (θ_run _ _ _).mono (fun r h c => ⟨(h c).1, (h c).2.1, (h c).2.2.1, (h c).2.2.2⟩) (Cert.Kernel8Ideal.Value.run_blocks (F := Ideal) m ρ)
  · refine (θ_run _ _ _).mono (fun r h c => ?_) (Cert.Reference8Ideal.Value.run (F := Ideal) m' ρ')
    obtain ⟨a0, a1, a2, a3⟩ := hagree c
    refine ⟨(h c).1.trans ?_, (h c).2.1.trans ?_, (h c).2.2.1.trans ?_, (h c).2.2.2⟩
    · rw [Cert.Reference8Ideal.Read.val_main_v38_eq, a0, a1, a2]
      exact (Cert.Proj.MixBwd.ref38 _ _ _).trans (Cert.Proj.MixBwd.arr4 m c).symm
    · rw [Cert.Reference8Ideal.Read.val_main_v37_eq, a0, a1, a2, a3]
      exact (Cert.Proj.MixBwd.ref37 _ _ _ _).trans (Cert.Proj.MixBwd.arr5 m c).symm
    · rw [Cert.Reference8Ideal.Read.val_main_v17_eq, a0, a1]
      exact (Cert.Proj.MixBwd.ref17 _ _).trans (Cert.Proj.MixBwd.arr6 m c).symm

/-! ## The gradient of the mixer's output weights -/

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m ρ m' ρ' _ hagree
  refine ⟨fun c => (Cert.Kernel9Ideal.Gen.dats m 0 c).arrAt 2 Cert.Kernel9Ideal.cfg0.N, ?_, ?_⟩
  · exact (θ_run _ _ _).mono (fun r h c => ⟨(h c).1, (h c).2⟩) (Cert.Kernel9Ideal.Value.run_blocks (F := Ideal) m ρ)
  · refine (θ_run _ _ _).mono (fun r h c => ?_) (Cert.Reference9Ideal.Value.run (F := Ideal) m' ρ')
    obtain ⟨a0, a1⟩ := hagree c
    refine ⟨(h c).1.trans ?_, (h c).2⟩
    · rw [Cert.Reference9Ideal.Read.val_main_v7_eq, a0, a1]
      exact (Cert.Proj.OutGrad.ref7 _ _).trans (Cert.Proj.OutGrad.arr2 m c).symm

/-! ## The gradient through the mixer's input projection -/

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem algebraic10 : Cert.algebraic_Kernel10Ideal_Reference10Ideal := by
  intro m ρ m' ρ' _ hagree
  refine ⟨fun c => (Cert.Kernel10Ideal.Gen.dats m 0 c).arrAt 9 Cert.Kernel10Ideal.cfg0.N, fun c => (Cert.Kernel10Ideal.Gen.dats m 0 c).arrAt 10 Cert.Kernel10Ideal.cfg0.N, ?_, ?_⟩
  · exact (θ_run _ _ _).mono (fun r h c => ⟨(h c).1, (h c).2.1, (h c).2.2⟩) (Cert.Kernel10Ideal.Value.run_blocks (F := Ideal) m ρ)
  · refine (θ_run _ _ _).mono (fun r h c => ?_) (Cert.Reference10Ideal.Value.run (F := Ideal) m' ρ')
    obtain ⟨a0, a1, a2, a3, a4, a5, a6, a7, a8⟩ := hagree c
    refine ⟨(h c).1.trans ?_, (h c).2.1.trans ?_, (h c).2.2⟩
    · rw [Cert.Reference10Ideal.Read.val_main_v64_eq, a0, a1, a2, a3, a4, a5, a6, a7, a8]
      exact (Cert.Proj.MixInBwd.ref64 _ _ _ _ _ _ _ _ _).trans (Cert.Proj.MixInBwd.arr9 m c).symm
    · rw [Cert.Reference10Ideal.Read.val_main_v47_eq, a0, a1, a2, a3, a4, a5, a6]
      exact (Cert.Proj.MixInBwd.ref47 _ _ _ _ _ _ _).trans (Cert.Proj.MixInBwd.arr10 m c).symm

/-! ## The mixer's input projection -/

theorem frame_reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem algebraic11 : Cert.algebraic_Kernel11Ideal_Reference11Ideal := by
  intro m ρ m' ρ' _ hagree
  refine ⟨fun c => (Cert.Kernel11Ideal.Gen.dats m 0 c).arrAt 3 Cert.Kernel11Ideal.cfg0.N, fun c => (Cert.Kernel11Ideal.Gen.dats m 0 c).arrAt 4 Cert.Kernel11Ideal.cfg0.N,
    fun c => (Cert.Kernel11Ideal.Gen.dats m 0 c).arrAt 5 Cert.Kernel11Ideal.cfg0.N, fun c => (Cert.Kernel11Ideal.Gen.dats m 0 c).arrAt 6 Cert.Kernel11Ideal.cfg0.N, ?_, ?_⟩
  · exact (θ_run _ _ _).mono (fun r h c => ⟨(h c).1, (h c).2.1, (h c).2.2.1, (h c).2.2.2.1, (h c).2.2.2.2⟩) (Cert.Kernel11Ideal.Value.run_blocks (F := Ideal) m ρ)
  · refine (θ_run _ _ _).mono (fun r h c => ?_) (Cert.Reference11Ideal.Value.run (F := Ideal) m' ρ')
    obtain ⟨a0, a1, a2⟩ := hagree c
    refine ⟨(h c).1.trans ?_, (h c).2.1.trans ?_, (h c).2.2.1.trans ?_, (h c).2.2.2.1.trans ?_, (h c).2.2.2.2⟩
    · rw [Cert.Reference11Ideal.Read.val_main_v15_eq, a0, a1]
      exact (Cert.Proj.MixIn.ref15 _ _).trans (Cert.Proj.MixIn.arr3 m c).symm
    · rw [Cert.Reference11Ideal.Read.val_main_v16_eq, a0, a1, a2]
      exact (Cert.Proj.MixIn.ref16 _ _ _).trans (Cert.Proj.MixIn.arr4 m c).symm
    · rw [Cert.Reference11Ideal.Read.val_main_v18_eq, a0, a1, a2]
      exact (Cert.Proj.MixIn.ref18 _ _ _).trans (Cert.Proj.MixIn.arr5 m c).symm
    · rw [Cert.Reference11Ideal.Read.val_main_v19_eq, a0, a1, a2]
      exact (Cert.Proj.MixIn.ref19 _ _ _).trans (Cert.Proj.MixIn.arr6 m c).symm

/-! ## The mixer's output projection -/

theorem frame_reference12 : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem algebraic12 : Cert.algebraic_Kernel12Ideal_Reference12Ideal := by
  intro m ρ m' ρ' _ hagree
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N, ?_, ?_⟩
  · exact (θ_run _ _ _).mono (fun r h c => ⟨(h c).1, (h c).2.1, (h c).2.2⟩) (Cert.Kernel12Ideal.Value.run_blocks (F := Ideal) m ρ)
  · refine (θ_run _ _ _).mono (fun r h c => ?_) (Cert.Reference12Ideal.Value.run (F := Ideal) m' ρ')
    obtain ⟨a0, a1, a2, a3⟩ := hagree c
    refine ⟨(h c).1.trans ?_, (h c).2.1.trans ?_, (h c).2.2⟩
    · rw [Cert.Reference12Ideal.Read.val_main_v2_eq, a0, a1]
      exact (Cert.Proj.MixOut.ref2 _ _).trans (Cert.Proj.MixOut.arr4 m c).symm
    · rw [Cert.Reference12Ideal.Read.val_main_v15_eq, a0, a1, a2, a3]
      exact (Cert.Proj.MixOut.ref15 _ _ _ _).trans (Cert.Proj.MixOut.arr5 m c).symm

/-! ## The gradient of the mixer's input weights -/

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic13 : Cert.algebraic_Kernel13Ideal_Reference13Ideal := by
  intro m ρ m' ρ' _ hagree
  refine ⟨fun c => (Cert.Kernel13Ideal.Gen.dats m 0 c).arrAt 6 Cert.Kernel13Ideal.cfg0.N, ?_, ?_⟩
  · exact (θ_run _ _ _).mono (fun r h c => ⟨(h c).1, (h c).2⟩) (Cert.Kernel13Ideal.Value.run_blocks (F := Ideal) m ρ)
  · refine (θ_run _ _ _).mono (fun r h c => ?_) (Cert.Reference13Ideal.Value.run (F := Ideal) m' ρ')
    obtain ⟨a0, a1, a2, a3, a4, a5⟩ := hagree c
    refine ⟨(h c).1.trans ?_, (h c).2⟩
    · rw [Cert.Reference13Ideal.Read.val_main_v7_eq, a0, a1, a2, a3, a4, a5]
      exact (Cert.Proj.InGrad.ref7 _ _ _ _ _ _).trans (Cert.Proj.InGrad.arr6 m c).symm

/-! ## The memory attention's query projection -/

theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem algebraic14 : Cert.algebraic_Kernel14Ideal_Reference14Ideal := by
  intro m ρ m' ρ' _ hagree
  refine ⟨fun c => (Cert.Kernel14Ideal.Gen.dats m 0 c).arrAt 3 Cert.Kernel14Ideal.cfg0.N, fun c => (Cert.Kernel14Ideal.Gen.dats m 0 c).arrAt 4 Cert.Kernel14Ideal.cfg0.N, ?_, ?_⟩
  · exact (θ_run _ _ _).mono (fun r h c => ⟨(h c).1, (h c).2.1, (h c).2.2⟩) (Cert.Kernel14Ideal.Value.run_blocks (F := Ideal) m ρ)
  · refine (θ_run _ _ _).mono (fun r h c => ?_) (Cert.Reference14Ideal.Value.run (F := Ideal) m' ρ')
    obtain ⟨a0, a1, a2⟩ := hagree c
    refine ⟨(h c).1.trans ?_, (h c).2.1.trans ?_, (h c).2.2⟩
    · rw [Cert.Reference14Ideal.Read.val_main_v12_eq, a0, a1]
      exact (Cert.Proj.QueryFwd.ref12 _ _).trans (Cert.Proj.QueryFwd.arr3 m c).symm
    · rw [Cert.Reference14Ideal.Read.val_main_v15_eq, a0, a1, a2]
      exact (Cert.Proj.QueryFwd.ref15 _ _ _).trans (Cert.Proj.QueryFwd.arr4 m c).symm

/-! ## The memory attention's output projection -/

theorem frame_reference15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem algebraic15 : Cert.algebraic_Kernel15Ideal_Reference15Ideal := by
  intro m ρ m' ρ' _ hagree
  refine ⟨fun c => (Cert.Kernel15Ideal.Gen.dats m 0 c).arrAt 4 Cert.Kernel15Ideal.cfg0.N, fun c => (Cert.Kernel15Ideal.Gen.dats m 0 c).arrAt 5 Cert.Kernel15Ideal.cfg0.N, ?_, ?_⟩
  · exact (θ_run _ _ _).mono (fun r h c => ⟨(h c).1, (h c).2.1, (h c).2.2⟩) (Cert.Kernel15Ideal.Value.run_blocks (F := Ideal) m ρ)
  · refine (θ_run _ _ _).mono (fun r h c => ?_) (Cert.Reference15Ideal.Value.run (F := Ideal) m' ρ')
    obtain ⟨a0, a1, a2, a3⟩ := hagree c
    refine ⟨(h c).1.trans ?_, (h c).2.1.trans ?_, (h c).2.2⟩
    · rw [Cert.Reference15Ideal.Read.val_main_v2_eq, a0, a1]
      exact (Cert.Proj.MemOut.ref2 _ _).trans (Cert.Proj.MemOut.arr4 m c).symm
    · rw [Cert.Reference15Ideal.Read.val_main_v15_eq, a0, a1, a2, a3]
      exact (Cert.Proj.MemOut.ref15 _ _ _ _).trans (Cert.Proj.MemOut.arr5 m c).symm

/-! ## The gradient through the memory attention's query projection -/

theorem frame_reference16 : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)

theorem algebraic16 : Cert.algebraic_Kernel16Ideal_Reference16Ideal := by
  intro m ρ m' ρ' _ hagree
  refine ⟨fun c => (Cert.Kernel16Ideal.Gen.dats m 0 c).arrAt 5 Cert.Kernel16Ideal.cfg0.N, fun c => (Cert.Kernel16Ideal.Gen.dats m 0 c).arrAt 6 Cert.Kernel16Ideal.cfg0.N, ?_, ?_⟩
  · exact (θ_run _ _ _).mono (fun r h c => ⟨(h c).1, (h c).2.1, (h c).2.2⟩) (Cert.Kernel16Ideal.Value.run_blocks (F := Ideal) m ρ)
  · refine (θ_run _ _ _).mono (fun r h c => ?_) (Cert.Reference16Ideal.Value.run (F := Ideal) m' ρ')
    obtain ⟨a0, a1, a2, a3, a4⟩ := hagree c
    refine ⟨(h c).1.trans ?_, (h c).2.1.trans ?_, (h c).2.2⟩
    · rw [Cert.Reference16Ideal.Read.val_main_v38_eq, a0, a1, a2, a3, a4]
      exact (Cert.Proj.QueryBwd.ref38 _ _ _ _ _).trans (Cert.Proj.QueryBwd.arr5 m c).symm
    · rw [Cert.Reference16Ideal.Read.val_main_v21_eq, a0, a1, a2]
      exact (Cert.Proj.QueryBwd.ref21 _ _ _).trans (Cert.Proj.QueryBwd.arr6 m c).symm

/-! ## The gradient through the memory attention's output projection -/

theorem frame_reference17 : Cert.quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

theorem algebraic17 : Cert.algebraic_Kernel17Ideal_Reference17Ideal := by
  intro m ρ m' ρ' _ hagree
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N,
    fun c => (Cert.Kernel17Ideal.Gen.dats m 0 c).arrAt 6 Cert.Kernel17Ideal.cfg0.N, ?_, ?_⟩
  · exact (θ_run _ _ _).mono (fun r h c => ⟨(h c).1, (h c).2.1, (h c).2.2.1, (h c).2.2.2⟩) (Cert.Kernel17Ideal.Value.run_blocks (F := Ideal) m ρ)
  · refine (θ_run _ _ _).mono (fun r h c => ?_) (Cert.Reference17Ideal.Value.run (F := Ideal) m' ρ')
    obtain ⟨a0, a1, a2, a3⟩ := hagree c
    refine ⟨(h c).1.trans ?_, (h c).2.1.trans ?_, (h c).2.2.1.trans ?_, (h c).2.2.2⟩
    · rw [Cert.Reference17Ideal.Read.val_main_v38_eq, a0, a1, a2]
      exact (Cert.Proj.MemBwd.ref38 _ _ _).trans (Cert.Proj.MemBwd.arr4 m c).symm
    · rw [Cert.Reference17Ideal.Read.val_main_v39_eq, a0, a1, a2, a3]
      exact (Cert.Proj.MemBwd.ref39 _ _ _ _).trans (Cert.Proj.MemBwd.arr5 m c).symm
    · rw [Cert.Reference17Ideal.Read.val_main_v17_eq, a0, a1]
      exact (Cert.Proj.MemBwd.ref17 _ _).trans (Cert.Proj.MemBwd.arr6 m c).symm

/-! ## The gradients of the memory attention's query and output weights -/

theorem frame_reference18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic18 : Cert.algebraic_Kernel18Ideal_Reference18Ideal := by
  intro m ρ m' ρ' _ hagree
  refine ⟨fun c => (Cert.Kernel18Ideal.Gen.dats m 0 c).arrAt 2 Cert.Kernel18Ideal.cfg0.N, ?_, ?_⟩
  · exact (θ_run _ _ _).mono (fun r h c => ⟨(h c).1, (h c).2⟩) (Cert.Kernel18Ideal.Value.run_blocks (F := Ideal) m ρ)
  · refine (θ_run _ _ _).mono (fun r h c => ?_) (Cert.Reference18Ideal.Value.run (F := Ideal) m' ρ')
    obtain ⟨a0, a1⟩ := hagree c
    refine ⟨(h c).1.trans ?_, (h c).2⟩
    · rw [Cert.Reference18Ideal.Read.val_main_v7_eq, a0, a1]
      exact (Cert.Proj.QueryGrad.ref7 _ _).trans (Cert.Proj.QueryGrad.arr2 m c).symm

theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem algebraic19 : Cert.algebraic_Kernel19Ideal_Reference19Ideal := by
  intro m ρ m' ρ' _ hagree
  refine ⟨fun c => (Cert.Kernel19Ideal.Gen.dats m 0 c).arrAt 2 Cert.Kernel19Ideal.cfg0.N, ?_, ?_⟩
  · exact (θ_run _ _ _).mono (fun r h c => ⟨(h c).1, (h c).2⟩) (Cert.Kernel19Ideal.Value.run_blocks (F := Ideal) m ρ)
  · refine (θ_run _ _ _).mono (fun r h c => ?_) (Cert.Reference19Ideal.Value.run (F := Ideal) m' ρ')
    obtain ⟨a0, a1⟩ := hagree c
    refine ⟨(h c).1.trans ?_, (h c).2⟩
    · rw [Cert.Reference19Ideal.Read.val_main_v8_eq, a0, a1]
      exact (Cert.Proj.MemGrad.ref8 _ _).trans (Cert.Proj.MemGrad.arr2 m c).symm

/-! ## The norm of the memory and its projection to keys and values -/

theorem frame_reference20 : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

theorem algebraic20 : Cert.algebraic_Kernel20Ideal_Reference20Ideal := by
  intro m ρ m' ρ' _ hagree
  refine ⟨fun c => (Cert.Kernel20Ideal.Gen.dats m 0 c).arrAt 3 Cert.Kernel20Ideal.cfg0.N, fun c => (Cert.Kernel20Ideal.Gen.dats m 0 c).arrAt 4 Cert.Kernel20Ideal.cfg0.N, ?_, ?_⟩
  · exact (θ_run _ _ _).mono (fun r h c => ⟨(h c).1, (h c).2.1, (h c).2.2⟩) (Cert.Kernel20Ideal.Value.run_blocks (F := Ideal) m ρ)
  · refine (θ_run _ _ _).mono (fun r h c => ?_) (Cert.Reference20Ideal.Value.run (F := Ideal) m' ρ')
    obtain ⟨a0, a1, a2⟩ := hagree c
    refine ⟨(h c).1.trans ?_, (h c).2.1.trans ?_, (h c).2.2⟩
    · rw [Cert.Reference20Ideal.Read.val_main_v12_eq, a0, a1]
      exact (Cert.Proj.KvFwd.ref12 _ _).trans (Cert.Proj.KvFwd.arr3 m c).symm
    · rw [Cert.Reference20Ideal.Read.val_main_v15_eq, a0, a1, a2]
      exact (Cert.Proj.KvFwd.ref15 _ _ _).trans (Cert.Proj.KvFwd.arr4 m c).symm

/-! ## The gradient through the memory's keys and values -/

theorem frame_reference21 : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

theorem algebraic21 : Cert.algebraic_Kernel21Ideal_Reference21Ideal := by
  intro m ρ m' ρ' _ hagree
  refine ⟨fun c => (Cert.Kernel21Ideal.Gen.dats m 0 c).arrAt 4 Cert.Kernel21Ideal.cfg0.N, fun c => (Cert.Kernel21Ideal.Gen.dats m 0 c).arrAt 5 Cert.Kernel21Ideal.cfg0.N, ?_, ?_⟩
  · exact (θ_run _ _ _).mono (fun r h c => ⟨(h c).1, (h c).2.1, (h c).2.2⟩) (Cert.Kernel21Ideal.Value.run_blocks (F := Ideal) m ρ)
  · refine (θ_run _ _ _).mono (fun r h c => ?_) (Cert.Reference21Ideal.Value.run (F := Ideal) m' ρ')
    obtain ⟨a0, a1, a2, a3⟩ := hagree c
    refine ⟨(h c).1.trans ?_, (h c).2.1.trans ?_, (h c).2.2⟩
    · rw [Cert.Reference21Ideal.Read.val_main_v37_eq, a0, a1, a2, a3]
      exact (Cert.Proj.KvBwd.ref37 _ _ _ _).trans (Cert.Proj.KvBwd.arr4 m c).symm
    · rw [Cert.Reference21Ideal.Read.val_main_v21_eq, a0, a1, a2]
      exact (Cert.Proj.KvBwd.ref21 _ _ _).trans (Cert.Proj.KvBwd.arr5 m c).symm

/-! ## The gradient of the memory attention's key weights -/

theorem frame_reference22 : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

theorem algebraic22 : Cert.algebraic_Kernel22Ideal_Reference22Ideal := by
  intro m ρ m' ρ' _ hagree
  refine ⟨fun c => (Cert.Kernel22Ideal.Gen.dats m 0 c).arrAt 2 Cert.Kernel22Ideal.cfg0.N, ?_, ?_⟩
  · exact (θ_run _ _ _).mono (fun r h c => ⟨(h c).1, (h c).2⟩) (Cert.Kernel22Ideal.Value.run_blocks (F := Ideal) m ρ)
  · refine (θ_run _ _ _).mono (fun r h c => ?_) (Cert.Reference22Ideal.Value.run (F := Ideal) m' ρ')
    obtain ⟨a0, a1⟩ := hagree c
    refine ⟨(h c).1.trans ?_, (h c).2⟩
    rw [Cert.Reference22Ideal.Read.val_main_v7_eq, a0, a1]
    exact (Cert.Proj.KvGrad.ref7 _ _).trans (Cert.Proj.KvGrad.arr2 m c).symm

/-! ## The head of the loss -/

theorem frame_reference23 : Cert.quiescent_Reference23Ideal := fun m ρ _ =>
  (θ_run Cert.Reference23Ideal.defs _ _).mono (fun r h => ⟨fun c => (h c).2.2, sem_eq_zero_of_no_sems (by decide) r.2⟩)
    (Cert.Reference23Ideal.Value.run (F := Ideal) m ρ)

theorem algebraic23 : Cert.algebraic_Kernel23Ideal_Reference23Ideal := by
  intro m ρ m' ρ' _ hagree
  refine ⟨fun c => (Cert.Kernel23Ideal.Gen.dats m 0 c).arrAt 2 Cert.Kernel23Ideal.cfg0.N, fun c => (Cert.Kernel23Ideal.Gen.dats m 0 c).arrAt 3 Cert.Kernel23Ideal.cfg0.N, ?_, ?_⟩
  · exact (θ_run _ _ _).mono (fun r h c => ⟨(h c).1, (h c).2.1, (h c).2.2⟩) (Cert.Kernel23Ideal.Value.run_blocks (F := Ideal) m ρ)
  · refine (θ_run _ _ _).mono (fun r h c => ?_) (Cert.Reference23Ideal.Value.run (F := Ideal) m' ρ')
    obtain ⟨a0, a1⟩ := hagree c
    refine ⟨(h c).1.trans ?_, (h c).2.1.trans ?_, (h c).2.2⟩
    · rw [Cert.Reference23Ideal.Read.val_main_v22_eq, a0, a1]
      exact (Cert.Proj.LossHead.ref22 _ _).trans (Cert.Proj.LossHead.arr2 m c).symm
    · rw [Cert.Reference23Ideal.Read.val_main_v7_eq, a0, a1]
      exact (Cert.Proj.LossHead.ref7 _ _).trans (Cert.Proj.LossHead.arr3 m c).symm

/-! ## The memory attention -/

theorem frame_reference24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem algebraic24 : Cert.algebraic_Kernel24Ideal_Reference24Ideal := by
  intro m ρ m' ρ' _ hagree
  refine ⟨fun c => (Cert.Kernel24Ideal.Gen.dats m 0 c).arrAt 2 Cert.Kernel24Ideal.cfg0.N, ?_, ?_⟩
  · exact (θ_run _ _ _).mono (fun r h c => ⟨(h c).1, (h c).2⟩) (Cert.Kernel24Ideal.Value.run_blocks (F := Ideal) m ρ)
  · refine (θ_run _ _ _).mono (fun r h c => ?_) (Cert.Reference24Ideal.Value.run (F := Ideal) m' ρ')
    obtain ⟨a0, a1⟩ := hagree c
    refine ⟨(h c).1.trans ?_, (h c).2⟩
    rw [Cert.Reference24Ideal.Read.val_main_v24_eq, a0, a1]
    exact (Cert.Proj.MemAttn.ref24 _ _).trans (Cert.Proj.MemAttn.arr2 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Pre_finite.Gen.facts, fun m ρ _ => Cert.Kernel.Gen.frame m ρ, fun m ρ _ => Cert.KernelIdeal.Gen.frame m ρ, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  trivial, algebraic, trivial, algebraic2, trivial, algebraic3, trivial, algebraic4, trivial, algebraic5, trivial, algebraic6, trivial, algebraic7,
  trivial, algebraic8, trivial, algebraic9, trivial, algebraic10, trivial, algebraic11, trivial, algebraic12, trivial, algebraic13,
  trivial, algebraic14, trivial, algebraic15, trivial, algebraic16, trivial, algebraic17, trivial, algebraic18, trivial, algebraic19,
  trivial, algebraic20, trivial, algebraic21, trivial, algebraic22, trivial, algebraic23, trivial, algebraic24⟩

end Cert.Proof

end
